-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v225) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v22)) (v3 : (c : Dev Cert.Kernel2Ideal.nD) → Buf (Elt Ideal) ((c.tc : Thread Cert.Kernel2Ideal.nD Cert.Kernel2Ideal.τ).loc Cert.Kernel2Ideal.main_v21)) (v4 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v22) = v2 c
          ∧ r.2.mem ((c.tc : Thread Cert.Kernel2Ideal.nD Cert.Kernel2Ideal.τ).loc Cert.Kernel2Ideal.main_v21) = v3 c
          ∧ r.2.mem ((c.tc : Thread Cert.Kernel2Ideal.nD Cert.Kernel2Ideal.τ).loc Cert.Kernel2Ideal.main_v23_2) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_v59) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)) (v2 : (c : Dev Cert.Kernel3Ideal.nD) → Buf (Elt Ideal) ((c.tc : Thread Cert.Kernel3Ideal.nD Cert.Kernel3Ideal.τ).loc Cert.Kernel3Ideal.main_v22)) (v3 : (c : Dev Cert.Kernel3Ideal.nD) → Buf (Elt Ideal) ((c.tc : Thread Cert.Kernel3Ideal.nD Cert.Kernel3Ideal.τ).loc Cert.Kernel3Ideal.main_v23)) (v4 : (c : Dev Cert.Kernel3Ideal.nD) → Buf (Elt Ideal) ((c.tc : Thread Cert.Kernel3Ideal.nD Cert.Kernel3Ideal.τ).loc Cert.Kernel3Ideal.main_v24)) (v5 : (c : Dev Cert.Kernel3Ideal.nD) → Buf (Elt Ideal) ((c.tc : Thread Cert.Kernel3Ideal.nD Cert.Kernel3Ideal.τ).loc Cert.Kernel3Ideal.main_v25_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_v22) = v2 c
          ∧ r.2.mem ((c.tc : Thread Cert.Kernel3Ideal.nD Cert.Kernel3Ideal.τ).loc Cert.Kernel3Ideal.main_v23) = v3 c
          ∧ r.2.mem ((c.tc : Thread Cert.Kernel3Ideal.nD Cert.Kernel3Ideal.τ).loc Cert.Kernel3Ideal.main_v24) = v4 c
          ∧ r.2.mem ((c.tc : Thread Cert.Kernel3Ideal.nD Cert.Kernel3Ideal.τ).loc Cert.Kernel3Ideal.main_v25_2) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_v50) = v3 c
          ∧ r.2.mem ((c.tc : Thread Cert.Reference3Ideal.nD Cert.Reference3Ideal.τ).loc Cert.Reference3Ideal.main_v45) = v4 c
          ∧ r.2.mem ((c.tc : Thread Cert.Reference3Ideal.nD Cert.Reference3Ideal.τ).loc Cert.Reference3Ideal.main_v47) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)) (v1 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_v3) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v3) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_v49) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_v57) = v1 c
          ∧ r.2.mem ((c.tc : Thread Cert.Reference6Ideal.nD Cert.Reference6Ideal.τ).loc Cert.Reference6Ideal.main_v59) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v6)) (v1 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_v7) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  IdealRules.named_const.Statement Cert.Kernel13Ideal.κ "inv_c1" .f32 0x3FC48605#32 ((8388608 / 5463681 : ℝ) : EReal)
  ∧ IdealRules.named_const.Statement Cert.Kernel13Ideal.κ "inv_c2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "inv_c1" .f32 0x3FC48605#32 ((8388608 / 5463681 : ℝ) : EReal)
  ∧ IdealRules.named_const.Statement Cert.Kernel14Ideal.κ "inv_c2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "inv_c1" .f32 0x3FC48605#32 ((8388608 / 5463681 : ℝ) : EReal)
  ∧ IdealRules.named_const.Statement Cert.Kernel15Ideal.κ "inv_c2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S4096x1024 : Shape := ⟨2, ![4096, 1024]⟩
abbrev S1x1024 : Shape := ⟨2, ![1, 1024]⟩
abbrev S4x256x256 : Shape := ⟨3, ![4, 256, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part1 {F : FTy → Type} [FloatOps F] (main_arg5 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1x1024 .f32) (main_arg2 : FVec F S4x256x256 .f32) (main_arg3 : FVec F S1x1024 .f32) (main_arg4 : FVec F S1x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4x256x256 .f32 := Host.absf main_arg2
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_v13 main_v16
-- ==== Pre_finite5.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S4096x2048 .bf16) (main_arg1 : FVec F S4096x2048 .bf16) (main_arg2 : FVec F S4096x2048 .bf16) (main_arg3 : FVec F S1x2048 .f32) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg3
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  main_v8
-- ==== Kernel.lean ====
abbrev S4096x1024 : Shape := ⟨2, ![4096, 1024]⟩
abbrev S1x1024 : Shape := ⟨2, ![1, 1024]⟩
abbrev S4x256x256 : Shape := ⟨3, ![4, 256, 256]⟩
abbrev S8x1024 : Shape := ⟨2, ![8, 1024]⟩
abbrev S512x1024 : Shape := ⟨2, ![512, 1024]⟩
abbrev S16x1024 : Shape := ⟨2, ![16, 1024]⟩
abbrev S528x1024 : Shape := ⟨2, ![528, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S16x256 : Shape := ⟨2, ![16, 256]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x256x256, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4x256x256, .bf16⟩
  | .hbm, ⟨7, _⟩ => ⟨S4096x1024, .f32⟩
  | .hbm, ⟨8, _⟩ => ⟨S4x256x256, .f32⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S4x256x256, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S4x256x256, .f32⟩
  | .local _ .vmem, ⟨13, _⟩ => ⟨S8x1024, .f32⟩
  | .local _ .vmem, ⟨14, _⟩ => ⟨S528x1024, .f32⟩
  | .local _ .vmem, ⟨15, _⟩ => ⟨S528x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x1024 : Shape := ⟨2, ![4096, 1024]⟩
abbrev S1x1024 : Shape := ⟨2, ![1, 1024]⟩
abbrev S4x256x256 : Shape := ⟨3, ![4, 256, 256]⟩
abbrev S_ : Shape := ⟨0, ![]⟩
abbrev S4096 : Shape := ⟨1, ![4096]⟩
abbrev S4096x1 : Shape := ⟨2, ![4096, 1]⟩
abbrev S4097x1024 : Shape := ⟨2, ![4097, 1024]⟩
abbrev S4096x4x256 : Shape := ⟨3, ![4096, 4, 256]⟩
abbrev S4097x4x256 : Shape := ⟨3, ![4097, 4, 256]⟩
abbrev S4097x1x256 : Shape := ⟨3, ![4097, 1, 256]⟩
abbrev S4097x256 : Shape := ⟨2, ![4097, 256]⟩
abbrev S4096x256 : Shape := ⟨2, ![4096, 256]⟩
abbrev S4096x1x256 : Shape := ⟨3, ![4096, 1, 256]⟩
abbrev S4x256x4096 : Shape := ⟨3, ![4, 256, 4096]⟩
abbrev S1024 : Shape := ⟨1, ![1024]⟩
abbrev S4x4096x256 : Shape := ⟨3, ![4, 4096, 256]⟩
abbrev S5x1024 : Shape := ⟨2, ![5, 1024]⟩
abbrev S8x1024 : Shape := ⟨2, ![8, 1024]⟩

abbrev nBuf : Space → Nat
  | .hbm => 289
  | .vmem => 0
  | .smem => 0
  | _ => 0

abbrev hbmTy0_0 (i : Nat) : BufTy := match i % 128 with
  | 0 => ⟨S4096x1024, .f32⟩
  | 1 => ⟨S1x1024, .f32⟩
  | 2 => ⟨S4x256x256, .f32⟩
  | 3 => ⟨S1x1024, .f32⟩
  | 4 => ⟨S1x1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S1x1024, .f32⟩
  | 27 => ⟨S_, .f32⟩
  | 28 => ⟨S_, .f32⟩
  | 29 => ⟨S4096x1024, .f32⟩
  | 30 => ⟨S4097x1024, .f32⟩
  | 31 => ⟨S_, .f32⟩
  | 32 => ⟨S1x1024, .f32⟩
  | 33 => ⟨S4096, .i32⟩
  | 34 => ⟨S4096x4x256, .f32⟩
  | 35 => ⟨S4097x4x256, .f32⟩
  | 36 => ⟨S4097x1x256, .f32⟩
  | 37 => ⟨S4097x256, .f32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4096x256, .f32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S4096, .f32⟩
  | 63 => ⟨S4096x256, .f32⟩
  | 64 => ⟨S4096x256, .f32⟩
  | 65 => ⟨S4096x1, .f32⟩
  | 66 => ⟨S4096x256, .f32⟩
  | 67 => ⟨S4096x256, .f32⟩
  | 68 => ⟨S4097x1x256, .f32⟩
  | 69 => ⟨S4097x256, .f32⟩
  | 70 => ⟨S_, .i32⟩
  | 71 => ⟨S4096, .i32⟩
  | 72 => ⟨S4096, .i32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S4096x1, .i32⟩
  | 87 => ⟨S4096x256, .f32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S4096, .f32⟩
  | 95 => ⟨S4096x256, .f32⟩
  | 96 => ⟨S4096x256, .f32⟩
  | 97 => ⟨S4096x1, .f32⟩
  | 98 => ⟨S4096x256, .f32⟩
  | 99 => ⟨S4096x256, .f32⟩
  | 100 => ⟨S4097x1x256, .f32⟩
  | 101 => ⟨S4097x256, .f32⟩
  | 102 => ⟨S_, .i32⟩
  | 103 => ⟨S4096, .i32⟩
  | 104 => ⟨S4096, .i32⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S4096x256, .f32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S4096, .f32⟩
  | 127 => ⟨S4096x256, .f32⟩
  | _ => ⟨S4096x1024, .f32⟩

abbrev hbmTy0_1 (i : Nat) : BufTy := match i % 128 with
  | 0 => ⟨S4096x256, .f32⟩
  | 1 => ⟨S4096x1, .f32⟩
  | 2 => ⟨S4096x256, .f32⟩
  | 3 => ⟨S4096x256, .f32⟩
  | 4 => ⟨S4097x1x256, .f32⟩
  | 5 => ⟨S4097x256, .f32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S4096x256, .f32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .f32⟩
  | 31 => ⟨S4096x256, .f32⟩
  | 32 => ⟨S4096x256, .f32⟩
  | 33 => ⟨S4096x1, .f32⟩
  | 34 => ⟨S4096x256, .f32⟩
  | 35 => ⟨S4096x256, .f32⟩
  | 36 => ⟨S4096x1x256, .f32⟩
  | 37 => ⟨S4096x1x256, .f32⟩
  | 38 => ⟨S4096x1x256, .f32⟩
  | 39 => ⟨S4096x1x256, .f32⟩
  | 40 => ⟨S4096x4x256, .f32⟩
  | 41 => ⟨S4096x4x256, .f32⟩
  | 42 => ⟨S4x256x4096, .f32⟩
  | 43 => ⟨S4096x4x256, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S1024, .f32⟩
  | 54 => ⟨S1x1024, .f32⟩
  | 55 => ⟨S4096x1024, .f32⟩
  | 56 => ⟨S4096x1024, .f32⟩
  | 57 => ⟨S_, .f32⟩
  | 58 => ⟨S1024, .f32⟩
  | 59 => ⟨S1x1024, .f32⟩
  | 60 => ⟨S4096x4x256, .f32⟩
  | 61 => ⟨S4x256x4096, .f32⟩
  | 62 => ⟨S4x4096x256, .f32⟩
  | 63 => ⟨S4096x4x256, .f32⟩
  | 64 => ⟨S4x256x256, .f32⟩
  | 65 => ⟨S4x256x256, .f32⟩
  | 66 => ⟨S4096x4x256, .f32⟩
  | 67 => ⟨S4096x1x256, .f32⟩
  | 68 => ⟨S4096x256, .f32⟩
  | 69 => ⟨S4096x1x256, .f32⟩
  | 70 => ⟨S4096x256, .f32⟩
  | 71 => ⟨S4096x1x256, .f32⟩
  | 72 => ⟨S4096x256, .f32⟩
  | 73 => ⟨S4096x1x256, .f32⟩
  | 74 => ⟨S4096x256, .f32⟩
  | 75 => ⟨S4096x256, .f32⟩
  | 76 => ⟨S4096x256, .f32⟩
  | 77 => ⟨S4096x256, .f32⟩
  | 78 => ⟨S_, .f32⟩
  | 79 => ⟨S4097x256, .f32⟩
  | 80 => ⟨S_, .f32⟩
  | 81 => ⟨S4097x256, .f32⟩
  | 82 => ⟨S4097x256, .f32⟩
  | 83 => ⟨S4097x256, .f32⟩
  | 84 => ⟨S4097x1x256, .f32⟩
  | 85 => ⟨S_, .f32⟩
  | 86 => ⟨S4097x4x256, .f32⟩
  | 87 => ⟨S4096x256, .f32⟩
  | 88 => ⟨S4096x256, .f32⟩
  | 89 => ⟨S4096x256, .f32⟩
  | 90 => ⟨S_, .f32⟩
  | 91 => ⟨S4097x256, .f32⟩
  | 92 => ⟨S_, .f32⟩
  | 93 => ⟨S4097x256, .f32⟩
  | 94 => ⟨S4097x256, .f32⟩
  | 95 => ⟨S4097x256, .f32⟩
  | 96 => ⟨S4097x1x256, .f32⟩
  | 97 => ⟨S_, .f32⟩
  | 98 => ⟨S4097x4x256, .f32⟩
  | 99 => ⟨S4097x4x256, .f32⟩
  | 100 => ⟨S4096x256, .f32⟩
  | 101 => ⟨S4096x256, .f32⟩
  | 102 => ⟨S4096x256, .f32⟩
  | 103 => ⟨S_, .f32⟩
  | 104 => ⟨S4097x256, .f32⟩
  | 105 => ⟨S_, .f32⟩
  | 106 => ⟨S4097x256, .f32⟩
  | 107 => ⟨S4097x256, .f32⟩
  | 108 => ⟨S4097x256, .f32⟩
  | 109 => ⟨S4097x1x256, .f32⟩
  | 110 => ⟨S_, .f32⟩
  | 111 => ⟨S4097x4x256, .f32⟩
  | 112 => ⟨S4097x4x256, .f32⟩
  | 113 => ⟨S4096x256, .f32⟩
  | 114 => ⟨S4096x256, .f32⟩
  | 115 => ⟨S4096x256, .f32⟩
  | 116 => ⟨S_, .f32⟩
  | 117 => ⟨S4097x256, .f32⟩
  | 118 => ⟨S_, .f32⟩
  | 119 => ⟨S4097x256, .f32⟩
  | 120 => ⟨S4097x256, .f32⟩
  | 121 => ⟨S4097x256, .f32⟩
  | 122 => ⟨S4097x1x256, .f32⟩
  | 123 => ⟨S_, .f32⟩
  | 124 => ⟨S4097x4x256, .f32⟩
  | 125 => ⟨S4097x4x256, .f32⟩
  | 126 => ⟨S4097x1024, .f32⟩
  | 127 => ⟨S4096x1024, .f32⟩
  | _ => ⟨S4096x1024, .f32⟩

abbrev hbmTy0_2 (i : Nat) : BufTy := match i % 128 with
  | 0 => ⟨S1x1024, .f32⟩
  | 1 => ⟨S4096x1024, .f32⟩
  | 2 => ⟨S_, .f32⟩
  | 3 => ⟨S_, .f32⟩
  | 4 => ⟨S4096x1024, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S4096x1024, .f32⟩
  | 17 => ⟨S4096x1024, .f32⟩
  | 18 => ⟨S4096x1024, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S5x1024, .f32⟩
  | 32 => ⟨S8x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_call0_call0_cst : Ref sig .tc := ⟨.hbm, 27, rfl⟩
abbrev main_call0_call0_v0 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_c_13 : Ref sig .tc := ⟨.hbm, 76, rfl⟩
abbrev main_v53 : Ref sig .tc := ⟨.hbm, 77, rfl⟩
abbrev main_v54 : Ref sig .tc := ⟨.hbm, 78, rfl⟩
abbrev main_c_14 : Ref sig .tc := ⟨.hbm, 79, rfl⟩
abbrev main_v55 : Ref sig .tc := ⟨.hbm, 80, rfl⟩
abbrev main_v56 : Ref sig .tc := ⟨.hbm, 81, rfl⟩
abbrev main_c_15 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_16 : Ref sig .tc := ⟨.hbm, 88, rfl⟩
abbrev main_v62 : Ref sig .tc := ⟨.hbm, 89, rfl⟩
abbrev main_v63 : Ref sig .tc := ⟨.hbm, 90, rfl⟩
abbrev main_c_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_18 : Ref sig .tc := ⟨.hbm, 102, rfl⟩
abbrev main_v74 : Ref sig .tc := ⟨.hbm, 103, rfl⟩
abbrev main_v75 : Ref sig .tc := ⟨.hbm, 104, rfl⟩
abbrev main_c_19 : Ref sig .tc := ⟨.hbm, 105, rfl⟩
abbrev main_v76 : Ref sig .tc := ⟨.hbm, 106, rfl⟩
abbrev main_v77 : Ref sig .tc := ⟨.hbm, 107, rfl⟩
abbrev main_c_20 : Ref sig .tc := ⟨.hbm, 108, rfl⟩
abbrev main_v78 : Ref sig .tc := ⟨.hbm, 109, rfl⟩
abbrev main_v79 : Ref sig .tc := ⟨.hbm, 110, rfl⟩
abbrev main_c_21 : Ref sig .tc := ⟨.hbm, 111, rfl⟩
abbrev main_v80 : Ref sig .tc := ⟨.hbm, 112, rfl⟩
abbrev main_v81 : Ref sig .tc := ⟨.hbm, 113, rfl⟩
abbrev main_c_22 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_23 : Ref sig .tc := ⟨.hbm, 120, rfl⟩
abbrev main_v87 : Ref sig .tc := ⟨.hbm, 121, rfl⟩
abbrev main_v88 : Ref sig .tc := ⟨.hbm, 122, rfl⟩
abbrev main_c_24 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_25 : Ref sig .tc := ⟨.hbm, 134, rfl⟩
abbrev main_v99 : Ref sig .tc := ⟨.hbm, 135, rfl⟩
abbrev main_v100 : Ref sig .tc := ⟨.hbm, 136, rfl⟩
abbrev main_c_26 : Ref sig .tc := ⟨.hbm, 137, rfl⟩
abbrev main_v101 : Ref sig .tc := ⟨.hbm, 138, rfl⟩
abbrev main_v102 : Ref sig .tc := ⟨.hbm, 139, rfl⟩
abbrev main_c_27 : Ref sig .tc := ⟨.hbm, 140, rfl⟩
abbrev main_v103 : Ref sig .tc := ⟨.hbm, 141, rfl⟩
abbrev main_v104 : Ref sig .tc := ⟨.hbm, 142, rfl⟩
abbrev main_c_28 : Ref sig .tc := ⟨.hbm, 143, rfl⟩
abbrev main_v105 : Ref sig .tc := ⟨.hbm, 144, rfl⟩
abbrev main_v106 : Ref sig .tc := ⟨.hbm, 145, rfl⟩
abbrev main_c_29 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_c_30 : Ref sig .tc := ⟨.hbm, 152, rfl⟩
abbrev main_v112 : Ref sig .tc := ⟨.hbm, 153, rfl⟩
abbrev main_v113 : Ref sig .tc := ⟨.hbm, 154, rfl⟩
abbrev main_c_31 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_32 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_33 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_cst_34 : Ref sig .tc := ⟨.hbm, 206, rfl⟩
abbrev main_v162 : Ref sig .tc := ⟨.hbm, 207, rfl⟩
abbrev main_cst_35 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_36 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_37 : Ref sig .tc := ⟨.hbm, 218, rfl⟩
abbrev main_v171 : Ref sig .tc := ⟨.hbm, 219, rfl⟩
abbrev main_cst_38 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_39 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_cst_40 : Ref sig .tc := ⟨.hbm, 231, rfl⟩
abbrev main_v181 : Ref sig .tc := ⟨.hbm, 232, rfl⟩
abbrev main_cst_41 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_cst_42 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_cst_43 : Ref sig .tc := ⟨.hbm, 244, rfl⟩
abbrev main_v191 : Ref sig .tc := ⟨.hbm, 245, rfl⟩
abbrev main_cst_44 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_cst_45 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_call1_call0_cst : Ref sig .tc := ⟨.hbm, 258, rfl⟩
abbrev main_call1_call0_v0 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_cst_46 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_cst_47 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_cst_48 : Ref sig .tc := ⟨.hbm, 276, rfl⟩
abbrev main_v216 : Ref sig .tc := ⟨.hbm, 277, rfl⟩
abbrev main_v217 : Ref sig .tc := ⟨.hbm, 278, rfl⟩
abbrev main_cst_49 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_cst_50 : Ref sig .tc := ⟨.hbm, 286, rfl⟩
abbrev main_v224 : Ref sig .tc := ⟨.hbm, 287, rfl⟩
abbrev main_v225 : Ref sig .tc := ⟨.hbm, 288, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S2048x1024 : Shape := ⟨2, ![2048, 1024]⟩
abbrev S1024x1024 : Shape := ⟨2, ![1024, 1024]⟩
abbrev S1x1024x1024 : Shape := ⟨3, ![1, 1024, 1024]⟩
abbrev S8x1024 : Shape := ⟨2, ![8, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 34
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1024x4096, .bf16⟩
  | .hbm, ⟨6, _⟩ => ⟨S4096x1024, .bf16⟩
  | .hbm, ⟨7, _⟩ => ⟨S4096x1024, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x4096, .f32⟩
  | .hbm, ⟨25, _⟩ => ⟨S4096x4096, .bf16⟩
  | .hbm, ⟨26, _⟩ => ⟨S1024x4x1024, .bf16⟩
  | .hbm, ⟨27, _⟩ => ⟨S4x1024x1024, .bf16⟩
  | .hbm, ⟨28, _⟩ => ⟨S4096x4096, .bf16⟩
  | .hbm, ⟨29, _⟩ => ⟨S4096x1024, .f32⟩
  | .hbm, ⟨30, _⟩ => ⟨S4x1024x1024, .f32⟩
  | .hbm, ⟨31, _⟩ => ⟨S4096x1024, .f32⟩
  | .hbm, ⟨32, _⟩ => ⟨S4096x1024, .bf16⟩
  | .hbm, ⟨33, _⟩ => ⟨S8x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S4096x1024, .bf16⟩
  | .local _ .vmem, ⟨9, _⟩ => ⟨S4096x1024, .bf16⟩
  | .local _ .vmem, ⟨10, _⟩ => ⟨S4096x1024, .bf16⟩
  | .local _ .vmem, ⟨11, _⟩ => ⟨S1024x1024, .f32⟩
  | .local _ .vmem, ⟨12, _⟩ => ⟨S1024x1024, .f32⟩
  | .local _ .vmem, ⟨13, _⟩ => ⟨S4096x1024, .bf16⟩
  | .local _ .vmem, ⟨14, _⟩ => ⟨S4096x1024, .bf16⟩
  | .local _ .vmem, ⟨15, _⟩ => ⟨S4096x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S256x4096, .bf16⟩
  | .local _ .vmem, ⟨19, _⟩ => ⟨S256x4096, .bf16⟩
  | .local _ .vmem, ⟨20, _⟩ => ⟨S4x1024x1024, .bf16⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .bf16⟩
  | .local _ .vmem, ⟨29, _⟩ => ⟨S256x1024, .bf16⟩
  | .local _ .vmem, ⟨30, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc3_stg6_0 : Ref sig .tc := ⟨.vmem, 28, rfl⟩
abbrev cc3_stg6_1 : Ref sig .tc := ⟨.vmem, 29, rfl⟩
abbrev cc3_stg7_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem4_1 : DmaSem sig := 25
abbrev cc3_sem5_0 : DmaSem sig := 26
abbrev cc3_sem5_1 : DmaSem sig := 27
abbrev cc3_sem6_0 : DmaSem sig := 28
abbrev cc3_sem6_1 : DmaSem sig := 29
abbrev cc3_sem7_0 : DmaSem sig := 30

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4x1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S256x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 1 → Memref sig .tc .vmem S8x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]
-- ==== Reference2Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S1024x4x1024 : Shape := ⟨3, ![1024, 4, 1024]⟩
abbrev S4x1024x1024 : Shape := ⟨3, ![4, 1024, 1024]⟩
abbrev S7x1024 : Shape := ⟨2, ![7, 1024]⟩
abbrev S8x1024 : Shape := ⟨2, ![8, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x4096, .f32⟩
  | .hbm, ⟨38, _⟩ => ⟨S4096x1024, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x1024, .f32⟩
  | .hbm, ⟨47, _⟩ => ⟨S1024x4096, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1024x4x1024, .f32⟩
  | .hbm, ⟨74, _⟩ => ⟨S4x1024x1024, .f32⟩
  | .hbm, ⟨75, _⟩ => ⟨S4096x1024, .bf16⟩
  | .hbm, ⟨76, _⟩ => ⟨S_, .f32⟩
  | .hbm, ⟨77, _⟩ => ⟨S7x1024, .f32⟩
  | .hbm, ⟨78, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x5152 : Shape := ⟨2, ![1024, 5152]⟩
abbrev S4096x2048 : Shape := ⟨2, ![4096, 2048]⟩
abbrev S4096x3072 : Shape := ⟨2, ![4096, 3072]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S5152x1024 : Shape := ⟨2, ![5152, 1024]⟩
abbrev S2048x1024 : Shape := ⟨2, ![2048, 1024]⟩
abbrev S3072x1024 : Shape := ⟨2, ![3072, 1024]⟩
abbrev S32x1024 : Shape := ⟨2, ![32, 1024]⟩
abbrev S96x1024 : Shape := ⟨2, ![96, 1024]⟩
abbrev S128x1024 : Shape := ⟨2, ![128, 1024]⟩
abbrev S4096x96 : Shape := ⟨2, ![4096, 96]⟩
abbrev S4096x128 : Shape := ⟨2, ![4096, 128]⟩
abbrev S1024x1024 : Shape := ⟨2, ![1024, 1024]⟩
abbrev S8x1024 : Shape := ⟨2, ![8, 1024]⟩
abbrev S256x3072 : Shape := ⟨2, ![256, 3072]⟩
abbrev S256x2048 : Shape := ⟨2, ![256, 2048]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 40
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5152, .f32⟩
  | .hbm, ⟨3, _⟩ => ⟨S4096x2048, .bf16⟩
  | .hbm, ⟨4, _⟩ => ⟨S4096x3072, .bf16⟩
  | .hbm, ⟨5, _⟩ => ⟨S4096x32, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S5152x1024, .f32⟩
  | .hbm, ⟨24, _⟩ => ⟨S5152x1024, .bf16⟩
  | .hbm, ⟨25, _⟩ => ⟨S2048x1024, .bf16⟩
  | .hbm, ⟨26, _⟩ => ⟨S3072x1024, .bf16⟩
  | .hbm, ⟨27, _⟩ => ⟨S32x1024, .bf16⟩
  | .hbm, ⟨28, _⟩ => ⟨S_, .bf16⟩
  | .hbm, ⟨29, _⟩ => ⟨S96x1024, .bf16⟩
  | .hbm, ⟨30, _⟩ => ⟨S128x1024, .bf16⟩
  | .hbm, ⟨31, _⟩ => ⟨S_, .f32⟩
  | .hbm, ⟨32, _⟩ => ⟨S4096x96, .f32⟩
  | .hbm, ⟨33, _⟩ => ⟨S4096x128, .f32⟩
  | .hbm, ⟨34, _⟩ => ⟨S2048x1024, .f32⟩
  | .hbm, ⟨35, _⟩ => ⟨S3072x1024, .f32⟩
  | .hbm, ⟨36, _⟩ => ⟨S128x1024, .f32⟩
  | .hbm, ⟨37, _⟩ => ⟨S4096x1024, .f32⟩
  | .hbm, ⟨38, _⟩ => ⟨S4096x1024, .bf16⟩
  | .hbm, ⟨39, _⟩ => ⟨S8x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | .local _ .vmem, ⟨5, _⟩ => ⟨S4096x1024, .bf16⟩
  | .local _ .vmem, ⟨6, _⟩ => ⟨S4096x1024, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | .local _ .vmem, ⟨10, _⟩ => ⟨S4096x128, .f32⟩
  | .local _ .vmem, ⟨11, _⟩ => ⟨S4096x1024, .bf16⟩
  | .local _ .vmem, ⟨12, _⟩ => ⟨S128x1024, .f32⟩
  | .local _ .vmem, ⟨13, _⟩ => ⟨S256x3072, .bf16⟩
  | .local _ .vmem, ⟨14, _⟩ => ⟨S256x3072, .bf16⟩
  | .local _ .vmem, ⟨15, _⟩ => ⟨S3072x1024, .bf16⟩
  | .local _ .vmem, ⟨16, _⟩ => ⟨S256x2048, .bf16⟩
  | .local _ .vmem, ⟨17, _⟩ => ⟨S256x2048, .bf16⟩
  | .local _ .vmem, ⟨18, _⟩ => ⟨S2048x1024, .bf16⟩
  | .local _ .vmem, ⟨19, _⟩ => ⟨S256x128, .f32⟩
  | .local _ .vmem, ⟨20, _⟩ => ⟨S256x128, .f32⟩
  | .local _ .vmem, ⟨21, _⟩ => ⟨S128x1024, .bf16⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .bf16⟩
  | .local _ .vmem, ⟨30, _⟩ => ⟨S256x1024, .bf16⟩
  | .local _ .vmem, ⟨31, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg4_1 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg6_1 : Ref sig .tc := ⟨.vmem, 23, rfl⟩
abbrev cc3_stg7_0 : Ref sig .tc := ⟨.vmem, 24, rfl⟩
abbrev cc3_stg8_0 : Ref sig .tc := ⟨.vmem, 25, rfl⟩
abbrev cc3_stg8_1 : Ref sig .tc := ⟨.vmem, 26, rfl⟩
abbrev cc3_stg9_0 : Ref sig .tc := ⟨.vmem, 27, rfl⟩
abbrev cc3_stg9_1 : Ref sig .tc := ⟨.vmem, 28, rfl⟩
abbrev cc3_stg10_0 : Ref sig .tc := ⟨.vmem, 29, rfl⟩
abbrev cc3_stg10_1 : Ref sig .tc := ⟨.vmem, 30, rfl⟩
abbrev cc3_stg11_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem2_1 : DmaSem sig := 17
abbrev cc3_sem3_0 : DmaSem sig := 18
abbrev cc3_sem4_0 : DmaSem sig := 19
abbrev cc3_sem4_1 : DmaSem sig := 20
abbrev cc3_sem5_0 : DmaSem sig := 21
abbrev cc3_sem6_0 : DmaSem sig := 22
abbrev cc3_sem6_1 : DmaSem sig := 23
abbrev cc3_sem7_0 : DmaSem sig := 24
abbrev cc3_sem8_0 : DmaSem sig := 25
abbrev cc3_sem8_1 : DmaSem sig := 26
abbrev cc3_sem9_0 : DmaSem sig := 27
abbrev cc3_sem9_1 : DmaSem sig := 28
abbrev cc3_sem10_0 : DmaSem sig := 29
abbrev cc3_sem10_1 : DmaSem sig := 30
abbrev cc3_sem11_0 : DmaSem sig := 31

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![3, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S128x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x3072 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S3072x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S2048x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, true]

abbrev stage3_4 : Fin 2 → Memref sig .tc .vmem S256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 1 → Memref sig .tc .vmem S128x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S256x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S256x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S256x1024 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 1 → Memref sig .tc .vmem S8x1024 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]
-- ==== Reference3Ideal.lean ====
abbrev S4096x1024 : Shape := ⟨2, ![4096, 1024]⟩
abbrev S1x1024 : Shape := ⟨2, ![1, 1024]⟩
abbrev S1024x5152 : Shape := ⟨2, ![1024, 5152]⟩
abbrev S4096x2048 : Shape := ⟨2, ![4096, 2048]⟩
abbrev S4096x3072 : Shape := ⟨2, ![4096, 3072]⟩
abbrev S4096x32 : Shape := ⟨2, ![4096, 32]⟩
abbrev S4096x5152 : Shape := ⟨2, ![4096, 5152]⟩
abbrev S_ : Shape := ⟨0, ![]⟩
abbrev S4096 : Shape := ⟨1, ![4096]⟩
abbrev S4096x1 : Shape := ⟨2, ![4096, 1]⟩
abbrev S5152x1024 : Shape := ⟨2, ![5152, 1024]⟩
abbrev S1024 : Shape := ⟨1, ![1024]⟩
abbrev S32x1024 : Shape := ⟨2, ![32, 1024]⟩
abbrev S96x1024 : Shape := ⟨2, ![96, 1024]⟩
abbrev S128x1024 : Shape := ⟨2, ![128, 1024]⟩
abbrev S7x1024 : Shape := ⟨2, ![7, 1024]⟩
abbrev S8x1024 : Shape := ⟨2, ![8, 1024]⟩
abbrev S2048x1024 : Shape := ⟨2, ![2048, 1024]⟩
abbrev S3072x1024 : Shape := ⟨2, ![3072, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5152, .f32⟩
  | .hbm, ⟨3, _⟩ => ⟨S4096x2048, .bf16⟩
  | .hbm, ⟨4, _⟩ => ⟨S4096x3072, .bf16⟩
  | .hbm, ⟨5, _⟩ => ⟨S4096x32, .f32⟩
  | .hbm, ⟨6, _⟩ => ⟨S4096x1024, .f32⟩
  | .hbm, ⟨7, _⟩ => ⟨S4096x2048, .f32⟩
  | .hbm, ⟨8, _⟩ => ⟨S4096x3072, .f32⟩
  | .hbm, ⟨9, _⟩ => ⟨S4096x5152, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x5152, .f32⟩
  | .hbm, ⟨30, _⟩ => ⟨S5152x1024, .f32⟩
  | .hbm, ⟨31, _⟩ => ⟨S1024x5152, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S5152x1024, .f32⟩
  | .hbm, ⟨58, _⟩ => ⟨S32x1024, .f32⟩
  | .hbm, ⟨59, _⟩ => ⟨S_, .f32⟩
  | .hbm, ⟨60, _⟩ => ⟨S96x1024, .f32⟩
  | .hbm, ⟨61, _⟩ => ⟨S128x1024, .f32⟩
  | .hbm, ⟨62, _⟩ => ⟨S_, .f32⟩
  | .hbm, ⟨63, _⟩ => ⟨S7x1024, .f32⟩
  | .hbm, ⟨64, _⟩ => ⟨S8x1024, .f32⟩
  | .hbm, ⟨65, _⟩ => ⟨S4096x1024, .bf16⟩
  | .hbm, ⟨66, _⟩ => ⟨S2048x1024, .f32⟩
  | .hbm, ⟨67, _⟩ => ⟨S3072x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Kernel4.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S4096x1024, .f32⟩
  | .hbm, ⟨3, _⟩ => ⟨S2048x1024, .bf16⟩
  | .hbm, ⟨4, _⟩ => ⟨S4096x1024, .bf16⟩
  | .hbm, ⟨5, _⟩ => ⟨S4096x2048, .bf16⟩
  | .hbm, ⟨6, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S4096x1024, .bf16⟩
  | .local _ .vmem, ⟨7, _⟩ => ⟨S4096x1024, .bf16⟩
  | .local _ .vmem, ⟨8, _⟩ => ⟨S4096x1024, .bf16⟩
  | .local _ .vmem, ⟨9, _⟩ => ⟨S1024x1024, .f32⟩
  | .local _ .vmem, ⟨10, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference4Ideal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S4096x1024, .f32⟩
  | .hbm, ⟨3, _⟩ => ⟨S4096x2048, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2048 : Shape := ⟨2, ![4096, 2048]⟩
abbrev S1x2048 : Shape := ⟨2, ![1, 2048]⟩
abbrev S8x2048 : Shape := ⟨2, ![8, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S1x2048, .f32⟩
  | .hbm, ⟨4, _⟩ => ⟨S4096x2048, .bf16⟩
  | .hbm, ⟨5, _⟩ => ⟨S4096x2048, .bf16⟩
  | .hbm, ⟨6, _⟩ => ⟨S8x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S8x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x2048 : Shape := ⟨2, ![4096, 2048]⟩
abbrev S1x2048 : Shape := ⟨2, ![1, 2048]⟩
abbrev S_ : Shape := ⟨0, ![]⟩
abbrev S4096x4x512 : Shape := ⟨3, ![4096, 4, 512]⟩
abbrev S4096x4 : Shape := ⟨2, ![4096, 4]⟩
abbrev S4096x4x1 : Shape := ⟨3, ![4096, 4, 1]⟩
abbrev S2048 : Shape := ⟨1, ![2048]⟩
abbrev S7x2048 : Shape := ⟨2, ![7, 2048]⟩
abbrev S8x2048 : Shape := ⟨2, ![8, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x4x512, .f32⟩
  | .hbm, ⟨21, _⟩ => ⟨S4096x4x512, .f32⟩
  | .hbm, ⟨22, _⟩ => ⟨S_, .f32⟩
  | .hbm, ⟨23, _⟩ => ⟨S4096x4, .f32⟩
  | .hbm, ⟨24, _⟩ => ⟨S4096x4x1, .f32⟩
  | .hbm, ⟨25, _⟩ => ⟨S_, .f32⟩
  | .hbm, ⟨26, _⟩ => ⟨S4096x4x1, .f32⟩
  | .hbm, ⟨27, _⟩ => ⟨S4096x4x1, .f32⟩
  | .hbm, ⟨28, _⟩ => ⟨S_, .f32⟩
  | .hbm, ⟨29, _⟩ => ⟨S4096x4x1, .f32⟩
  | .hbm, ⟨30, _⟩ => ⟨S4096x4x1, .f32⟩
  | .hbm, ⟨31, _⟩ => ⟨S4096x4x1, .f32⟩
  | .hbm, ⟨32, _⟩ => ⟨S4096x4x1, .f32⟩
  | .hbm, ⟨33, _⟩ => ⟨S_, .f32⟩
  | .hbm, ⟨34, _⟩ => ⟨S4096x4x1, .f32⟩
  | .hbm, ⟨35, _⟩ => ⟨S4096x4x1, .f32⟩
  | .hbm, ⟨36, _⟩ => ⟨S4096x4x512, .f32⟩
  | .hbm, ⟨37, _⟩ => ⟨S4096x4x512, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x4x512, .f32⟩
  | .hbm, ⟨49, _⟩ => ⟨S4096x4x512, .f32⟩
  | .hbm, ⟨50, _⟩ => ⟨S_, .f32⟩
  | .hbm, ⟨51, _⟩ => ⟨S4096x4, .f32⟩
  | .hbm, ⟨52, _⟩ => ⟨S4096x4x1, .f32⟩
  | .hbm, ⟨53, _⟩ => ⟨S4096x4x512, .f32⟩
  | .hbm, ⟨54, _⟩ => ⟨S4096x4x512, .f32⟩
  | .hbm, ⟨55, _⟩ => ⟨S4096x4x1, .f32⟩
  | .hbm, ⟨56, _⟩ => ⟨S_, .f32⟩
  | .hbm, ⟨57, _⟩ => ⟨S4096x4x1, .f32⟩
  | .hbm, ⟨58, _⟩ => ⟨S4096x4x1, .f32⟩
  | .hbm, ⟨59, _⟩ => ⟨S_, .f32⟩
  | .hbm, ⟨60, _⟩ => ⟨S4096x4, .f32⟩
  | .hbm, ⟨61, _⟩ => ⟨S4096x4x512, .f32⟩
  | .hbm, ⟨62, _⟩ => ⟨S4096x4x512, .f32⟩
  | .hbm, ⟨63, _⟩ => ⟨S4096x4x512, .f32⟩
  | .hbm, ⟨64, _⟩ => ⟨S4096x4x512, .f32⟩
  | .hbm, ⟨65, _⟩ => ⟨S4096x4x512, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .bf16⟩
  | .hbm, ⟨74, _⟩ => ⟨S4096x2048, .bf16⟩
  | .hbm, ⟨75, _⟩ => ⟨S_, .f32⟩
  | .hbm, ⟨76, _⟩ => ⟨S7x2048, .f32⟩
  | .hbm, ⟨77, _⟩ => ⟨S8x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Kernel6.lean ====
abbrev S4096x4096 : Shape := ⟨2, ![4096, 4096]⟩
abbrev S4096x1024 : Shape := ⟨2, ![4096, 1024]⟩
abbrev S1x1024 : Shape := ⟨2, ![1, 1024]⟩
abbrev S8x1024 : Shape := ⟨2, ![8, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S8x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference6Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 84
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .bf16⟩
  | .hbm, ⟨81, _⟩ => ⟨S_, .f32⟩
  | .hbm, ⟨82, _⟩ => ⟨S6x1024, .f32⟩
  | .hbm, ⟨83, _⟩ => ⟨S8x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel7.lean ====
abbrev S4096x1024 : Shape := ⟨2, ![4096, 1024]⟩
abbrev S1024x5152 : Shape := ⟨2, ![1024, 5152]⟩
abbrev S5152x1024 : Shape := ⟨2, ![5152, 1024]⟩
abbrev S2048x1024 : Shape := ⟨2, ![2048, 1024]⟩
abbrev S32x1024 : Shape := ⟨2, ![32, 1024]⟩
abbrev S_ : Shape := ⟨0, ![]⟩
abbrev S96x1024 : Shape := ⟨2, ![96, 1024]⟩
abbrev S128x1024 : Shape := ⟨2, ![128, 1024]⟩
abbrev S4096x2048 : Shape := ⟨2, ![4096, 2048]⟩
abbrev S1024x1024 : Shape := ⟨2, ![1024, 1024]⟩
abbrev S4096x128 : Shape := ⟨2, ![4096, 128]⟩
abbrev S2048x128 : Shape := ⟨2, ![2048, 128]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x5152, .f32⟩
  | .hbm, ⟨2, _⟩ => ⟨S5152x1024, .f32⟩
  | .hbm, ⟨3, _⟩ => ⟨S5152x1024, .bf16⟩
  | .hbm, ⟨4, _⟩ => ⟨S2048x1024, .bf16⟩
  | .hbm, ⟨5, _⟩ => ⟨S32x1024, .bf16⟩
  | .hbm, ⟨6, _⟩ => ⟨S_, .bf16⟩
  | .hbm, ⟨7, _⟩ => ⟨S96x1024, .bf16⟩
  | .hbm, ⟨8, _⟩ => ⟨S128x1024, .bf16⟩
  | .hbm, ⟨9, _⟩ => ⟨S4096x2048, .bf16⟩
  | .hbm, ⟨10, _⟩ => ⟨S4096x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S128x1024, .bf16⟩
  | .local _ .vmem, ⟨9, _⟩ => ⟨S2048x128, .f32⟩
  | .local _ .vmem, ⟨10, _⟩ => ⟨S2048x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference7Ideal.lean ====
abbrev S4096x1024 : Shape := ⟨2, ![4096, 1024]⟩
abbrev S1024x5152 : Shape := ⟨2, ![1024, 5152]⟩
abbrev S1024x32 : Shape := ⟨2, ![1024, 32]⟩
abbrev S4096x32 : Shape := ⟨2, ![4096, 32]⟩
abbrev S_ : Shape := ⟨0, ![]⟩
abbrev S4096x96 : Shape := ⟨2, ![4096, 96]⟩
abbrev S4096x128 : Shape := ⟨2, ![4096, 128]⟩
abbrev S1024x2048 : Shape := ⟨2, ![1024, 2048]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5152, .f32⟩
  | .hbm, ⟨2, _⟩ => ⟨S4096x1024, .f32⟩
  | .hbm, ⟨3, _⟩ => ⟨S1024x32, .f32⟩
  | .hbm, ⟨4, _⟩ => ⟨S4096x32, .f32⟩
  | .hbm, ⟨5, _⟩ => ⟨S_, .f32⟩
  | .hbm, ⟨6, _⟩ => ⟨S4096x96, .f32⟩
  | .hbm, ⟨7, _⟩ => ⟨S4096x128, .f32⟩
  | .hbm, ⟨8, _⟩ => ⟨S1024x2048, .f32⟩
  | .hbm, ⟨9, _⟩ => ⟨S4096x2048, .f32⟩
  | .hbm, ⟨10, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S4096x1024, .f32⟩
  | .hbm, ⟨3, _⟩ => ⟨S2048x1024, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S4096x1024, .f32⟩
  | .hbm, ⟨3, _⟩ => ⟨S4096x2048, .f32⟩
  | .hbm, ⟨4, _⟩ => ⟨S4096x1024, .f32⟩
  | .hbm, ⟨5, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x4096 : Shape := ⟨2, ![4096, 4096]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S2048 : Shape := ⟨1, ![2048]⟩
abbrev S2048x1 : Shape := ⟨2, ![2048, 1]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S4096x4096, .bf16⟩
  | .hbm, ⟨7, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference10Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1024x5152 : Shape := ⟨2, ![1024, 5152]⟩
abbrev S5152x1024 : Shape := ⟨2, ![5152, 1024]⟩
abbrev S3072x1024 : Shape := ⟨2, ![3072, 1024]⟩
abbrev S4096x3072 : Shape := ⟨2, ![4096, 3072]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5152, .f32⟩
  | .hbm, ⟨3, _⟩ => ⟨S5152x1024, .f32⟩
  | .hbm, ⟨4, _⟩ => ⟨S5152x1024, .bf16⟩
  | .hbm, ⟨5, _⟩ => ⟨S3072x1024, .bf16⟩
  | .hbm, ⟨6, _⟩ => ⟨S4096x3072, .bf16⟩
  | .hbm, ⟨7, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S4096x1024 : Shape := ⟨2, ![4096, 1024]⟩
abbrev S1x1024 : Shape := ⟨2, ![1, 1024]⟩
abbrev S1024x5152 : Shape := ⟨2, ![1024, 5152]⟩
abbrev S_ : Shape := ⟨0, ![]⟩
abbrev S4096 : Shape := ⟨1, ![4096]⟩
abbrev S4096x1 : Shape := ⟨2, ![4096, 1]⟩
abbrev S1024x3072 : Shape := ⟨2, ![1024, 3072]⟩
abbrev S4096x3072 : Shape := ⟨2, ![4096, 3072]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5152, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x3072, .f32⟩
  | .hbm, ⟨19, _⟩ => ⟨S4096x3072, .f32⟩
  | .hbm, ⟨20, _⟩ => ⟨S4096x3072, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel12.lean ====
abbrev S4096x2048 : Shape := ⟨2, ![4096, 2048]⟩
abbrev S1x2048 : Shape := ⟨2, ![1, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048, .f32⟩
  | .hbm, ⟨3, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x2048 : Shape := ⟨2, ![4096, 2048]⟩
abbrev S1x2048 : Shape := ⟨2, ![1, 2048]⟩
abbrev S_ : Shape := ⟨0, ![]⟩
abbrev S4096x4x512 : Shape := ⟨3, ![4096, 4, 512]⟩
abbrev S4096x4 : Shape := ⟨2, ![4096, 4]⟩
abbrev S4096x4x1 : Shape := ⟨3, ![4096, 4, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x4x512, .f32⟩
  | .hbm, ⟨16, _⟩ => ⟨S4096x4x512, .f32⟩
  | .hbm, ⟨17, _⟩ => ⟨S_, .f32⟩
  | .hbm, ⟨18, _⟩ => ⟨S4096x4, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S_, .f32⟩
  | .hbm, ⟨24, _⟩ => ⟨S4096x4x1, .f32⟩
  | .hbm, ⟨25, _⟩ => ⟨S4096x4x1, .f32⟩
  | .hbm, ⟨26, _⟩ => ⟨S4096x4x1, .f32⟩
  | .hbm, ⟨27, _⟩ => ⟨S4096x4x512, .f32⟩
  | .hbm, ⟨28, _⟩ => ⟨S4096x4x512, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel13.lean ====
abbrev S1288x1024 : Shape := ⟨2, ![1288, 1024]⟩
abbrev S184x1024 : Shape := ⟨2, ![184, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1288x1024, .f32⟩
  | .hbm, ⟨1, _⟩ => ⟨S1288x1024, .f32⟩
  | .hbm, ⟨2, _⟩ => ⟨S1288x1024, .f32⟩
  | .hbm, ⟨3, _⟩ => ⟨S1288x1024, .f32⟩
  | .hbm, ⟨4, _⟩ => ⟨S1288x1024, .f32⟩
  | .hbm, ⟨5, _⟩ => ⟨S1288x1024, .f32⟩
  | .hbm, ⟨6, _⟩ => ⟨S1288x1024, .f32⟩
  | .local _ .vmem, ⟨0, _⟩ => ⟨S184x1024, .f32⟩
  | .local _ .vmem, ⟨1, _⟩ => ⟨S184x1024, .f32⟩
  | .local _ .vmem, ⟨2, _⟩ => ⟨S184x1024, .f32⟩
  | .local _ .vmem, ⟨3, _⟩ => ⟨S184x1024, .f32⟩
  | .local _ .vmem, ⟨4, _⟩ => ⟨S184x1024, .f32⟩
  | .local _ .vmem, ⟨5, _⟩ => ⟨S184x1024, .f32⟩
  | .local _ .vmem, ⟨6, _⟩ => ⟨S184x1024, .f32⟩
  | .local _ .vmem, ⟨7, _⟩ => ⟨S184x1024, .f32⟩
  | .local _ .vmem, ⟨8, _⟩ => ⟨S184x1024, .f32⟩
  | .local _ .vmem, ⟨9, _⟩ => ⟨S184x1024, .f32⟩
  | .local _ .vmem, ⟨10, _⟩ => ⟨S184x1024, .f32⟩
  | .local _ .vmem, ⟨11, _⟩ => ⟨S184x1024, .f32⟩
  | .local _ .vmem, ⟨12, _⟩ => ⟨S184x1024, .f32⟩
  | .local _ .vmem, ⟨13, _⟩ => ⟨S184x1024, .f32⟩
  | _, _ => ⟨S1288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S184x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S184x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S184x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S184x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S184x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S184x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S184x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel13Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference13Ideal.lean ====
abbrev S1288x1024 : Shape := ⟨2, ![1288, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1288x1024, .f32⟩
  | .hbm, ⟨1, _⟩ => ⟨S1288x1024, .f32⟩
  | .hbm, ⟨2, _⟩ => ⟨S1288x1024, .f32⟩
  | .hbm, ⟨3, _⟩ => ⟨S1288x1024, .f32⟩
  | .hbm, ⟨4, _⟩ => ⟨S_, .f32⟩
  | .hbm, ⟨5, _⟩ => ⟨S1288x1024, .f32⟩
  | .hbm, ⟨6, _⟩ => ⟨S1288x1024, .f32⟩
  | .hbm, ⟨7, _⟩ => ⟨S_, .f32⟩
  | .hbm, ⟨8, _⟩ => ⟨S1288x1024, .f32⟩
  | .hbm, ⟨9, _⟩ => ⟨S1288x1024, .f32⟩
  | .hbm, ⟨10, _⟩ => ⟨S1288x1024, .f32⟩
  | .hbm, ⟨11, _⟩ => ⟨S_, .f32⟩
  | .hbm, ⟨12, _⟩ => ⟨S1288x1024, .f32⟩
  | .hbm, ⟨13, _⟩ => ⟨S1288x1024, .f32⟩
  | .hbm, ⟨14, _⟩ => ⟨S1288x1024, .f32⟩
  | .hbm, ⟨15, _⟩ => ⟨S_, .f32⟩
  | .hbm, ⟨16, _⟩ => ⟨S1288x1024, .f32⟩
  | .hbm, ⟨17, _⟩ => ⟨S1288x1024, .f32⟩
  | .hbm, ⟨18, _⟩ => ⟨S1288x1024, .f32⟩
  | .hbm, ⟨19, _⟩ => ⟨S_, .f32⟩
  | .hbm, ⟨20, _⟩ => ⟨S1288x1024, .f32⟩
  | .hbm, ⟨21, _⟩ => ⟨S1288x1024, .f32⟩
  | .hbm, ⟨22, _⟩ => ⟨S_, .f32⟩
  | .hbm, ⟨23, _⟩ => ⟨S1288x1024, .f32⟩
  | .hbm, ⟨24, _⟩ => ⟨S1288x1024, .f32⟩
  | .hbm, ⟨25, _⟩ => ⟨S1288x1024, .f32⟩
  | .hbm, ⟨26, _⟩ => ⟨S_, .f32⟩
  | .hbm, ⟨27, _⟩ => ⟨S1288x1024, .f32⟩
  | .hbm, ⟨28, _⟩ => ⟨S1288x1024, .f32⟩
  | .hbm, ⟨29, _⟩ => ⟨S1288x1024, .f32⟩
  | .hbm, ⟨30, _⟩ => ⟨S_, .f32⟩
  | .hbm, ⟨31, _⟩ => ⟨S1288x1024, .f32⟩
  | .hbm, ⟨32, _⟩ => ⟨S1288x1024, .f32⟩
  | .hbm, ⟨33, _⟩ => ⟨S1288x1024, .f32⟩
  | .hbm, ⟨34, _⟩ => ⟨S_, .f32⟩
  | .hbm, ⟨35, _⟩ => ⟨S1288x1024, .f32⟩
  | .hbm, ⟨36, _⟩ => ⟨S1288x1024, .f32⟩
  | _, _ => ⟨S1288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel14Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference14Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel15Ideal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== Reference15Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.UpRun.lean ====
/- The first product of an MLP sub-layer, with the normalization in front of it, on the extended reals: every run ends, and what its arrays end with, point by point.
   The kernel normalizes a block of rows at the first point of a row of blocks, into its second result's buffer, and reads it there at the others. -/
module

public import proofs.«01_k».proof.Proof.Gen.Kernel10Ideal.Launch
public import proofs.«01_k».proof.Proof.Gen.Kernel10Ideal.Skeleton
public import proofs.«01_k».proof.Proof.Gen.Kernel10Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.Value
public import Idealize.ShloMosaic.Lib.WordCmp

@[expose] public section

set_option maxRecDepth 16384

noncomputable section

namespace Cert.Kernel10Ideal.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal.Gen

variable {F : FTy → Type} [FloatOps F]

abbrev St (F : FTy → Type) [FloatOps F] := MT nD τ sig Unit (Elt F) ℕ (UR sig nD τ) ℕ

variable (m : (ℓ : Loc nD τ sig) → Buf (Elt F) ℓ) (ρ : Dev nD → PrngReg)

/-- The buffers when the kernel starts. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem entered (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh main_chain

/-- The operations before the kernel write none of the arguments. -/
theorem V_arg (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne h0, StableHlo.devRef_ne_of_ne h1, StableHlo.devRef_ne_of_ne h2⟩))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The condition under which the body normalizes: the point is the first of its row of blocks. -/
theorem cond_iff : ∀ t : Fin cfg0.N, k0_cond1 (grid0.coords t) = 1#1 ↔ t.val % 4 = 0 := by decide +kernel

theorem zeros2 : (![0, 0] : Fin 2 → ℕ) = fun _ => 0 := by funext a; fin_cases a <;> rfl
theorem zeros3 : (![0, 0, 0] : Fin 3 → ℕ) = fun _ => 0 := by funext a; fin_cases a <;> rfl

/-- The two results' blocks, from the blocks of the input, the weight and the gain. -/
abbrev nrm (x0 : Vec F S2048x1024 .f32) (x2 : Vec F S1x1024 .f32) : Vec F S2048x1024 .bf16 := k0_pay1 x0 x2
abbrev prod (x0 : Vec F S2048x1024 .f32) (x1 : Vec F S1x1024x1024 .bf16) (x2 : Vec F S1x1024 .f32) : Vec F S2048x1024 .bf16 := k0_pay2 (nrm x0 x2) x1

/-- One store of a whole block covers it. -/
theorem covers (p : Vec F S2048x1024 .bf16) (y : S2048x1024.Idx) :
    ∃ pc ∈ ([⟨Rect.unit (s := S2048x1024) ![0, 0] S2048x1024.size inb_S2048x1024_S2048x1024_0_0, p⟩] : List (View.Piece (Elt F) S2048x1024 .bf16)), y ∈ pc.1.set :=
  View.cover_of_tiled [⟨Rect.unit (s := S2048x1024) ![0, 0] S2048x1024.size inb_S2048x1024_S2048x1024_0_0, p⟩] S2048x1024.size (by rfl) y

section body

variable (c : Dev nD) (E : Set ℕ) (i : grid0.Coords)
variable (arg2 : Memref sig .tc .vmem S2048x1024 .f32) (harg2 : arg2.IsWhole) (arg3 : Memref sig .tc .vmem S1x1024x1024 .bf16) (harg3 : arg3.IsWhole)
variable (arg4 : Memref sig .tc .vmem S1x1024 .f32) (harg4 : arg4.IsWhole) (arg5 : Memref sig .tc .vmem S2048x1024 .bf16) (harg5 : arg5.IsWhole)
variable (arg6 : Memref sig .tc .vmem S2048x1024 .bf16) (harg6 : arg6.IsWhole)
variable (x0 : Vec F S2048x1024 .f32) (x1 : Vec F S1x1024x1024 .bf16) (x2 : Vec F S1x1024 .f32)

set_option maxHeartbeats 2000000 in
/-- At the first point of a row of blocks the body leaves the normalized rows and their product with the weight's block. -/
theorem body_first (hc : k0_cond1 i = 1#1) (K : PUnit → sProp (St F)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (prod x0 x1 x2) ∗ owns (c : Thread nD τ) arg6 fullShare (nrm x0 x2)) -∗ K ⟨⟩))
      ⊢ wp frame (wpE (defs₀ (F := F)) Variants.none c none) E (cc0_mlp0_up i arg2 harg2 arg3 harg3 arg4 harg4 arg5 harg5 arg6 harg6) K := by
  simp only [cc0_mlp0_up_eq_skeleton]; unfold cc0_mlp0_up_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (covers _)).trans ?_
    rw [View.canon_unit_zero (S := S2048x1024) zeros2]
    sl_unfold_words
    rw [View.readCov_unit_zero (S := S2048x1024) _ zeros2]
    simp only [View.readAt_eq_ld]
    rw [View.ld_unit_zero (S := S2048x1024) zeros2, View.ld_unit_zero (S := S1x1024x1024) zeros3, View.ld_unit_zero (S := S1x1024) zeros2]
  iexists _; isplitr
  swap; · iexact H4
  ipureintro
  sl_unfold_words
  refine (View.read_writes_eq_canon _ _ _ (covers _)).trans ?_
  rw [View.canon_unit_zero (S := S2048x1024) zeros2]
  simp only [View.readAt_eq_ld]
  rw [View.ld_unit_zero (S := S2048x1024) zeros2, View.ld_unit_zero (S := S1x1024) zeros2]

set_option maxHeartbeats 2000000 in
/-- At the other points the body finds the normalized rows in place, and leaves their product with the weight's block. -/
theorem body_later (hc : ¬k0_cond1 i = 1#1) (K : PUnit → sProp (St F)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare (nrm x0 x2)
        ∗ (iprop(owns (c : Thread nD τ) arg2 fullShare x0 ∗ owns (c : Thread nD τ) arg3 fullShare x1 ∗ owns (c : Thread nD τ) arg4 fullShare x2
            ∗ owns (c : Thread nD τ) arg5 fullShare (prod x0 x1 x2) ∗ owns (c : Thread nD τ) arg6 fullShare (nrm x0 x2)) -∗ K ⟨⟩))
      ⊢ wp frame (wpE (defs₀ (F := F)) Variants.none c none) E (cc0_mlp0_up i arg2 harg2 arg3 harg3 arg4 harg4 arg5 harg5 arg6 harg6) K := by
  simp only [cc0_mlp0_up_eq_skeleton]; unfold cc0_mlp0_up_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (covers _)).trans ?_
    rw [View.canon_unit_zero (S := S2048x1024) zeros2]
    simp only [View.readAt_eq_ld]
    rw [View.ld_unit_zero (S := S2048x1024) zeros2, View.ld_unit_zero (S := S1x1024x1024) zeros3, hf4]
  iexists f4; isplitr
  · ipureintro; exact hf4
  iexact H4

end body

/-- The arrays as the kernel finds them; after each point, each input's block and each result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod (iblk m c 0 t) (iblk m c 1 t) (iblk m c 2 t)
    | ⟨4, _⟩ => nrm (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = prod (iblk m c 0 t) (iblk m c 1 t) (iblk m c 2 t) := by dsimp only [dats]
theorem after4 : (dats m 0 c).after 4 t = nrm (iblk m c 0 t) (iblk m c 2 t) := by dsimp only [dats]

theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- The point before. -/
abbrev prev : Fin cfg0.N := ⟨t.val - 1, Nat.lt_of_le_of_lt (Nat.sub_le _ _) t.isLt⟩

/-- Within a row of blocks the input's block does not move, -/
theorem iblk0_prev (d : (cfg0.win 0).block.Idx → Elt F (cfg0.win 0).elt) (h : ¬t.val % 4 = 0) : iblk m c 0 (prev t) = iblk m c 0 t := by
  have hf : (cfg0.win 0).fetch t = false := Bool.eq_false_iff.mpr fun e => h ((fetch0_0 t).mp e)
  rw [← before0 m c t d, (dats m 0 c).before_unfetched_in 0 rfl t hf (fun _ => rfl) d]
  unfold Dat.kept
  rw [after0]
  rfl

/-- nor the gain's. -/
theorem iblk2_prev (d : (cfg0.win 2).block.Idx → Elt F (cfg0.win 2).elt) (h : ¬t.val % 4 = 0) : iblk m c 2 (prev t) = iblk m c 2 t := by
  have hf : (cfg0.win 2).fetch t = false := Bool.eq_false_iff.mpr fun e => h (by have := (fetch0_2 t).mp e; omega)
  rw [← before2 m c t d, (dats m 0 c).before_unfetched_in 2 rfl t hf (fun _ => rfl) d]
  unfold Dat.kept
  rw [after2]
  rfl

/-- At every point but the first of its row, the second result's buffer holds the normalized rows. -/
theorem before4 : ∀ (n : ℕ) (hn : n < cfg0.N) (_ : ¬n % 4 = 0) (d),
    (dats m 0 c).before 4 ⟨n, hn⟩ d = nrm (iblk m c 0 ⟨n, hn⟩) (iblk m c 2 ⟨n, hn⟩) := by
  intro n
  induction n with
  | zero => intro _ h; exact absurd rfl h
  | succ n ih =>
    intro hn h d
    rw [(dats m 0 c).before_of_pos 4 ⟨n + 1, hn⟩ (Nat.succ_ne_zero n) ((cfg0.win 4).fetch_out rfl _) d]
    have hfl : (cfg0.win 4).flush (prev ⟨n + 1, hn⟩) = false := Bool.eq_false_iff.mpr fun e => by
      have := (flush0_4 _).mp e
      dsimp only [prev] at this
      omega
    rw [hfl, if_neg Bool.false_ne_true, ← iblk0_prev m c ⟨n + 1, hn⟩ (iblk m c 0 ⟨n + 1, hn⟩) h, ← iblk2_prev m c ⟨n + 1, hn⟩ (iblk m c 2 ⟨n + 1, hn⟩) h]
    unfold Dat.left
    by_cases h0 : n % 4 = 0
    · have hi : cfg0.idle 4 (cfg0.grid.coords (prev ⟨n + 1, hn⟩)) = false := by
        show (!(k0_cond1 (grid0.coords (prev ⟨n + 1, hn⟩)) == 1#1)) = false
        rw [(cond_iff (prev ⟨n + 1, hn⟩)).mpr h0]
        rfl
      rw [hi]
      dsimp only
      unfold Dat.kept
      rw [after4]
      rfl
    · have hi : cfg0.idle 4 (cfg0.grid.coords (prev ⟨n + 1, hn⟩)) = true := by
        show (!(k0_cond1 (grid0.coords (prev ⟨n + 1, hn⟩)) == 1#1)) = true
        have := mt (cond_iff (prev ⟨n + 1, hn⟩)).mp h0
        simpa using this
      rw [hi]
      dsimp only
      exact ih (Nat.lt_of_succ_lt hn) h0 d

/-- What the body is called with at a point, window by window, -/
def bodyPre : sProp (St F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost : sProp (St F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

theorem leaves4_first (h : t.val % 4 = 0) : (dats m 0 c).leavesExact 4 t = owns (c : Thread nD τ) (st0_4 t) fullShare ((dats m 0 c).after 4 t) := by
  have hi : cfg0.idle 4 (cfg0.grid.coords t) = false := by
    show (!(k0_cond1 (grid0.coords t) == 1#1)) = false
    rw [(cond_iff t).mpr h]
    rfl
  unfold Dat.leavesExact
  rw [hi]

theorem leaves4_later (h : ¬t.val % 4 = 0) :
    owns (c : Thread nD τ) (st0_4 t) fullShare (nrm (iblk m c 0 t) (iblk m c 2 t)) ⊢ ((dats m 0 c).leavesExact 4 t : sProp (St F)) := by
  have hi : cfg0.idle 4 (cfg0.grid.coords t) = true := by
    show (!(k0_cond1 (grid0.coords t) == 1#1)) = true
    have := mt (cond_iff t).mp h
    simpa using this
  cases hf : (cfg0.win 4).flush t
  · rw [(dats m 0 c).leavesExact_idle 4 t hi hf]
    iintro H
    iexists nrm (iblk m c 0 t) (iblk m c 2 t)
    rw [before4 m c t.val t.isLt h]
    iexact H
  · unfold Dat.leavesExact
    rw [hi, hf, after4]

set_option maxHeartbeats 1600000 in
theorem sound_body : bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl, after0, after1, after2, after3]
  by_cases h : t.val % 4 = 0
  · rw [leaves4_first m c t h, after4]
    iintro ⟨HΦ, Ho, ⟨%d0, H0⟩, ⟨%d1, H1⟩, ⟨%d2, H2⟩, ⟨%d3, H3⟩, ⟨%d4, H4⟩⟩
    iapply (body_first c Set.univ (grid0.coords t) _ _ _ _ _ _ _ _ _ _ (iblk m c 0 t) (iblk m c 1 t) (iblk m c 2 t) ((cond_iff t).mpr h) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [show ∀ d, (dats m 0 c).before 4 t d = nrm (iblk m c 0 t) (iblk m c 2 t) from before4 m c t.val t.isLt h]
    iintro ⟨HΦ, Ho, ⟨%d0, H0⟩, ⟨%d1, H1⟩, ⟨%d2, H2⟩, ⟨%d3, H3⟩, ⟨%d4, H4⟩⟩
    iapply (body_later c Set.univ (grid0.coords t) _ _ _ _ _ _ _ _ _ _ (iblk m c 0 t) (iblk m c 1 t) (iblk m c 2 t) (mt (cond_iff t).mp h) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves4_later m c t h)
    iexact H4

theorem row : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- Every run ends with the windows' arrays at what the points left, everything else as the kernel found it, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := entered m Variants.none) (hA := A_eq m) (hΦ := fun _ _ => rfl)

/-- Every run ends, with the arguments unchanged, the results at what the points left, and every counter at zero. -/
theorem run : θ_run defs (onTc (τ := τ) (main (F := F))) ⟨m, fun _ => 0, ρ⟩ (fun r => (∀ c : Dev nD,
      r.2.mem ((c.tc : Thread nD τ).loc main_v3_0) = (dats m 0 c).arrAt 3 cfg0.N
      ∧ r.2.mem ((c.tc : Thread nD τ).loc main_v3_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 3, (h.1 c).1 4,
    ((h.1 c).1 0).trans (((dats m 0 c).arrAt_in 0 rfl _).trans ((A_eq m c 0).trans (V_arg m c main_arg0 (by decide) (by decide) (by decide)))),
    ((h.1 c).1 2).trans (((dats m 0 c).arrAt_in 2 rfl _).trans ((A_eq m c 2).trans (V_arg m c main_arg1 (by decide) (by decide) (by decide)))),
    ((h.1 c).2 main_arg2 (Pipeline.mem_restRefs_of main_arg2 (by decide) (by decide))).trans (V_arg m c main_arg2 (by decide) (by decide) (by decide))⟩, h.2⟩)
    (run_quiescent m ρ)

/-- The arguments' part of it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (run m ρ)

end Cert.Kernel10Ideal.Held

end
-- ==== Proof.MidRun.lean ====
/- The middle columns of the input projection, with the normalization in front of it, on the extended reals: every run ends, and what its arrays end with, point by point.
   The kernel normalizes a block of rows at the first point of a row of blocks, into its second result's buffer, and reads it there at the others. -/
module

public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.Value
public import Idealize.ShloMosaic.Lib.WordCmp

@[expose] public section

set_option maxRecDepth 16384

noncomputable section

namespace Cert.Kernel11Ideal.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel11Ideal.Gen

variable {F : FTy → Type} [FloatOps F]

abbrev St (F : FTy → Type) [FloatOps F] := MT nD τ sig Unit (Elt F) ℕ (UR sig nD τ) ℕ

variable (m : (ℓ : Loc nD τ sig) → Buf (Elt F) ℓ) (ρ : Dev nD → PrngReg)

/-- The buffers when the kernel starts. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem entered (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh main_chain

/-- The operations before the kernel write none of the arguments. -/
theorem V_arg (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne h0, StableHlo.devRef_ne_of_ne h1, StableHlo.devRef_ne_of_ne h2⟩))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The condition under which the body normalizes: the point is the first of its row of blocks. -/
theorem cond_iff : ∀ t : Fin cfg0.N, k0_cond1 (grid0.coords t) = 1#1 ↔ t.val % 3 = 0 := by decide +kernel

theorem zeros2 : (![0, 0] : Fin 2 → ℕ) = fun _ => 0 := by funext a; fin_cases a <;> rfl

/-- The two results' blocks, from the blocks of the input, the weight and the gain. -/
abbrev nrm (x0 : Vec F S2048x1024 .f32) (x2 : Vec F S1x1024 .f32) : Vec F S2048x1024 .bf16 := k0_pay1 x0 x2
abbrev prod (x0 : Vec F S2048x1024 .f32) (x1 : Vec F S1024x1024 .bf16) (x2 : Vec F S1x1024 .f32) : Vec F S2048x1024 .bf16 := k0_pay2 (nrm x0 x2) x1

/-- One store of a whole block covers it. -/
theorem covers (p : Vec F S2048x1024 .bf16) (y : S2048x1024.Idx) :
    ∃ pc ∈ ([⟨Rect.unit (s := S2048x1024) ![0, 0] S2048x1024.size inb_S2048x1024_S2048x1024_0_0, p⟩] : List (View.Piece (Elt F) S2048x1024 .bf16)), y ∈ pc.1.set :=
  View.cover_of_tiled [⟨Rect.unit (s := S2048x1024) ![0, 0] S2048x1024.size inb_S2048x1024_S2048x1024_0_0, p⟩] S2048x1024.size (by rfl) y

section body

variable (c : Dev nD) (E : Set ℕ) (i : grid0.Coords)
variable (arg2 : Memref sig .tc .vmem S2048x1024 .f32) (harg2 : arg2.IsWhole) (arg3 : Memref sig .tc .vmem S1024x1024 .bf16) (harg3 : arg3.IsWhole)
variable (arg4 : Memref sig .tc .vmem S1x1024 .f32) (harg4 : arg4.IsWhole) (arg5 : Memref sig .tc .vmem S2048x1024 .bf16) (harg5 : arg5.IsWhole)
variable (arg6 : Memref sig .tc .vmem S2048x1024 .bf16) (harg6 : arg6.IsWhole)
variable (x0 : Vec F S2048x1024 .f32) (x1 : Vec F S1024x1024 .bf16) (x2 : Vec F S1x1024 .f32)

set_option maxHeartbeats 2000000 in
/-- At the first point of a row of blocks the body leaves the normalized rows and their product with the weight's block. -/
theorem body_first (hc : k0_cond1 i = 1#1) (K : PUnit → sProp (St F)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (prod x0 x1 x2) ∗ owns (c : Thread nD τ) arg6 fullShare (nrm x0 x2)) -∗ K ⟨⟩))
      ⊢ wp frame (wpE (defs₀ (F := F)) Variants.none c none) E (cc0_in_proj_xbc i arg2 harg2 arg3 harg3 arg4 harg4 arg5 harg5 arg6 harg6) K := by
  simp only [cc0_in_proj_xbc_eq_skeleton]; unfold cc0_in_proj_xbc_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (covers _)).trans ?_
    rw [View.canon_unit_zero (S := S2048x1024) zeros2]
    sl_unfold_words
    rw [View.readCov_unit_zero (S := S2048x1024) _ zeros2]
    simp only [View.readAt_eq_ld]
    rw [View.ld_unit_zero (S := S2048x1024) zeros2, View.ld_unit_zero (S := S1024x1024) zeros2, View.ld_unit_zero (S := S1x1024) zeros2]
  iexists _; isplitr
  swap; · iexact H4
  ipureintro
  sl_unfold_words
  refine (View.read_writes_eq_canon _ _ _ (covers _)).trans ?_
  rw [View.canon_unit_zero (S := S2048x1024) zeros2]
  simp only [View.readAt_eq_ld]
  rw [View.ld_unit_zero (S := S2048x1024) zeros2, View.ld_unit_zero (S := S1x1024) zeros2]

set_option maxHeartbeats 2000000 in
/-- At the other points the body finds the normalized rows in place, and leaves their product with the weight's block. -/
theorem body_later (hc : ¬k0_cond1 i = 1#1) (K : PUnit → sProp (St F)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare (nrm x0 x2)
        ∗ (iprop(owns (c : Thread nD τ) arg2 fullShare x0 ∗ owns (c : Thread nD τ) arg3 fullShare x1 ∗ owns (c : Thread nD τ) arg4 fullShare x2
            ∗ owns (c : Thread nD τ) arg5 fullShare (prod x0 x1 x2) ∗ owns (c : Thread nD τ) arg6 fullShare (nrm x0 x2)) -∗ K ⟨⟩))
      ⊢ wp frame (wpE (defs₀ (F := F)) Variants.none c none) E (cc0_in_proj_xbc i arg2 harg2 arg3 harg3 arg4 harg4 arg5 harg5 arg6 harg6) K := by
  simp only [cc0_in_proj_xbc_eq_skeleton]; unfold cc0_in_proj_xbc_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (covers _)).trans ?_
    rw [View.canon_unit_zero (S := S2048x1024) zeros2]
    simp only [View.readAt_eq_ld]
    rw [View.ld_unit_zero (S := S2048x1024) zeros2, View.ld_unit_zero (S := S1024x1024) zeros2, hf4]
  iexists f4; isplitr
  · ipureintro; exact hf4
  iexact H4

end body

/-- The arrays as the kernel finds them; after each point, each input's block and each result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod (iblk m c 0 t) (iblk m c 1 t) (iblk m c 2 t)
    | ⟨4, _⟩ => nrm (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = prod (iblk m c 0 t) (iblk m c 1 t) (iblk m c 2 t) := by dsimp only [dats]
theorem after4 : (dats m 0 c).after 4 t = nrm (iblk m c 0 t) (iblk m c 2 t) := by dsimp only [dats]

theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- The point before. -/
abbrev prev : Fin cfg0.N := ⟨t.val - 1, Nat.lt_of_le_of_lt (Nat.sub_le _ _) t.isLt⟩

/-- Within a row of blocks the input's block does not move, -/
theorem iblk0_prev (d : (cfg0.win 0).block.Idx → Elt F (cfg0.win 0).elt) (h : ¬t.val % 3 = 0) : iblk m c 0 (prev t) = iblk m c 0 t := by
  have hf : (cfg0.win 0).fetch t = false := Bool.eq_false_iff.mpr fun e => h ((fetch0_0 t).mp e)
  rw [← before0 m c t d, (dats m 0 c).before_unfetched_in 0 rfl t hf (fun _ => rfl) d]
  unfold Dat.kept
  rw [after0]
  rfl

/-- nor the gain's. -/
theorem iblk2_prev (d : (cfg0.win 2).block.Idx → Elt F (cfg0.win 2).elt) (h : ¬t.val % 3 = 0) : iblk m c 2 (prev t) = iblk m c 2 t := by
  have hf : (cfg0.win 2).fetch t = false := Bool.eq_false_iff.mpr fun e => h (by have := (fetch0_2 t).mp e; omega)
  rw [← before2 m c t d, (dats m 0 c).before_unfetched_in 2 rfl t hf (fun _ => rfl) d]
  unfold Dat.kept
  rw [after2]
  rfl

/-- At every point but the first of its row, the second result's buffer holds the normalized rows. -/
theorem before4 : ∀ (n : ℕ) (hn : n < cfg0.N) (_ : ¬n % 3 = 0) (d),
    (dats m 0 c).before 4 ⟨n, hn⟩ d = nrm (iblk m c 0 ⟨n, hn⟩) (iblk m c 2 ⟨n, hn⟩) := by
  intro n
  induction n with
  | zero => intro _ h; exact absurd rfl h
  | succ n ih =>
    intro hn h d
    rw [(dats m 0 c).before_of_pos 4 ⟨n + 1, hn⟩ (Nat.succ_ne_zero n) ((cfg0.win 4).fetch_out rfl _) d]
    have hfl : (cfg0.win 4).flush (prev ⟨n + 1, hn⟩) = false := Bool.eq_false_iff.mpr fun e => by
      have := (flush0_4 _).mp e
      dsimp only [prev] at this
      omega
    rw [hfl, if_neg Bool.false_ne_true, ← iblk0_prev m c ⟨n + 1, hn⟩ (iblk m c 0 ⟨n + 1, hn⟩) h, ← iblk2_prev m c ⟨n + 1, hn⟩ (iblk m c 2 ⟨n + 1, hn⟩) h]
    unfold Dat.left
    by_cases h0 : n % 3 = 0
    · have hi : cfg0.idle 4 (cfg0.grid.coords (prev ⟨n + 1, hn⟩)) = false := by
        show (!(k0_cond1 (grid0.coords (prev ⟨n + 1, hn⟩)) == 1#1)) = false
        rw [(cond_iff (prev ⟨n + 1, hn⟩)).mpr h0]
        rfl
      rw [hi]
      dsimp only
      unfold Dat.kept
      rw [after4]
      rfl
    · have hi : cfg0.idle 4 (cfg0.grid.coords (prev ⟨n + 1, hn⟩)) = true := by
        show (!(k0_cond1 (grid0.coords (prev ⟨n + 1, hn⟩)) == 1#1)) = true
        have := mt (cond_iff (prev ⟨n + 1, hn⟩)).mp h0
        simpa using this
      rw [hi]
      dsimp only
      exact ih (Nat.lt_of_succ_lt hn) h0 d

/-- What the body is called with at a point, window by window, -/
def bodyPre : sProp (St F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost : sProp (St F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

theorem leaves4_first (h : t.val % 3 = 0) : (dats m 0 c).leavesExact 4 t = owns (c : Thread nD τ) (st0_4 t) fullShare ((dats m 0 c).after 4 t) := by
  have hi : cfg0.idle 4 (cfg0.grid.coords t) = false := by
    show (!(k0_cond1 (grid0.coords t) == 1#1)) = false
    rw [(cond_iff t).mpr h]
    rfl
  unfold Dat.leavesExact
  rw [hi]

theorem leaves4_later (h : ¬t.val % 3 = 0) :
    owns (c : Thread nD τ) (st0_4 t) fullShare (nrm (iblk m c 0 t) (iblk m c 2 t)) ⊢ ((dats m 0 c).leavesExact 4 t : sProp (St F)) := by
  have hi : cfg0.idle 4 (cfg0.grid.coords t) = true := by
    show (!(k0_cond1 (grid0.coords t) == 1#1)) = true
    have := mt (cond_iff t).mp h
    simpa using this
  cases hf : (cfg0.win 4).flush t
  · rw [(dats m 0 c).leavesExact_idle 4 t hi hf]
    iintro H
    iexists nrm (iblk m c 0 t) (iblk m c 2 t)
    rw [before4 m c t.val t.isLt h]
    iexact H
  · unfold Dat.leavesExact
    rw [hi, hf, after4]

set_option maxHeartbeats 1600000 in
theorem sound_body : bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl, after0, after1, after2, after3]
  by_cases h : t.val % 3 = 0
  · rw [leaves4_first m c t h, after4]
    iintro ⟨HΦ, Ho, ⟨%d0, H0⟩, ⟨%d1, H1⟩, ⟨%d2, H2⟩, ⟨%d3, H3⟩, ⟨%d4, H4⟩⟩
    iapply (body_first c Set.univ (grid0.coords t) _ _ _ _ _ _ _ _ _ _ (iblk m c 0 t) (iblk m c 1 t) (iblk m c 2 t) ((cond_iff t).mpr h) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [show ∀ d, (dats m 0 c).before 4 t d = nrm (iblk m c 0 t) (iblk m c 2 t) from before4 m c t.val t.isLt h]
    iintro ⟨HΦ, Ho, ⟨%d0, H0⟩, ⟨%d1, H1⟩, ⟨%d2, H2⟩, ⟨%d3, H3⟩, ⟨%d4, H4⟩⟩
    iapply (body_later c Set.univ (grid0.coords t) _ _ _ _ _ _ _ _ _ _ (iblk m c 0 t) (iblk m c 1 t) (iblk m c 2 t) (mt (cond_iff t).mp h) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves4_later m c t h)
    iexact H4

theorem row : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- Every run ends with the windows' arrays at what the points left, everything else as the kernel found it, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := entered m Variants.none) (hA := A_eq m) (hΦ := fun _ _ => rfl)

/-- Every run ends, with the arguments unchanged, the results at what the points left, and every counter at zero. -/
theorem run : θ_run defs (onTc (τ := τ) (main (F := F))) ⟨m, fun _ => 0, ρ⟩ (fun r => (∀ c : Dev nD,
      r.2.mem ((c.tc : Thread nD τ).loc main_v3_0) = (dats m 0 c).arrAt 3 cfg0.N
      ∧ r.2.mem ((c.tc : Thread nD τ).loc main_v3_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 3, (h.1 c).1 4,
    ((h.1 c).1 0).trans (((dats m 0 c).arrAt_in 0 rfl _).trans ((A_eq m c 0).trans (V_arg m c main_arg0 (by decide) (by decide) (by decide)))),
    ((h.1 c).1 2).trans (((dats m 0 c).arrAt_in 2 rfl _).trans ((A_eq m c 2).trans (V_arg m c main_arg1 (by decide) (by decide) (by decide)))),
    ((h.1 c).2 main_arg2 (Pipeline.mem_restRefs_of main_arg2 (by decide) (by decide))).trans (V_arg m c main_arg2 (by decide) (by decide) (by decide))⟩, h.2⟩)
    (run_quiescent m ρ)

/-- The arguments' part of it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (run m ρ)

end Cert.Kernel11Ideal.Held

end
-- ==== Proof.UpSame.lean ====
/- The two forward products with the normalization in front, as the machine runs them: the idealized programs are the same programs, so what
   `UpRun.lean` and `MidRun.lean` prove of them, for every kind of numbers, holds of these. -/
module

public import proofs.«01_k».proof.Proof.UpRun
public import proofs.«01_k».proof.Proof.MidRun
public import proofs.«01_k».proof.Proof.Gen.Kernel10
public import proofs.«01_k».proof.Proof.Gen.Kernel11

@[expose] public section

set_option maxRecDepth 16384

open Idealize.ShloMosaic Idealize.ShloMosaic.TcCoe Idealize.SL.Sem

namespace Cert.Kernel10.Held

variable {F : FTy → Type} [FloatOps F]

theorem bodies_same : defs₀ (F := F) = Cert.Kernel10Ideal.defs₀ (F := F) := by
  unfold defs₀ Cert.Kernel10Ideal.defs₀
  refine congrArg Defs.onTc ?_
  funext l a
  match l, a with
  | 0, (t, s) => rfl

theorem defs_same : defs (F := F) = Cert.Kernel10Ideal.defs (F := F) := by
  unfold defs Cert.Kernel10Ideal.defs
  rw [bodies_same]
  rfl

/-- Every run ends, with the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.Kernel10Ideal.Held.frame m ρ

end Cert.Kernel10.Held

namespace Cert.Kernel11.Held

variable {F : FTy → Type} [FloatOps F]

theorem bodies_same : defs₀ (F := F) = Cert.Kernel11Ideal.defs₀ (F := F) := by
  unfold defs₀ Cert.Kernel11Ideal.defs₀
  refine congrArg Defs.onTc ?_
  funext l a
  match l, a with
  | 0, (t, s) => rfl

theorem defs_same : defs (F := F) = Cert.Kernel11Ideal.defs (F := F) := by
  unfold defs Cert.Kernel11Ideal.defs
  rw [bodies_same]
  rfl

/-- Every run ends, with the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.Kernel11Ideal.Held.frame m ρ

end Cert.Kernel11.Held

end
-- ==== Proof.Model.lean ====
/- The real-number model of the pool mixer's gradient: every quantity the kernel and the reference compute, as a function of row and
   column numbers, and the summation facts that make the kernel's rolled windows and the reference's running sums the same numbers. -/
module

public import Idealize.ShloMosaic.PureOps.Ideal
public import Idealize.ShloMosaic.Lib.Pointwise

@[expose] public section

noncomputable section

namespace Cert.PoolBwd

open Finset

/-- The `f32` word of `1e-5`, read exactly. -/
def eps : ℝ := 10995116 / 1099511627776

theorem eps_pos : 0 < eps := by unfold eps; norm_num

/-- The step's arrays as functions of natural-number indices: activations `X`, gain `G`, pool weights `W`, pool bias `B` (any
    extended real), pool scale `S`, and the incoming gradient `D`. -/
structure Data where
  X : ℕ → ℕ → ℝ
  G : ℕ → ℝ
  W : ℕ → ℕ → ℕ → ℝ
  B : ℕ → EReal
  S : ℕ → ℝ
  D : ℕ → ℕ → ℝ

namespace Data

variable (d : Data)

/-- Mean of squares of row `t`. -/
def ms (t : ℕ) : ℝ := (∑ c : Fin 1024, d.X t c * d.X t c) / 1024
/-- The reciprocal root mean square of row `t`. -/
def inv (t : ℕ) : ℝ := (Real.sqrt (d.ms t + eps))⁻¹
/-- The normalised row. -/
def xh (t c : ℕ) : ℝ := d.X t c * d.inv t
/-- The normalised row times the gain: what the pool mixer reads. -/
def hn (t c : ℕ) : ℝ := d.xh t c * d.G c
/-- `hn` with sixteen zero rows before it. -/
def hs (n c : ℕ) : ℝ := if n < 16 then 0 else d.hn (n - 16) c
/-- Group `gi`'s window. -/
def wid (gi : ℕ) : ℕ := 2 ^ (gi + 1)
/-- How many rows the window of group `gi` holds at row `t`. -/
def cnt (gi t : ℕ) : ℝ := ((min (t + 1) (wid gi) : ℕ) : ℝ)
/-- The window sum. -/
def win (gi t c : ℕ) : ℝ := ∑ k ∈ range (wid gi), d.hs (t + 16 - k) c
/-- Window mean minus the row. -/
def mixed (gi t i : ℕ) : ℝ := d.win gi t (256 * gi + i) / cnt gi t - d.hn t (256 * gi + i)
/-- The group's product before the scale. -/
def pre (gi t o : ℕ) : EReal := ((∑ i : Fin 256, d.mixed gi t i * d.W gi i o : ℝ) : EReal) + d.B (256 * gi + o)
/-- Gradient of `pre`. -/
def dpre (gi t o : ℕ) : ℝ := d.D t (256 * gi + o) * d.S (256 * gi + o)
/-- Gradient of `mixed`. -/
def dm (gi t i : ℕ) : ℝ := ∑ o : Fin 256, d.dpre gi t o * d.W gi i o
/-- Gradient of the window sum, zero past the last row. -/
def dq (gi t i : ℕ) : ℝ := if t < 4096 then d.dm gi t i / cnt gi t else 0
/-- Gradient of `hn`, in the group's columns. -/
def dhn (gi t i : ℕ) : ℝ := (∑ k ∈ range (wid gi), d.dq gi (t + k) i) - d.dm gi t i
/-- Gradient of the normalised row. -/
def dxh (t c : ℕ) : ℝ := d.dhn (c / 256) t (c % 256) * d.G c
/-- Gradient of the activations. -/
def dx (t c : ℕ) : ℝ := d.D t c + d.inv t * (d.dxh t c - d.xh t c * ((∑ e : Fin 1024, d.dxh t e * d.xh t e) / 1024))

/-- Weight gradient over the rows from block `b` on. -/
def accW (b gi i o : ℕ) : ℝ := ∑ t ∈ Ico (512 * b) 4096, d.mixed gi t i * d.dpre gi t o
/-- Gain gradient over the rows from block `b` on. -/
def accG (b c : ℕ) : ℝ := ∑ t ∈ Ico (512 * b) 4096, d.dhn (c / 256) t (c % 256) * d.xh t c
/-- Bias gradient over the rows from block `b` on. -/
def accB (b c : ℕ) : ℝ := ∑ t ∈ Ico (512 * b) 4096, d.dpre (c / 256) t (c % 256)
/-- Scale gradient over the rows from block `b` on. -/
def accS (b c : ℕ) : EReal := ∑ t ∈ Ico (512 * b) 4096, (d.D t c : EReal) * d.pre (c / 256) t (c % 256)

theorem ms_nonneg (t : ℕ) : 0 ≤ d.ms t := by
  unfold ms; exact div_nonneg (Finset.sum_nonneg fun c _ => mul_self_nonneg _) (by norm_num)

theorem ms_eps_pos (t : ℕ) : 0 < d.ms t + eps := add_pos_of_nonneg_of_pos (d.ms_nonneg t) eps_pos

theorem wid_pos (gi : ℕ) : 0 < wid gi := by unfold wid; positivity

theorem cnt_pos (gi t : ℕ) : 0 < cnt gi t := by
  unfold cnt; have := wid_pos gi; exact_mod_cast (by omega : 0 < min (t + 1) (wid gi))

end Data

/-- Sum of finitely many reals, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One doubling step of a window sum on rows held on a ring of 528. -/
def roll (k : ℕ) (f : ℕ → ℕ → ℝ) (r c : ℕ) : ℝ := f r c + f ((r + 528 - k) % 528) c

theorem roll_back {k r : ℕ} (f : ℕ → ℕ → ℝ) (c : ℕ) (hk : k ≤ r) (hr : r < 528) : roll k f r c = f r c + f (r - k) c := by
  unfold roll
  rw [show (r + 528 - k) % 528 = r - k by omega]

theorem roll_fwd {k r : ℕ} (f : ℕ → ℕ → ℝ) (c : ℕ) (hk : k < 528) (hk' : r + (528 - k) < 528) : roll k f r c = f r c + f (r + (528 - k)) c := by
  unfold roll
  rw [show (r + 528 - k) % 528 = r + (528 - k) by omega]

theorem back1 (f : ℕ → ℕ → ℝ) (r c : ℕ) (h : 16 ≤ r) (hr : r < 528) : roll 1 f r c = ∑ k ∈ range (Data.wid 0), f (r - k) c := by
  rw [roll_back _ _ (by omega) hr]
  simp [Data.wid, Finset.sum_range_succ]

theorem back2 (f : ℕ → ℕ → ℝ) (r c : ℕ) (h : 16 ≤ r) (hr : r < 528) : roll 2 (roll 1 f) r c = ∑ k ∈ range (Data.wid 1), f (r - k) c := by
  simp (disch := omega) only [roll_back, Nat.sub_sub, Data.wid, Finset.sum_range_succ, Finset.sum_range_zero, Nat.reduceAdd, Nat.reducePow, Nat.sub_zero]
  ring

theorem back4 (f : ℕ → ℕ → ℝ) (r c : ℕ) (h : 16 ≤ r) (hr : r < 528) :
    roll 4 (roll 2 (roll 1 f)) r c = ∑ k ∈ range (Data.wid 2), f (r - k) c := by
  simp (disch := omega) only [roll_back, Nat.sub_sub, Data.wid, Finset.sum_range_succ, Finset.sum_range_zero, Nat.reduceAdd, Nat.reducePow, Nat.sub_zero]
  ring

theorem back8 (f : ℕ → ℕ → ℝ) (r c : ℕ) (h : 16 ≤ r) (hr : r < 528) :
    roll 8 (roll 4 (roll 2 (roll 1 f))) r c = ∑ k ∈ range (Data.wid 3), f (r - k) c := by
  simp (disch := omega) only [roll_back, Nat.sub_sub, Data.wid, Finset.sum_range_succ, Finset.sum_range_zero, Nat.reduceAdd, Nat.reducePow, Nat.sub_zero]
  ring

theorem fwd1 (f : ℕ → ℕ → ℝ) (r c : ℕ) (hr : r < 512) : roll 527 f r c = ∑ k ∈ range (Data.wid 0), f (r + k) c := by
  rw [roll_fwd _ _ (by omega) (by omega)]
  simp [Data.wid, Finset.sum_range_succ]

theorem fwd2 (f : ℕ → ℕ → ℝ) (r c : ℕ) (hr : r < 512) : roll 526 (roll 527 f) r c = ∑ k ∈ range (Data.wid 1), f (r + k) c := by
  simp (disch := omega) only [roll_fwd, Nat.add_assoc, Data.wid, Finset.sum_range_succ, Finset.sum_range_zero, Nat.reduceAdd, Nat.reduceSub, Nat.reducePow, Nat.add_zero]
  ring

theorem fwd4 (f : ℕ → ℕ → ℝ) (r c : ℕ) (hr : r < 512) :
    roll 524 (roll 526 (roll 527 f)) r c = ∑ k ∈ range (Data.wid 2), f (r + k) c := by
  simp (disch := omega) only [roll_fwd, Nat.add_assoc, Data.wid, Finset.sum_range_succ, Finset.sum_range_zero, Nat.reduceAdd, Nat.reduceSub, Nat.reducePow, Nat.add_zero]
  ring

theorem fwd8 (f : ℕ → ℕ → ℝ) (r c : ℕ) (hr : r < 512) :
    roll 520 (roll 524 (roll 526 (roll 527 f))) r c = ∑ k ∈ range (Data.wid 3), f (r + k) c := by
  simp (disch := omega) only [roll_fwd, Nat.add_assoc, Data.wid, Finset.sum_range_succ, Finset.sum_range_zero, Nat.reduceAdd, Nat.reduceSub, Nat.reducePow, Nat.add_zero]
  ring

end Cert.PoolBwd

end
-- ==== Proof.MlpModel.lean ====
/- The model of the MLP sub-layer's gradient, on the extended reals: every quantity the four kernels and the reference compute, as a function
   of row and column numbers. The sub-layer adds to its input the product by `W2` of the squared positive part of the normalized input's product by `W1`. -/
module

public import proofs.«01_k».proof.Proof.Model

@[expose] public section

noncomputable section

namespace Cert.MlpBwd

open Idealize.ShloMosaic
open Cert.PoolBwd (eps)

/-- The arguments as functions of natural-number indices: activations `H`, gain `G`, the two weight matrices, and the incoming gradient `D`. -/
structure Data where
  H : ℕ → ℕ → EReal
  G : ℕ → EReal
  W1 : ℕ → ℕ → EReal
  W2 : ℕ → ℕ → EReal
  D : ℕ → ℕ → EReal

namespace Data

variable (d : Data)

/-- Mean of squares of row `t`. -/
def ms (t : ℕ) : EReal := Ideal.div (∑ c : Fin 1024, d.H t c * d.H t c) (1024 : ℝ)
/-- The reciprocal root mean square of row `t`. -/
def inv (t : ℕ) : EReal := Ideal.rsqrt (d.ms t + (eps : EReal))
/-- The normalized activations, before the gain. -/
def xh (t c : ℕ) : EReal := d.H t c * d.inv t
/-- The normalized activations. -/
def hn (t c : ℕ) : EReal := d.xh t c * d.G c
/-- The hidden layer, before the nonlinearity. -/
def U (t k : ℕ) : EReal := ∑ c : Fin 1024, d.hn t c * d.W1 c k
/-- The gradient reaching the nonlinearity's output. -/
def da (t k : ℕ) : EReal := ∑ c : Fin 1024, d.D t c * d.W2 k c
/-- The gradient of the hidden layer. -/
def du (t k : ℕ) : EReal := d.da t k * ((2 : ℝ) * max (d.U t k) 0)
/-- The gradient of `W2`. -/
def dw2 (k c : ℕ) : EReal := ∑ t : Fin 4096, (max (d.U t k) 0 * max (d.U t k) 0) * d.D t c
/-- The gradient of `W1`. -/
def dw1 (c k : ℕ) : EReal := ∑ t : Fin 4096, d.hn t c * d.du t k
/-- The gradient of the normalized activations. -/
def dhn (t c : ℕ) : EReal := ∑ k : Fin 4096, d.du t k * d.W1 c k
/-- The same, with the gain. -/
def dxg (t c : ℕ) : EReal := d.dhn t c * d.G c
/-- The mean over row `t` of that gradient against the normalized row. -/
def proj (t : ℕ) : EReal := Ideal.div (∑ c : Fin 1024, d.dxg t c * d.xh t c) (1024 : ℝ)
/-- The gradient of the activations. -/
def dx (t c : ℕ) : EReal := d.D t c + d.inv t * (d.dxg t c - d.xh t c * d.proj t)
/-- The gain's gradient from the first `n` blocks of 256 rows. -/
def accG (n c : ℕ) : EReal := ∑ t ∈ Finset.range (256 * n), d.dhn t c * d.xh t c

theorem accG_succ (n c : ℕ) : d.accG (n + 1) c = d.accG n c + ∑ r : Fin 256, d.dhn (256 * n + r) c * d.xh (256 * n + r) c := by
  unfold accG
  rw [show 256 * (n + 1) = 256 * n + 256 by ring, Finset.sum_range_add, Fin.sum_univ_eq_sum_range (fun r => d.dhn (256 * n + r) c * d.xh (256 * n + r) c) 256]

/-- A sum over the hidden columns, as the four shards' sums. -/
theorem sum_shards (f : ℕ → EReal) : ∑ k : Fin 4096, f k = ((∑ k : Fin 1024, f k + ∑ k : Fin 1024, f (1024 + k)) + ∑ k : Fin 1024, f (2048 + k)) + ∑ k : Fin 1024, f (3072 + k) := by
  rw [Fin.sum_univ_eq_sum_range f 4096, Fin.sum_univ_eq_sum_range f 1024, Fin.sum_univ_eq_sum_range (fun k => f (1024 + k)) 1024,
    Fin.sum_univ_eq_sum_range (fun k => f (2048 + k)) 1024, Fin.sum_univ_eq_sum_range (fun k => f (3072 + k)) 1024,
    show 4096 = 3072 + 1024 by rfl, Finset.sum_range_add, show 3072 = 2048 + 1024 by rfl, Finset.sum_range_add, show 2048 = 1024 + 1024 by rfl, Finset.sum_range_add]

end Data

/-- What the small gradients hold at row `r`, column `c`, after `n` blocks: the gain's, then zeros. -/
def Data.small (d : Data) (n r c : ℕ) : EReal := if r = 0 then d.accG n c else 0

end Cert.MlpBwd

end
-- ==== Proof.KernelPay.lean ====
/- What each value the gradient kernel computes is, in the model: one lemma per stored payload, over a block of 512 rows. -/
module

public import proofs.«01_k».proof.Proof.Gen.KernelIdeal.Skeleton
public import proofs.«01_k».proof.Proof.Model
public import Idealize.ShloMosaic.Lib.Pointwise
public import Idealize.ShloMosaic.PureOps.Ideal
public import Idealize.ShloMosaic.Lib.Tactic
public import Idealize.ShloMosaic.Lib.PlanTiles.Rows

@[expose] public section

set_option maxRecDepth 16384

noncomputable section

namespace Cert.PoolBwd

open Idealize.ShloMosaic Idealize.ShloMosaic.TcCoe Idealize.ShloMosaic.Tactic
open Cert.KernelIdeal Cert.KernelIdeal.Gen

theorem ofBits_1024 : Ideal.ofBits .f32 (1149239296#32) = ((1024 : ℝ) : EReal) := by
  have h : Ideal.ofBits .f32 (1149239296#32) = ((8388608 : ℝ) : EReal) * ((1 / 8192 : ℝ) : EReal) := by
    simp [Ideal.ofBits, Ideal.ieee]; norm_num
  rw [h, ← EReal.coe_mul]; norm_num

theorem ofBits_eps : Ideal.ofBits .f32 (925353388#32) = ((eps : ℝ) : EReal) := by
  have h : Ideal.ofBits .f32 (925353388#32) = ((10995116 : ℝ) : EReal) * ((1 / 1099511627776 : ℝ) : EReal) := by
    simp [Ideal.ofBits, Ideal.ieee]; norm_num
  rw [h, ← EReal.coe_mul]; congr 1; unfold eps; norm_num

theorem div_real (x y : ℝ) (h : y ≠ 0) : Ideal.div (x : EReal) (y : EReal) = ((x / y : ℝ) : EReal) := by
  rw [Ideal.div_coe h, ← EReal.coe_mul]; congr 1; ring

theorem rsqrt_pos (x : ℝ) (h : 0 < x) : Ideal.rsqrt (x : EReal) = (((Real.sqrt x)⁻¹ : ℝ) : EReal) := by
  rw [Ideal.rsqrt_coe, if_neg (not_lt.mpr h.le), if_neg h.ne']

/-- The kernel's reciprocal root mean square, on a row of reals. -/
theorem rsqrt_row (d : Data) (t : ℕ) : Ideal.rsqrt (Ideal.div (∑ c : Fin 1024, (d.X t c : EReal) * (d.X t c : EReal)) (Ideal.ofBits .f32 (1149239296#32))
      + Ideal.ofBits .f32 (925353388#32)) = ((d.inv t : ℝ) : EReal) := by
  simp only [← EReal.coe_mul, ← coe_sum, ofBits_1024, ofBits_eps]
  rw [div_real _ _ (by norm_num), ← EReal.coe_add]
  exact rsqrt_pos _ (d.ms_eps_pos t)

/-- The row count word `min (512 b + r + 1, w)`, as a float. -/
theorem count_word (b r g w : ℕ) (hb : b < 8) (hr : r < 512) (hg : g < 4) (hwg : w = Data.wid g) :
    FloatOps.sitofp (F := Ideal) .f32 (IntOp.minsi (IntOp.addi (IntOp.addi (Scalar.muli (BitVec.ofNat 32 b) 512#32) (BitVec.ofNat 32 r)) 1#32) (BitVec.ofNat 32 w))
      = ((Data.cnt g (512 * b + r) : ℝ) : EReal) := by
  have hw : w < 2 ^ 31 := by rw [hwg]; interval_cases g <;> decide
  have h : IntOp.addi (IntOp.addi (Scalar.muli (BitVec.ofNat 32 b) 512#32) (BitVec.ofNat 32 r)) 1#32 = BitVec.ofNat 32 (512 * b + r + 1) := by
    apply BitVec.eq_of_toNat_eq
    simp [IntOp.addi, Scalar.muli, IntOp.muli]
    omega
  rw [h, PlanTiles.minsi_word (by omega) hw]
  show (((BitVec.ofNat 32 (min w (512 * b + r + 1))).toInt : ℝ) : EReal) = _
  have hi : (BitVec.ofNat 32 (min w (512 * b + r + 1))).toInt = ((min (512 * b + r + 1) w : ℕ) : ℤ) := by
    rw [BitVec.toInt_eq_toNat_of_lt (by simp; omega)]
    simp; omega
  rw [hi, hwg]; unfold Data.cnt; norm_cast

/-- The zero-or-one factor of the halo rows: one on every block but the first. -/
theorem halo_word (b : ℕ) (hb : b < 8) : (((Scalar.extui (Scalar.cmpi CmpIPredicate.sgt (BitVec.ofNat 32 b) 0#32) : BitVec 32).toInt : ℝ) : EReal)
    = ((if b = 0 then 0 else 1 : ℝ) : EReal) := by
  have h : (Scalar.extui (Scalar.cmpi CmpIPredicate.sgt (BitVec.ofNat 32 b) 0#32) : BitVec 32).toInt = if b = 0 then 0 else 1 := by
    revert hb; revert b; decide
  rw [h]; split <;> simp

variable (d : Data) {b : ℕ} (hb : b < 8)
variable {x0 x6 : Vec Ideal S512x1024 .f32} {x1 : Vec Ideal S16x1024 .f32} {x2 : Vec Ideal S1x1024 .f32}
variable (h0 : ∀ r c, x0 (ix2 r c) = ((d.X (512 * b + (r : Fin 512)) (c : Fin 1024) : ℝ) : EReal))
variable (h1 : ∀ r c, x1 (ix2 r c) = ((d.X (512 * b - 16 + (r : Fin 16)) (c : Fin 1024) : ℝ) : EReal))
variable (h2 : ∀ c, x2 (ix2 0 c) = ((d.G (c : Fin 1024) : ℝ) : EReal))
variable (h6 : ∀ r c, x6 (ix2 r c) = ((d.D (512 * b + (r : Fin 512)) (c : Fin 1024) : ℝ) : EReal))

include h0 in
theorem pay6_eq (r : Fin 512) (c : Fin 1) : k0_pay6 (F := Ideal) x0 (ix2 r c) = ((d.inv (512 * b + r) : ℝ) : EReal) := by
  pointwise [k0_pay6]
  simp only [h0]
  exact rsqrt_row d _

include h0 in
theorem pay7_eq (r : Fin 512) (c : Fin 1024) : k0_pay7 (F := Ideal) x0 (ix2 r c) = ((d.xh (512 * b + r) c : ℝ) : EReal) := by
  pointwise [k0_pay7]
  rw [pay6_eq d h0, h0, ← EReal.coe_mul]; rfl

include h0 h2 in
theorem pay8_eq (r : Fin 512) (c : Fin 1024) : k0_pay8 (F := Ideal) x2 x0 (ix2 r c) = ((d.hn (512 * b + r) c : ℝ) : EReal) := by
  pointwise [k0_pay8]
  rw [pay7_eq d h0, h2, ← EReal.coe_mul]; rfl

include hb h1 h2 in
theorem pay9_eq (i : grid0.Coords) (hi : Scalar.subi 7#32 (BitVec.ofNat 32 (i 0).val) = BitVec.ofNat 32 b) (r : Fin 16) (c : Fin 1024) :
    k0_pay9 (F := Ideal) i x2 x1 (ix2 r c) = ((d.hs (512 * b + r) c : ℝ) : EReal) := by
  pointwise [k0_pay9]
  simp only [h1, h2, hi, rsqrt_row, halo_word b hb]
  simp only [← EReal.coe_mul]
  congr 1
  rcases Nat.eq_zero_or_pos b with rfl | h
  · simp [Data.hs]
  · rw [if_neg h.ne', Data.hs, if_neg (by omega), show 512 * b + r.val - 16 = 512 * b - 16 + r.val by omega, mul_one]
    rfl

theorem ext_win (g r c : ℕ) (f : ℕ → ℕ → ℝ) (hf : ∀ n, f n c = d.hs (512 * b + n) (256 * g + c)) (hg : g < 4) :
    ∑ k ∈ Finset.range (Data.wid g), f (16 + r - k) c = d.win g (512 * b + r) (256 * g + c) := by
  refine Finset.sum_congr rfl fun k hk => ?_
  have hw : Data.wid g ≤ 16 := by interval_cases g <;> decide
  have hk := Finset.mem_range.mp hk
  rw [hf, show 512 * b + r + 16 - k = 512 * b + (16 + r - k) by omega]

variable {ext : Vec Ideal S528x1024 .f32} (he : ∀ r c, ext (ix2 r c) = ((d.hs (512 * b + (r : Fin 528)) (c : Fin 1024) : ℝ) : EReal))

/-- A window of eight rows, by three doublings (backward). -/
def quad (v : FVec Ideal S528x256 .f32) : FVec Ideal S528x256 .f32 :=
  let p := addf v (dynamicRotate 0 1#32 none v rotates_S528x256_d0)
  let q := addf p (dynamicRotate 0 2#32 none p rotates_S528x256_d0)
  addf q (dynamicRotate 0 4#32 none q rotates_S528x256_d0)

/-- A window of eight rows, by three doublings (forward). -/
def fquad (v : FVec Ideal S528x256 .f32) : FVec Ideal S528x256 .f32 :=
  let p := addf v (dynamicRotate 0 527#32 none v rotates_S528x256_d0)
  let q := addf p (dynamicRotate 0 526#32 none p rotates_S528x256_d0)
  addf q (dynamicRotate 0 524#32 none q rotates_S528x256_d0)

theorem quad_eq (v : FVec Ideal S528x256 .f32) (f : ℕ → ℕ → ℝ) (hv : ∀ r c, v (ix2 r c) = ((f (r : Fin 528) (c : Fin 256) : ℝ) : EReal)) (r : Fin 528) (c : Fin 256) :
    quad v (ix2 r c) = ((roll 4 (roll 2 (roll 1 f)) r c : ℝ) : EReal) := by
  pointwise [quad]
  simp only [hv, ← EReal.coe_add, roll]

theorem fquad_eq (v : FVec Ideal S528x256 .f32) (f : ℕ → ℕ → ℝ) (hv : ∀ r c, v (ix2 r c) = ((f (r : Fin 528) (c : Fin 256) : ℝ) : EReal)) (r : Fin 528) (c : Fin 256) :
    fquad v (ix2 r c) = ((roll 524 (roll 526 (roll 527 f)) r c : ℝ) : EReal) := by
  pointwise [fquad]
  simp only [hv, ← EReal.coe_add, roll]

theorem pay16_quad (v17 : FVec Ideal S512x1024 .f32) (v42 : Vec Ideal S528x1024 .f32) (v46 : IVec S512x1 32) : k0_pay16 (F := Ideal) v17 v42 v46 =
    subf (divf (extractStridedSlice S512x256 ![16, 0] (addf (quad (extractStridedSlice S528x256 ![0, 768] v42 slices_S528x1024_o0_768_S528x256))
        (dynamicRotate 0 8#32 none (quad (extractStridedSlice S528x256 ![0, 768] v42 slices_S528x1024_o0_768_S528x256)) rotates_S528x256_d0)) slices_S528x256_o16_0_S512x256)
      (broadcastTo S512x256 (sitofp .f32 (minsi (addi v46 (broadcast S512x1 1#32)) (broadcast S512x1 16#32))) broadcasts_S512x1_S512x256))
      (extractStridedSlice S512x256 ![0, 768] v17 slices_S512x1024_o0_768_S512x256) := rfl

theorem pay75_quad (m : FVec Ideal S512x256 .f32) (v : Vec Ideal S528x256 .f32) : k0_pay75 (F := Ideal) m v =
    subf (extractStridedSlice S512x256 ![0, 0] (addf (fquad v) (dynamicRotate 0 520#32 none (fquad v) rotates_S528x256_d0)) slices_S528x256_o0_0_S512x256) m := rfl

set_option maxHeartbeats 2000000 in
include hb h0 h2 he in
theorem mixed0_eq (r : Fin 512) (c : Fin 256) : k0_pay12 (F := Ideal) (BitVec.ofNat 32 b) (k0_pay8 x2 x0) ext (ix2 r c) = ((d.mixed 0 (512 * b + r) c : ℝ) : EReal) := by
  pointwise [k0_pay12, k0_pay11]
  rw [pay8_eq d h0 h2, count_word b r 0 2 hb r.isLt (by norm_num) rfl]
  simp only [he, ← EReal.coe_add]
  rw [div_real _ _ (Data.cnt_pos 0 (512 * b + r)).ne', ← EReal.coe_sub]
  congr 1
  have hw := (back1 (fun n c => d.hs (512 * b + n) (0 + c)) (16 + r) c (by omega) (by omega)).trans
    (ext_win (b := b) d 0 r c (fun n c => d.hs (512 * b + n) (0 + c)) (fun n => rfl) (by norm_num))
  unfold Data.mixed
  rw [← hw]
  norm_num [roll, Data.wid]

set_option maxHeartbeats 2000000 in
include hb h0 h2 he in
theorem mixed1_eq (r : Fin 512) (c : Fin 256) : k0_pay13 (F := Ideal) (BitVec.ofNat 32 b) (k0_pay8 x2 x0) ext (ix2 r c) = ((d.mixed 1 (512 * b + r) c : ℝ) : EReal) := by
  pointwise [k0_pay13, k0_pay11]
  rw [pay8_eq d h0 h2, count_word b r 1 4 hb r.isLt (by norm_num) rfl]
  simp only [he, ← EReal.coe_add]
  rw [div_real _ _ (Data.cnt_pos 1 (512 * b + r)).ne', ← EReal.coe_sub]
  congr 1
  have hw := (back2 (fun n c => d.hs (512 * b + n) (256 + c)) (16 + r) c (by omega) (by omega)).trans
    (ext_win (b := b) d 1 r c (fun n c => d.hs (512 * b + n) (256 + c)) (fun n => rfl) (by norm_num))
  unfold Data.mixed
  rw [← hw]
  simp only [roll, Data.wid, Nat.reduceMul]

set_option maxHeartbeats 2000000 in
include hb h0 h2 he in
theorem mixed2_eq (r : Fin 512) (c : Fin 256) : k0_pay15 (F := Ideal) (k0_pay8 x2 x0) (k0_pay11 (BitVec.ofNat 32 b)) (k0_pay14 ext) 1#32 (ix2 r c) = ((d.mixed 2 (512 * b + r) c : ℝ) : EReal) := by
  pointwise [k0_pay15, k0_pay11, k0_pay14]
  rw [pay8_eq d h0 h2, count_word b r 2 8 hb r.isLt (by norm_num) rfl]
  simp only [he, ← EReal.coe_add]
  rw [div_real _ _ (Data.cnt_pos 2 (512 * b + r)).ne', ← EReal.coe_sub]
  congr 1
  have hw := (back4 (fun n c => d.hs (512 * b + n) (512 + c)) (16 + r) c (by omega) (by omega)).trans
    (ext_win (b := b) d 2 r c (fun n c => d.hs (512 * b + n) (512 + c)) (fun n => rfl) (by norm_num))
  unfold Data.mixed
  rw [← hw]
  simp only [roll, Data.wid, Nat.reduceMul]

include hb h0 h2 he in
theorem mixed3_eq (r : Fin 512) (c : Fin 256) : k0_pay16 (F := Ideal) (k0_pay8 x2 x0) ext (k0_pay11 (BitVec.ofNat 32 b)) (ix2 r c) = ((d.mixed 3 (512 * b + r) c : ℝ) : EReal) := by
  rw [pay16_quad]
  have hq := quad_eq (extractStridedSlice S528x256 ![0, 768] ext slices_S528x1024_o0_768_S528x256) (fun n c => d.hs (512 * b + n) (768 + c)) (fun r c => by
    pointwise; rw [he])
  generalize quad (extractStridedSlice S528x256 ![0, 768] ext slices_S528x1024_o0_768_S528x256) = qd at hq ⊢
  pointwise [k0_pay11]
  rw [pay8_eq d h0 h2, count_word b r 3 16 hb r.isLt (by norm_num) rfl]
  simp only [hq, ← EReal.coe_add]
  rw [div_real _ _ (Data.cnt_pos 3 (512 * b + r)).ne', ← EReal.coe_sub]
  congr 1
  have hw := (back8 (fun n c => d.hs (512 * b + n) (768 + c)) (16 + r) c (by omega) (by omega)).trans
    (ext_win (b := b) d 3 r c (fun n c => d.hs (512 * b + n) (768 + c)) (fun n => rfl) (by norm_num))
  unfold Data.mixed
  rw [← hw]
  rfl

variable {mx m : FVec Ideal S512x256 .f32} {s bb acc : Vec Ideal S1x256 .f32} {w : Vec Ideal S1x256x256 .bf16} {dext : Vec Ideal S528x256 .f32}

section
variable (hm : ∀ r c, mx (ix2 r c) = ((d.mixed 0 (512 * b + (r : Fin 512)) (c : Fin 256) : ℝ) : EReal))
variable (hs : ∀ c, s (ix2 0 c) = ((d.S (0 + (c : Fin 256)) : ℝ) : EReal))
variable (hw : ∀ i c, w (ix3 0 i c) = ((d.W 0 (i : Fin 256) (c : Fin 256) : ℝ) : EReal))
variable (hbb : ∀ c, bb (ix2 0 c) = d.B (0 + (c : Fin 256)))
variable (hdm : ∀ r c, m (ix2 r c) = ((d.dm 0 (512 * b + (r : Fin 512)) (c : Fin 256) : ℝ) : EReal))
variable (hde : ∀ r c, dext (ix2 r c) = ((d.dq 0 (512 * b + (r : Fin 528)) (c : Fin 256) : ℝ) : EReal))

include h6 hm hs in
theorem dw0_eq (acc : Vec Ideal S1x256x256 .f32) (i c : Fin 256) : k0_pay25 (F := Ideal) (k0_pay18 mx) (k0_pay20 x6) s acc (ix3 0 i c)
    = acc (ix3 0 i c) + ((∑ r : Fin 512, d.mixed 0 (512 * b + r) i * d.dpre 0 (512 * b + r) c : ℝ) : EReal) := by
  pointwise [k0_pay25, k0_pay24, k0_pay22, k0_pay18, k0_pay20]
  simp only [hm, h6, hs, ← EReal.coe_mul, ← coe_sum]
  simp only [Data.dpre, Nat.mul_zero, Nat.zero_add, zero_add]

include h6 hs hw in
theorem dm0_eq (r : Fin 512) (c : Fin 256) : k0_pay26 (F := Ideal) (k0_pay20 x6) s w (ix2 r c) = ((d.dm 0 (512 * b + r) c : ℝ) : EReal) := by
  pointwise [k0_pay26, k0_pay24, k0_pay22, k0_pay20]
  simp only [h6, hs, hw, ← EReal.coe_mul, ← coe_sum]
  simp only [Data.dm, Data.dpre, Nat.mul_zero, Nat.zero_add, zero_add]

include hb h6 hs hw in
theorem dq0_eq (r : Fin 512) (c : Fin 256) : k0_pay27 (F := Ideal) (k0_pay17 (BitVec.ofNat 32 b)) (k0_pay20 x6) s w (ix2 r c) = ((d.dq 0 (512 * b + r) c : ℝ) : EReal) := by
  pointwise [k0_pay27, k0_pay17]
  rw [dm0_eq d h6 hs hw, count_word b r 0 2 hb r.isLt (by norm_num) rfl, div_real _ _ (Data.cnt_pos 0 (512 * b + r)).ne']
  rw [Data.dq, if_pos (by omega)]

set_option maxHeartbeats 2000000 in
include hdm hde in
theorem dn0_eq (r : Fin 512) (c : Fin 256) : k0_pay29 (F := Ideal) m dext (ix2 r c) = ((d.dhn 0 (512 * b + r) c : ℝ) : EReal) := by
  pointwise [k0_pay29]
  simp only [hdm, hde, ← EReal.coe_add, ← EReal.coe_sub]
  congr 1
  have h := fwd1 (fun n c => d.dq 0 (512 * b + n) c) r c r.isLt
  simp only [← Nat.add_assoc] at h
  unfold Data.dhn
  rw [← h]
  simp only [roll]

include h6 hs in
theorem db0_eq (c : Fin 256) : k0_pay23 (F := Ideal) (k0_pay20 x6) s acc (ix2 0 c) = acc (ix2 0 c) + ((∑ r : Fin 512, d.dpre 0 (512 * b + r) c : ℝ) : EReal) := by
  pointwise [k0_pay23, k0_pay22, k0_pay20]
  simp only [h6, hs, ← EReal.coe_mul, ← coe_sum]
  simp only [Data.dpre, Nat.mul_zero, Nat.zero_add, zero_add]

include h6 hm hw hbb in
theorem ds0_eq (c : Fin 256) : k0_pay21 (F := Ideal) (k0_pay19 mx w bb) (k0_pay20 x6) acc (ix2 0 c)
    = acc (ix2 0 c) + ∑ r : Fin 512, ((d.D (512 * b + r) (0 + c) : ℝ) : EReal) * d.pre 0 (512 * b + r) c := by
  pointwise [k0_pay21, k0_pay19, k0_pay18, k0_pay20]
  simp only [h6, hm, hw, hbb, ← EReal.coe_mul, ← coe_sum]
  simp only [Data.pre, Nat.mul_zero, Nat.zero_add, zero_add]

include h0 hdm hde in
theorem dg0_eq (c : Fin 256) : k0_pay31 (F := Ideal) (k0_pay7 x0) m dext acc (ix2 0 c)
    = acc (ix2 0 c) + ((∑ r : Fin 512, d.dhn 0 (512 * b + r) c * d.xh (512 * b + r) (0 + c) : ℝ) : EReal) := by
  pointwise [k0_pay31]
  simp only [pay7_eq d h0, dn0_eq d hdm hde, ← EReal.coe_mul, ← coe_sum]

include h2 hdm hde in
theorem dxh0_eq (r : Fin 512) (c : Fin 256) : k0_pay32 (F := Ideal) x2 m dext (ix2 r c) = ((d.dxh (512 * b + r) (0 + c) : ℝ) : EReal) := by
  pointwise [k0_pay32]
  simp only [h2, dn0_eq d hdm hde, ← EReal.coe_mul]
  rw [Data.dxh, show (c.val) / 256 = 0 by omega, show (c.val) % 256 = c.val by omega]

end

section
variable (hm : ∀ r c, mx (ix2 r c) = ((d.mixed 1 (512 * b + (r : Fin 512)) (c : Fin 256) : ℝ) : EReal))
variable (hs : ∀ c, s (ix2 0 c) = ((d.S (256 + (c : Fin 256)) : ℝ) : EReal))
variable (hw : ∀ i c, w (ix3 0 i c) = ((d.W 1 (i : Fin 256) (c : Fin 256) : ℝ) : EReal))
variable (hbb : ∀ c, bb (ix2 0 c) = d.B (256 + (c : Fin 256)))
variable (hdm : ∀ r c, m (ix2 r c) = ((d.dm 1 (512 * b + (r : Fin 512)) (c : Fin 256) : ℝ) : EReal))
variable (hde : ∀ r c, dext (ix2 r c) = ((d.dq 1 (512 * b + (r : Fin 528)) (c : Fin 256) : ℝ) : EReal))

include h6 hm hs in
theorem dw1_eq (acc : Vec Ideal S1x256x256 .f32) (i c : Fin 256) : k0_pay40 (F := Ideal) (k0_pay33 mx) (k0_pay35 x6) s acc (ix3 0 i c)
    = acc (ix3 0 i c) + ((∑ r : Fin 512, d.mixed 1 (512 * b + r) i * d.dpre 1 (512 * b + r) c : ℝ) : EReal) := by
  pointwise [k0_pay40, k0_pay39, k0_pay37, k0_pay33, k0_pay35]
  simp only [hm, h6, hs, ← EReal.coe_mul, ← coe_sum]
  rfl

include h6 hs hw in
theorem dm1_eq (r : Fin 512) (c : Fin 256) : k0_pay41 (F := Ideal) (k0_pay35 x6) s w (ix2 r c) = ((d.dm 1 (512 * b + r) c : ℝ) : EReal) := by
  pointwise [k0_pay41, k0_pay39, k0_pay37, k0_pay35]
  simp only [h6, hs, hw, ← EReal.coe_mul, ← coe_sum]
  rfl

include hb h6 hs hw in
theorem dq1_eq (r : Fin 512) (c : Fin 256) : k0_pay42 (F := Ideal) (k0_pay17 (BitVec.ofNat 32 b)) (k0_pay35 x6) s w (ix2 r c) = ((d.dq 1 (512 * b + r) c : ℝ) : EReal) := by
  pointwise [k0_pay42, k0_pay17]
  rw [dm1_eq d h6 hs hw, count_word b r 1 4 hb r.isLt (by norm_num) rfl, div_real _ _ (Data.cnt_pos 1 (512 * b + r)).ne']
  rw [Data.dq, if_pos (by omega)]

set_option maxHeartbeats 2000000 in
include hdm hde in
theorem dn1_eq (r : Fin 512) (c : Fin 256) : k0_pay44 (F := Ideal) m dext (ix2 r c) = ((d.dhn 1 (512 * b + r) c : ℝ) : EReal) := by
  pointwise [k0_pay44]
  simp only [hdm, hde, ← EReal.coe_add, ← EReal.coe_sub]
  congr 1
  have h := fwd2 (fun n c => d.dq 1 (512 * b + n) c) r c r.isLt
  simp only [← Nat.add_assoc] at h
  unfold Data.dhn
  rw [← h]
  simp only [roll]

include h6 hs in
theorem db1_eq (c : Fin 256) : k0_pay38 (F := Ideal) (k0_pay35 x6) s acc (ix2 0 c) = acc (ix2 0 c) + ((∑ r : Fin 512, d.dpre 1 (512 * b + r) c : ℝ) : EReal) := by
  pointwise [k0_pay38, k0_pay37, k0_pay35]
  simp only [h6, hs, ← EReal.coe_mul, ← coe_sum]
  rfl

include h6 hm hw hbb in
theorem ds1_eq (c : Fin 256) : k0_pay36 (F := Ideal) (k0_pay34 mx w bb) (k0_pay35 x6) acc (ix2 0 c)
    = acc (ix2 0 c) + ∑ r : Fin 512, ((d.D (512 * b + r) (256 + c) : ℝ) : EReal) * d.pre 1 (512 * b + r) c := by
  pointwise [k0_pay36, k0_pay34, k0_pay33, k0_pay35]
  simp only [h6, hm, hw, hbb, ← EReal.coe_mul, ← coe_sum]
  rfl

include h0 hdm hde in
theorem dg1_eq (c : Fin 256) : k0_pay46 (F := Ideal) (k0_pay7 x0) m dext acc (ix2 0 c)
    = acc (ix2 0 c) + ((∑ r : Fin 512, d.dhn 1 (512 * b + r) c * d.xh (512 * b + r) (256 + c) : ℝ) : EReal) := by
  pointwise [k0_pay46]
  simp only [pay7_eq d h0, dn1_eq d hdm hde, ← EReal.coe_mul, ← coe_sum]

include h2 hdm hde in
theorem dxh1_eq (r : Fin 512) (c : Fin 256) : k0_pay47 (F := Ideal) x2 m dext (ix2 r c) = ((d.dxh (512 * b + r) (256 + c) : ℝ) : EReal) := by
  pointwise [k0_pay47]
  simp only [h2, dn1_eq d hdm hde, ← EReal.coe_mul]
  rw [Data.dxh, show (256 + c.val) / 256 = 1 by omega, show (256 + c.val) % 256 = c.val by omega]

end

section
variable (hm : ∀ r c, mx (ix2 r c) = ((d.mixed 2 (512 * b + (r : Fin 512)) (c : Fin 256) : ℝ) : EReal))
variable (hs : ∀ c, s (ix2 0 c) = ((d.S (512 + (c : Fin 256)) : ℝ) : EReal))
variable (hw : ∀ i c, w (ix3 0 i c) = ((d.W 2 (i : Fin 256) (c : Fin 256) : ℝ) : EReal))
variable (hbb : ∀ c, bb (ix2 0 c) = d.B (512 + (c : Fin 256)))
variable (hdm : ∀ r c, m (ix2 r c) = ((d.dm 2 (512 * b + (r : Fin 512)) (c : Fin 256) : ℝ) : EReal))
variable (hde : ∀ r c, dext (ix2 r c) = ((d.dq 2 (512 * b + (r : Fin 528)) (c : Fin 256) : ℝ) : EReal))

include h6 hm hs in
theorem dw2_eq (acc : Vec Ideal S1x256x256 .f32) (i c : Fin 256) : k0_pay55 (F := Ideal) x6 (k0_pay48 mx) s acc (ix3 0 i c)
    = acc (ix3 0 i c) + ((∑ r : Fin 512, d.mixed 2 (512 * b + r) i * d.dpre 2 (512 * b + r) c : ℝ) : EReal) := by
  pointwise [k0_pay55, k0_pay54, k0_pay52, k0_pay50, k0_pay48]
  simp only [hm, h6, hs, ← EReal.coe_mul, ← coe_sum]
  rfl

include h6 hs hw in
theorem dm2_eq (r : Fin 512) (c : Fin 256) : k0_pay56 (F := Ideal) x6 s w (ix2 r c) = ((d.dm 2 (512 * b + r) c : ℝ) : EReal) := by
  pointwise [k0_pay56, k0_pay54, k0_pay52, k0_pay50]
  simp only [h6, hs, hw, ← EReal.coe_mul, ← coe_sum]
  rfl

include hb h6 hs hw in
theorem dq2_eq (r : Fin 512) (c : Fin 256) : k0_pay58 (F := Ideal) (k0_pay56 x6 s w) (k0_pay57 (k0_pay17 (BitVec.ofNat 32 b))) (ix2 r c) = ((d.dq 2 (512 * b + r) c : ℝ) : EReal) := by
  pointwise [k0_pay58, k0_pay57, k0_pay17]
  rw [dm2_eq d h6 hs hw, count_word b r 2 8 hb r.isLt (by norm_num) rfl, div_real _ _ (Data.cnt_pos 2 (512 * b + r)).ne']
  rw [Data.dq, if_pos (by omega)]

set_option maxHeartbeats 2000000 in
include hdm hde in
theorem dn2_eq (r : Fin 512) (c : Fin 256) : k0_pay60 (F := Ideal) m dext (ix2 r c) = ((d.dhn 2 (512 * b + r) c : ℝ) : EReal) := by
  pointwise [k0_pay60]
  simp only [hdm, hde, ← EReal.coe_add, ← EReal.coe_sub]
  congr 1
  have h := fwd4 (fun n c => d.dq 2 (512 * b + n) c) r c r.isLt
  simp only [← Nat.add_assoc] at h
  unfold Data.dhn
  rw [← h]
  simp only [roll]

include h6 hs in
theorem db2_eq (c : Fin 256) : k0_pay53 (F := Ideal) x6 s acc (ix2 0 c) = acc (ix2 0 c) + ((∑ r : Fin 512, d.dpre 2 (512 * b + r) c : ℝ) : EReal) := by
  pointwise [k0_pay53, k0_pay52, k0_pay50]
  simp only [h6, hs, ← EReal.coe_mul, ← coe_sum]
  rfl

include h6 hm hw hbb in
theorem ds2_eq (c : Fin 256) : k0_pay51 (F := Ideal) x6 (k0_pay49 mx w bb) acc (ix2 0 c)
    = acc (ix2 0 c) + ∑ r : Fin 512, ((d.D (512 * b + r) (512 + c) : ℝ) : EReal) * d.pre 2 (512 * b + r) c := by
  pointwise [k0_pay51, k0_pay49, k0_pay48, k0_pay50]
  simp only [h6, hm, hw, hbb, ← EReal.coe_mul, ← coe_sum]
  rfl

include h0 hdm hde in
theorem dg2_eq (c : Fin 256) : k0_pay62 (F := Ideal) (k0_pay7 x0) m dext acc (ix2 0 c)
    = acc (ix2 0 c) + ((∑ r : Fin 512, d.dhn 2 (512 * b + r) c * d.xh (512 * b + r) (512 + c) : ℝ) : EReal) := by
  pointwise [k0_pay62]
  simp only [pay7_eq d h0, dn2_eq d hdm hde, ← EReal.coe_mul, ← coe_sum]

include h2 hdm hde in
theorem dxh2_eq (r : Fin 512) (c : Fin 256) : k0_pay63 (F := Ideal) x2 m dext (ix2 r c) = ((d.dxh (512 * b + r) (512 + c) : ℝ) : EReal) := by
  pointwise [k0_pay63]
  simp only [h2, dn2_eq d hdm hde, ← EReal.coe_mul]
  rw [Data.dxh, show (512 + c.val) / 256 = 2 by omega, show (512 + c.val) % 256 = c.val by omega]

end

section
variable (hm : ∀ r c, mx (ix2 r c) = ((d.mixed 3 (512 * b + (r : Fin 512)) (c : Fin 256) : ℝ) : EReal))
variable (hs : ∀ c, s (ix2 0 c) = ((d.S (768 + (c : Fin 256)) : ℝ) : EReal))
variable (hw : ∀ i c, w (ix3 0 i c) = ((d.W 3 (i : Fin 256) (c : Fin 256) : ℝ) : EReal))
variable (hbb : ∀ c, bb (ix2 0 c) = d.B (768 + (c : Fin 256)))
variable (hdm : ∀ r c, m (ix2 r c) = ((d.dm 3 (512 * b + (r : Fin 512)) (c : Fin 256) : ℝ) : EReal))
variable (hde : ∀ r c, dext (ix2 r c) = ((d.dq 3 (512 * b + (r : Fin 528)) (c : Fin 256) : ℝ) : EReal))

include h6 hm hs in
theorem dw3_eq (acc : Vec Ideal S1x256x256 .f32) (i c : Fin 256) : k0_pay71 (F := Ideal) x6 (k0_pay64 mx) s acc (ix3 0 i c)
    = acc (ix3 0 i c) + ((∑ r : Fin 512, d.mixed 3 (512 * b + r) i * d.dpre 3 (512 * b + r) c : ℝ) : EReal) := by
  pointwise [k0_pay71, k0_pay70, k0_pay68, k0_pay66, k0_pay64]
  simp only [hm, h6, hs, ← EReal.coe_mul, ← coe_sum]
  rfl

include h6 hs hw in
theorem dm3_eq (r : Fin 512) (c : Fin 256) : k0_pay72 (F := Ideal) x6 s w (ix2 r c) = ((d.dm 3 (512 * b + r) c : ℝ) : EReal) := by
  pointwise [k0_pay72, k0_pay70, k0_pay68, k0_pay66]
  simp only [h6, hs, hw, ← EReal.coe_mul, ← coe_sum]
  rfl

include hb h6 hs hw in
theorem dq3_eq (r : Fin 512) (c : Fin 256) : k0_pay73 (F := Ideal) (k0_pay17 (BitVec.ofNat 32 b)) (k0_pay72 x6 s w) (ix2 r c) = ((d.dq 3 (512 * b + r) c : ℝ) : EReal) := by
  pointwise [k0_pay73, k0_pay17]
  rw [dm3_eq d h6 hs hw, count_word b r 3 16 hb r.isLt (by norm_num) rfl, div_real _ _ (Data.cnt_pos 3 (512 * b + r)).ne']
  rw [Data.dq, if_pos (by omega)]

set_option maxHeartbeats 2000000 in
include hdm hde in
theorem dn3_eq (r : Fin 512) (c : Fin 256) : k0_pay75 (F := Ideal) m dext (ix2 r c) = ((d.dhn 3 (512 * b + r) c : ℝ) : EReal) := by
  rw [pay75_quad]
  have hq := fquad_eq dext (fun n c => d.dq 3 (512 * b + n) c) hde
  generalize fquad dext = qd at hq ⊢
  pointwise
  simp only [hdm, hq, ← EReal.coe_add, ← EReal.coe_sub]
  congr 1
  have h := fwd8 (fun n c => d.dq 3 (512 * b + n) c) r c r.isLt
  simp only [← Nat.add_assoc] at h
  unfold Data.dhn
  rw [← h]
  simp only [roll]

include h6 hs in
theorem db3_eq (c : Fin 256) : k0_pay69 (F := Ideal) x6 s acc (ix2 0 c) = acc (ix2 0 c) + ((∑ r : Fin 512, d.dpre 3 (512 * b + r) c : ℝ) : EReal) := by
  pointwise [k0_pay69, k0_pay68, k0_pay66]
  simp only [h6, hs, ← EReal.coe_mul, ← coe_sum]
  rfl

include h6 hm hw hbb in
theorem ds3_eq (c : Fin 256) : k0_pay67 (F := Ideal) x6 (k0_pay64 mx) (k0_pay65 w) (constant S512x256 .f32 0#32) bb acc (ix2 0 c)
    = acc (ix2 0 c) + ∑ r : Fin 512, ((d.D (512 * b + r) (768 + c) : ℝ) : EReal) * d.pre 3 (512 * b + r) c := by
  pointwise [k0_pay67, k0_pay64, k0_pay65, k0_pay66]
  simp only [h6, hm, hw, hbb, ← EReal.coe_mul, ← coe_sum]
  rfl

include h0 hdm hde in
theorem dg3_eq (c : Fin 256) : k0_pay77 (F := Ideal) (k0_pay7 x0) m dext acc (ix2 0 c)
    = acc (ix2 0 c) + ((∑ r : Fin 512, d.dhn 3 (512 * b + r) c * d.xh (512 * b + r) (768 + c) : ℝ) : EReal) := by
  pointwise [k0_pay77]
  simp only [pay7_eq d h0, dn3_eq d hdm hde, ← EReal.coe_mul, ← coe_sum]

include h2 hdm hde in
theorem dxh3_eq (r : Fin 512) (c : Fin 256) : k0_pay1 (F := Ideal) (k0_pay78 x2 m dext) (ix2 r c) = ((d.dxh (512 * b + r) (768 + c) : ℝ) : EReal) := by
  pointwise [k0_pay1, k0_pay78]
  simp only [h2, dn3_eq d hdm hde, ← EReal.coe_mul]
  rw [Data.dxh, show (768 + c.val) / 256 = 3 by omega, show (768 + c.val) % 256 = c.val by omega]

end

include h0 h6 in
theorem dx_eq (v : Vec Ideal S512x1024 .f32) (hv : ∀ r c, v (ix2 r c) = ((d.dxh (512 * b + (r : Fin 512)) (c : Fin 1024) : ℝ) : EReal)) (r : Fin 512) (c : Fin 1024) :
    k0_pay2 (F := Ideal) (k0_pay6 x0) (k0_pay7 x0) x6 v (ix2 r c) = ((d.dx (512 * b + r) c : ℝ) : EReal) := by
  pointwise [k0_pay2]
  simp only [hv, h6, pay6_eq d h0, pay7_eq d h0, ← EReal.coe_mul, ← coe_sum, ofBits_1024]
  rw [div_real _ _ (by norm_num)]
  simp only [← EReal.coe_mul, ← EReal.coe_add, ← EReal.coe_sub]
  rfl

end Cert.PoolBwd

end
-- ==== Proof.MlpPay.lean ====
/- What each value the four kernels of the MLP sub-layer's gradient compute is, in the model: one lemma per stored payload. -/
module

public import proofs.«01_k».proof.Proof.Gen.Kernel2Ideal.Skeleton
public import proofs.«01_k».proof.Proof.MlpModel
public import proofs.«01_k».proof.Proof.KernelPay

@[expose] public section

set_option maxRecDepth 16384

noncomputable section

namespace Cert.MlpBwd

open Idealize.ShloMosaic Idealize.ShloMosaic.TcCoe Idealize.ShloMosaic.Tactic
open Cert.PoolBwd (ofBits_1024 ofBits_eps)
open Cert.Kernel2Ideal Cert.Kernel2Ideal.Gen

theorem ofBits_2 : Ideal.ofBits .f32 (1073741824#32) = ((2 : ℝ) : EReal) := by
  have h : Ideal.ofBits .f32 (1073741824#32) = ((8388608 : ℝ) : EReal) * ((1 / 4194304 : ℝ) : EReal) := by
    simp [Ideal.ofBits, Ideal.ieee]; norm_num
  rw [h, ← EReal.coe_mul]; norm_num

/-- The reciprocal root mean square of a row. -/
theorem rsqrt_row (d : Data) (t : ℕ) : Ideal.rsqrt (Ideal.div (∑ c : Fin 1024, d.H t c * d.H t c) (Ideal.ofBits .f32 (1149239296#32))
      + Ideal.ofBits .f32 (925353388#32)) = d.inv t := by
  rw [ofBits_1024, ofBits_eps]; rfl

variable (d : Data)

theorem pay_du {a b : ℕ} {x0 x2 : Vec Ideal S2048x1024 .bf16} {x1 : Vec Ideal S1024x1024 .bf16}
    (h0 : ∀ r c, x0 (ix2 r c) = d.D (2048 * a + (r : Fin 2048)) (c : Fin 1024))
    (h1 : ∀ r c, x1 (ix2 r c) = d.W2 (1024 * b + (r : Fin 1024)) (c : Fin 1024))
    (h2 : ∀ r c, x2 (ix2 r c) = d.U (2048 * a + (r : Fin 2048)) (1024 * b + (c : Fin 1024))) (r : Fin 2048) (c : Fin 1024) :
    k0_pay1 (F := Ideal) x0 x1 x2 (ix2 r c) = d.du (2048 * a + r) (1024 * b + c) := by
  pointwise [k0_pay1]
  simp only [h0, h1, h2, Ideal.ofBits_zero_f32, ofBits_2]
  rfl

theorem pay_dw2 {b : ℕ} {x0 x1 : Vec Ideal S4096x1024 .bf16}
    (h0 : ∀ r c, x0 (ix2 r c) = d.U (r : Fin 4096) (1024 * b + (c : Fin 1024)))
    (h1 : ∀ r c, x1 (ix2 r c) = d.D (r : Fin 4096) (c : Fin 1024)) (r c : Fin 1024) :
    k1_pay1 (F := Ideal) x0 x1 (ix2 r c) = d.dw2 (1024 * b + r) c := by
  pointwise [k1_pay1]
  simp only [h0, h1, Ideal.ofBits_zero_f32]
  rfl

theorem pay_dw1 {b : ℕ} {x0 x1 : Vec Ideal S4096x1024 .bf16}
    (h0 : ∀ r c, x0 (ix2 r c) = d.hn (r : Fin 4096) (c : Fin 1024))
    (h1 : ∀ r c, x1 (ix2 r c) = d.du (r : Fin 4096) (1024 * b + (c : Fin 1024))) (r c : Fin 1024) :
    k2_pay1 (F := Ideal) x0 x1 (ix3 0 r c) = d.dw1 r (1024 * b + c) := by
  pointwise [k2_pay1]
  simp only [h0, h1]
  rfl

variable {a : ℕ} {x0 : Vec Ideal S256x4096 .bf16} {w0 w1 w2 w3 : Vec Ideal S1x1024x1024 .bf16} {h dh : Vec Ideal S256x1024 .f32} {g : Vec Ideal S1x1024 .f32}
variable (h0 : ∀ r c, x0 (ix2 r c) = d.du (256 * a + (r : Fin 256)) (c : Fin 4096))
variable (k0 : ∀ r c, w0 (ix3 0 r c) = d.W1 (r : Fin 1024) (c : Fin 1024))
variable (k1 : ∀ r c, w1 (ix3 0 r c) = d.W1 (r : Fin 1024) (1024 + (c : Fin 1024)))
variable (k2 : ∀ r c, w2 (ix3 0 r c) = d.W1 (r : Fin 1024) (2048 + (c : Fin 1024)))
variable (k3 : ∀ r c, w3 (ix3 0 r c) = d.W1 (r : Fin 1024) (3072 + (c : Fin 1024)))
variable (hh : ∀ r c, h (ix2 r c) = d.H (256 * a + (r : Fin 256)) (c : Fin 1024))
variable (hg : ∀ c, g (ix2 0 c) = d.G (c : Fin 1024))
variable (hdh : ∀ r c, dh (ix2 r c) = d.D (256 * a + (r : Fin 256)) (c : Fin 1024))

include h0 k0 k1 k2 k3 in
theorem pay_dhn (r : Fin 256) (c : Fin 1024) : k3_pay6 (F := Ideal) x0 w0 w1 w2 w3 (ix2 r c) = d.dhn (256 * a + r) c := by
  pointwise [k3_pay6]
  simp only [h0, k0, k1, k2, k3]
  unfold Data.dhn
  rw [Data.sum_shards (fun k => d.du (256 * a + r) k * d.W1 c k)]

include hh in
theorem pay_inv (r : Fin 256) (c : Fin 1) : k3_pay1 (F := Ideal) (k3_pay8 h) (ix2 r c) = d.inv (256 * a + r) := by
  pointwise [k3_pay1, k3_pay8]
  simp only [hh]
  exact rsqrt_row d _

include hh in
theorem pay_xh (r : Fin 256) (c : Fin 1024) : k3_pay2 (F := Ideal) h (k3_pay8 h) (ix2 r c) = d.xh (256 * a + r) c := by
  pointwise [k3_pay2]
  rw [pay_inv d hh, hh]; rfl

variable {y : FVec Ideal S256x1024 .f32} (hy : ∀ r c, y (ix2 r c) = d.dhn (256 * a + (r : Fin 256)) (c : Fin 1024))

include hh hg hdh hy in
theorem pay_dx (r : Fin 256) (c : Fin 1024) : k3_pay3 (F := Ideal) y h (k3_pay8 h) g dh (ix2 r c) = d.dx (256 * a + r) c := by
  pointwise [k3_pay3]
  simp only [pay_inv d hh, pay_xh d hh, hy, hg, hdh, ofBits_1024]
  rfl

include hh hy in
theorem pay_dg {acc : Vec Ideal S1x1024 .f32} (c : Fin 1024) : k3_pay5 (F := Ideal) y h (k3_pay8 h) acc (ix2 0 c)
    = acc (ix2 0 c) + (∑ r : Fin 256, d.dhn (256 * a + r) c * d.xh (256 * a + r) c) := by
  pointwise [k3_pay5]
  simp only [pay_xh d hh, hy]

end Cert.MlpBwd

end
-- ==== Proof.MlpHost.lean ====
/- What the operations before the four kernels of the MLP sub-layer's gradient leave: the roundings of the arguments, the normalized input,
   the hidden layer, and the first weight matrix as column shards. -/
module

public import proofs.«01_k».proof.Proof.Gen.Kernel2Ideal.Frame
public import proofs.«01_k».proof.Proof.MlpPay
public import Idealize.ShloMosaic.Lib.Claim

@[expose] public section

set_option maxRecDepth 16384

noncomputable section

namespace Cert.MlpBwd

open Idealize.ShloMosaic Idealize.ShloMosaic.TcCoe Idealize.ShloMosaic.Tactic
open Idealize.SL.Sem
open Cert.Kernel2Ideal Cert.Kernel2Ideal.Gen

/-- The arguments' entries are the model's numbers. -/
structure Data.Fits (d : Data) (h : S4096x1024.Idx → EReal) (g : S1x1024.Idx → EReal) (w1 : S1024x4096.Idx → EReal) (w2 dh : S4096x1024.Idx → EReal) : Prop where
  h : ∀ r c, h (ix2 r c) = d.H (r : Fin 4096) (c : Fin 1024)
  g : ∀ c, g (ix2 0 c) = d.G (c : Fin 1024)
  w1 : ∀ r c, w1 (ix2 r c) = d.W1 (r : Fin 1024) (c : Fin 4096)
  w2 : ∀ r c, w2 (ix2 r c) = d.W2 (r : Fin 4096) (c : Fin 1024)
  dh : ∀ r c, dh (ix2 r c) = d.D (r : Fin 4096) (c : Fin 1024)

/-- The normalized input, rounded. -/
def hmH (h : FVec Ideal S4096x1024 .f32) (g : FVec Ideal S1x1024 .f32) : FVec Ideal S4096x1024 .bf16 :=
  truncf .bf16 (mulf (mulf h (broadcastInDim S4096x1024 ![0, 1] bcast_S4096x1_S4096x1024_0_1
    (Host.rsqrt (addf (Host.divf (broadcastInDim S4096x1 ![0] bcast_S4096_S4096x1_0 (Host.reduceAdd (mulf h h) (constant S_ .f32 0x00000000#32) reducesTo_S4096x1024_S4096_d1 h_S_))
      (broadcastInDim S4096x1 ![] bcast_S_S4096x1 (constant S_ .f32 0x44800000#32))) (broadcastInDim S4096x1 ![] bcast_S_S4096x1 (constant S_ .f32 0x3727C5AC#32))))))
    (broadcastInDim S4096x1024 ![0, 1] bcast_S1x1024_S4096x1024_0_1 g)) bitsLt_bf16_f32

/-- The hidden layer, rounded. -/
def uH (h : FVec Ideal S4096x1024 .f32) (g : FVec Ideal S1x1024 .f32) (w1 : FVec Ideal S1024x4096 .f32) : FVec Ideal S4096x4096 .bf16 :=
  truncf .bf16 (Host.dotGeneral dot_S4096x1024_S1024x4096_S4096x4096_1_0_0_1_n_n none (hmH h g) (truncf .bf16 w1 bitsLt_bf16_f32)) bitsLt_bf16_f32

/-- The first weight matrix's column shards. -/
def shardH (w1 : FVec Ideal S1024x4096 .f32) : FVec Ideal S4x1024x1024 .bf16 :=
  transpose S4x1024x1024 [1, 0, 2] (shapeCast S1024x4x1024 (truncf .bf16 w1 bitsLt_bf16_f32 : FVec Ideal S1024x4096 .bf16) shapeCasts_S1024x4096_S1024x4x1024)
    transposes_S1024x4x1024_S4x1024x1024_1_0_2

variable (m : (ℓ : Loc nD τ sig) → Buf (Elt Ideal) ℓ) (ρ : Dev nD → PrngReg) (c : Dev nD)

theorem V1_hm : V1 m ρ c main_v15 = hmH (m ((c : Thread nD τ).loc main_arg0)) (m ((c : Thread nD τ).loc main_arg1)) := by
  unfold_abbrev_sides
  after_results
  rfl

theorem V1_u : V1 m ρ c main_v17 = uH (m ((c : Thread nD τ).loc main_arg0)) (m ((c : Thread nD τ).loc main_arg1)) (m ((c : Thread nD τ).loc main_arg2)) := by
  unfold_abbrev_sides
  after_results
  rfl

theorem V1_shards : V1 m ρ c main_v19 = shardH (m ((c : Thread nD τ).loc main_arg2)) := by
  unfold_abbrev_sides
  after_results
  rfl

theorem V1_w2 : V1 m ρ c main_v1 = (fun y => m ((c : Thread nD τ).loc main_arg3) y : S4096x1024.Idx → EReal) := by
  unfold_abbrev_sides
  after_results
  rfl

theorem V1_dh : V1 m ρ c main_v2 = (fun y => m ((c : Thread nD τ).loc main_arg4) y : S4096x1024.Idx → EReal) := by
  unfold_abbrev_sides
  after_results
  rfl

variable {d : Data} {h w2 dh : S4096x1024.Idx → EReal} {g : S1x1024.Idx → EReal} {w1 : S1024x4096.Idx → EReal}

theorem hmH_eq (hh : ∀ r c, h (ix2 r c) = d.H (r : Fin 4096) (c : Fin 1024)) (hg : ∀ c, g (ix2 0 c) = d.G (c : Fin 1024))
    (r : Fin 4096) (c : Fin 1024) : hmH h g (ix2 r c) = d.hn r c := by
  pointwise [hmH]
  simp only [hh, hg, Ideal.ofBits_zero_f32, zero_add]
  rw [rsqrt_row d]
  rfl

theorem uH_eq (hh : ∀ r c, h (ix2 r c) = d.H (r : Fin 4096) (c : Fin 1024)) (hg : ∀ c, g (ix2 0 c) = d.G (c : Fin 1024))
    (hw : ∀ r c, w1 (ix2 r c) = d.W1 (r : Fin 1024) (c : Fin 4096)) (r c : Fin 4096) : uH h g w1 (ix2 r c) = d.U r c := by
  pointwise [uH]
  simp only [hmH_eq hh hg, hw]
  rfl

theorem shardH_eq (hw : ∀ r c, w1 (ix2 r c) = d.W1 (r : Fin 1024) (c : Fin 4096)) (s : Fin 4) (r c : Fin 1024) :
    shardH w1 (ix3 s r c) = d.W1 r (1024 * s + c) := by
  pointwise [shardH]
  refine (hw _ _).trans ?_
  simp only [show s.val * 1024 + c.val = 1024 * s.val + c.val by omega]

end Cert.MlpBwd

end
-- ==== Proof.MlpArgs.lean ====
/- The arguments of the MLP sub-layer's gradient as the model's functions of row and column numbers. -/
module

public import proofs.«01_k».proof.Proof.Gen.Kernel2Ideal
public import proofs.«01_k».proof.Proof.MlpModel

@[expose] public section

set_option maxRecDepth 16384

noncomputable section

namespace Cert.MlpBwd

open Idealize.ShloMosaic
open Cert.Kernel2Ideal

/-- A matrix as a function of natural numbers, zero outside. -/
def ofMat {N M : ℕ} (x : (⟨2, ![N, M]⟩ : Shape).Idx → EReal) (r c : ℕ) : EReal := if h : r < N ∧ c < M then x (ix2 ⟨r, h.1⟩ ⟨c, h.2⟩) else 0

theorem ofMat_eq {N M : ℕ} (x : (⟨2, ![N, M]⟩ : Shape).Idx → EReal) (r : Fin N) (c : Fin M) : x (ix2 r c) = ofMat x r c := by
  unfold ofMat
  rw [dif_pos ⟨r.isLt, c.isLt⟩]

/-- The model of given arguments. -/
def ofArgs (h : S4096x1024.Idx → EReal) (g : S1x1024.Idx → EReal) (w1 : S1024x4096.Idx → EReal) (w2 dh : S4096x1024.Idx → EReal) : Data where
  H := ofMat h
  G := ofMat g 0
  W1 := ofMat w1
  W2 := ofMat w2
  D := ofMat dh

end Cert.MlpBwd

end
-- ==== Proof.UpFwd.lean ====
/- The first product of the first MLP sub-layer, forward, with the normalization in front of it: what its kernel ends with, in the model. -/
module

public import proofs.«01_k».proof.Proof.UpRun
public import proofs.«01_k».proof.Proof.MlpHost
public import proofs.«01_k».proof.Proof.MlpArgs
public import Idealize.ShloMosaic.Lib.Pipeline.Value

@[expose] public section

set_option maxRecDepth 16384

noncomputable section

namespace Cert.UpFwd

open Idealize.ShloMosaic Idealize.ShloMosaic.TcCoe Idealize.ShloMosaic.Tactic
open Idealize.SL.Sem
open Cert.MlpBwd (ofMat ofMat_eq rsqrt_row)
open Cert.Kernel10Ideal Cert.Kernel10Ideal.Gen Cert.Kernel10Ideal.Held

/-- The arguments' entries are the model's numbers. -/
structure Fits (d : MlpBwd.Data) (x0 : S4096x1024.Idx → EReal) (x1 : S1x1024.Idx → EReal) (x2 : S1024x4096.Idx → EReal) : Prop where
  h : ∀ r c, x0 (ix2 r c) = d.H (r : Fin 4096) (c : Fin 1024)
  g : ∀ c, x1 (ix2 0 c) = d.G (c : Fin 1024)
  w : ∀ r c, x2 (ix2 r c) = d.W1 (r : Fin 1024) (c : Fin 4096)

/-- The model's numbers of given arguments. -/
def ofArgs (x0 : S4096x1024.Idx → EReal) (x1 : S1x1024.Idx → EReal) (x2 : S1024x4096.Idx → EReal) : MlpBwd.Data :=
  ⟨ofMat x0, ofMat x1 0, ofMat x2, fun _ _ => 0, fun _ _ => 0⟩

theorem fits_ofArgs {x0 : S4096x1024.Idx → EReal} {x1 : S1x1024.Idx → EReal} {x2 : S1024x4096.Idx → EReal} : Fits (ofArgs x0 x1 x2) x0 x1 x2 :=
  ⟨ofMat_eq x0, ofMat_eq x1 0, ofMat_eq x2⟩

/-- The product, as an array. -/
def resU (d : MlpBwd.Data) : S4096x4096.Idx → EReal := fun y => d.U (y 0).val (y 1).val
/-- The normalized input, as an array. -/
def resN (d : MlpBwd.Data) : S4096x1024.Idx → EReal := fun y => d.hn (y 0).val (y 1).val

variable (d : MlpBwd.Data)

theorem pay_nrm {a : ℕ} {x0 : Vec Ideal S2048x1024 .f32} {x2 : Vec Ideal S1x1024 .f32}
    (h0 : ∀ r c, x0 (ix2 r c) = d.H (2048 * a + (r : Fin 2048)) (c : Fin 1024)) (h2 : ∀ c, x2 (ix2 0 c) = d.G (c : Fin 1024)) (r : Fin 2048) (c : Fin 1024) :
    nrm (F := Ideal) x0 x2 (ix2 r c) = d.hn (2048 * a + r) c := by
  pointwise [nrm, k0_pay1]
  simp only [h0, h2]
  rw [rsqrt_row d]
  rfl

theorem pay_prod {a b : ℕ} {x0 : Vec Ideal S2048x1024 .f32} {x1 : Vec Ideal S1x1024x1024 .bf16} {x2 : Vec Ideal S1x1024 .f32}
    (h0 : ∀ r c, x0 (ix2 r c) = d.H (2048 * a + (r : Fin 2048)) (c : Fin 1024)) (h1 : ∀ r c, x1 (ix3 0 r c) = d.W1 (r : Fin 1024) (1024 * b + (c : Fin 1024)))
    (h2 : ∀ c, x2 (ix2 0 c) = d.G (c : Fin 1024)) (r : Fin 2048) (c : Fin 1024) :
    prod (F := Ideal) x0 x1 x2 (ix2 r c) = d.U (2048 * a + r) (1024 * b + c) := by
  have e : ∀ r c, nrm (F := Ideal) x0 x2 (ix2 r c) = d.hn (2048 * a + r) c := pay_nrm d h0 h2
  unfold prod
  generalize nrm (F := Ideal) x0 x2 = y at e
  pointwise [k0_pay2]
  simp only [e, h1]
  rfl

theorem idx0 : ∀ t : Fin grid0.N, win0_0.index t = ![t.val / 4, 0] := by decide +kernel
theorem idx1 : ∀ t : Fin grid0.N, win0_1.index t = ![t.val % 4, 0, 0] := by decide +kernel
theorem idx2 : ∀ t : Fin grid0.N, win0_2.index t = ![0, 0] := by decide +kernel
theorem idx3 : ∀ t : Fin grid0.N, win0_3.index t = ![t.val / 4, t.val % 4] := by decide +kernel
theorem idx4 : ∀ t : Fin grid0.N, win0_4.index t = ![t.val / 4, 0] := by decide +kernel

variable (m : (ℓ : Loc nD τ sig) → Buf (Elt Ideal) ℓ) (c : Dev nD)

theorem V_w : V m c main_v2 = MlpBwd.shardH (m ((c : Thread nD τ).loc main_arg2)) := by
  unfold_abbrev_sides
  after_results
  rfl

variable (hd : Fits d (m ((c : Thread nD τ).loc main_arg0)) (m ((c : Thread nD τ).loc main_arg1)) (m ((c : Thread nD τ).loc main_arg2)))
variable (t : Fin cfg0.N)

include hd

theorem iblk_h (r : Fin 2048) (k : Fin 1024) : iblk m c 0 t (ix2 r k) = d.H (2048 * (t.val / 4) + r) k := by
  unfold iblk
  rw [View.read_apply]
  have hN : t.val < 8 := t.isLt
  refine (congrFun (V_arg m c main_arg0 (by decide) (by decide) (by decide)) _).trans (.trans (congrArg _ ?_) (hd.h ⟨2048 * (t.val / 4) + r, by omega⟩ k))
  funext a
  apply Fin.ext
  match a with
  | ⟨0, _⟩ => show win0_0.index t 0 * 2048 + 1 * r.val = _; rw [idx0]; simp; omega
  | ⟨1, _⟩ => show win0_0.index t 1 * 1024 + 1 * k.val = _; rw [idx0]; simp

theorem iblk_w (r k : Fin 1024) : iblk m c 1 t (ix3 0 r k) = d.W1 r (1024 * (t.val % 4) + k) := by
  unfold iblk
  rw [View.read_apply]
  refine (congrFun (V_w m c) _).trans (.trans (congrArg (MlpBwd.shardH (m ((c : Thread nD τ).loc main_arg2))) ?_)
    (MlpBwd.shardH_eq (d := d) hd.w ⟨t.val % 4, Nat.mod_lt _ (by omega)⟩ r k))
  funext a
  apply Fin.ext
  match a with
  | ⟨0, _⟩ => show win0_1.index t 0 * 1 + 1 * (0 : ℕ) = _; rw [idx1]; simp
  | ⟨1, _⟩ => show win0_1.index t 1 * 1024 + 1 * r.val = _; rw [idx1]; simp
  | ⟨2, _⟩ => show win0_1.index t 2 * 1024 + 1 * k.val = _; rw [idx1]; simp

theorem iblk_g (k : Fin 1024) : iblk m c 2 t (ix2 0 k) = d.G k := by
  unfold iblk
  rw [View.read_apply]
  refine (congrFun (V_arg m c main_arg1 (by decide) (by decide) (by decide)) _).trans (.trans (congrArg _ ?_) (hd.g k))
  funext a
  apply Fin.ext
  match a with
  | ⟨0, _⟩ => show win0_2.index t 0 * 1 + 1 * (0 : ℕ) = _; rw [idx2]; simp
  | ⟨1, _⟩ => show win0_2.index t 1 * 1024 + 1 * k.val = _; rw [idx2]; simp

/-- The product the kernel ends with, -/
theorem final_u : (dats m 0 c).arrAt 3 cfg0.N = resU d := by
  refine (dats m 0 c).arrAt_eq_of_cover 3 (resU d) (fun t _ => ?_) fun (i : S4096x4096.Idx) => ?_
  · have hN : t.val < 8 := t.isLt
    show (cfg0.win 3).cut (grid0.coords t) ((dats m 0 c).after 3 t) = _
    rw [after3]
    funext y
    rw [View.read_apply]
    refine (congrArg (prod (iblk m c 0 t) (iblk m c 1 t) (iblk m c 2 t)) (?_ : _ = ix2 (y 0) (y 1))).trans
      ((pay_prod d (iblk_h d m c hd t) (iblk_w d m c hd t) (iblk_g d m c hd t) (y 0) (y 1)).trans ?_)
    · funext a
      match a with
      | ⟨0, _⟩ => rfl
      | ⟨1, _⟩ => rfl
    · refine congrArg₂ d.U ?_ ?_
      · show _ = win0_3.index t 0 * 2048 + 1 * (y 0).val
        rw [idx3]; simp; omega
      · show _ = win0_3.index t 1 * 1024 + 1 * (y 1).val
        rw [idx3]; simp; omega
  · have h0 : (i 0).val < 4096 := (i 0).isLt
    have h1 : (i 1).val < 4096 := (i 1).isLt
    obtain ⟨u, hu⟩ : ∃ u : Fin grid0.N, u.val = 4 * ((i 0).val / 2048) + (i 1).val / 1024 := ⟨⟨4 * ((i 0).val / 2048) + (i 1).val / 1024, by show _ < 8; omega⟩, rfl⟩
    refine ⟨u, flush0_3 _, ?_⟩
    show i ∈ ((View.whole main_v3_0).slice (win0_3.rect u)).set
    rw [View.set_slice_whole, Rect.mem_set_unit]
    intro a
    match a with
    | ⟨0, _⟩ => show win0_3.index _ 0 * 2048 ≤ (i 0).val ∧ (i 0).val < win0_3.index _ 0 * 2048 + 2048; rw [idx3, hu]; simp; omega
    | ⟨1, _⟩ => show win0_3.index _ 1 * 1024 ≤ (i 1).val ∧ (i 1).val < win0_3.index _ 1 * 1024 + 1024; rw [idx3, hu]; simp; omega

/-- and the normalized input: the last point of each row of blocks writes it. -/
theorem final_n : (dats m 0 c).arrAt 4 cfg0.N = resN d := by
  refine (dats m 0 c).arrAt_eq_of_cover 4 (resN d) (fun t _ => ?_) fun (i : S4096x1024.Idx) => ?_
  · have hN : t.val < 8 := t.isLt
    show (cfg0.win 4).cut (grid0.coords t) ((dats m 0 c).after 4 t) = _
    rw [after4]
    funext y
    rw [View.read_apply]
    refine (congrArg (nrm (iblk m c 0 t) (iblk m c 2 t)) (?_ : _ = ix2 (y 0) (y 1))).trans
      ((pay_nrm d (iblk_h d m c hd t) (iblk_g d m c hd t) (y 0) (y 1)).trans ?_)
    · funext a
      match a with
      | ⟨0, _⟩ => rfl
      | ⟨1, _⟩ => rfl
    · refine congrArg₂ d.hn ?_ ?_
      · show _ = win0_4.index t 0 * 2048 + 1 * (y 0).val
        rw [idx4]; simp; omega
      · show _ = win0_4.index t 1 * 1024 + 1 * (y 1).val
        rw [idx4]; simp
  · have h0 : (i 0).val < 4096 := (i 0).isLt
    have h1 : (i 1).val < 1024 := (i 1).isLt
    obtain ⟨u, hu⟩ : ∃ u : Fin grid0.N, u.val = 4 * ((i 0).val / 2048) + 3 := ⟨⟨4 * ((i 0).val / 2048) + 3, by show _ < 8; omega⟩, rfl⟩
    refine ⟨u, (flush0_4 _).mpr (by omega), ?_⟩
    show i ∈ ((View.whole main_v3_1).slice (win0_4.rect u)).set
    rw [View.set_slice_whole, Rect.mem_set_unit]
    intro a
    match a with
    | ⟨0, _⟩ => show win0_4.index _ 0 * 2048 ≤ (i 0).val ∧ (i 0).val < win0_4.index _ 0 * 2048 + 2048; rw [idx4, hu]; simp; omega
    | ⟨1, _⟩ => show win0_4.index _ 1 * 1024 ≤ (i 1).val ∧ (i 1).val < win0_4.index _ 1 * 1024 + 1024; rw [idx4]; simp; omega

end Cert.UpFwd

end
-- ==== Proof.UpFwdRef.lean ====
/- The first product of the first MLP sub-layer, forward: the reference's results, in the model. -/
module

public import proofs.«01_k».proof.Proof.Gen.Reference10Ideal.Read
public import proofs.«01_k».proof.Proof.UpFwd
public import Idealize.ShloMosaic.Lib.Pointwise

@[expose] public section

set_option maxRecDepth 16384

noncomputable section

namespace Cert.UpFwd.Ref

open Idealize.ShloMosaic Idealize.ShloMosaic.TcCoe Idealize.ShloMosaic.Tactic
open Cert.Reference10Ideal Cert.Reference10Ideal.Gen Cert.Reference10Ideal.Read

variable {d : MlpBwd.Data} {x0 : S4096x1024.Idx → EReal} {x1 : S1x1024.Idx → EReal} {x2 : S1024x4096.Idx → EReal}
variable (hd : Fits d x0 x1 x2)
include hd

/-- The reference normalizes as the operations before the gradient's kernels do. -/
theorem n_eq (r : Fin 4096) (c : Fin 1024) : val_main_v14 (F := Ideal) x0 x1 (ix2 r c) = d.hn r c :=
  MlpBwd.hmH_eq (d := d) hd.h hd.g r c

theorem u_eq (r : Fin 4096) (k : Fin 4096) : val_main_v13 (F := Ideal) x0 x1 x2 (ix2 r k) = d.U r k := by
  have e : ∀ r c, val_main_v11 (F := Ideal) x0 x1 (ix2 r c) = d.hn r c := n_eq hd
  pointwise [val_main_v13, val_main_v12]
  simp only [e, hd.w]
  rfl

theorem n_arr : val_main_v14 (F := Ideal) x0 x1 = resN d := by
  funext y
  have e : y = ix2 (y 0 : Fin 4096) (y 1 : Fin 1024) := funext fun a => match a with | ⟨0, _⟩ => rfl | ⟨1, _⟩ => rfl
  exact (congrArg _ e).trans (n_eq hd (y 0) (y 1))

theorem u_arr : val_main_v13 (F := Ideal) x0 x1 x2 = resU d := by
  funext y
  have e : y = ix2 (y 0 : Fin 4096) (y 1 : Fin 4096) := funext fun a => match a with | ⟨0, _⟩ => rfl | ⟨1, _⟩ => rfl
  exact (congrArg _ e).trans (u_eq hd (y 0) (y 1))

end Cert.UpFwd.Ref

end
-- ==== Proof.InProjModel.lean ====
/- The model of the input projection's gradient, on the extended reals: every quantity the four kernels and the reference compute, as a function
   of row and column numbers. The projection multiplies the normalized input by `W`; its 5152 columns are three groups, of 2048, 3072 and 32. -/
module

public import proofs.«01_k».proof.Proof.Model

@[expose] public section

set_option maxRecDepth 16384

noncomputable section

namespace Cert.InProj

open Idealize.ShloMosaic
open Cert.PoolBwd (eps)

/-- The arguments as functions of natural-number indices: activations `H`, gain `G`, the weight `W`, the gradient `C` of the projection's columns, and
    the incoming gradient `D` that passes by. -/
structure Data where
  H : ℕ → ℕ → EReal
  G : ℕ → EReal
  W : ℕ → ℕ → EReal
  C : ℕ → ℕ → EReal
  D : ℕ → ℕ → EReal

namespace Data

variable (d : Data)

/-- Mean of squares of row `t`. -/
def ms (t : ℕ) : EReal := Ideal.div (∑ c : Fin 1024, d.H t c * d.H t c) (1024 : ℝ)
/-- The reciprocal root mean square of row `t`. -/
def inv (t : ℕ) : EReal := Ideal.rsqrt (d.ms t + (eps : EReal))
/-- The normalized activations, before the gain. -/
def xh (t c : ℕ) : EReal := d.H t c * d.inv t
/-- The normalized activations. -/
def hn (t c : ℕ) : EReal := d.xh t c * d.G c
/-- The weight's gradient, a row per column of the projection. -/
def dw (k c : ℕ) : EReal := ∑ t : Fin 4096, d.C t k * d.hn t c
/-- The last group's gradient, continued by zeros. -/
def C3 (t k : ℕ) : EReal := if k < 32 then d.C t (5120 + k) else 0
/-- The last group's weights, continued by zeros. -/
def W3 (k c : ℕ) : EReal := if k < 32 then d.W c (5120 + k) else 0
/-- The last group's rows of the weight's gradient, continued by zeros. -/
def dw3 (k c : ℕ) : EReal := if k < 32 then d.dw (5120 + k) c else 0
/-- The gradient of the normalized activations. -/
def dhn (t c : ℕ) : EReal := ∑ k : Fin 5152, d.C t k * d.W c k
/-- The same, with the gain. -/
def dxg (t c : ℕ) : EReal := d.dhn t c * d.G c
/-- The mean over row `t` of that gradient against the normalized row. -/
def proj (t : ℕ) : EReal := Ideal.div (∑ c : Fin 1024, d.dxg t c * d.xh t c) (1024 : ℝ)
/-- The gradient of the activations. -/
def dx (t c : ℕ) : EReal := d.D t c + d.inv t * (d.dxg t c - d.xh t c * d.proj t)
/-- The gain's gradient from the first `n` blocks of 256 rows. -/
def accG (n c : ℕ) : EReal := ∑ t ∈ Finset.range (256 * n), d.dhn t c * d.xh t c
/-- What the small gradients hold at row `r`, column `c`, after `n` blocks: the gain's, then zeros. -/
def small (n r c : ℕ) : EReal := if r = 0 then d.accG n c else 0

theorem accG_zero (k : ℕ) : d.accG 0 k = 0 := by simp [accG]

theorem accG_succ (n c : ℕ) : d.accG (n + 1) c = d.accG n c + ∑ r : Fin 256, d.dhn (256 * n + r) c * d.xh (256 * n + r) c := by
  unfold accG
  rw [show 256 * (n + 1) = 256 * n + 256 by ring, Finset.sum_range_add, Fin.sum_univ_eq_sum_range (fun r => d.dhn (256 * n + r) c * d.xh (256 * n + r) c) 256]

/-- The gain's gradient after one more block. -/
theorem small_succ (a r k : ℕ) (hr : r = 0) (x : EReal) (hx : x = d.accG a k) :
    x + (∑ r : Fin 256, d.dhn (256 * a + r) k * d.xh (256 * a + r) k) = d.small (a + 1) r k := by
  rw [hx, small, if_pos hr, d.accG_succ]

/-- The last group's rows, from the continued gradient. -/
theorem dw3_eq (k c : ℕ) : ∑ t : Fin 4096, d.C3 t k * d.hn t c = d.dw3 k c := by
  unfold dw3 C3 dw
  by_cases h : k < 32
  · simp only [if_pos h]
  · simp only [if_neg h, zero_mul, Finset.sum_const_zero]

/-- The sum over the projection's columns, as the three groups' sums. -/
theorem dhn_eq (t c : ℕ) : ((∑ k : Fin 3072, d.C t (2048 + k) * d.W c (2048 + k)) + ∑ k : Fin 2048, d.C t k * d.W c k) + ∑ k : Fin 128, d.C3 t k * d.W3 k c = d.dhn t c := by
  unfold dhn
  have h3 : ∑ k ∈ Finset.range 128, d.C3 t k * d.W3 k c = ∑ k ∈ Finset.range 32, d.C t (5120 + k) * d.W c (5120 + k) := by
    rw [show 128 = 32 + 96 by rfl, Finset.sum_range_add, Finset.sum_eq_zero (s := Finset.range 96) (fun k _ => by
      rw [C3, if_neg (by omega), zero_mul]), add_zero]
    refine Finset.sum_congr rfl fun k hk => ?_
    rw [C3, W3, if_pos (Finset.mem_range.mp hk), if_pos (Finset.mem_range.mp hk)]
  rw [Fin.sum_univ_eq_sum_range (fun k => d.C t (2048 + k) * d.W c (2048 + k)) 3072, Fin.sum_univ_eq_sum_range (fun k => d.C t k * d.W c k) 2048,
    Fin.sum_univ_eq_sum_range (fun k => d.C3 t k * d.W3 k c) 128, Fin.sum_univ_eq_sum_range (fun k => d.C t k * d.W c k) 5152, h3,
    show 5152 = 5120 + 32 by rfl, Finset.sum_range_add, show 5120 = 2048 + 3072 by rfl, Finset.sum_range_add,
    add_comm (∑ k ∈ Finset.range 3072, _)]

end Data

end Cert.InProj

end
-- ==== Proof.InProjHost.lean ====
/- What the operations before the four kernels of the input projection's gradient leave: the normalized input, the three groups of the weight's
   columns as rows, and the last group's gradient continued by zeros. -/
module

public import proofs.«01_k».proof.Proof.Gen.Kernel3Ideal.Frame
public import proofs.«01_k».proof.Proof.InProjModel
public import proofs.«01_k».proof.Proof.KernelPay
public import Idealize.ShloMosaic.Lib.Claim

@[expose] public section

set_option maxRecDepth 16384

noncomputable section

namespace Cert.InProj

open Idealize.ShloMosaic Idealize.ShloMosaic.TcCoe Idealize.ShloMosaic.Tactic
open Idealize.SL.Sem
open Cert.PoolBwd (ofBits_1024 ofBits_eps)
open Cert.Kernel3Ideal Cert.Kernel3Ideal.Gen

/-- The arguments' entries are the model's numbers. -/
structure Data.Fits (d : Data) (h : S4096x1024.Idx → EReal) (g : S1x1024.Idx → EReal) (w : S1024x5152.Idx → EReal) (dz : S4096x2048.Idx → EReal)
    (dxbc : S4096x3072.Idx → EReal) (ddt : S4096x32.Idx → EReal) (dh : S4096x1024.Idx → EReal) : Prop where
  h : ∀ r c, h (ix2 r c) = d.H (r : Fin 4096) (c : Fin 1024)
  g : ∀ c, g (ix2 0 c) = d.G (c : Fin 1024)
  w : ∀ r c, w (ix2 r c) = d.W (r : Fin 1024) (c : Fin 5152)
  dz : ∀ r c, dz (ix2 r c) = d.C (r : Fin 4096) (c : Fin 2048)
  dxbc : ∀ r c, dxbc (ix2 r c) = d.C (r : Fin 4096) (2048 + (c : Fin 3072))
  ddt : ∀ r c, ddt (ix2 r c) = d.C (r : Fin 4096) (5120 + (c : Fin 32))
  dh : ∀ r c, dh (ix2 r c) = d.D (r : Fin 4096) (c : Fin 1024)

/-- The normalized input, rounded. -/
def hnH (h : FVec Ideal S4096x1024 .f32) (g : FVec Ideal S1x1024 .f32) : FVec Ideal S4096x1024 .bf16 :=
  truncf .bf16 (mulf (mulf h (broadcastInDim S4096x1024 ![0, 1] bcast_S4096x1_S4096x1024_0_1
    (Host.rsqrt (addf (Host.divf (broadcastInDim S4096x1 ![0] bcast_S4096_S4096x1_0 (Host.reduceAdd (mulf h h) (constant S_ .f32 0x00000000#32) reducesTo_S4096x1024_S4096_d1 h_S_))
      (broadcastInDim S4096x1 ![] bcast_S_S4096x1 (constant S_ .f32 0x44800000#32))) (broadcastInDim S4096x1 ![] bcast_S_S4096x1 (constant S_ .f32 0x3727C5AC#32))))))
    (broadcastInDim S4096x1024 ![0, 1] bcast_S1x1024_S4096x1024_0_1 g)) bitsLt_bf16_f32

/-- The weight's columns as rows, rounded. -/
def wH (w : FVec Ideal S1024x5152 .f32) : FVec Ideal S5152x1024 .bf16 :=
  truncf .bf16 (transpose S5152x1024 [1, 0] w transposes_S1024x5152_S5152x1024_1_0 : FVec Ideal S5152x1024 .f32) bitsLt_bf16_f32

/-- The first group's rows. -/
def w1H (w : FVec Ideal S1024x5152 .f32) : FVec Ideal S2048x1024 .bf16 :=
  extractStridedSlice S2048x1024 ![0, 0] (wH w) slices_S5152x1024_S2048x1024_0_0
/-- The second group's rows. -/
def w2H (w : FVec Ideal S1024x5152 .f32) : FVec Ideal S3072x1024 .bf16 :=
  extractStridedSlice S3072x1024 ![2048, 0] (wH w) slices_S5152x1024_S3072x1024_2048_0
/-- The last group's rows, continued by zeros. -/
def w3H (w : FVec Ideal S1024x5152 .f32) : FVec Ideal S128x1024 .bf16 :=
  concatenate S128x1024 0 [⟨S32x1024, (extractStridedSlice S32x1024 ![5120, 0] (wH w) slices_S5152x1024_S32x1024_5120_0 : FVec Ideal S32x1024 .bf16)⟩,
    ⟨S96x1024, (broadcastInDim S96x1024 ![] bcast_S_S96x1024 (constant S_ .bf16 0x0000#16) : FVec Ideal S96x1024 .bf16)⟩] concatenates_S32x1024_S96x1024_S128x1024_d0
/-- The last group's gradient, continued by zeros. -/
def dtH (ddt : FVec Ideal S4096x32 .f32) : FVec Ideal S4096x128 .f32 :=
  concatenate S4096x128 1 [⟨S4096x32, ddt⟩,
    ⟨S4096x96, (broadcastInDim S4096x96 ![] bcast_S_S4096x96 (constant S_ .f32 0x00000000#32) : FVec Ideal S4096x96 .f32)⟩] concatenates_S4096x32_S4096x96_S4096x128_d1

variable (m : (ℓ : Loc nD τ sig) → Buf (Elt Ideal) ℓ) (ρ : Dev nD → PrngReg) (c : Dev nD)

theorem V1_hn : V1 m ρ c main_v12 = hnH (m ((c : Thread nD τ).loc main_arg0)) (m ((c : Thread nD τ).loc main_arg1)) := by
  unfold_abbrev_sides
  after_results
  rfl

theorem V1_w1 : V1 m ρ c main_v15 = w1H (m ((c : Thread nD τ).loc main_arg2)) := by
  unfold_abbrev_sides
  after_results
  rfl

theorem V1_w2 : V1 m ρ c main_v16 = w2H (m ((c : Thread nD τ).loc main_arg2)) := by
  unfold_abbrev_sides
  after_results
  rfl

theorem V1_w3 : V1 m ρ c main_v19 = w3H (m ((c : Thread nD τ).loc main_arg2)) := by
  unfold_abbrev_sides
  after_results
  rfl

theorem V1_dt : V1 m ρ c main_v21 = dtH (m ((c : Thread nD τ).loc main_arg5)) := by
  unfold_abbrev_sides
  after_results
  rfl

/-- The reciprocal root mean square of a row. -/
theorem rsqrt_row (d : Data) (t : ℕ) : Ideal.rsqrt (Ideal.div (∑ c : Fin 1024, d.H t c * d.H t c) (Ideal.ofBits .f32 (1149239296#32))
      + Ideal.ofBits .f32 (925353388#32)) = d.inv t := by
  rw [ofBits_1024, ofBits_eps]; rfl

variable {d : Data} {h : S4096x1024.Idx → EReal} {g : S1x1024.Idx → EReal} {w : S1024x5152.Idx → EReal} {ddt : S4096x32.Idx → EReal}

theorem hnH_eq (hh : ∀ r c, h (ix2 r c) = d.H (r : Fin 4096) (c : Fin 1024)) (hg : ∀ c, g (ix2 0 c) = d.G (c : Fin 1024))
    (r : Fin 4096) (c : Fin 1024) : hnH h g (ix2 r c) = d.hn r c := by
  pointwise [hnH]
  simp only [hh, hg, Ideal.ofBits_zero_f32, zero_add]
  rw [rsqrt_row d]
  rfl

section weight

variable (hw : ∀ r c, w (ix2 r c) = d.W (r : Fin 1024) (c : Fin 5152))
include hw

theorem wH_eq (k : Fin 5152) (c : Fin 1024) : wH w (ix2 k c) = d.W c k := by
  pointwise [wH]
  exact hw _ _

theorem w1H_eq (k : Fin 2048) (c : Fin 1024) : w1H w (ix2 k c) = d.W c k := by
  pointwise [w1H]
  refine (wH_eq hw _ _).trans ?_
  simp

theorem w2H_eq (k : Fin 3072) (c : Fin 1024) : w2H w (ix2 k c) = d.W c (2048 + k) := by
  pointwise [w2H]
  refine (wH_eq hw _ _).trans ?_
  simp

theorem w3H_eq (k : Fin 128) (c : Fin 1024) : w3H w (ix2 k c) = d.W3 k c := by
  pointwise [w3H]
  unfold Data.W3
  by_cases h : k.val < 32
  · rw [dif_pos (by omega), if_pos h]
    refine (wH_eq hw _ _).trans ?_
    simp
  · rw [dif_neg (by omega), if_neg h]

end weight

theorem dtH_eq (hdt : ∀ r c, ddt (ix2 r c) = d.C (r : Fin 4096) (5120 + (c : Fin 32))) (r : Fin 4096) (k : Fin 128) : dtH ddt (ix2 r k) = d.C3 r k := by
  pointwise [dtH]
  unfold Data.C3
  by_cases h : k.val < 32
  · rw [dif_pos (by omega), if_pos h]
    exact hdt _ _
  · rw [dif_neg (by omega), if_neg h]

end Cert.InProj

end
-- ==== Proof.MidFwd.lean ====
/- The middle columns of the input projection, forward, with the normalization in front of it: what their kernel ends with, in the model. -/
module

public import proofs.«01_k».proof.Proof.MidRun
public import proofs.«01_k».proof.Proof.UpFwd
public import proofs.«01_k».proof.Proof.InProjHost
public import Idealize.ShloMosaic.Lib.Pipeline.Value

@[expose] public section

set_option maxRecDepth 16384

noncomputable section

namespace Cert.MidFwd

open Idealize.ShloMosaic Idealize.ShloMosaic.TcCoe Idealize.ShloMosaic.Tactic
open Idealize.SL.Sem
open Cert.MlpBwd (ofMat ofMat_eq rsqrt_row)
open Cert.Kernel11Ideal Cert.Kernel11Ideal.Gen Cert.Kernel11Ideal.Held

/-- The arguments as functions of row and column numbers: the input `H`, the gain `G` and the projection's weight `W`. -/
structure Data where
  H : ℕ → ℕ → EReal
  G : ℕ → EReal
  W : ℕ → ℕ → EReal

/-- The normalization and the product by the middle columns are those of the MLP sub-layer, whose first weight is these columns. -/
def Data.up (d : Data) : MlpBwd.Data := ⟨d.H, d.G, fun c k => d.W c (2048 + k), fun _ _ => 0, fun _ _ => 0⟩
/-- The weight among the numbers of the projection's gradient, whose kernel prepares it the same way. -/
def Data.wide (d : Data) : InProj.Data := ⟨d.H, d.G, d.W, fun _ _ => 0, fun _ _ => 0⟩

/-- The arguments' entries are the model's numbers. -/
structure Fits (d : Data) (x0 : S4096x1024.Idx → EReal) (x1 : S1x1024.Idx → EReal) (x2 : S1024x5152.Idx → EReal) : Prop where
  h : ∀ r c, x0 (ix2 r c) = d.H (r : Fin 4096) (c : Fin 1024)
  g : ∀ c, x1 (ix2 0 c) = d.G (c : Fin 1024)
  w : ∀ r c, x2 (ix2 r c) = d.W (r : Fin 1024) (c : Fin 5152)

/-- The model's numbers of given arguments. -/
def ofArgs (x0 : S4096x1024.Idx → EReal) (x1 : S1x1024.Idx → EReal) (x2 : S1024x5152.Idx → EReal) : Data := ⟨ofMat x0, ofMat x1 0, ofMat x2⟩

theorem fits_ofArgs {x0 : S4096x1024.Idx → EReal} {x1 : S1x1024.Idx → EReal} {x2 : S1024x5152.Idx → EReal} : Fits (ofArgs x0 x1 x2) x0 x1 x2 :=
  ⟨ofMat_eq x0, ofMat_eq x1 0, ofMat_eq x2⟩

/-- The product, as an array. -/
def resU (d : Data) : S4096x3072.Idx → EReal := fun y => d.up.U (y 0).val (y 1).val
/-- The normalized input, as an array. -/
def resN (d : Data) : S4096x1024.Idx → EReal := fun y => d.up.hn (y 0).val (y 1).val

variable (d : Data)

theorem pay_nrm {a : ℕ} {x0 : Vec Ideal S2048x1024 .f32} {x2 : Vec Ideal S1x1024 .f32}
    (h0 : ∀ r c, x0 (ix2 r c) = d.H (2048 * a + (r : Fin 2048)) (c : Fin 1024)) (h2 : ∀ c, x2 (ix2 0 c) = d.G (c : Fin 1024)) (r : Fin 2048) (c : Fin 1024) :
    nrm (F := Ideal) x0 x2 (ix2 r c) = d.up.hn (2048 * a + r) c :=
  UpFwd.pay_nrm d.up h0 h2 r c

theorem pay_prod {a b : ℕ} {x0 : Vec Ideal S2048x1024 .f32} {x1 : Vec Ideal S1024x1024 .bf16} {x2 : Vec Ideal S1x1024 .f32}
    (h0 : ∀ r c, x0 (ix2 r c) = d.H (2048 * a + (r : Fin 2048)) (c : Fin 1024)) (h1 : ∀ r c, x1 (ix2 r c) = d.W (c : Fin 1024) (2048 + (1024 * b + (r : Fin 1024))))
    (h2 : ∀ c, x2 (ix2 0 c) = d.G (c : Fin 1024)) (r : Fin 2048) (c : Fin 1024) :
    prod (F := Ideal) x0 x1 x2 (ix2 r c) = d.up.U (2048 * a + r) (1024 * b + c) := by
  have e : ∀ r c, nrm (F := Ideal) x0 x2 (ix2 r c) = d.up.hn (2048 * a + r) c := pay_nrm d h0 h2
  unfold prod
  generalize nrm (F := Ideal) x0 x2 = y at e
  pointwise [k0_pay2]
  simp only [e, h1]
  rfl

theorem idx0 : ∀ t : Fin grid0.N, win0_0.index t = ![t.val / 3, 0] := by decide +kernel
theorem idx1 : ∀ t : Fin grid0.N, win0_1.index t = ![t.val % 3, 0] := by decide +kernel
theorem idx2 : ∀ t : Fin grid0.N, win0_2.index t = ![0, 0] := by decide +kernel
theorem idx3 : ∀ t : Fin grid0.N, win0_3.index t = ![t.val / 3, t.val % 3] := by decide +kernel
theorem idx4 : ∀ t : Fin grid0.N, win0_4.index t = ![t.val / 3, 0] := by decide +kernel

variable (m : (ℓ : Loc nD τ sig) → Buf (Elt Ideal) ℓ) (c : Dev nD)

theorem V_w : V m c main_v2 = InProj.w2H (m ((c : Thread nD τ).loc main_arg2)) := by
  unfold_abbrev_sides
  after_results
  rfl

variable (hd : Fits d (m ((c : Thread nD τ).loc main_arg0)) (m ((c : Thread nD τ).loc main_arg1)) (m ((c : Thread nD τ).loc main_arg2)))
variable (t : Fin cfg0.N)

include hd

theorem iblk_h (r : Fin 2048) (k : Fin 1024) : iblk m c 0 t (ix2 r k) = d.H (2048 * (t.val / 3) + r) k := by
  unfold iblk
  rw [View.read_apply]
  have hN : t.val < 6 := t.isLt
  refine (congrFun (V_arg m c main_arg0 (by decide) (by decide) (by decide)) _).trans (.trans (congrArg _ ?_) (hd.h ⟨2048 * (t.val / 3) + r, by omega⟩ k))
  funext a
  apply Fin.ext
  match a with
  | ⟨0, _⟩ => show win0_0.index t 0 * 2048 + 1 * r.val = _; rw [idx0]; simp; omega
  | ⟨1, _⟩ => show win0_0.index t 1 * 1024 + 1 * k.val = _; rw [idx0]; simp

theorem iblk_w (r k : Fin 1024) : iblk m c 1 t (ix2 r k) = d.W k (2048 + (1024 * (t.val % 3) + r)) := by
  unfold iblk
  rw [View.read_apply]
  refine (congrFun (V_w m c) _).trans (.trans (congrArg (InProj.w2H (m ((c : Thread nD τ).loc main_arg2))) ?_)
    (InProj.w2H_eq (d := d.wide) hd.w ⟨1024 * (t.val % 3) + r, by omega⟩ k))
  funext a
  apply Fin.ext
  match a with
  | ⟨0, _⟩ => show win0_1.index t 0 * 1024 + 1 * r.val = _; rw [idx1]; simp; omega
  | ⟨1, _⟩ => show win0_1.index t 1 * 1024 + 1 * k.val = _; rw [idx1]; simp

theorem iblk_g (k : Fin 1024) : iblk m c 2 t (ix2 0 k) = d.G k := by
  unfold iblk
  rw [View.read_apply]
  refine (congrFun (V_arg m c main_arg1 (by decide) (by decide) (by decide)) _).trans (.trans (congrArg _ ?_) (hd.g k))
  funext a
  apply Fin.ext
  match a with
  | ⟨0, _⟩ => show win0_2.index t 0 * 1 + 1 * (0 : ℕ) = _; rw [idx2]; simp
  | ⟨1, _⟩ => show win0_2.index t 1 * 1024 + 1 * k.val = _; rw [idx2]; simp

/-- The product the kernel ends with, -/
theorem final_u : (dats m 0 c).arrAt 3 cfg0.N = resU d := by
  refine (dats m 0 c).arrAt_eq_of_cover 3 (resU d) (fun t _ => ?_) fun (i : S4096x3072.Idx) => ?_
  · have hN : t.val < 6 := t.isLt
    show (cfg0.win 3).cut (grid0.coords t) ((dats m 0 c).after 3 t) = _
    rw [after3]
    funext y
    rw [View.read_apply]
    refine (congrArg (prod (iblk m c 0 t) (iblk m c 1 t) (iblk m c 2 t)) (?_ : _ = ix2 (y 0) (y 1))).trans
      ((pay_prod d (iblk_h d m c hd t) (iblk_w d m c hd t) (iblk_g d m c hd t) (y 0) (y 1)).trans ?_)
    · funext a
      match a with
      | ⟨0, _⟩ => rfl
      | ⟨1, _⟩ => rfl
    · refine congrArg₂ d.up.U ?_ ?_
      · show _ = win0_3.index t 0 * 2048 + 1 * (y 0).val
        rw [idx3]; simp; omega
      · show _ = win0_3.index t 1 * 1024 + 1 * (y 1).val
        rw [idx3]; simp; omega
  · have h0 : (i 0).val < 4096 := (i 0).isLt
    have h1 : (i 1).val < 3072 := (i 1).isLt
    obtain ⟨u, hu⟩ : ∃ u : Fin grid0.N, u.val = 3 * ((i 0).val / 2048) + (i 1).val / 1024 := ⟨⟨3 * ((i 0).val / 2048) + (i 1).val / 1024, by show _ < 6; omega⟩, rfl⟩
    refine ⟨u, flush0_3 _, ?_⟩
    show i ∈ ((View.whole main_v3_0).slice (win0_3.rect u)).set
    rw [View.set_slice_whole, Rect.mem_set_unit]
    intro a
    match a with
    | ⟨0, _⟩ => show win0_3.index _ 0 * 2048 ≤ (i 0).val ∧ (i 0).val < win0_3.index _ 0 * 2048 + 2048; rw [idx3, hu]; simp; omega
    | ⟨1, _⟩ => show win0_3.index _ 1 * 1024 ≤ (i 1).val ∧ (i 1).val < win0_3.index _ 1 * 1024 + 1024; rw [idx3, hu]; simp; omega

/-- and the normalized input: the last point of each row of blocks writes it. -/
theorem final_n : (dats m 0 c).arrAt 4 cfg0.N = resN d := by
  refine (dats m 0 c).arrAt_eq_of_cover 4 (resN d) (fun t _ => ?_) fun (i : S4096x1024.Idx) => ?_
  · have hN : t.val < 6 := t.isLt
    show (cfg0.win 4).cut (grid0.coords t) ((dats m 0 c).after 4 t) = _
    rw [after4]
    funext y
    rw [View.read_apply]
    refine (congrArg (nrm (iblk m c 0 t) (iblk m c 2 t)) (?_ : _ = ix2 (y 0) (y 1))).trans
      ((pay_nrm d (iblk_h d m c hd t) (iblk_g d m c hd t) (y 0) (y 1)).trans ?_)
    · funext a
      match a with
      | ⟨0, _⟩ => rfl
      | ⟨1, _⟩ => rfl
    · refine congrArg₂ d.up.hn ?_ ?_
      · show _ = win0_4.index t 0 * 2048 + 1 * (y 0).val
        rw [idx4]; simp; omega
      · show _ = win0_4.index t 1 * 1024 + 1 * (y 1).val
        rw [idx4]; simp
  · have h0 : (i 0).val < 4096 := (i 0).isLt
    have h1 : (i 1).val < 1024 := (i 1).isLt
    obtain ⟨u, hu⟩ : ∃ u : Fin grid0.N, u.val = 3 * ((i 0).val / 2048) + 2 := ⟨⟨3 * ((i 0).val / 2048) + 2, by show _ < 6; omega⟩, rfl⟩
    refine ⟨u, (flush0_4 _).mpr (by omega), ?_⟩
    show i ∈ ((View.whole main_v3_1).slice (win0_4.rect u)).set
    rw [View.set_slice_whole, Rect.mem_set_unit]
    intro a
    match a with
    | ⟨0, _⟩ => show win0_4.index _ 0 * 2048 ≤ (i 0).val ∧ (i 0).val < win0_4.index _ 0 * 2048 + 2048; rw [idx4, hu]; simp; omega
    | ⟨1, _⟩ => show win0_4.index _ 1 * 1024 ≤ (i 1).val ∧ (i 1).val < win0_4.index _ 1 * 1024 + 1024; rw [idx4]; simp; omega

end Cert.MidFwd

end
-- ==== Proof.MidFwdRef.lean ====
/- The middle columns of the input projection, forward: the reference's results, in the model. -/
module

public import proofs.«01_k».proof.Proof.Gen.Reference11Ideal.Read
public import proofs.«01_k».proof.Proof.MidFwd
public import Idealize.ShloMosaic.Lib.Pointwise

@[expose] public section

set_option maxRecDepth 16384

noncomputable section

namespace Cert.MidFwd.Ref

open Idealize.ShloMosaic Idealize.ShloMosaic.TcCoe Idealize.ShloMosaic.Tactic
open Cert.Reference11Ideal Cert.Reference11Ideal.Gen Cert.Reference11Ideal.Read

variable {d : Data} {x0 : S4096x1024.Idx → EReal} {x1 : S1x1024.Idx → EReal} {x2 : S1024x5152.Idx → EReal}
variable (hd : Fits d x0 x1 x2)
include hd

/-- The reference normalizes as the operations before the gradient's kernels do. -/
theorem n_eq (r : Fin 4096) (c : Fin 1024) : val_main_v15 (F := Ideal) x0 x1 (ix2 r c) = d.up.hn r c :=
  MlpBwd.hmH_eq (d := d.up) hd.h hd.g r c

theorem u_eq (r : Fin 4096) (k : Fin 3072) : val_main_v14 (F := Ideal) x0 x1 x2 (ix2 r k) = d.up.U r k := by
  have e : ∀ r c, val_main_v11 (F := Ideal) x0 x1 (ix2 r c) = d.up.hn r c := n_eq hd
  pointwise [val_main_v14, val_main_v13, val_main_v12]
  simp only [e, hd.w]
  rfl

theorem n_arr : val_main_v15 (F := Ideal) x0 x1 = resN d := by
  funext y
  have e : y = ix2 (y 0 : Fin 4096) (y 1 : Fin 1024) := funext fun a => match a with | ⟨0, _⟩ => rfl | ⟨1, _⟩ => rfl
  exact (congrArg _ e).trans (n_eq hd (y 0) (y 1))

theorem u_arr : val_main_v14 (F := Ideal) x0 x1 x2 = resU d := by
  funext y
  have e : y = ix2 (y 0 : Fin 4096) (y 1 : Fin 3072) := funext fun a => match a with | ⟨0, _⟩ => rfl | ⟨1, _⟩ => rfl
  exact (congrArg _ e).trans (u_eq hd (y 0) (y 1))

end Cert.MidFwd.Ref

end
-- ==== Proof.KernelRead.lean ====
/- What one grid point of the gradient kernel leaves in its three outputs and its carried scratch, in the model. -/
module

public import proofs.«01_k».proof.Proof.Gen.KernelIdeal.Value
public import proofs.«01_k».proof.Proof.KernelPay
public import Idealize.ShloMosaic.Lib.Pipeline.ReadBack
public import Idealize.ShloMosaic.Lib.WritesUnit

@[expose] public section

set_option maxRecDepth 16384

noncomputable section

namespace Cert.PoolBwd

open Idealize.ShloMosaic Idealize.ShloMosaic.TcCoe Idealize.ShloMosaic.Tactic
open Idealize.SL.Sem
open Cert.KernelIdeal Cert.KernelIdeal.Gen

theorem zeros2 : (![0, 0] : Fin 2 → Nat) = fun _ => 0 := funext fun a => by fin_cases a <;> rfl

section reading

variable {Val : EltTy → Type} {e : EltTy} {sp : Space} {κ : Kind} {sg : RefSig}

/-- A load of a rectangle, at an index. -/
theorem ld2 {N M n m a b : ℕ} (X : (⟨2, ![N, M]⟩ : Shape).Idx → Val e) (inb : ∀ x, (![a, b] : Fin 2 → ℕ) x + (![n, m] : Fin 2 → ℕ) x ≤ (⟨2, ![N, M]⟩ : Shape).size x)
    (r : Fin n) (c : Fin m) (hr : a + r < N) (hc : b + c < M) :
    View.ld X (Rect.unit (s := ⟨2, ![N, M]⟩) ![a, b] ![n, m] inb) (ix2 r c) = X (ix2 ⟨a + r, hr⟩ ⟨b + c, hc⟩) := by
  refine congrArg X (funext fun x => Fin.ext ?_)
  match x with
  | ⟨0, _⟩ => show a + 1 * r.val = a + r.val; omega
  | ⟨1, _⟩ => show b + 1 * c.val = b + c.val; omega

/-- A load of a box, at an index. -/
theorem ld3 {N M K n m k a b d : ℕ} (X : (⟨3, ![N, M, K]⟩ : Shape).Idx → Val e)
    (inb : ∀ x, (![a, b, d] : Fin 3 → ℕ) x + (![n, m, k] : Fin 3 → ℕ) x ≤ (⟨3, ![N, M, K]⟩ : Shape).size x)
    (r : Fin n) (c : Fin m) (q : Fin k) (hr : a + r < N) (hc : b + c < M) (hq : d + q < K) :
    View.ld X (Rect.unit (s := ⟨3, ![N, M, K]⟩) ![a, b, d] ![n, m, k] inb) (ix3 r c q) = X (ix3 ⟨a + r, hr⟩ ⟨b + c, hc⟩ ⟨d + q, hq⟩) := by
  refine congrArg X (funext fun x => Fin.ext ?_)
  match x with
  | ⟨0, _⟩ => show a + 1 * r.val = a + r.val; omega
  | ⟨1, _⟩ => show b + 1 * c.val = b + c.val; omega
  | ⟨2, _⟩ => show d + 1 * q.val = d + q.val; omega

variable [∀ e, Nonempty (Val e)]

/-- A store the index lies outside of is skipped. -/
theorem skip2 {N M n m a b : ℕ} (v : View sg κ sp ⟨2, ![N, M]⟩ e) (f : v.ty.Contents Val)
    (inb : ∀ x, (![a, b] : Fin 2 → ℕ) x + (![n, m] : Fin 2 → ℕ) x ≤ (⟨2, ![N, M]⟩ : Shape).size x)
    (w : (Rect.unit (s := ⟨2, ![N, M]⟩) ![a, b] ![n, m] inb).shape.Idx → Val e) (L : List (View.Piece Val (⟨2, ![N, M]⟩ : Shape) e)) (r : Fin N) (c : Fin M)
    (h : (r.val < a ∨ a + n ≤ r.val) ∨ (c.val < b ∨ b + m ≤ c.val)) :
    v.read Val (v.writes Val f ((⟨Rect.unit ![a, b] ![n, m] inb, w⟩ : View.Piece Val ⟨2, ![N, M]⟩ e) :: L)) (ix2 r c) = v.read Val (v.writes Val f L) (ix2 r c) := by
  rcases h with h | h
  · exact View.read_writes_cons_unit_of_not_mem v f inb w L (ix2 r c) rfl 0 h
  · exact View.read_writes_cons_unit_of_not_mem v f inb w L (ix2 r c) rfl 1 h

/-- A store the index lies in is read. -/
theorem hit2 {N M n m a b : ℕ} (v : View sg κ sp ⟨2, ![N, M]⟩ e) (f : v.ty.Contents Val)
    (inb : ∀ x, (![a, b] : Fin 2 → ℕ) x + (![n, m] : Fin 2 → ℕ) x ≤ (⟨2, ![N, M]⟩ : Shape).size x)
    (w : (Rect.unit (s := ⟨2, ![N, M]⟩) ![a, b] ![n, m] inb).shape.Idx → Val e) (L : List (View.Piece Val (⟨2, ![N, M]⟩ : Shape) e)) (r : Fin N) (c : Fin M)
    (x : Fin n) (y : Fin m) (hx : r.val = a + x.val) (hy : c.val = b + y.val) :
    v.read Val (v.writes Val f ((⟨Rect.unit ![a, b] ![n, m] inb, w⟩ : View.Piece Val ⟨2, ![N, M]⟩ e) :: L)) (ix2 r c) = w (ix2 x y) :=
  View.read_writes_cons_unit_of_mem v f inb w L (ix2 r c) (ix2 x y) rfl (Fin.forall_fin_two.mpr ⟨hx, hy⟩)

theorem skip3 {N M K n m k a b d : ℕ} (v : View sg κ sp ⟨3, ![N, M, K]⟩ e) (f : v.ty.Contents Val)
    (inb : ∀ x, (![a, b, d] : Fin 3 → ℕ) x + (![n, m, k] : Fin 3 → ℕ) x ≤ (⟨3, ![N, M, K]⟩ : Shape).size x)
    (w : (Rect.unit (s := ⟨3, ![N, M, K]⟩) ![a, b, d] ![n, m, k] inb).shape.Idx → Val e) (L : List (View.Piece Val (⟨3, ![N, M, K]⟩ : Shape) e))
    (r : Fin N) (c : Fin M) (q : Fin K) (h : r.val < a ∨ a + n ≤ r.val) :
    v.read Val (v.writes Val f ((⟨Rect.unit ![a, b, d] ![n, m, k] inb, w⟩ : View.Piece Val ⟨3, ![N, M, K]⟩ e) :: L)) (ix3 r c q) = v.read Val (v.writes Val f L) (ix3 r c q) :=
  View.read_writes_cons_unit_of_not_mem v f inb w L (ix3 r c q) rfl 0 h

theorem hit3 {N M K n m k a b d : ℕ} (v : View sg κ sp ⟨3, ![N, M, K]⟩ e) (f : v.ty.Contents Val)
    (inb : ∀ x, (![a, b, d] : Fin 3 → ℕ) x + (![n, m, k] : Fin 3 → ℕ) x ≤ (⟨3, ![N, M, K]⟩ : Shape).size x)
    (w : (Rect.unit (s := ⟨3, ![N, M, K]⟩) ![a, b, d] ![n, m, k] inb).shape.Idx → Val e) (L : List (View.Piece Val (⟨3, ![N, M, K]⟩ : Shape) e))
    (r : Fin N) (c : Fin M) (q : Fin K) (x : Fin n) (y : Fin m) (z : Fin k) (hx : r.val = a + x.val) (hy : c.val = b + y.val) (hz : q.val = d + z.val) :
    v.read Val (v.writes Val f ((⟨Rect.unit ![a, b, d] ![n, m, k] inb, w⟩ : View.Piece Val ⟨3, ![N, M, K]⟩ e) :: L)) (ix3 r c q) = w (ix3 x y z) :=
  View.read_writes_cons_unit_of_mem v f inb w L (ix3 r c q) (ix3 x y z) rfl (fun a' => by
    match a' with
    | ⟨0, _⟩ => exact hx
    | ⟨1, _⟩ => exact hy
    | ⟨2, _⟩ => exact hz)

end reading

/-- What the small gradients hold at row `r`, column `c`, over the rows from block `b` on: gain, bias, scale, then zeros. -/
def Data.small (d : Data) (b r c : ℕ) : EReal :=
  if r = 0 then ((d.accG b c : ℝ) : EReal) else if r = 1 then ((d.accB b c : ℝ) : EReal) else if r = 2 then d.accS b c else 0

theorem block_sum {M : Type*} [AddCommMonoid M] (f : ℕ → M) (b : ℕ) (hb : b < 8) :
    ∑ t ∈ Finset.Ico (512 * b) 4096, f t = (∑ t ∈ Finset.Ico (512 * (b + 1)) 4096, f t) + ∑ r : Fin 512, f (512 * b + r) := by
  rw [← Finset.sum_Ico_consecutive f (show 512 * b ≤ 512 * (b + 1) by omega) (by omega), add_comm, Finset.sum_Ico_eq_sum_range f (512 * b) (512 * (b + 1)),
    show 512 * (b + 1) - 512 * b = 512 by omega, Fin.sum_univ_eq_sum_range (fun r => f (512 * b + r)) 512]

variable (d : Data) {b : ℕ} (hb : b < 8)
variable {i : grid0.Coords} (hi : Scalar.subi 7#32 (BitVec.ofNat 32 (i 0).val) = BitVec.ofNat 32 b)
variable {x0 x6 : Vec Ideal S512x1024 .f32} {x1 : Vec Ideal S16x1024 .f32} {x2 x4 x5 : Vec Ideal S1x1024 .f32} {x3 : Vec Ideal S4x256x256 .bf16}
variable (h0 : ∀ r c, x0 (ix2 r c) = ((d.X (512 * b + (r : Fin 512)) (c : Fin 1024) : ℝ) : EReal))
variable (h1 : ∀ r c, x1 (ix2 r c) = ((d.X (512 * b - 16 + (r : Fin 16)) (c : Fin 1024) : ℝ) : EReal))
variable (h2 : ∀ c, x2 (ix2 0 c) = ((d.G (c : Fin 1024) : ℝ) : EReal))
variable (h3 : ∀ g j o, x3 (ix3 g j o) = ((d.W (g : Fin 4) (j : Fin 256) (o : Fin 256) : ℝ) : EReal))
variable (h4 : ∀ c, x4 (ix2 0 c) = d.B (c : Fin 1024))
variable (h5 : ∀ c, x5 (ix2 0 c) = ((d.S (c : Fin 1024) : ℝ) : EReal))
variable (h6 : ∀ r c, x6 (ix2 r c) = ((d.D (512 * b + (r : Fin 512)) (c : Fin 1024) : ℝ) : EReal))

include hb hi h0 h1 h2 in
theorem ext_eq (v : View sig .tc .vmem S528x1024 .f32) (f : v.ty.Contents (Elt Ideal)) (r : Fin 528) (c : Fin 1024) :
    v.read (Elt Ideal) (v.writes (Elt Ideal) f [⟨Rect.unit ![16, 0] ![512, 1024] inb_S528x1024_S512x1024_16_0, k0_pay10 (k0_pay8 x2 x0)⟩,
      ⟨Rect.unit ![0, 0] ![16, 1024] inb_S528x1024_S16x1024_0_0, k0_pay9 i x2 x1⟩]) (ix2 r c) = ((d.hs (512 * b + r) c : ℝ) : EReal) := by
  by_cases h : r.val < 16
  · refine (skip2 _ _ _ _ _ _ _ (by omega)).trans ((hit2 _ _ _ _ _ _ _ ⟨r, h⟩ c (by simp) (by simp)).trans ?_)
    exact pay9_eq d hb h1 h2 i hi _ _
  · refine (hit2 _ _ _ _ _ _ _ ⟨r - 16, by omega⟩ c (by simp; omega) (by simp)).trans ?_
    pointwise [k0_pay10]
    rw [pay8_eq d h0 h2, Data.hs, if_neg (by omega), show 512 * b + r.val - 16 = 512 * b + (r.val - 16) by omega]

include h3 in
theorem w_eq (g : ℕ) (hg : g < 4) (inb) (j o : Fin 256) : View.ld x3 (Rect.unit (s := S4x256x256) ![g, 0, 0] ![1, 256, 256] inb) (ix3 0 j o) = ((d.W g j o : ℝ) : EReal) := by
  refine (ld3 (Val := Elt Ideal) x3 inb 0 j o (by simpa using hg) (by omega) (by omega)).trans ((h3 _ _ _).trans ?_)
  simp

include h4 in
theorem b_eq (n : ℕ) (hn : n + 256 ≤ 1024) (inb) (o : Fin 256) : View.ld x4 (Rect.unit (s := S1x1024) ![0, n] ![1, 256] inb) (ix2 0 o) = d.B (n + o) :=
  (ld2 (Val := Elt Ideal) x4 inb 0 o (by simp) (by omega)).trans (h4 _)

include h5 in
theorem s_eq (n : ℕ) (hn : n + 256 ≤ 1024) (inb) (o : Fin 256) : View.ld x5 (Rect.unit (s := S1x1024) ![0, n] ![1, 256] inb) (ix2 0 o) = ((d.S (n + o) : ℝ) : EReal) :=
  (ld2 (Val := Elt Ideal) x5 inb 0 o (by simp) (by omega)).trans (h5 _)

/-- The gradient of the window sums, kept with its rows of the block after it: the block's rows, then the carried sixteen. -/
theorem dext_eq (v : View sig .tc .vmem S528x1024 .f32) (f : v.ty.Contents (Elt Ideal)) (g n : ℕ) (hg : g < 4) (hn : n = 256 * g) (inb inb')
    (w : S512x256.Idx → Elt Ideal .f32) (L : List (View.Piece (Elt Ideal) S528x1024 .f32))
    (hw : ∀ r c, w (ix2 r c) = ((d.dq g (512 * b + (r : Fin 512)) (c : Fin 256) : ℝ) : EReal))
    (ht : ∀ (r : Fin 528) (c : Fin 1024) (q : Fin 256), 512 ≤ r.val → c.val = n + q.val →
      v.read (Elt Ideal) (v.writes (Elt Ideal) f L) (ix2 r c) = ((d.dq g (512 * b + r) q : ℝ) : EReal)) (r : Fin 528) (c : Fin 256) :
    View.ld (v.read (Elt Ideal) (v.writes (Elt Ideal) f ((⟨Rect.unit (s := S528x1024) ![0, n] ![512, 256] inb, w⟩ : View.Piece (Elt Ideal) S528x1024 .f32) :: L)))
      (Rect.unit (s := S528x1024) ![0, n] ![528, 256] inb') (ix2 r c) = ((d.dq g (512 * b + r) c : ℝ) : EReal) := by
  refine (ld2 (Val := Elt Ideal) _ inb' r c (by omega) (by omega)).trans ?_
  by_cases h : r.val < 512
  · exact (hit2 _ _ _ _ _ _ _ ⟨r, h⟩ c (by simp) (by simp)).trans (hw _ _)
  · refine (skip2 _ _ _ _ _ _ _ (by left; right; simp; omega)).trans ((ht _ _ c (by simp; omega) (by simp)).trans ?_)
    simp

section
variable {s : Vec Ideal S1x256 .f32} {w : Vec Ideal S1x256x256 .bf16}
variable (hs : ∀ c, s (ix2 0 c) = ((d.S (0 + (c : Fin 256)) : ℝ) : EReal))
variable (hw : ∀ j c, w (ix3 0 j c) = ((d.W 0 (j : Fin 256) (c : Fin 256) : ℝ) : EReal))

include hb h6 hs hw in
theorem st0_eq (r : Fin 512) (c : Fin 256) : k0_pay28 (F := Ideal) (k0_pay27 (k0_pay17 (BitVec.ofNat 32 b)) (k0_pay20 x6) s w) (ix2 r c) = ((d.dq 0 (512 * b + r) c : ℝ) : EReal) := by
  pointwise [k0_pay28]
  exact dq0_eq d hb h6 hs hw r c

include hb h6 hs hw in
theorem lo0_eq (r : Fin 16) (c : Fin 256) : k0_pay30 (F := Ideal) (k0_pay27 (k0_pay17 (BitVec.ofNat 32 b)) (k0_pay20 x6) s w) (ix2 r c) = ((d.dq 0 (512 * b + r) c : ℝ) : EReal) := by
  pointwise [k0_pay30]
  exact dq0_eq d hb h6 hs hw _ c

end

section
variable {s : Vec Ideal S1x256 .f32} {w : Vec Ideal S1x256x256 .bf16}
variable (hs : ∀ c, s (ix2 0 c) = ((d.S (256 + (c : Fin 256)) : ℝ) : EReal))
variable (hw : ∀ j c, w (ix3 0 j c) = ((d.W 1 (j : Fin 256) (c : Fin 256) : ℝ) : EReal))

include hb h6 hs hw in
theorem st1_eq (r : Fin 512) (c : Fin 256) : k0_pay43 (F := Ideal) (k0_pay42 (k0_pay17 (BitVec.ofNat 32 b)) (k0_pay35 x6) s w) (ix2 r c) = ((d.dq 1 (512 * b + r) c : ℝ) : EReal) := by
  pointwise [k0_pay43]
  exact dq1_eq d hb h6 hs hw r c

include hb h6 hs hw in
theorem lo1_eq (r : Fin 16) (c : Fin 256) : k0_pay45 (F := Ideal) (k0_pay42 (k0_pay17 (BitVec.ofNat 32 b)) (k0_pay35 x6) s w) (ix2 r c) = ((d.dq 1 (512 * b + r) c : ℝ) : EReal) := by
  pointwise [k0_pay45]
  exact dq1_eq d hb h6 hs hw _ c

end

section
variable {s : Vec Ideal S1x256 .f32} {w : Vec Ideal S1x256x256 .bf16}
variable (hs : ∀ c, s (ix2 0 c) = ((d.S (512 + (c : Fin 256)) : ℝ) : EReal))
variable (hw : ∀ j c, w (ix3 0 j c) = ((d.W 2 (j : Fin 256) (c : Fin 256) : ℝ) : EReal))

include hb h6 hs hw in
theorem st2_eq (r : Fin 512) (c : Fin 256) : k0_pay59 (F := Ideal) (k0_pay56 x6 s w) (k0_pay57 (k0_pay17 (BitVec.ofNat 32 b))) (ix2 r c) = ((d.dq 2 (512 * b + r) c : ℝ) : EReal) := by
  pointwise [k0_pay59]
  exact dq2_eq d hb h6 hs hw r c

include hb h6 hs hw in
theorem lo2_eq (r : Fin 16) (c : Fin 256) : k0_pay61 (F := Ideal) (k0_pay56 x6 s w) (k0_pay57 (k0_pay17 (BitVec.ofNat 32 b))) (ix2 r c) = ((d.dq 2 (512 * b + r) c : ℝ) : EReal) := by
  pointwise [k0_pay61]
  exact dq2_eq d hb h6 hs hw _ c

end

section
variable {s : Vec Ideal S1x256 .f32} {w : Vec Ideal S1x256x256 .bf16}
variable (hs : ∀ c, s (ix2 0 c) = ((d.S (768 + (c : Fin 256)) : ℝ) : EReal))
variable (hw : ∀ j c, w (ix3 0 j c) = ((d.W 3 (j : Fin 256) (c : Fin 256) : ℝ) : EReal))

include hb h6 hs hw in
theorem st3_eq (r : Fin 512) (c : Fin 256) : k0_pay74 (F := Ideal) (k0_pay17 (BitVec.ofNat 32 b)) (k0_pay72 x6 s w) (ix2 r c) = ((d.dq 3 (512 * b + r) c : ℝ) : EReal) := by
  pointwise [k0_pay74]
  exact dq3_eq d hb h6 hs hw r c

include hb h6 hs hw in
theorem lo3_eq (r : Fin 16) (c : Fin 256) : k0_pay76 (F := Ideal) (k0_pay17 (BitVec.ofNat 32 b)) (k0_pay72 x6 s w) (ix2 r c) = ((d.dq 3 (512 * b + r) c : ℝ) : EReal) := by
  pointwise [k0_pay76]
  exact dq3_eq d hb h6 hs hw _ c

end

include hb in
/-- One block's rows added to the gain gradient. -/
theorem small0 (col : Fin 1024) (g q : ℕ) (hg : col.val / 256 = g) (hq : col.val % 256 = q) (r : ℕ) (hr : r = 0) :
    d.small (b + 1) 0 col + ((∑ r : Fin 512, d.dhn g (512 * b + r) q * d.xh (512 * b + r) col : ℝ) : EReal) = d.small b r col := by
  subst hr
  simp only [Data.small, if_true, Data.accG, hg, hq]
  rw [← EReal.coe_add, block_sum _ b hb]

include hb in
theorem small1 (col : Fin 1024) (g q : ℕ) (hg : col.val / 256 = g) (hq : col.val % 256 = q) (r : ℕ) (hr : r = 1) :
    d.small (b + 1) 1 col + ((∑ r : Fin 512, d.dpre g (512 * b + r) q : ℝ) : EReal) = d.small b r col := by
  subst hr
  simp only [Data.small, one_ne_zero, if_false, if_true, Data.accB, hg, hq]
  rw [← EReal.coe_add, block_sum _ b hb]

include hb in
theorem small2 (col : Fin 1024) (g q : ℕ) (hg : col.val / 256 = g) (hq : col.val % 256 = q) (r : ℕ) (hr : r = 2) :
    d.small (b + 1) 2 col + (∑ r : Fin 512, ((d.D (512 * b + r) col : ℝ) : EReal) * d.pre g (512 * b + r) q) = d.small b r col := by
  subst hr
  simp only [Data.small, OfNat.ofNat_ne_zero, OfNat.ofNat_ne_one, if_false, if_true, Data.accS, hg, hq]
  rw [block_sum _ b hb]

end Cert.PoolBwd

end
-- ==== Proof.NormGrad.lean ====
/- The gradient of the root-mean-square normalization of a row, on the extended reals: the kernels' projection form and the reference's form, which
   differentiates the reciprocal root, are the same for every row, finite or not. -/
module

public import proofs.«01_k».proof.Proof.KernelPay

@[expose] public section

noncomputable section

namespace Cert.MlpBwd

open Idealize.ShloMosaic
open Cert.PoolBwd (eps eps_pos coe_sum div_real rsqrt_pos)

theorem twice (y : EReal) : y + y = y * ((2 : ℝ) : EReal) := by
  rw [show ((2 : ℝ) : EReal) = 1 + 1 by rw [← EReal.coe_one, ← EReal.coe_add]; norm_num,
    EReal.left_distrib_of_nonneg zero_le_one zero_le_one, mul_one]

/-- A nonnegative real factor passes through a sum. -/
theorem sum_mul_real {N : ℕ} (f : Fin N → EReal) (x : ℝ) (hx : 0 ≤ x) : (∑ c, f c) * (x : EReal) = ∑ c, f c * (x : EReal) := by
  induction N with
  | zero => simp
  | succ N ih => rw [Fin.sum_univ_castSucc, Fin.sum_univ_castSucc, ← ih,
      EReal.right_distrib_of_nonneg_of_ne_top (EReal.coe_nonneg.mpr hx) (EReal.coe_ne_top x)]

/-- Every row whose squares have a real sum is a row of reals. -/
theorem row_real {N : ℕ} (h : Fin N → EReal) (hs : ∑ c, h c * h c ≠ ⊤) (c : Fin N) : ((h c).toReal : EReal) = h c := by
  have h0 : ∀ c, 0 ≤ h c * h c := fun c => by
    induction h c using EReal.rec with
    | bot => simp
    | coe x => rw [← EReal.coe_mul]; exact EReal.coe_nonneg.mpr (mul_self_nonneg x)
    | top => simp
  have hc : h c * h c ≠ ⊤ := fun e => hs (top_le_iff.mp (e ▸ Finset.single_le_sum (f := fun c => h c * h c) (fun c _ => h0 c) (Finset.mem_univ c)))
  revert hc
  induction h c using EReal.rec with
  | bot => simp
  | coe x => intro; simp
  | top => simp

/-- The reciprocal root over its argument is its cube. -/
theorem inv_cube (m : ℝ) (hm : 0 < m) : (Real.sqrt m)⁻¹ / m = (Real.sqrt m)⁻¹ * (Real.sqrt m)⁻¹ * (Real.sqrt m)⁻¹ := by
  have h := Real.mul_self_sqrt hm.le
  have hp := Real.sqrt_pos.mpr hm
  rw [div_eq_iff hm.ne']
  generalize Real.sqrt m = s at h hp
  rw [← h]
  field_simp

/-- The reciprocal root mean square of a row of 1024. -/
abbrev rowInv (h : Fin 1024 → EReal) : EReal := Ideal.rsqrt (Ideal.div (∑ c, h c * h c) (1024 : ℝ) + (eps : EReal))

variable {N : ℕ} (n : ℝ) (hn : 0 < n) (h g : Fin N → EReal)

/-- The reciprocal root of a row's sum of squares over `n`. -/
abbrev rowInvOf : EReal := Ideal.rsqrt (Ideal.div (∑ c, h c * h c) (n : EReal) + (eps : EReal))

include hn

/-- The two forms of the normalization's gradient. -/
theorem norm_grad_real (y : Fin N → ℝ) (c : Fin N) (hy : ∀ c, h c = (y c : EReal)) (m : ℝ) (hm : 0 < m) (s : EReal) (hs : s = ∑ c, h c * g c) :
    g c * ((Real.sqrt m)⁻¹ : ℝ) + (h c * Ideal.div (s * (((-(1 / 2) : ℝ) : EReal) * Ideal.div ((Real.sqrt m)⁻¹ : ℝ) (m : EReal))) (n : EReal)
        + Ideal.div (s * (((-(1 / 2) : ℝ) : EReal) * Ideal.div ((Real.sqrt m)⁻¹ : ℝ) (m : EReal))) (n : EReal) * h c)
      = ((Real.sqrt m)⁻¹ : ℝ) * (g c - h c * ((Real.sqrt m)⁻¹ : ℝ) * Ideal.div (∑ c, g c * (h c * ((Real.sqrt m)⁻¹ : ℝ))) (n : EReal)) := by
  have hv : 0 ≤ (Real.sqrt m)⁻¹ := inv_nonneg.mpr (Real.sqrt_nonneg m)
  rw [div_real _ _ hm.ne', inv_cube m hm]
  generalize (Real.sqrt m)⁻¹ = v at hv
  have hp : ∑ c, g c * (h c * (v : EReal)) = s * (v : EReal) := by
    rw [hs, sum_mul_real _ _ hv]
    exact Finset.sum_congr rfl fun c _ => by rw [← mul_assoc, mul_comm (g c)]
  rw [hp, Ideal.div_coe hn.ne', Ideal.div_coe hn.ne', hy c, sub_eq_add_neg,
    EReal.left_distrib_of_nonneg_of_ne_top (EReal.coe_nonneg.mpr hv) (EReal.coe_ne_top v), mul_comm (g c), mul_comm (y c : EReal), twice]
  congr 1
  have hl : s * (((-(1 / 2) : ℝ) : EReal) * ((v * v * v : ℝ) : EReal)) * ((1 / n : ℝ) : EReal) * (y c : EReal) * ((2 : ℝ) : EReal)
      = s * ((y c : EReal) * (((-(1 / 2) : ℝ) : EReal) * ((v * v * v : ℝ) : EReal) * ((1 / n : ℝ) : EReal)) * ((2 : ℝ) : EReal)) := by ac_rfl
  have hr : (v : EReal) * ((y c : EReal) * (v : EReal) * (s * (v : EReal) * ((1 / n : ℝ) : EReal)))
      = s * ((v : EReal) * ((y c : EReal) * (v : EReal) * ((v : EReal) * ((1 / n : ℝ) : EReal)))) := by ac_rfl
  rw [hl, mul_neg, hr, ← mul_neg]
  simp only [← EReal.coe_mul, ← EReal.coe_neg]
  congr 2
  ring

theorem norm_grad_of (c : Fin N) : g c * rowInvOf n h
    + (h c * Ideal.div ((∑ c, h c * g c) * (((-(1 / 2) : ℝ) : EReal) * Ideal.div (rowInvOf n h) (Ideal.div (∑ c, h c * h c) (n : EReal) + (eps : EReal)))) (n : EReal)
      + Ideal.div ((∑ c, h c * g c) * (((-(1 / 2) : ℝ) : EReal) * Ideal.div (rowInvOf n h) (Ideal.div (∑ c, h c * h c) (n : EReal) + (eps : EReal)))) (n : EReal) * h c)
      = rowInvOf n h * (g c - h c * rowInvOf n h * Ideal.div (∑ c, g c * (h c * rowInvOf n h)) (n : EReal)) := by
  unfold rowInvOf
  by_cases ht : ∑ c, h c * h c = ⊤
  · rw [ht]
    have e : Ideal.div ⊤ (n : EReal) + (eps : EReal) = ⊤ := by
      rw [Ideal.div_coe hn.ne', EReal.top_mul_coe_of_pos (by positivity), EReal.top_add_coe]
    have z : ∀ y : EReal, Ideal.div 0 y = 0 ∨ y = 0 := fun y => by
      by_cases hy : y = 0
      · exact Or.inr hy
      · left; rw [Ideal.div, if_neg hy, zero_mul]
    have z1 : Ideal.div 0 ⊤ = 0 := (z ⊤).resolve_right (by simp)
    have z2 : Ideal.div 0 (n : EReal) = 0 := (z _).resolve_right (EReal.coe_ne_zero.mpr hn.ne')
    simp only [e, Ideal.rsqrt_top, mul_zero, zero_mul, z1, z2, add_zero]
  · have hy := row_real h ht
    have hm : Ideal.div (∑ c, h c * h c) (n : EReal) + (eps : EReal) = (((∑ c, (h c).toReal * (h c).toReal) / n + eps : ℝ) : EReal) := by
      rw [EReal.coe_add, ← div_real _ _ hn.ne', coe_sum]
      simp only [EReal.coe_mul, hy]
    have hp : 0 < (∑ c, (h c).toReal * (h c).toReal) / n + eps :=
      add_pos_of_nonneg_of_pos (div_nonneg (Finset.sum_nonneg fun _ _ => mul_self_nonneg _) hn.le) eps_pos
    rw [hm, rsqrt_pos _ hp]
    exact norm_grad_real n hn h g (fun c => (h c).toReal) c (fun c => (hy c).symm) _ hp _ rfl

omit hn in
theorem norm_grad (h g : Fin 1024 → EReal) (c : Fin 1024) : g c * rowInv h
    + (h c * Ideal.div ((∑ c, h c * g c) * (((-(1 / 2) : ℝ) : EReal) * Ideal.div (rowInv h) (Ideal.div (∑ c, h c * h c) (1024 : ℝ) + (eps : EReal)))) (1024 : ℝ)
      + Ideal.div ((∑ c, h c * g c) * (((-(1 / 2) : ℝ) : EReal) * Ideal.div (rowInv h) (Ideal.div (∑ c, h c * h c) (1024 : ℝ) + (eps : EReal)))) (1024 : ℝ) * h c)
      = rowInv h * (g c - h c * rowInv h * Ideal.div (∑ c, g c * (h c * rowInv h)) (1024 : ℝ)) :=
  norm_grad_of 1024 (by norm_num) h g c

end Cert.MlpBwd

end
-- ==== Proof.Gate.lean ====
/- The gradient of the gated and grouped normalization `rms_norm(y * silu(z)) * g`: its model, on the extended reals, and what each value its kernel computes
   for a group of 512 columns is in the model. -/
module

public import proofs.«01_k».proof.Proof.Gen.Kernel5Ideal.Skeleton
public import proofs.«01_k».proof.Proof.KernelRead
public import proofs.«01_k».proof.Proof.MlpArgs
public import proofs.«01_k».proof.Proof.NormGrad

@[expose] public section

set_option maxRecDepth 16384

noncomputable section

namespace Cert.Gate

open Idealize.ShloMosaic Idealize.ShloMosaic.TcCoe Idealize.ShloMosaic.Tactic
open Idealize.SL.Sem
open Cert.PoolBwd (eps ofBits_eps)
open Cert.MlpBwd (ofMat ofMat_eq rowInvOf)
open Cert.Kernel5Ideal Cert.Kernel5Ideal.Gen

/-- The width of a group, a word of the kernel. -/
theorem ofBits_512 : Ideal.ofBits .f32 (1140850688#32) = ((512 : ℝ) : EReal) := by
  have h : Ideal.ofBits .f32 (1140850688#32) = ((8388608 : ℝ) : EReal) * ((1 / 16384 : ℝ) : EReal) := by
    simp [Ideal.ofBits, Ideal.ieee]; norm_num
  rw [h, ← EReal.coe_mul]; norm_num

/-- The arguments as functions of row and column numbers: the incoming gradient `D`, the scan's output `Y`, the gate `Z` and the gain `G`. -/
structure Data where
  D : ℕ → ℕ → EReal
  Y : ℕ → ℕ → EReal
  Z : ℕ → ℕ → EReal
  G : ℕ → EReal

namespace Data

variable (d : Data)

/-- The gate's sigmoid. -/
def sig (t k : ℕ) : EReal := Ideal.logistic (d.Z t k)
/-- The gate's factor. -/
def sil (t k : ℕ) : EReal := d.Z t k * d.sig t k
/-- The gated value. -/
def w (t k : ℕ) : EReal := d.Y t k * d.sil t k
/-- The reciprocal root mean square of row `t` over group `q` of columns. -/
def inv (t q : ℕ) : EReal := rowInvOf 512 fun c : Fin 512 => d.w t (512 * q + c)
/-- The normalized value of group `q`, before the gain. -/
def xh (q t k : ℕ) : EReal := d.w t k * d.inv t q
/-- The incoming gradient with the gain. -/
def dxg (t k : ℕ) : EReal := d.D t k * d.G k
/-- The mean over group `q` of row `t` of that gradient against the normalized row. -/
def proj (t q : ℕ) : EReal := Ideal.div (∑ c : Fin 512, d.dxg t (512 * q + c) * d.xh q t (512 * q + c)) (512 : ℝ)
/-- The gradient at the gated value. -/
def dw (q t k : ℕ) : EReal := d.inv t q * (d.dxg t k - d.xh q t k * d.proj t q)
/-- The gradient at the scan's output. -/
def dy (q t k : ℕ) : EReal := d.dw q t k * d.sil t k
/-- The gradient at the gate. -/
def dz (q t k : ℕ) : EReal := d.dw q t k * d.Y t k * (d.sig t k * (1 + d.Z t k * (1 - d.sig t k)))
/-- The gain's gradient from the first `n` blocks of 512 rows. -/
def accG (n k : ℕ) : EReal := ∑ t ∈ Finset.range (512 * n), d.D t k * d.xh (k / 512) t k
/-- What the third result holds at row `r`, column `k`, after `n` blocks: the gain's gradient, then zeros. -/
def small (n r k : ℕ) : EReal := if r = 0 then d.accG n k else 0

theorem accG_zero (k : ℕ) : d.accG 0 k = 0 := by simp [accG]

/-- The gain's gradient after one more block. -/
theorem accG_succ (n q k : ℕ) (hq : k / 512 = q) (y : EReal) (hy : y = d.accG n k) :
    y + ∑ r : Fin 512, d.D (512 * n + r) k * d.xh q (512 * n + r) k = d.accG (n + 1) k := by
  rw [hy, ← hq]
  unfold accG
  rw [show 512 * (n + 1) = 512 * n + 512 by ring, Finset.sum_range_add,
    Fin.sum_univ_eq_sum_range (fun r => d.D (512 * n + r) k * d.xh (k / 512) (512 * n + r) k) 512]

/-- The arguments' entries are the model's. -/
structure Fits (x0 x1 x2 : S4096x2048.Idx → EReal) (x3 : S1x2048.Idx → EReal) : Prop where
  dyn : ∀ r c, x0 (ix2 r c) = d.D (r : Fin 4096) (c : Fin 2048)
  y : ∀ r c, x1 (ix2 r c) = d.Y (r : Fin 4096) (c : Fin 2048)
  z : ∀ r c, x2 (ix2 r c) = d.Z (r : Fin 4096) (c : Fin 2048)
  g : ∀ c, x3 (ix2 0 c) = d.G (c : Fin 2048)

end Data

/-- The model's numbers of given arguments. -/
def ofArgs (x0 x1 x2 : S4096x2048.Idx → EReal) (x3 : S1x2048.Idx → EReal) : Data where
  D := ofMat x0
  Y := ofMat x1
  Z := ofMat x2
  G := ofMat x3 0

theorem fits_ofArgs {x0 x1 x2 : S4096x2048.Idx → EReal} {x3 : S1x2048.Idx → EReal} : (ofArgs x0 x1 x2 x3).Fits x0 x1 x2 x3 :=
  ⟨ofMat_eq x0, ofMat_eq x1, ofMat_eq x2, fun c => ofMat_eq x3 0 c⟩

variable (d : Data)

/-- The gradient at the scan's output, as an array. -/
def resY : S4096x2048.Idx → EReal := fun y => d.dy ((y 1).val / 512) (y 0).val (y 1).val
/-- The gradient at the gate, as an array. -/
def resZ : S4096x2048.Idx → EReal := fun y => d.dz ((y 1).val / 512) (y 0).val (y 1).val
/-- The gain's gradient, as an array. -/
def resG : S8x2048.Idx → EReal := fun y => d.small 8 (y 0).val (y 1).val

variable {a q : ℕ} {vd vy vz : Vec Ideal S512x512 .bf16} {vg : Vec Ideal S1x512 .f32}
variable (h0 : ∀ r k, vd (ix2 r k) = d.D (512 * a + (r : Fin 512)) (512 * q + (k : Fin 512)))
variable (h1 : ∀ r k, vy (ix2 r k) = d.Y (512 * a + (r : Fin 512)) (512 * q + (k : Fin 512)))
variable (h2 : ∀ r k, vz (ix2 r k) = d.Z (512 * a + (r : Fin 512)) (512 * q + (k : Fin 512)))
variable (h3 : ∀ k, vg (ix2 0 k) = d.G (512 * q + (k : Fin 512)))

include h2 in
theorem pay_sig (r k : Fin 512) : k0_pay3 (F := Ideal) vz (ix2 r k) = d.sig (512 * a + r) (512 * q + k) := by
  pointwise [k0_pay3, k0_pay2]
  rw [h2, sub_eq_add_neg, zero_add]
  rfl

include h2 in
theorem pay_sil (r k : Fin 512) : k0_pay4 (F := Ideal) vz (ix2 r k) = d.sil (512 * a + r) (512 * q + k) := by
  pointwise [k0_pay4, k0_pay2]
  rw [h2, pay_sig d h2]; rfl

include h1 h2 in
theorem pay_w (r k : Fin 512) : k0_pay6 (F := Ideal) vz vy (ix2 r k) = d.w (512 * a + r) (512 * q + k) := by
  pointwise [k0_pay6, k0_pay5]
  rw [h1, pay_sil d h2]; rfl

include h1 h2 in
theorem pay_inv (r : Fin 512) (c : Fin 1) : k0_pay7 (F := Ideal) vz vy (ix2 r c) = d.inv (512 * a + r) q := by
  pointwise [k0_pay7]
  simp only [pay_w d h1 h2, ofBits_512, ofBits_eps]
  rfl

include h1 h2 in
theorem pay_xh (r k : Fin 512) : k0_pay8 (F := Ideal) vz vy (ix2 r k) = d.xh q (512 * a + r) (512 * q + k) := by
  pointwise [k0_pay8]
  rw [pay_inv d h1 h2, pay_w d h1 h2]; rfl

include h0 h1 h2 h3 in
theorem pay_diff (r k : Fin 512) : k0_pay10 (F := Ideal) vz vy vd vg (ix2 r k)
    = d.dxg (512 * a + r) (512 * q + k) - d.xh q (512 * a + r) (512 * q + k) * d.proj (512 * a + r) q := by
  pointwise [k0_pay10, k0_pay9]
  simp only [h0, h3, pay_xh d h1 h2, ofBits_512]
  rfl

include h0 h1 h2 h3 in
theorem pay_dw (r k : Fin 512) : k0_pay12 (F := Ideal) (k0_pay10 vz vy vd vg) (k0_pay11 vz vy) (ix2 r k) = d.dw q (512 * a + r) (512 * q + k) := by
  pointwise [k0_pay12, k0_pay11]
  rw [pay_inv d h1 h2, pay_diff d h0 h1 h2 h3]; rfl

include h0 h1 h2 h3 in
theorem pay_dy (r k : Fin 512) : k0_pay14 (F := Ideal) (k0_pay4 vz) (k0_pay10 vz vy vd vg) (k0_pay11 vz vy) (ix2 r k) = d.dy q (512 * a + r) (512 * q + k) := by
  pointwise [k0_pay14]
  rw [pay_dw d h0 h1 h2 h3, pay_sil d h2]; rfl

include h0 h1 h2 h3 in
theorem pay_dz (r k : Fin 512) : k0_pay15 (F := Ideal) (k0_pay2 vz) (k0_pay3 vz) (k0_pay5 vy) (k0_pay10 vz vy vd vg) (k0_pay11 vz vy) (ix2 r k)
    = d.dz q (512 * a + r) (512 * q + k) := by
  pointwise [k0_pay15, k0_pay2, k0_pay5]
  rw [pay_dw d h0 h1 h2 h3, pay_sig d h2, h1, h2]; rfl

include h0 h1 h2 in
theorem pay_dg {acc : Vec Ideal S1x512 .f32} (k : Fin 512) : k0_pay13 (F := Ideal) (k0_pay8 vz vy) (k0_pay9 vd) acc (ix2 0 k)
    = acc (ix2 0 k) + ∑ r : Fin 512, d.D (512 * a + r) (512 * q + k) * d.xh q (512 * a + r) (512 * q + k) := by
  pointwise [k0_pay13, k0_pay9]
  simp only [h0, pay_xh d h1 h2]

end Cert.Gate

end
-- ==== Proof.GateRun.lean ====
/- What each grid point of the gate's gradient leaves, and the arrays the kernel ends with, in the model. -/
module

public import proofs.«01_k».proof.Proof.Gen.Kernel5Ideal.Value
public import proofs.«01_k».proof.Proof.Gate
public import Idealize.ShloMosaic.Lib.Pipeline.Value

@[expose] public section

set_option maxRecDepth 16384

noncomputable section

namespace Cert.Gate

open Idealize.ShloMosaic Idealize.ShloMosaic.TcCoe Idealize.ShloMosaic.Tactic
open Idealize.SL.Sem
open Cert.PoolBwd (zeros2 ld2 skip2 hit2)
open Cert.Kernel5Ideal Cert.Kernel5Ideal.Gen

variable (d : Data)

section point

variable {a : ℕ} (c : Dev nD) (i : grid0.Coords)
variable (arg1 : Memref sig .tc .vmem S512x2048 .bf16) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S8x2048 .f32) (harg7 : arg7.IsWhole)
variable (x0 x1 x2 : Vec Ideal S512x2048 .bf16) (x3 : Vec Ideal S1x2048 .f32)
variable (h0 : ∀ r k, x0 (ix2 r k) = d.D (512 * a + (r : Fin 512)) (k : Fin 2048))
variable (h1 : ∀ r k, x1 (ix2 r k) = d.Y (512 * a + (r : Fin 512)) (k : Fin 2048))
variable (h2 : ∀ r k, x2 (ix2 r k) = d.Z (512 * a + (r : Fin 512)) (k : Fin 2048))
variable (h3 : ∀ k, x3 (ix2 0 k) = d.G (k : Fin 2048))

/-- A group of columns of a block, in the model. -/
theorem group {X : Vec Ideal S512x2048 .bf16} {M : ℕ → ℕ → EReal} (h : ∀ r k, X (ix2 r k) = M (512 * a + (r : Fin 512)) (k : Fin 2048)) (q b : ℕ) (hq : q < 4)
    (hb : b = 512 * q) (inb : ∀ x, (![0, b] : Fin 2 → ℕ) x + (![512, 512] : Fin 2 → ℕ) x ≤ S512x2048.size x) (r k : Fin 512) :
    View.ld X (Rect.unit (s := S512x2048) ![0, b] ![512, 512] inb) (ix2 r k) = M (512 * a + r) (512 * q + k) := by
  subst hb
  refine (ld2 (Val := Elt Ideal) _ _ r k (by omega) (by omega)).trans ((h _ _).trans ?_)
  simp

/-- A group of the gains, in the model. -/
theorem groupG {X : Vec Ideal S1x2048 .f32} {M : ℕ → EReal} (h : ∀ k, X (ix2 0 k) = M (k : Fin 2048)) (q b : ℕ) (hq : q < 4)
    (hb : b = 512 * q) (inb : ∀ x, (![0, b] : Fin 2 → ℕ) x + (![1, 512] : Fin 2 → ℕ) x ≤ S1x2048.size x) (k : Fin 512) :
    View.ld X (Rect.unit (s := S1x2048) ![0, b] ![1, 512] inb) (ix2 0 k) = M (512 * q + k) := by
  subst hb
  exact (ld2 (Val := Elt Ideal) _ _ 0 k (by omega) (by omega)).trans (h _)

set_option maxHeartbeats 2000000 in
include h0 h1 h2 h3 in
theorem outA4_eq (hc0 : cond0_0 i) (r : Fin 512) (k : Fin 2048) :
    out0_A_4 c i arg1 harg1 arg2 harg2 arg3 harg3 arg4 harg4 arg5 harg5 arg6 harg6 arg7 harg7 hc0 x0 x1 x2 x3 (ix2 r k) = d.dy (k / 512) (512 * a + r) k := by
  unfold out0_A_4 kernelRun0_A
  dsimp only
  sl_unfold_words
  simp (disch := first | rfl | decide | (intro a; fin_cases a <;> rfl)) only [↓View.readCov_skip, ↓View.readCov_fill]
  simp only [View.readCov, View.readAt_eq_ld, harg1.read_unread, harg2.read_unread, harg3.read_unread, harg4.read_unread, harg7.read_unread]
  by_cases hq3 : 1536 ≤ k.val
  · refine (hit2 _ _ _ _ _ _ _ r (⟨k.val - 1536, by omega⟩ : Fin 512) (by simp) (by simp <;> omega)).trans ?_
    refine (pay_dy d (group h0 3 1536 (by decide) rfl _) (group h1 3 1536 (by decide) rfl _) (group h2 3 1536 (by decide) rfl _) (groupG h3 3 1536 (by decide) rfl _) r _).trans ?_
    refine congrArg₂ (fun q k => d.dy q (512 * a + r) k) (?_ : 3 = _) (?_ : 512 * 3 + (k.val - 1536) = _) <;> omega
  refine (skip2 _ _ _ _ _ _ _ (by simp <;> omega)).trans ?_
  by_cases hq2 : 1024 ≤ k.val
  · refine (hit2 _ _ _ _ _ _ _ r (⟨k.val - 1024, by omega⟩ : Fin 512) (by simp) (by simp <;> omega)).trans ?_
    refine (pay_dy d (group h0 2 1024 (by decide) rfl _) (group h1 2 1024 (by decide) rfl _) (group h2 2 1024 (by decide) rfl _) (groupG h3 2 1024 (by decide) rfl _) r _).trans ?_
    refine congrArg₂ (fun q k => d.dy q (512 * a + r) k) (?_ : 2 = _) (?_ : 512 * 2 + (k.val - 1024) = _) <;> omega
  refine (skip2 _ _ _ _ _ _ _ (by simp <;> omega)).trans ?_
  by_cases hq1 : 512 ≤ k.val
  · refine (hit2 _ _ _ _ _ _ _ r (⟨k.val - 512, by omega⟩ : Fin 512) (by simp) (by simp <;> omega)).trans ?_
    refine (pay_dy d (group h0 1 512 (by decide) rfl _) (group h1 1 512 (by decide) rfl _) (group h2 1 512 (by decide) rfl _) (groupG h3 1 512 (by decide) rfl _) r _).trans ?_
    refine congrArg₂ (fun q k => d.dy q (512 * a + r) k) (?_ : 1 = _) (?_ : 512 * 1 + (k.val - 512) = _) <;> omega
  refine (skip2 _ _ _ _ _ _ _ (by simp <;> omega)).trans ?_
  refine (hit2 _ _ _ _ _ _ _ r (⟨k.val - 0, by omega⟩ : Fin 512) (by simp) (by simp <;> omega)).trans ?_
  refine (pay_dy d (group h0 0 0 (by decide) rfl _) (group h1 0 0 (by decide) rfl _) (group h2 0 0 (by decide) rfl _) (groupG h3 0 0 (by decide) rfl _) r _).trans ?_
  refine congrArg₂ (fun q k => d.dy q (512 * a + r) k) (?_ : 0 = _) (?_ : 512 * 0 + (k.val - 0) = _) <;> omega

set_option maxHeartbeats 2000000 in
include h0 h1 h2 h3 in
theorem outA5_eq (hc0 : cond0_0 i) (r : Fin 512) (k : Fin 2048) :
    out0_A_5 c i arg1 harg1 arg2 harg2 arg3 harg3 arg4 harg4 arg5 harg5 arg6 harg6 arg7 harg7 hc0 x0 x1 x2 x3 (ix2 r k) = d.dz (k / 512) (512 * a + r) k := by
  unfold out0_A_5 kernelRun0_A
  dsimp only
  sl_unfold_words
  simp (disch := first | rfl | decide | (intro a; fin_cases a <;> rfl)) only [↓View.readCov_skip, ↓View.readCov_fill]
  simp only [View.readCov, View.readAt_eq_ld, harg1.read_unread, harg2.read_unread, harg3.read_unread, harg4.read_unread, harg7.read_unread]
  by_cases hq3 : 1536 ≤ k.val
  · refine (hit2 _ _ _ _ _ _ _ r (⟨k.val - 1536, by omega⟩ : Fin 512) (by simp) (by simp <;> omega)).trans ?_
    refine (pay_dz d (group h0 3 1536 (by decide) rfl _) (group h1 3 1536 (by decide) rfl _) (group h2 3 1536 (by decide) rfl _) (groupG h3 3 1536 (by decide) rfl _) r _).trans ?_
    refine congrArg₂ (fun q k => d.dz q (512 * a + r) k) (?_ : 3 = _) (?_ : 512 * 3 + (k.val - 1536) = _) <;> omega
  refine (skip2 _ _ _ _ _ _ _ (by simp <;> omega)).trans ?_
  by_cases hq2 : 1024 ≤ k.val
  · refine (hit2 _ _ _ _ _ _ _ r (⟨k.val - 1024, by omega⟩ : Fin 512) (by simp) (by simp <;> omega)).trans ?_
    refine (pay_dz d (group h0 2 1024 (by decide) rfl _) (group h1 2 1024 (by decide) rfl _) (group h2 2 1024 (by decide) rfl _) (groupG h3 2 1024 (by decide) rfl _) r _).trans ?_
    refine congrArg₂ (fun q k => d.dz q (512 * a + r) k) (?_ : 2 = _) (?_ : 512 * 2 + (k.val - 1024) = _) <;> omega
  refine (skip2 _ _ _ _ _ _ _ (by simp <;> omega)).trans ?_
  by_cases hq1 : 512 ≤ k.val
  · refine (hit2 _ _ _ _ _ _ _ r (⟨k.val - 512, by omega⟩ : Fin 512) (by simp) (by simp <;> omega)).trans ?_
    refine (pay_dz d (group h0 1 512 (by decide) rfl _) (group h1 1 512 (by decide) rfl _) (group h2 1 512 (by decide) rfl _) (groupG h3 1 512 (by decide) rfl _) r _).trans ?_
    refine congrArg₂ (fun q k => d.dz q (512 * a + r) k) (?_ : 1 = _) (?_ : 512 * 1 + (k.val - 512) = _) <;> omega
  refine (skip2 _ _ _ _ _ _ _ (by simp <;> omega)).trans ?_
  refine (hit2 _ _ _ _ _ _ _ r (⟨k.val - 0, by omega⟩ : Fin 512) (by simp) (by simp <;> omega)).trans ?_
  refine (pay_dz d (group h0 0 0 (by decide) rfl _) (group h1 0 0 (by decide) rfl _) (group h2 0 0 (by decide) rfl _) (groupG h3 0 0 (by decide) rfl _) r _).trans ?_
  refine congrArg₂ (fun q k => d.dz q (512 * a + r) k) (?_ : 0 = _) (?_ : 512 * 0 + (k.val - 0) = _) <;> omega

set_option maxHeartbeats 2000000 in
include h0 h1 h2 h3 in
theorem outA6_eq (hc0 : cond0_0 i) (ha : a = 0) (r : Fin 8) (k : Fin 2048) :
    out0_A_6 c i arg1 harg1 arg2 harg2 arg3 harg3 arg4 harg4 arg5 harg5 arg6 harg6 arg7 harg7 hc0 x0 x1 x2 x3 (ix2 r k) = d.small (a + 1) r k := by
  unfold out0_A_6 kernelRun0_A
  dsimp only
  sl_unfold_words
  simp (disch := first | rfl | decide | (intro a; fin_cases a <;> rfl)) only [↓View.readCov_skip, ↓View.readCov_fill]
  simp only [View.readCov, View.readAt_eq_ld, harg1.read_unread, harg2.read_unread, harg3.read_unread, harg4.read_unread, harg7.read_unread]
  by_cases hr : r.val = 0
  · rw [Data.small, if_pos hr]
    by_cases hq3 : 1536 ≤ k.val
    · refine (hit2 _ _ _ _ _ _ _ 0 (⟨k.val - 1536, by omega⟩ : Fin 512) (by simpa using hr) (by simp <;> omega)).trans ?_
      refine (pay_dg d (group h0 3 1536 (by decide) rfl _) (group h1 3 1536 (by decide) rfl _) (group h2 3 1536 (by decide) rfl _) _).trans ?_
      have hk : 512 * 3 + (k.val - 1536) = k.val := by omega
      dsimp only
      rw [hk]
      refine d.accG_succ a 3 k (by omega) _ ?_
      refine (ld2 (Val := Elt Ideal) _ _ 0 _ (by omega) (by simp <;> omega)).trans ?_
      rw [ha, d.accG_zero]
      pointwise [k0_pay1]
    refine (skip2 _ _ _ _ _ _ _ (by simp <;> omega)).trans ?_
    by_cases hq2 : 1024 ≤ k.val
    · refine (hit2 _ _ _ _ _ _ _ 0 (⟨k.val - 1024, by omega⟩ : Fin 512) (by simpa using hr) (by simp <;> omega)).trans ?_
      refine (pay_dg d (group h0 2 1024 (by decide) rfl _) (group h1 2 1024 (by decide) rfl _) (group h2 2 1024 (by decide) rfl _) _).trans ?_
      have hk : 512 * 2 + (k.val - 1024) = k.val := by omega
      dsimp only
      rw [hk]
      refine d.accG_succ a 2 k (by omega) _ ?_
      refine (ld2 (Val := Elt Ideal) _ _ 0 _ (by omega) (by simp <;> omega)).trans ?_
      rw [ha, d.accG_zero]
      pointwise [k0_pay1]
    refine (skip2 _ _ _ _ _ _ _ (by simp <;> omega)).trans ?_
    by_cases hq1 : 512 ≤ k.val
    · refine (hit2 _ _ _ _ _ _ _ 0 (⟨k.val - 512, by omega⟩ : Fin 512) (by simpa using hr) (by simp <;> omega)).trans ?_
      refine (pay_dg d (group h0 1 512 (by decide) rfl _) (group h1 1 512 (by decide) rfl _) (group h2 1 512 (by decide) rfl _) _).trans ?_
      have hk : 512 * 1 + (k.val - 512) = k.val := by omega
      dsimp only
      rw [hk]
      refine d.accG_succ a 1 k (by omega) _ ?_
      refine (ld2 (Val := Elt Ideal) _ _ 0 _ (by omega) (by simp <;> omega)).trans ?_
      rw [ha, d.accG_zero]
      pointwise [k0_pay1]
    refine (skip2 _ _ _ _ _ _ _ (by simp <;> omega)).trans ?_
    refine (hit2 _ _ _ _ _ _ _ 0 (⟨k.val - 0, by omega⟩ : Fin 512) (by simpa using hr) (by simp <;> omega)).trans ?_
    refine (pay_dg d (group h0 0 0 (by decide) rfl _) (group h1 0 0 (by decide) rfl _) (group h2 0 0 (by decide) rfl _) _).trans ?_
    have hk : 512 * 0 + (k.val - 0) = k.val := by omega
    dsimp only
    rw [hk]
    refine d.accG_succ a 0 k (by omega) _ ?_
    refine (ld2 (Val := Elt Ideal) _ _ 0 _ (by omega) (by simp <;> omega)).trans ?_
    rw [ha, d.accG_zero]
    pointwise [k0_pay1]
  · rw [Data.small, if_neg hr]
    refine (skip2 _ _ _ _ _ _ _ (by simp <;> omega)).trans ?_
    refine (skip2 _ _ _ _ _ _ _ (by simp <;> omega)).trans ?_
    refine (skip2 _ _ _ _ _ _ _ (by simp <;> omega)).trans ?_
    refine (skip2 _ _ _ _ _ _ _ (by simp <;> omega)).trans ?_
    refine (hit2 _ _ _ _ _ _ _ r k (by simp) (by simp)).trans ?_
    pointwise [k0_pay1]

set_option maxHeartbeats 2000000 in
include h0 h1 h2 h3 in
theorem outB4_eq (hc0 : ¬cond0_0 i) (xo : Vec Ideal S8x2048 .f32) (r : Fin 512) (k : Fin 2048) :
    out0_B_4 c i arg1 harg1 arg2 harg2 arg3 harg3 arg4 harg4 arg5 harg5 arg6 harg6 arg7 harg7 hc0 x0 x1 x2 x3 xo (ix2 r k) = d.dy (k / 512) (512 * a + r) k := by
  unfold out0_B_4 kernelRun0_B
  dsimp only
  sl_unfold_words
  simp (disch := first | rfl | decide | (intro a; fin_cases a <;> rfl)) only [↓View.readCov_skip, ↓View.readCov_fill]
  simp only [View.readCov, View.readAt_eq_ld, harg1.read_unread, harg2.read_unread, harg3.read_unread, harg4.read_unread, harg7.read_unread]
  by_cases hq3 : 1536 ≤ k.val
  · refine (hit2 _ _ _ _ _ _ _ r (⟨k.val - 1536, by omega⟩ : Fin 512) (by simp) (by simp <;> omega)).trans ?_
    refine (pay_dy d (group h0 3 1536 (by decide) rfl _) (group h1 3 1536 (by decide) rfl _) (group h2 3 1536 (by decide) rfl _) (groupG h3 3 1536 (by decide) rfl _) r _).trans ?_
    refine congrArg₂ (fun q k => d.dy q (512 * a + r) k) (?_ : 3 = _) (?_ : 512 * 3 + (k.val - 1536) = _) <;> omega
  refine (skip2 _ _ _ _ _ _ _ (by simp <;> omega)).trans ?_
  by_cases hq2 : 1024 ≤ k.val
  · refine (hit2 _ _ _ _ _ _ _ r (⟨k.val - 1024, by omega⟩ : Fin 512) (by simp) (by simp <;> omega)).trans ?_
    refine (pay_dy d (group h0 2 1024 (by decide) rfl _) (group h1 2 1024 (by decide) rfl _) (group h2 2 1024 (by decide) rfl _) (groupG h3 2 1024 (by decide) rfl _) r _).trans ?_
    refine congrArg₂ (fun q k => d.dy q (512 * a + r) k) (?_ : 2 = _) (?_ : 512 * 2 + (k.val - 1024) = _) <;> omega
  refine (skip2 _ _ _ _ _ _ _ (by simp <;> omega)).trans ?_
  by_cases hq1 : 512 ≤ k.val
  · refine (hit2 _ _ _ _ _ _ _ r (⟨k.val - 512, by omega⟩ : Fin 512) (by simp) (by simp <;> omega)).trans ?_
    refine (pay_dy d (group h0 1 512 (by decide) rfl _) (group h1 1 512 (by decide) rfl _) (group h2 1 512 (by decide) rfl _) (groupG h3 1 512 (by decide) rfl _) r _).trans ?_
    refine congrArg₂ (fun q k => d.dy q (512 * a + r) k) (?_ : 1 = _) (?_ : 512 * 1 + (k.val - 512) = _) <;> omega
  refine (skip2 _ _ _ _ _ _ _ (by simp <;> omega)).trans ?_
  refine (hit2 _ _ _ _ _ _ _ r (⟨k.val - 0, by omega⟩ : Fin 512) (by simp) (by simp <;> omega)).trans ?_
  refine (pay_dy d (group h0 0 0 (by decide) rfl _) (group h1 0 0 (by decide) rfl _) (group h2 0 0 (by decide) rfl _) (groupG h3 0 0 (by decide) rfl _) r _).trans ?_
  refine congrArg₂ (fun q k => d.dy q (512 * a + r) k) (?_ : 0 = _) (?_ : 512 * 0 + (k.val - 0) = _) <;> omega

set_option maxHeartbeats 2000000 in
include h0 h1 h2 h3 in
theorem outB5_eq (hc0 : ¬cond0_0 i) (xo : Vec Ideal S8x2048 .f32) (r : Fin 512) (k : Fin 2048) :
    out0_B_5 c i arg1 harg1 arg2 harg2 arg3 harg3 arg4 harg4 arg5 harg5 arg6 harg6 arg7 harg7 hc0 x0 x1 x2 x3 xo (ix2 r k) = d.dz (k / 512) (512 * a + r) k := by
  unfold out0_B_5 kernelRun0_B
  dsimp only
  sl_unfold_words
  simp (disch := first | rfl | decide | (intro a; fin_cases a <;> rfl)) only [↓View.readCov_skip, ↓View.readCov_fill]
  simp only [View.readCov, View.readAt_eq_ld, harg1.read_unread, harg2.read_unread, harg3.read_unread, harg4.read_unread, harg7.read_unread]
  by_cases hq3 : 1536 ≤ k.val
  · refine (hit2 _ _ _ _ _ _ _ r (⟨k.val - 1536, by omega⟩ : Fin 512) (by simp) (by simp <;> omega)).trans ?_
    refine (pay_dz d (group h0 3 1536 (by decide) rfl _) (group h1 3 1536 (by decide) rfl _) (group h2 3 1536 (by decide) rfl _) (groupG h3 3 1536 (by decide) rfl _) r _).trans ?_
    refine congrArg₂ (fun q k => d.dz q (512 * a + r) k) (?_ : 3 = _) (?_ : 512 * 3 + (k.val - 1536) = _) <;> omega
  refine (skip2 _ _ _ _ _ _ _ (by simp <;> omega)).trans ?_
  by_cases hq2 : 1024 ≤ k.val
  · refine (hit2 _ _ _ _ _ _ _ r (⟨k.val - 1024, by omega⟩ : Fin 512) (by simp) (by simp <;> omega)).trans ?_
    refine (pay_dz d (group h0 2 1024 (by decide) rfl _) (group h1 2 1024 (by decide) rfl _) (group h2 2 1024 (by decide) rfl _) (groupG h3 2 1024 (by decide) rfl _) r _).trans ?_
    refine congrArg₂ (fun q k => d.dz q (512 * a + r) k) (?_ : 2 = _) (?_ : 512 * 2 + (k.val - 1024) = _) <;> omega
  refine (skip2 _ _ _ _ _ _ _ (by simp <;> omega)).trans ?_
  by_cases hq1 : 512 ≤ k.val
  · refine (hit2 _ _ _ _ _ _ _ r (⟨k.val - 512, by omega⟩ : Fin 512) (by simp) (by simp <;> omega)).trans ?_
    refine (pay_dz d (group h0 1 512 (by decide) rfl _) (group h1 1 512 (by decide) rfl _) (group h2 1 512 (by decide) rfl _) (groupG h3 1 512 (by decide) rfl _) r _).trans ?_
    refine congrArg₂ (fun q k => d.dz q (512 * a + r) k) (?_ : 1 = _) (?_ : 512 * 1 + (k.val - 512) = _) <;> omega
  refine (skip2 _ _ _ _ _ _ _ (by simp <;> omega)).trans ?_
  refine (hit2 _ _ _ _ _ _ _ r (⟨k.val - 0, by omega⟩ : Fin 512) (by simp) (by simp <;> omega)).trans ?_
  refine (pay_dz d (group h0 0 0 (by decide) rfl _) (group h1 0 0 (by decide) rfl _) (group h2 0 0 (by decide) rfl _) (groupG h3 0 0 (by decide) rfl _) r _).trans ?_
  refine congrArg₂ (fun q k => d.dz q (512 * a + r) k) (?_ : 0 = _) (?_ : 512 * 0 + (k.val - 0) = _) <;> omega

set_option maxHeartbeats 2000000 in
include h0 h1 h2 h3 in
theorem outB6_eq (hc0 : ¬cond0_0 i) (xo : Vec Ideal S8x2048 .f32) (ho : ∀ r k, xo (ix2 r k) = d.small a (r : Fin 8) (k : Fin 2048)) (r : Fin 8) (k : Fin 2048) :
    out0_B_6 c i arg1 harg1 arg2 harg2 arg3 harg3 arg4 harg4 arg5 harg5 arg6 harg6 arg7 harg7 hc0 x0 x1 x2 x3 xo (ix2 r k) = d.small (a + 1) r k := by
  unfold out0_B_6 kernelRun0_B
  dsimp only
  sl_unfold_words
  simp (disch := first | rfl | decide | (intro a; fin_cases a <;> rfl)) only [↓View.readCov_skip, ↓View.readCov_fill]
  simp only [View.readCov, View.readAt_eq_ld, harg1.read_unread, harg2.read_unread, harg3.read_unread, harg4.read_unread, harg7.read_unread]
  by_cases hr : r.val = 0
  · rw [Data.small, if_pos hr]
    by_cases hq3 : 1536 ≤ k.val
    · refine (hit2 _ _ _ _ _ _ _ 0 (⟨k.val - 1536, by omega⟩ : Fin 512) (by simpa using hr) (by simp <;> omega)).trans ?_
      refine (pay_dg d (group h0 3 1536 (by decide) rfl _) (group h1 3 1536 (by decide) rfl _) (group h2 3 1536 (by decide) rfl _) _).trans ?_
      have hk : 512 * 3 + (k.val - 1536) = k.val := by omega
      dsimp only
      rw [hk]
      refine d.accG_succ a 3 k (by omega) _ ?_
      refine (ld2 (Val := Elt Ideal) _ _ 0 _ (by omega) (by simp <;> omega)).trans ((ho _ _).trans ?_)
      rw [Data.small, if_pos (by simp)]
      refine congrArg (d.accG a) ?_
      simp; try omega
    refine (skip2 _ _ _ _ _ _ _ (by simp <;> omega)).trans ?_
    by_cases hq2 : 1024 ≤ k.val
    · refine (hit2 _ _ _ _ _ _ _ 0 (⟨k.val - 1024, by omega⟩ : Fin 512) (by simpa using hr) (by simp <;> omega)).trans ?_
      refine (pay_dg d (group h0 2 1024 (by decide) rfl _) (group h1 2 1024 (by decide) rfl _) (group h2 2 1024 (by decide) rfl _) _).trans ?_
      have hk : 512 * 2 + (k.val - 1024) = k.val := by omega
      dsimp only
      rw [hk]
      refine d.accG_succ a 2 k (by omega) _ ?_
      refine (ld2 (Val := Elt Ideal) _ _ 0 _ (by omega) (by simp <;> omega)).trans ((ho _ _).trans ?_)
      rw [Data.small, if_pos (by simp)]
      refine congrArg (d.accG a) ?_
      simp; try omega
    refine (skip2 _ _ _ _ _ _ _ (by simp <;> omega)).trans ?_
    by_cases hq1 : 512 ≤ k.val
    · refine (hit2 _ _ _ _ _ _ _ 0 (⟨k.val - 512, by omega⟩ : Fin 512) (by simpa using hr) (by simp <;> omega)).trans ?_
      refine (pay_dg d (group h0 1 512 (by decide) rfl _) (group h1 1 512 (by decide) rfl _) (group h2 1 512 (by decide) rfl _) _).trans ?_
      have hk : 512 * 1 + (k.val - 512) = k.val := by omega
      dsimp only
      rw [hk]
      refine d.accG_succ a 1 k (by omega) _ ?_
      refine (ld2 (Val := Elt Ideal) _ _ 0 _ (by omega) (by simp <;> omega)).trans ((ho _ _).trans ?_)
      rw [Data.small, if_pos (by simp)]
      refine congrArg (d.accG a) ?_
      simp; try omega
    refine (skip2 _ _ _ _ _ _ _ (by simp <;> omega)).trans ?_
    refine (hit2 _ _ _ _ _ _ _ 0 (⟨k.val - 0, by omega⟩ : Fin 512) (by simpa using hr) (by simp <;> omega)).trans ?_
    refine (pay_dg d (group h0 0 0 (by decide) rfl _) (group h1 0 0 (by decide) rfl _) (group h2 0 0 (by decide) rfl _) _).trans ?_
    have hk : 512 * 0 + (k.val - 0) = k.val := by omega
    dsimp only
    rw [hk]
    refine d.accG_succ a 0 k (by omega) _ ?_
    refine (ld2 (Val := Elt Ideal) _ _ 0 _ (by omega) (by simp <;> omega)).trans ((ho _ _).trans ?_)
    rw [Data.small, if_pos (by simp)]
    refine congrArg (d.accG a) ?_
    simp; try omega
  · rw [Data.small, if_neg hr]
    refine (skip2 _ _ _ _ _ _ _ (by simp <;> omega)).trans ?_
    refine (skip2 _ _ _ _ _ _ _ (by simp <;> omega)).trans ?_
    refine (skip2 _ _ _ _ _ _ _ (by simp <;> omega)).trans ?_
    refine (skip2 _ _ _ _ _ _ _ (by simp <;> omega)).trans ?_
    refine (congrFun (harg7.read_unread xo) (ix2 r k)).trans ((ho _ _).trans ?_)
    rw [Data.small, if_neg hr]

end point

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel

variable (m : (ℓ : Loc nD τ sig) → Buf (Elt Ideal) ℓ) (c : Dev nD)
variable (hd : d.Fits (m ((c : Thread nD τ).loc main_arg0)) (m ((c : Thread nD τ).loc main_arg1)) (m ((c : Thread nD τ).loc main_arg2)) (m ((c : Thread nD τ).loc main_arg3)))
variable (t : Fin cfg0.N)

include hd

theorem iblk_d (r : Fin 512) (k : Fin 2048) : iblk m c 0 t (ix2 r k) = d.D (512 * t.val + r) k := by
  unfold iblk
  rw [View.read_apply]
  have hN : t.val < 8 := t.isLt
  refine (congrFun (V_main_arg0 m c) _).trans (.trans (congrArg _ ?_) (hd.dyn ⟨512 * t.val + r, by omega⟩ k))
  funext a
  apply Fin.ext
  match a with
  | ⟨0, _⟩ => show win0_0.index t 0 * 512 + 1 * r.val = _; rw [idx0]; simp; omega
  | ⟨1, _⟩ => show win0_0.index t 1 * 2048 + 1 * k.val = _; rw [idx0]; simp

theorem iblk_y (r : Fin 512) (k : Fin 2048) : iblk m c 1 t (ix2 r k) = d.Y (512 * t.val + r) k := by
  unfold iblk
  rw [View.read_apply]
  have hN : t.val < 8 := t.isLt
  refine (congrFun (V_main_arg1 m c) _).trans (.trans (congrArg _ ?_) (hd.y ⟨512 * t.val + r, by omega⟩ k))
  funext a
  apply Fin.ext
  match a with
  | ⟨0, _⟩ => show win0_1.index t 0 * 512 + 1 * r.val = _; rw [idx1]; simp; omega
  | ⟨1, _⟩ => show win0_1.index t 1 * 2048 + 1 * k.val = _; rw [idx1]; simp

theorem iblk_z (r : Fin 512) (k : Fin 2048) : iblk m c 2 t (ix2 r k) = d.Z (512 * t.val + r) k := by
  unfold iblk
  rw [View.read_apply]
  have hN : t.val < 8 := t.isLt
  refine (congrFun (V_main_arg2 m c) _).trans (.trans (congrArg _ ?_) (hd.z ⟨512 * t.val + r, by omega⟩ k))
  funext a
  apply Fin.ext
  match a with
  | ⟨0, _⟩ => show win0_2.index t 0 * 512 + 1 * r.val = _; rw [idx2]; simp; omega
  | ⟨1, _⟩ => show win0_2.index t 1 * 2048 + 1 * k.val = _; rw [idx2]; simp

theorem iblk_g (k : Fin 2048) : iblk m c 3 t (ix2 0 k) = d.G k := by
  unfold iblk
  rw [View.read_apply]
  refine (congrFun (V_main_arg3 m c) _).trans (.trans (congrArg _ ?_) (hd.g k))
  funext a
  apply Fin.ext
  match a with
  | ⟨0, _⟩ => show win0_3.index t 0 * 1 + 1 * 0 = _; rw [idx3]; rfl
  | ⟨1, _⟩ => show win0_3.index t 1 * 2048 + 1 * k.val = _; rw [idx3]; simp

omit hd in
/-- What the point that treats block `n` leaves: the block of the two gradients, and the running gradient of the gain. -/
structure Data.Left (d : Data) (n : ℕ) (p : Vec Ideal S512x2048 .bf16 × Vec Ideal S512x2048 .bf16 × Vec Ideal S8x2048 .f32) : Prop where
  dy : ∀ r k, p.1 (ix2 r k) = d.dy ((k : Fin 2048) / 512) (512 * n + (r : Fin 512)) k
  dz : ∀ r k, p.2.1 (ix2 r k) = d.dz ((k : Fin 2048) / 512) (512 * n + (r : Fin 512)) k
  small : ∀ r k, p.2.2 (ix2 r k) = d.small (n + 1) (r : Fin 8) (k : Fin 2048)

theorem left_first (ht : t.val % 8 = 0) : d.Left t.val (outsAt0 m c t.val t.isLt) := by
  have hN : t.val < 8 := t.isLt
  rw [outsAt0_A m c t ht]
  refine ⟨fun r k => ?_, fun r k => ?_, fun r k => ?_⟩
  · dsimp only
    exact outA4_eq (d := d) (h0 := iblk_d d m c hd t) (h1 := iblk_y d m c hd t) (h2 := iblk_z d m c hd t) (h3 := iblk_g d m c hd t) ..
  · dsimp only
    exact outA5_eq (d := d) (h0 := iblk_d d m c hd t) (h1 := iblk_y d m c hd t) (h2 := iblk_z d m c hd t) (h3 := iblk_g d m c hd t) ..
  · dsimp only
    exact outA6_eq (d := d) (h0 := iblk_d d m c hd t) (h1 := iblk_y d m c hd t) (h2 := iblk_z d m c hd t) (h3 := iblk_g d m c hd t) (ha := by omega) ..

theorem left_later (ht : ¬t.val % 8 = 0) (ih : d.Left (t.val - 1) (outsAt0 m c (t.val - 1) (Nat.lt_of_le_of_lt (Nat.sub_le _ _) t.isLt))) :
    d.Left t.val (outsAt0 m c t.val t.isLt) := by
  have hN : t.val < 8 := t.isLt
  have ks := ih.small
  rw [show t.val - 1 + 1 = t.val by omega] at ks
  rw [outsAt0_B m c t ht]
  refine ⟨fun r k => ?_, fun r k => ?_, fun r k => ?_⟩
  · dsimp only
    exact outB4_eq (d := d) (h0 := iblk_d d m c hd t) (h1 := iblk_y d m c hd t) (h2 := iblk_z d m c hd t) (h3 := iblk_g d m c hd t) ..
  · dsimp only
    exact outB5_eq (d := d) (h0 := iblk_d d m c hd t) (h1 := iblk_y d m c hd t) (h2 := iblk_z d m c hd t) (h3 := iblk_g d m c hd t) ..
  · dsimp only
    exact outB6_eq (d := d) (h0 := iblk_d d m c hd t) (h1 := iblk_y d m c hd t) (h2 := iblk_z d m c hd t) (h3 := iblk_g d m c hd t) (ho := ks) ..

theorem left : ∀ (n : ℕ) (h : n < cfg0.N), d.Left n (outsAt0 m c n h)
  | 0, h => left_first d m c hd ⟨0, h⟩ rfl
  | n + 1, h => by
    have hN : n + 1 < 8 := h
    exact left_later d m c hd ⟨n + 1, h⟩ (by dsimp only; omega) (left n (Nat.lt_of_succ_lt h))

theorem final_dy : (dats m 0 c).arrAt 4 cfg0.N = resY d := by
  refine (dats m 0 c).arrAt_eq_of_cover 4 (resY d) (fun t _ => ?_) fun (i : S4096x2048.Idx) => ?_
  · have hN : t.val < 8 := t.isLt
    show (cfg0.win 4).cut (grid0.coords t) ((dats m 0 c).after 4 t) = _
    rw [after0_4]
    funext y
    rw [View.read_apply]
    refine (congrArg (outsAt0 m c t.val t.isLt).1 (?_ : _ = ix2 (y 0) (y 1))).trans (((left d m c hd t.val t.isLt).dy (y 0) (y 1)).trans ?_)
    · funext a
      match a with
      | ⟨0, _⟩ => rfl
      | ⟨1, _⟩ => rfl
    · refine congrArg₂ (fun r k => d.dy (k / 512) r k) ?_ ?_
      · show _ = win0_4.index t 0 * 512 + 1 * (y 0).val
        rw [idx4]; simp; omega
      · show _ = win0_4.index t 1 * 2048 + 1 * (y 1).val
        rw [idx4]; simp
  · have h0 : (i 0).val < 4096 := (i 0).isLt
    have h1 : (i 1).val < 2048 := (i 1).isLt
    obtain ⟨u, hu⟩ : ∃ u : Fin grid0.N, u.val = (i 0).val / 512 := ⟨⟨(i 0).val / 512, by show _ < 8; omega⟩, rfl⟩
    refine ⟨u, flush0_4 _, ?_⟩
    show i ∈ ((View.whole main_v0_0).slice (win0_4.rect u)).set
    rw [View.set_slice_whole, Rect.mem_set_unit]
    intro a
    match a with
    | ⟨0, _⟩ => show win0_4.index _ 0 * 512 ≤ (i 0).val ∧ (i 0).val < win0_4.index _ 0 * 512 + 512; rw [idx4, hu]; simp; omega
    | ⟨1, _⟩ => show win0_4.index _ 1 * 2048 ≤ (i 1).val ∧ (i 1).val < win0_4.index _ 1 * 2048 + 2048; rw [idx4]; simp; omega

theorem final_dz : (dats m 0 c).arrAt 5 cfg0.N = resZ d := by
  refine (dats m 0 c).arrAt_eq_of_cover 5 (resZ d) (fun t _ => ?_) fun (i : S4096x2048.Idx) => ?_
  · have hN : t.val < 8 := t.isLt
    show (cfg0.win 5).cut (grid0.coords t) ((dats m 0 c).after 5 t) = _
    rw [after0_5]
    funext y
    rw [View.read_apply]
    refine (congrArg (outsAt0 m c t.val t.isLt).2.1 (?_ : _ = ix2 (y 0) (y 1))).trans (((left d m c hd t.val t.isLt).dz (y 0) (y 1)).trans ?_)
    · funext a
      match a with
      | ⟨0, _⟩ => rfl
      | ⟨1, _⟩ => rfl
    · refine congrArg₂ (fun r k => d.dz (k / 512) r k) ?_ ?_
      · show _ = win0_5.index t 0 * 512 + 1 * (y 0).val
        rw [idx5]; simp; omega
      · show _ = win0_5.index t 1 * 2048 + 1 * (y 1).val
        rw [idx5]; simp
  · have h0 : (i 0).val < 4096 := (i 0).isLt
    have h1 : (i 1).val < 2048 := (i 1).isLt
    obtain ⟨u, hu⟩ : ∃ u : Fin grid0.N, u.val = (i 0).val / 512 := ⟨⟨(i 0).val / 512, by show _ < 8; omega⟩, rfl⟩
    refine ⟨u, flush0_5 _, ?_⟩
    show i ∈ ((View.whole main_v0_1).slice (win0_5.rect u)).set
    rw [View.set_slice_whole, Rect.mem_set_unit]
    intro a
    match a with
    | ⟨0, _⟩ => show win0_5.index _ 0 * 512 ≤ (i 0).val ∧ (i 0).val < win0_5.index _ 0 * 512 + 512; rw [idx5, hu]; simp; omega
    | ⟨1, _⟩ => show win0_5.index _ 1 * 2048 ≤ (i 1).val ∧ (i 1).val < win0_5.index _ 1 * 2048 + 2048; rw [idx5]; simp; omega

theorem final_small : (dats m 0 c).arrAt 6 cfg0.N = resG d := by
  refine (dats m 0 c).arrAt_eq_of_cover 6 (resG d) (fun t hf => ?_) fun (i : S8x2048.Idx) => ?_
  · have hN : t.val < 8 := t.isLt
    have h7 := (flush0_6 t).mp hf
    show (cfg0.win 6).cut (grid0.coords t) ((dats m 0 c).after 6 t) = _
    rw [after0_6]
    funext y
    rw [View.read_apply]
    refine (congrArg (outsAt0 m c t.val t.isLt).2.2 (?_ : _ = ix2 (y 0) (y 1))).trans (((left d m c hd t.val t.isLt).small (y 0) (y 1)).trans ?_)
    · funext a
      match a with
      | ⟨0, _⟩ => rfl
      | ⟨1, _⟩ => rfl
    · unfold resG
      rw [show t.val + 1 = 8 by omega]
      refine congrArg₂ (d.small 8) ?_ ?_
      · show _ = win0_6.index t 0 * 8 + 1 * (y 0).val
        rw [idx6]; simp
      · show _ = win0_6.index t 1 * 2048 + 1 * (y 1).val
        rw [idx6]; simp
  · have h0 : (i 0).val < 8 := (i 0).isLt
    have h1 : (i 1).val < 2048 := (i 1).isLt
    obtain ⟨u, hu⟩ : ∃ u : Fin grid0.N, u.val = 7 := ⟨⟨7, by show _ < 8; omega⟩, rfl⟩
    refine ⟨u, (flush0_6 _).mpr (by rw [hu]), ?_⟩
    show i ∈ ((View.whole main_v0_2).slice (win0_6.rect u)).set
    rw [View.set_slice_whole, Rect.mem_set_unit]
    intro a
    match a with
    | ⟨0, _⟩ => show win0_6.index _ 0 * 8 ≤ (i 0).val ∧ (i 0).val < win0_6.index _ 0 * 8 + 8; rw [idx6]; simp; omega
    | ⟨1, _⟩ => show win0_6.index _ 1 * 2048 ≤ (i 1).val ∧ (i 1).val < win0_6.index _ 1 * 2048 + 2048; rw [idx6]; simp; omega

end Cert.Gate

end
-- ==== Proof.GateFwd.lean ====
/- The mixer's gate and grouped normalization, forward: the array its kernel ends with, in the model of its gradient. -/
module

public import proofs.«01_k».proof.Proof.Gen.Kernel12Ideal.Value
public import proofs.«01_k».proof.Proof.GateRun

@[expose] public section

set_option maxRecDepth 16384

noncomputable section

namespace Cert.GateFwd

open Idealize.ShloMosaic Idealize.ShloMosaic.TcCoe Idealize.ShloMosaic.Tactic
open Idealize.SL.Sem
open Cert.Gate (Data group groupG pay_xh)
open Cert.Kernel12Ideal Cert.Kernel12Ideal.Gen

/-- The arguments' entries are the model's, with no incoming gradient. -/
abbrev Fits (d : Data) (x0 x1 : S4096x2048.Idx → EReal) (x2 : S1x2048.Idx → EReal) : Prop := d.Fits (fun _ => 0) x0 x1 x2

variable (d : Data)

/-- The normalized value with the gain. -/
def out (t k : ℕ) : EReal := d.xh (k / 512) t k * d.G k

/-- The result, as an array. -/
def res : S4096x2048.Idx → EReal := fun y => out d (y 0).val (y 1).val

theorem pay_gain (X : Vec Ideal S512x512 .f32) (vg : Vec Ideal S1x512 .f32) (r k : Fin 512) : k0_pay1 (F := Ideal) X vg (ix2 r k) = X (ix2 r k) * vg (ix2 0 k) := by
  pointwise [k0_pay1]

section point

variable {a : ℕ} {x0 x1 : Vec Ideal S512x2048 .bf16} {x2 : Vec Ideal S1x2048 .f32}
variable (h0 : ∀ r k, x0 (ix2 r k) = d.Y (512 * a + (r : Fin 512)) (k : Fin 2048))
variable (h1 : ∀ r k, x1 (ix2 r k) = d.Z (512 * a + (r : Fin 512)) (k : Fin 2048))
variable (h2 : ∀ k, x2 (ix2 0 k) = d.G (k : Fin 2048))

include h0 h1 h2

/-- Group `q` of the columns: the normalized value, as the gradient's kernel computes it too, with the gain. -/
theorem pay_out (q b : ℕ) (hq : q < 4) (hb : b = 512 * q) (inb : ∀ x, (![0, b] : Fin 2 → ℕ) x + (![512, 512] : Fin 2 → ℕ) x ≤ S512x2048.size x)
    (inbG : ∀ x, (![0, b] : Fin 2 → ℕ) x + (![1, 512] : Fin 2 → ℕ) x ≤ S1x2048.size x) (x : S512x512.Idx) :
    k0_pay1 (F := Ideal) (Cert.Kernel5Ideal.Gen.k0_pay8 (View.ld x1 (Rect.unit (s := S512x2048) ![0, b] ![512, 512] inb)) (View.ld x0 (Rect.unit (s := S512x2048) ![0, b] ![512, 512] inb)))
      (View.ld x2 (Rect.unit (s := S1x2048) ![0, b] ![1, 512] inbG)) x
      = out d (512 * a + ((Rect.unit (s := S512x2048) ![0, b] ![512, 512] inb).emb x 0).val) ((Rect.unit (s := S512x2048) ![0, b] ![512, 512] inb).emb x 1).val := by
  have e : x = ix2 (x 0 : Fin 512) (x 1 : Fin 512) := funext fun i => match i with | ⟨0, _⟩ => rfl | ⟨1, _⟩ => rfl
  refine (congrArg _ e).trans ((pay_gain _ _ _ _).trans ?_)
  refine (congrArg₂ (· * ·) (pay_xh d (group h0 q b hq hb inb) (group h1 q b hq hb inb) _ _) (groupG h2 q b hq hb inbG _)).trans ?_
  have hx : (x 1).val < 512 := (x 1).isLt
  have e0 : ((Rect.unit (s := S512x2048) ![0, b] ![512, 512] inb).emb x 0).val = (x 0).val := by show 0 + 1 * (x 0).val = _; omega
  have e1 : ((Rect.unit (s := S512x2048) ![0, b] ![512, 512] inb).emb x 1).val = 512 * q + (x 1).val := by show b + 1 * (x 1).val = _; omega
  rw [e0, e1]
  unfold out
  rw [show (512 * q + (x 1).val) / 512 = q by omega]

/-- A tile's result. -/
theorem out_eq (y : S512x2048.Idx) : out0_3 x0 x1 x2 y = out d (512 * a + (y 0).val) (y 1).val := by
  refine View.canon_apply_of_pieces (Val := Elt Ideal) (e := .bf16) (fun y : S512x2048.Idx => out d (512 * a + (y 0).val) (y 1).val) _ (fun p hp => ?_) y (cover0_3 _ _ _ _ y)
  simp only [List.mem_cons, List.not_mem_nil, or_false] at hp
  rcases hp with rfl | rfl | rfl | rfl
  · exact pay_out d h0 h1 h2 3 1536 (by decide) rfl inb_S512x2048_S512x512_0_1536 inb_S1x2048_S1x512_0_1536
  · exact pay_out d h0 h1 h2 2 1024 (by decide) rfl inb_S512x2048_S512x512_0_1024 inb_S1x2048_S1x512_0_1024
  · exact pay_out d h0 h1 h2 1 512 (by decide) rfl inb_S512x2048_S512x512_0_512 inb_S1x2048_S1x512_0_512
  · exact pay_out d h0 h1 h2 0 0 (by decide) rfl inb_S512x2048_S512x512_0_0 inb_S1x2048_S1x512_0_0

end point

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel

variable (m : (ℓ : Loc nD τ sig) → Buf (Elt Ideal) ℓ) (c : Dev nD)
variable (hd : Fits d (m ((c : Thread nD τ).loc main_arg0)) (m ((c : Thread nD τ).loc main_arg1)) (m ((c : Thread nD τ).loc main_arg2)))
variable (t : Fin cfg0.N)

include hd

theorem iblk_y (r : Fin 512) (k : Fin 2048) : iblk m c 0 t (ix2 r k) = d.Y (512 * t.val + r) k := by
  unfold iblk
  rw [View.read_apply]
  have hN : t.val < 8 := t.isLt
  refine (congrFun (V_main_arg0 m c) _).trans (.trans (congrArg _ ?_) (hd.y ⟨512 * t.val + r, by omega⟩ k))
  funext a
  apply Fin.ext
  match a with
  | ⟨0, _⟩ => show win0_0.index t 0 * 512 + 1 * r.val = _; rw [idx0]; simp; omega
  | ⟨1, _⟩ => show win0_0.index t 1 * 2048 + 1 * k.val = _; rw [idx0]; simp

theorem iblk_z (r : Fin 512) (k : Fin 2048) : iblk m c 1 t (ix2 r k) = d.Z (512 * t.val + r) k := by
  unfold iblk
  rw [View.read_apply]
  have hN : t.val < 8 := t.isLt
  refine (congrFun (V_main_arg1 m c) _).trans (.trans (congrArg _ ?_) (hd.z ⟨512 * t.val + r, by omega⟩ k))
  funext a
  apply Fin.ext
  match a with
  | ⟨0, _⟩ => show win0_1.index t 0 * 512 + 1 * r.val = _; rw [idx1]; simp; omega
  | ⟨1, _⟩ => show win0_1.index t 1 * 2048 + 1 * k.val = _; rw [idx1]; simp

theorem iblk_g (k : Fin 2048) : iblk m c 2 t (ix2 0 k) = d.G k := by
  unfold iblk
  rw [View.read_apply]
  refine (congrFun (V_main_arg2 m c) _).trans (.trans (congrArg _ ?_) (hd.g k))
  funext a
  apply Fin.ext
  match a with
  | ⟨0, _⟩ => show win0_2.index t 0 * 1 + 1 * (0 : ℕ) = _; rw [idx2]; simp
  | ⟨1, _⟩ => show win0_2.index t 1 * 2048 + 1 * k.val = _; rw [idx2]; simp

/-- The array the kernel ends with. -/
theorem final : (dats m 0 c).arrAt 3 cfg0.N = res d := by
  refine (dats m 0 c).arrAt_eq_of_cover 3 (res d) (fun t _ => ?_) fun (i : S4096x2048.Idx) => ?_
  · have hN : t.val < 8 := t.isLt
    show (cfg0.win 3).cut (grid0.coords t) ((dats m 0 c).after 3 t) = _
    rw [after0_3]
    funext y
    rw [View.read_apply]
    refine (out_eq d (iblk_y d m c hd t) (iblk_z d m c hd t) (iblk_g d m c hd t) _).trans ?_
    refine congrArg₂ (out d) ?_ ?_
    · show _ = win0_3.index t 0 * 512 + 1 * (y 0).val
      rw [idx3]; simp; omega
    · show _ = win0_3.index t 1 * 2048 + 1 * (y 1).val
      rw [idx3]; simp
  · have h0 : (i 0).val < 4096 := (i 0).isLt
    have h1 : (i 1).val < 2048 := (i 1).isLt
    obtain ⟨u, hu⟩ : ∃ u : Fin grid0.N, u.val = (i 0).val / 512 := ⟨⟨(i 0).val / 512, by show _ < 8; omega⟩, rfl⟩
    refine ⟨u, flush0_3 _, ?_⟩
    show i ∈ ((View.whole main_v0).slice (win0_3.rect u)).set
    rw [View.set_slice_whole, Rect.mem_set_unit]
    intro a
    match a with
    | ⟨0, _⟩ => show win0_3.index _ 0 * 512 ≤ (i 0).val ∧ (i 0).val < win0_3.index _ 0 * 512 + 512; rw [idx3, hu]; simp; omega
    | ⟨1, _⟩ => show win0_3.index _ 1 * 2048 ≤ (i 1).val ∧ (i 1).val < win0_3.index _ 1 * 2048 + 2048; rw [idx3]; simp; omega

end Cert.GateFwd

end
-- ==== Proof.GateSlope.lean ====
/- The gate's slope in its two forms: the kernel's `sig * (1 + z * (1 - sig))` and the reference's, which adds the sigmoid's gradient to the factor's.
   They agree where the gradients that meet them are real or vanish. -/
module

public import proofs.«01_k».proof.Proof.Gate

@[expose] public section

set_option maxRecDepth 16384

noncomputable section

namespace Cert.Gate

open Idealize.ShloMosaic
open Cert.PoolBwd (eps eps_pos coe_sum div_real rsqrt_pos)
open Cert.MlpBwd (row_real rowInvOf)

/-- The sigmoid of a real. -/
theorem logistic_real (z : ℝ) : Ideal.logistic (z : EReal) = ((1 / (1 + Real.exp (-z)) : ℝ) : EReal) := by
  have h : 1 + Real.exp (-z) ≠ 0 := by positivity
  rw [Ideal.logistic, ← EReal.coe_neg, Ideal.exp_coe, ← EReal.coe_one, ← EReal.coe_add, div_real _ _ h]

theorem logistic_top : Ideal.logistic ⊤ = 1 := by
  rw [Ideal.logistic, EReal.neg_top, Ideal.exp_bot, add_zero, ← EReal.coe_one, div_real _ _ one_ne_zero, div_one]

theorem logistic_bot : Ideal.logistic ⊥ = 0 := by
  rw [Ideal.logistic, EReal.neg_bot, Ideal.exp_top, show (1 : EReal) + ⊤ = ⊤ from EReal.coe_add_top 1, Ideal.div, if_neg (by simp)]
  simp

/-- The two forms of the gate's slope, against a gradient that is real wherever the gate is a real other than zero. -/
theorem slope (z y : EReal) (h : ∀ x : ℝ, z = x → x ≠ 0 → ∃ b : ℝ, y = b) :
    y * Ideal.logistic z + z * y * (Ideal.logistic z * (1 - Ideal.logistic z)) = y * (Ideal.logistic z * (1 + z * (1 - Ideal.logistic z))) := by
  induction z using EReal.rec with
  | bot => simp [logistic_bot]
  | top =>
    have e : (1 : EReal) - 1 = 0 := by rw [← EReal.coe_one, ← EReal.coe_sub]; simp
    simp [logistic_top, e]
  | coe x =>
    by_cases hx : x = 0
    · subst hx; simp
    · obtain ⟨b, hb⟩ := h x rfl hx
      rw [hb, logistic_real, ← EReal.coe_one]
      simp only [← EReal.coe_mul, ← EReal.coe_sub, ← EReal.coe_add]
      congr 1
      ring

variable (d : Data) (t q : ℕ)

/-- The gradient at the gated value is zero, or the group's row is one of reals and so is the gradient. -/
theorem dw_cases (hD : ∀ c : Fin 512, ((d.D t (512 * q + c)).toReal : EReal) = d.D t (512 * q + c)) (hG : ∀ c : Fin 512, ((d.G (512 * q + c)).toReal : EReal) = d.G (512 * q + c))
    (c : Fin 512) : d.dw q t (512 * q + c) = 0 ∨ (∃ a : ℝ, d.w t (512 * q + c) = a) ∧ ∃ b : ℝ, d.dw q t (512 * q + c) = b := by
  by_cases ht : ∑ c : Fin 512, d.w t (512 * q + c) * d.w t (512 * q + c) = ⊤
  · left
    have e : Ideal.div ⊤ ((512 : ℝ) : EReal) + (eps : EReal) = ⊤ := by
      rw [Ideal.div_coe (by norm_num), EReal.top_mul_coe_of_pos (by norm_num), EReal.top_add_coe]
    have z : d.inv t q = 0 := by
      unfold Data.inv rowInvOf
      rw [ht, e, Ideal.rsqrt_top]
    rw [Data.dw, z, zero_mul]
  · right
    have hw := row_real (fun c : Fin 512 => d.w t (512 * q + c)) ht
    refine ⟨⟨_, (hw c).symm⟩, ?_⟩
    obtain ⟨v, hv⟩ : ∃ v : ℝ, d.inv t q = v := by
      have hm : Ideal.div (∑ c : Fin 512, d.w t (512 * q + c) * d.w t (512 * q + c)) ((512 : ℝ) : EReal) + (eps : EReal)
          = (((∑ c : Fin 512, (d.w t (512 * q + c)).toReal * (d.w t (512 * q + c)).toReal) / 512 + eps : ℝ) : EReal) := by
        rw [EReal.coe_add, ← div_real _ _ (by norm_num), coe_sum]
        simp only [EReal.coe_mul, hw]
      have hp : 0 < (∑ c : Fin 512, (d.w t (512 * q + c)).toReal * (d.w t (512 * q + c)).toReal) / 512 + eps :=
        add_pos_of_nonneg_of_pos (div_nonneg (Finset.sum_nonneg fun _ _ => mul_self_nonneg _) (by norm_num)) eps_pos
      exact ⟨_, (congrArg Ideal.rsqrt hm).trans (rsqrt_pos _ hp)⟩
    have hxh : ∀ c : Fin 512, d.xh q t (512 * q + c) = (((d.w t (512 * q + c)).toReal * v : ℝ) : EReal) := fun c => by
      rw [Data.xh, hv, EReal.coe_mul, hw c]
    have hg : ∀ c : Fin 512, d.dxg t (512 * q + c) = (((d.D t (512 * q + c)).toReal * (d.G (512 * q + c)).toReal : ℝ) : EReal) := fun c => by
      rw [Data.dxg, EReal.coe_mul, hD c, hG c]
    rw [Data.dw, Data.proj, hv, hxh, hg]
    simp only [hxh, hg, ← EReal.coe_mul, ← coe_sum]
    rw [div_real _ _ (by norm_num)]
    simp only [← EReal.coe_mul, ← EReal.coe_sub]
    exact ⟨_, rfl⟩

/-- The gradient at the gate, in the reference's form. -/
theorem dz_eq (hD : ∀ c : Fin 512, ((d.D t (512 * q + c)).toReal : EReal) = d.D t (512 * q + c)) (hG : ∀ c : Fin 512, ((d.G (512 * q + c)).toReal : EReal) = d.G (512 * q + c))
    (c : Fin 512) (k : ℕ) (hk : 512 * q + c = k) :
    d.Y t k * d.dw q t k * d.sig t k + d.Z t k * (d.Y t k * d.dw q t k) * (d.sig t k * (1 - d.sig t k)) = d.dz q t k := by
  subst hk
  unfold Data.dz
  rw [mul_comm (d.dw q t _)]
  refine slope _ _ fun x hx hne => ?_
  rcases dw_cases d t q hD hG c with h | ⟨⟨a, ha⟩, b, hb⟩
  · exact ⟨0, by rw [h, mul_zero, EReal.coe_zero]⟩
  · rw [hb]
    unfold Data.w Data.sil Data.sig at ha
    rw [hx, logistic_real, ← EReal.coe_mul] at ha
    have hs : x * (1 / (1 + Real.exp (-x))) ≠ 0 := mul_ne_zero hne (by positivity)
    revert ha
    induction d.Y t (512 * q + c) using EReal.rec with
    | coe y => exact fun _ => ⟨y * b, by rw [EReal.coe_mul]⟩
    | bot =>
      intro ha
      rcases lt_or_gt_of_ne hs with h | h
      · rw [EReal.bot_mul_coe_of_neg h] at ha; exact absurd ha.symm (EReal.coe_ne_top a)
      · rw [EReal.bot_mul_coe_of_pos h] at ha; exact absurd ha.symm (EReal.coe_ne_bot a)
    | top =>
      intro ha
      rcases lt_or_gt_of_ne hs with h | h
      · rw [EReal.top_mul_coe_of_neg h] at ha; exact absurd ha.symm (EReal.coe_ne_bot a)
      · rw [EReal.top_mul_coe_of_pos h] at ha; exact absurd ha.symm (EReal.coe_ne_top a)

end Cert.Gate

end
-- ==== Proof.RefOps.lean ====
/- The host's running sums and its accumulating scatter, read at an entry, and the sums they telescope to. -/
module

public import proofs.«01_k».proof.Proof.Gen.ReferenceIdeal.Read
public import proofs.«01_k».proof.Proof.Model
public import Idealize.ShloMosaic.Lib.Pointwise
public import Idealize.ShloMosaic.Lib.Routing.OpsPair
public import Idealize.ShloMosaic.Lib.Routing.Ops
public import Idealize.ShloMosaic.PureOps.Ideal
public import Idealize.ShloMosaic.Lib.Tactic

@[expose] public section

set_option maxRecDepth 16384

noncomputable section

namespace Cert.PoolBwd

open Idealize.ShloMosaic Idealize.ShloMosaic.TcCoe Idealize.ShloMosaic.Tactic

theorem foldl_add {M : Type*} [AddCommMonoid M] {N : ℕ} (f : Fin N → M) (v : M) : (List.finRange N).foldl (fun r n => r + f n) v = v + ∑ n, f n := by
  have h : ∀ (l : List (Fin N)) (v : M), l.foldl (fun r n => r + f n) v = v + (l.map f).sum := by
    intro l
    induction l with
    | nil => intro v; simp
    | cons a l ih => intro v; rw [List.foldl_cons, ih, List.map_cons, List.sum_cons, add_assoc]
  rw [h, Fin.sum_univ_def]

theorem sum_col {M : Type*} [AddCommMonoid M] (F : (⟨2, ![4096, 1]⟩ : Shape).Idx → M) : ∑ y, F y = ∑ k : Fin 4096, F (ix2 k 0) := by
  refine (Fintype.sum_equiv ⟨fun k : Fin 4096 => (ix2 k (0 : Fin 1) : (⟨2, ![4096, 1]⟩ : Shape).Idx), fun y => y 0, fun k => rfl, fun y => ?_⟩ _ _ (fun k => rfl)).symm
  funext a
  match a with
  | ⟨0, _⟩ => rfl
  | ⟨1, _⟩ => exact Subsingleton.elim (α := Fin 1) _ _

/-- A windowed host sum whose window is a whole column, at an entry: the sum over the window's positions. -/
theorem reduce_col (lo hi : Fin 2 → ℕ) (h : (⟨2, ![4096, 1024]⟩ : Shape).ReduceWindows ![4096, 1] ![1, 1] lo hi ⟨2, ![4096, 1024]⟩)
    (x : (⟨2, ![4096, 1024]⟩ : Shape).Idx → EReal) (r : Fin 4096) (c : Fin 1024) (hlo : lo 1 = 0) :
    Ideal.hostReduceWindowAdd (s := ⟨2, ![4096, 1024]⟩) ![4096, 1] ![1, 1] lo hi h x 0 (ix2 r c)
      = ∑ k : Fin 4096, if hk : lo 0 ≤ r.val + k.val ∧ r.val + k.val - lo 0 < 4096 then x (ix2 ⟨r.val + k.val - lo 0, hk.2⟩ c) else 0 := by
  unfold Ideal.hostReduceWindowAdd Host.reduceWindow
  dsimp only
  rw [foldl_add, zero_add]
  refine (Eq.trans (Finset.sum_congr rfl fun n _ => ?_) (Equiv.sum_comp (⟨2, ![4096, 1]⟩ : Shape).rowMajor.symm (fun y => if hin : ∀ a : Fin 2, lo a ≤ (ix2 r c (a.cast h.1.symm)).val * (![1, 1] : Fin 2 → ℕ) a + (y a).val
      ∧ (ix2 r c (a.cast h.1.symm)).val * (![1, 1] : Fin 2 → ℕ) a + (y a).val - lo a < (⟨2, ![4096, 1024]⟩ : Shape).size a then
      x (fun a => ⟨(ix2 r c (a.cast h.1.symm)).val * (![1, 1] : Fin 2 → ℕ) a + (y a).val - lo a, (hin a).2⟩) else 0))).trans ?_
  · congr
  rw [sum_col]
  refine Finset.sum_congr rfl fun k _ => ?_
  by_cases hk : lo 0 ≤ r.val + k.val ∧ r.val + k.val - lo 0 < 4096
  · rw [dif_pos hk, dif_pos (Fin.forall_fin_two.mpr ⟨?_, ?_⟩)]
    · refine congrArg x (funext fun a => Fin.ext ?_)
      match a with
      | ⟨0, _⟩ => show r.val * 1 + k.val - lo 0 = r.val + k.val - lo 0; rw [mul_one]
      | ⟨1, _⟩ => show c.val * 1 + 0 - lo 1 = c.val; rw [hlo]; omega
    · show lo 0 ≤ r.val * 1 + k.val ∧ r.val * 1 + k.val - lo 0 < 4096
      rw [mul_one]
      exact hk
    · show lo 1 ≤ c.val * 1 + 0 ∧ c.val * 1 + 0 - lo 1 < 1024
      rw [hlo]
      omega
  · rw [dif_neg hk, dif_neg fun hin => hk ?_]
    have := hin 0
    change lo 0 ≤ r.val * 1 + k.val ∧ r.val * 1 + k.val - lo 0 < 4096 at this
    rwa [mul_one] at this

/-- The running sum down a column. -/
theorem cumsum_entry (h) (x : (⟨2, ![4096, 1024]⟩ : Shape).Idx → EReal) (f : ℕ → ℕ → ℝ) (hx : ∀ (r : Fin 4096) (c : Fin 1024), x (ix2 r c) = ((f r c : ℝ) : EReal))
    (r : Fin 4096) (c : Fin 1024) :
    Ideal.hostReduceWindowAdd (s := ⟨2, ![4096, 1024]⟩) ![4096, 1] ![1, 1] ![4095, 0] ![0, 0] (t := ⟨2, ![4096, 1024]⟩) h x 0 (ix2 r c)
      = ((∑ k ∈ Finset.range (r + 1), f k c : ℝ) : EReal) := by
  rw [reduce_col _ _ h x r c rfl]
  have e : ∀ k : Fin 4096, (if hk : (![4095, 0] : Fin 2 → ℕ) 0 ≤ r.val + k.val ∧ r.val + k.val - (![4095, 0] : Fin 2 → ℕ) 0 < 4096 then
      x (ix2 ⟨r.val + k.val - (![4095, 0] : Fin 2 → ℕ) 0, hk.2⟩ c) else 0) = (((if 4095 ≤ r.val + k.val then f (r + k - 4095) c else 0 : ℝ)) : EReal) := by
    intro k
    have hl : (![4095, 0] : Fin 2 → ℕ) 0 = 4095 := rfl
    by_cases hk : 4095 ≤ r.val + k.val
    · rw [dif_pos (by rw [hl]; omega), if_pos hk, hx]
      rfl
    · rw [dif_neg (by rw [hl]; omega), if_neg hk, EReal.coe_zero]
  rw [Finset.sum_congr rfl fun k _ => e k, ← coe_sum]
  refine congrArg _ ?_
  rw [Fin.sum_univ_eq_sum_range (fun k => if 4095 ≤ r.val + k then f (r + k - 4095) c else 0) 4096, Finset.range_eq_Ico,
    ← Finset.sum_Ico_consecutive _ (Nat.zero_le (4095 - r.val)) (by omega : 4095 - r.val ≤ 4096), Finset.sum_eq_zero, zero_add, Finset.sum_Ico_eq_sum_range]
  · have hr : 4096 - (4095 - r.val) = r.val + 1 := by omega
    rw [hr]
    refine Finset.sum_congr rfl fun k hk => ?_
    rw [if_pos (by omega), show r.val + (4095 - r.val + k) - 4095 = k by omega]
  · intro k hk
    rw [Finset.mem_Ico] at hk
    rw [if_neg (by omega)]

/-- The running sum up a column, of numbers that are zero past the last row. -/
theorem cumsum_rev_entry (h) (x : (⟨2, ![4096, 1024]⟩ : Shape).Idx → EReal) (f : ℕ → ℕ → ℝ) (hx : ∀ (r : Fin 4096) (c : Fin 1024), x (ix2 r c) = ((f r c : ℝ) : EReal))
    (r : Fin 4096) (c : Fin 1024) (hz : ∀ t, 4096 ≤ t → f t c = 0) :
    Ideal.hostReduceWindowAdd (s := ⟨2, ![4096, 1024]⟩) ![4096, 1] ![1, 1] ![0, 0] ![4095, 0] (t := ⟨2, ![4096, 1024]⟩) h x 0 (ix2 r c)
      = ((∑ k ∈ Finset.range 4096, f (r + k) c : ℝ) : EReal) := by
  rw [reduce_col _ _ h x r c rfl]
  have e : ∀ k : Fin 4096, (if hk : (![0, 0] : Fin 2 → ℕ) 0 ≤ r.val + k.val ∧ r.val + k.val - (![0, 0] : Fin 2 → ℕ) 0 < 4096 then
      x (ix2 ⟨r.val + k.val - (![0, 0] : Fin 2 → ℕ) 0, hk.2⟩ c) else 0) = ((f (r + k) c : ℝ) : EReal) := by
    intro k
    have hl : (![0, 0] : Fin 2 → ℕ) 0 = 0 := rfl
    by_cases hk : r.val + k.val < 4096
    · rw [dif_pos (by rw [hl]; omega), hx]
      rfl
    · rw [dif_neg (by rw [hl]; omega), hz _ (by omega), EReal.coe_zero]
  rw [Finset.sum_congr rfl fun k _ => e k, ← coe_sum]
  exact congrArg _ (Fin.sum_univ_eq_sum_range (fun k => f (r + k) c) 4096)

/-- A reversed running sum of `f t - f (t + w)` is the next `w` terms of `f`, where `f` ends before row 4096. -/
theorem rev_window (f : ℕ → ℝ) (w r : ℕ) (hz : ∀ t, 4096 ≤ t → f t = 0) :
    ∑ k ∈ Finset.range 4096, (f (r + k) - f (r + k + w)) = ∑ k ∈ Finset.range w, f (r + k) := by
  rw [Finset.sum_sub_distrib]
  have h1 := Finset.sum_range_add (fun k => f (r + k)) 4096 w
  have h2 := Finset.sum_range_add (fun k => f (r + k)) w 4096
  rw [add_comm w 4096, h1] at h2
  have h3 : ∑ x ∈ Finset.range w, f (r + (4096 + x)) = 0 := Finset.sum_eq_zero fun x _ => hz _ (by omega)
  have h4 : ∑ k ∈ Finset.range 4096, f (r + k + w) = ∑ x ∈ Finset.range 4096, f (r + (w + x)) :=
    Finset.sum_congr rfl fun k _ => by rw [show r + k + w = r + (w + k) by omega]
  rw [h4]
  linarith

/-- A difference of running sums, `w ≤ 16` apart, is the sum of the last `w` rows, rows before the first counted as zero. -/
theorem window_diff (f : ℕ → ℝ) (w t : ℕ) (hw : w ≤ 16) :
    ∑ k ∈ Finset.range (t + 1), f k - ∑ k ∈ Finset.range (t + 1 - w), f k
      = ∑ k ∈ Finset.range w, (if t + 16 - k < 16 then 0 else f (t + 16 - k - 16)) := by
  simp only [Finset.range_eq_Ico]
  have h1 : ∑ k ∈ Finset.Ico 0 (t + 1), f k = ∑ k ∈ Finset.Ico 0 (t + 1 - w), f k + ∑ k ∈ Finset.Ico (t + 1 - w) (t + 1), f k :=
    (Finset.sum_Ico_consecutive f (Nat.zero_le _) (Nat.sub_le _ _)).symm
  rw [h1, add_sub_cancel_left]
  have h2 : ∑ k ∈ Finset.Ico 0 w, (if t + 16 - k < 16 then 0 else f (t + 16 - k - 16))
      = ∑ k ∈ Finset.Ico 0 (min w (t + 1)), (if t + 16 - k < 16 then 0 else f (t + 16 - k - 16)) := by
    rw [← Finset.sum_Ico_consecutive _ (Nat.zero_le (min w (t + 1))) (min_le_left _ _)]
    rw [add_eq_left]
    refine Finset.sum_eq_zero fun k hk => ?_
    rw [Finset.mem_Ico] at hk
    rw [if_pos (by omega)]
  rw [h2]
  refine Finset.sum_nbij' (fun k => t - k) (fun k => t - k) ?_ ?_ ?_ ?_ ?_
  · intro k hk; rw [Finset.mem_Ico] at hk ⊢; omega
  · intro k hk; rw [Finset.mem_Ico] at hk ⊢; omega
  · intro k hk; rw [Finset.mem_Ico] at hk; omega
  · intro k hk; rw [Finset.mem_Ico] at hk; omega
  · intro k hk
    rw [Finset.mem_Ico] at hk
    rw [if_neg (by omega), show t + 16 - (t - k) - 16 = k by omega]

open Cert.ReferenceIdeal in
/-- An accumulating scatter of rows onto the rows their windows start at, at a row after the first: the one row that lands there, if any. -/
theorem scatter_entry [Facts] (x : S4097x256.Idx → EReal) (idx : IVec S4096x1 32) (upd : S4096x256.Idx → EReal) (u : ℕ → ℕ → ℝ) (w : ℕ) (hw : 1 ≤ w)
    (hidx : ∀ j : Fin 4096, idx (ix2 j 0) = BitVec.ofNat 32 (j + 1 - w)) (hu : ∀ (j : Fin 4096) (i : Fin 256), upd (ix2 j i) = ((u j i : ℝ) : EReal))
    (hz : ∀ t i, 4096 ≤ t → u t i = 0) (n : Fin 4097) (hn : 1 ≤ n.val) (i : Fin 256) :
    Ideal.hostScatterAdd scatter_S4097x256_S4096x1_S4096x256_1_0_0_1 x idx upd (ix2 n i) = x (ix2 n i) + ((u (n + w - 1) i : ℝ) : EReal) := by
  unfold Ideal.hostScatterAdd
  refine congrArg (x (ix2 n i) + ·) ?_
  have key : ∀ (j : Fin 4096) (k : Fin 256), scatter_S4097x256_S4096x1_S4096x256_1_0_0_1.resultIdx? (ix2 j k) idx = some (ix2 n i)
      ↔ j.val + 1 - w = n.val ∧ k = i := by
    intro j k
    refine (Routing.resultIdx?_ix2 scatter_S4097x256_S4096x1_S4096x256_1_0_0_1 (ix2 j k) idx n i).trans ?_
    have s0 : scatter_S4097x256_S4096x1_S4096x256_1_0_0_1.start (ix2 j k) idx 0 = (idx (ix2 j 0)).toInt := by
      unfold ScatterDims.start
      refine (dif_pos (show (0 : Fin 2) ∈ scatter_S4097x256_S4096x1_S4096x256_1_0_0_1.scatterDimsToOperandDims from List.mem_singleton.mpr rfl)).trans ?_
      refine congrArg (fun i => (idx i).toInt) (funext fun b => ?_)
      match b with
      | ⟨0, _⟩ => rfl
      | ⟨1, _⟩ => exact Subsingleton.elim (α := Fin 1) _ _
    have s1 : scatter_S4097x256_S4096x1_S4096x256_1_0_0_1.start (ix2 j k) idx 1 = 0 := by
      unfold ScatterDims.start
      exact dif_neg (fun h => absurd (List.mem_singleton.mp h) (by decide))
    have w0 : scatter_S4097x256_S4096x1_S4096x256_1_0_0_1.window (ix2 j k) 0 = 0 := by
      rfl
    have w1 : scatter_S4097x256_S4096x1_S4096x256_1_0_0_1.window (ix2 j k) 1 = k.val := by
      rfl
    rw [s0, s1, w0, w1, hidx, Fin.ext_iff]
    have hj : (BitVec.ofNat 32 (j.val + 1 - w)).toInt = ((j.val + 1 - w : ℕ) : Int) := by
      rw [BitVec.toInt_eq_toNat_of_lt, BitVec.toNat_ofNat, Nat.mod_eq_of_lt (by omega)]
      rw [BitVec.toNat_ofNat, Nat.mod_eq_of_lt (by omega)]
      omega
    rw [hj]
    omega
  by_cases h : n.val + w - 1 < 4096
  · rw [Finset.sum_eq_single (ix2 ⟨n.val + w - 1, h⟩ i)]
    · exact hu _ _
    · intro y hy hne
      exfalso
      have ey : y = ix2 (y 0) (y 1) := funext fun a => match a with | ⟨0, _⟩ => rfl | ⟨1, _⟩ => rfl
      replace hy := (key (y 0) (y 1)).mp ((congrArg (fun z => ScatterDims.resultIdx? scatter_S4097x256_S4096x1_S4096x256_1_0_0_1 z idx) ey.symm).trans (Finset.mem_filter.mp hy).2)
      refine hne (ey.trans ?_)
      rw [hy.2]
      congr 1
      have h1 : (y 0).val + 1 - w = n.val := hy.1
      have h2 : (y 0).val = n.val + w - 1 := by omega
      exact Fin.ext h2
    · intro hne
      refine absurd ?_ hne
      refine Finset.mem_filter.mpr ⟨Finset.mem_univ _, ?_⟩
      refine (key ⟨n.val + w - 1, h⟩ i).mpr ⟨?_, rfl⟩
      show n.val + w - 1 + 1 - w = n.val
      omega
  · rw [hz _ _ (by omega), EReal.coe_zero]
    refine Finset.sum_eq_zero fun y hy => ?_
    exfalso
    have ey : y = ix2 (y 0) (y 1) := funext fun a => match a with | ⟨0, _⟩ => rfl | ⟨1, _⟩ => rfl
    replace hy := (key (y 0) (y 1)).mp ((congrArg (fun z => ScatterDims.resultIdx? scatter_S4097x256_S4096x1_S4096x256_1_0_0_1 z idx) ey.symm).trans (Finset.mem_filter.mp hy).2)
    have h0 : (y 0).val < 4096 := (y 0).isLt
    have h1 : (y 0).val + 1 - w = n.val := hy.1
    omega

end Cert.PoolBwd

end
-- ==== Proof.RefRead.lean ====
/- What the reference's host lines compute, entry by entry, in the model: the running-sum form of every window comes out as the model's
   window sums, and the scatter form of their gradients as the model's forward windows. -/
module

public import proofs.«01_k».proof.Proof.RefOps
public import proofs.«01_k».proof.Proof.KernelRead

@[expose] public section

set_option maxRecDepth 16384

noncomputable section

namespace Cert.PoolBwd

open Idealize.ShloMosaic Idealize.ShloMosaic.TcCoe Idealize.ShloMosaic.Tactic
open Cert.ReferenceIdeal Cert.ReferenceIdeal.Gen Cert.ReferenceIdeal.Read

/-- The reference's arguments' entries are the model's numbers. -/
structure Data.RefFits (d : Data) (x : S4096x1024.Idx → EReal) (g : S1x1024.Idx → EReal) (w : S4x256x256.Idx → EReal) (b s : S1x1024.Idx → EReal)
    (dh : S4096x1024.Idx → EReal) : Prop where
  x : ∀ r c, x (ix2 r c) = ((d.X (r : Fin 4096) (c : Fin 1024) : ℝ) : EReal)
  g : ∀ c, g (ix2 0 c) = ((d.G (c : Fin 1024) : ℝ) : EReal)
  w : ∀ k j o, w (ix3 k j o) = ((d.W (k : Fin 4) (j : Fin 256) (o : Fin 256) : ℝ) : EReal)
  b : ∀ c, b (ix2 0 c) = d.B (c : Fin 1024)
  s : ∀ c, s (ix2 0 c) = ((d.S (c : Fin 1024) : ℝ) : EReal)
  dh : ∀ r c, dh (ix2 r c) = ((d.D (r : Fin 4096) (c : Fin 1024) : ℝ) : EReal)

namespace Ref

/-- The running sum of the normalised rows before row `t`. -/
def _root_.Cert.PoolBwd.Data.cs (d : Data) (t c : ℕ) : ℝ := ∑ k ∈ Finset.range t, d.hn k c

theorem cs_window (d : Data) (g t c : ℕ) (hg : g < 4) : d.cs (t + 1) c - d.cs (t + 1 - Data.wid g) c = d.win g t c :=
  window_diff (fun k => d.hn k c) (Data.wid g) t (by unfold Data.wid; interval_cases g <;> decide)

theorem ofBits_neg_half : Ideal.ofBits .f32 (3204448256#32) = ((-(1 / 2) : ℝ) : EReal) := by
  have h : Ideal.ofBits .f32 (3204448256#32) = ((8388608 : ℝ) : EReal) * ((-(1 / 16777216) : ℝ) : EReal) := by
    simp [Ideal.ofBits, Ideal.ieee]; norm_num
  rw [h, ← EReal.coe_mul]; norm_num

/-- The lower row index of a window, as a word: `max (t + 1 - w, 0)`, and never below zero. -/
theorem low_word (t w : ℕ) (ht : t < 4096) (hw : w = 2 ∨ w = 4 ∨ w = 8 ∨ w = 16) :
    Scalar.select (IntOp.cmpi CmpIPredicate.slt (IntOp.maxsi (IntOp.subi (IntOp.addi (BitVec.ofNat 32 t) 1#32) (BitVec.ofNat 32 w)) 0#32) 0#32)
      (IntOp.addi (IntOp.maxsi (IntOp.subi (IntOp.addi (BitVec.ofNat 32 t) 1#32) (BitVec.ofNat 32 w)) 0#32) 4097#32)
      (IntOp.maxsi (IntOp.subi (IntOp.addi (BitVec.ofNat 32 t) 1#32) (BitVec.ofNat 32 w)) 0#32) = BitVec.ofNat 32 (t + 1 - w) := by
  have key : IntOp.maxsi (IntOp.subi (IntOp.addi (BitVec.ofNat 32 t) 1#32) (BitVec.ofNat 32 w)) 0#32 = BitVec.ofNat 32 (t + 1 - w) := by
    by_cases h : t < 16
    · have all : ∀ t' : Fin 16, IntOp.maxsi (IntOp.subi (IntOp.addi (BitVec.ofNat 32 t'.val) 1#32) (BitVec.ofNat 32 w)) 0#32 = BitVec.ofNat 32 (t'.val + 1 - w) := by
        rcases hw with rfl | rfl | rfl | rfl <;> decide
      exact all ⟨t, h⟩
    · have e : IntOp.subi (IntOp.addi (BitVec.ofNat 32 t) 1#32) (BitVec.ofNat 32 w) = BitVec.ofNat 32 (t + 1 - w) := by
        apply BitVec.eq_of_toNat_eq
        simp [IntOp.addi, IntOp.subi]
        omega
      rw [e]
      unfold IntOp.maxsi
      have : (BitVec.ofNat 32 (t + 1 - w)).toInt = ((t + 1 - w : ℕ) : ℤ) := by
        rw [BitVec.toInt_eq_toNat_of_lt (by simp; omega)]
        simp; omega
      have hge : w ≤ t := by omega
      simp [BitVec.slt, BitVec.sle, this]
      omega
  rw [key]
  exact Routing.wrap_of_lt _ _ (by simp; omega)

/-- The row count `min (t + 1, w)`, as a float. -/
theorem row_count (t g w : ℕ) (ht : t < 4096) (hg : g < 4) (hwg : w = Data.wid g) :
    FloatOps.sitofp (F := Ideal) .f32 (IntOp.minsi (IntOp.addi (BitVec.ofNat 32 t) 1#32) (BitVec.ofNat 32 w)) = ((Data.cnt g t : ℝ) : EReal) := by
  have hw : w < 2 ^ 31 := by rw [hwg]; interval_cases g <;> decide
  have h : IntOp.addi (BitVec.ofNat 32 t) 1#32 = BitVec.ofNat 32 (t + 1) := by
    apply BitVec.eq_of_toNat_eq
    simp [IntOp.addi]
  rw [h, PlanTiles.minsi_word (by omega) hw]
  show (((BitVec.ofNat 32 (min w (t + 1))).toInt : ℝ) : EReal) = _
  have hi : (BitVec.ofNat 32 (min w (t + 1))).toInt = ((min (t + 1) w : ℕ) : ℤ) := by
    rw [BitVec.toInt_eq_toNat_of_lt (by simp; omega)]
    simp; omega
  rw [hi, hwg]; unfold Data.cnt; norm_cast

theorem pick (g : Fin 4) (a b c e : EReal) : (if _h : g.val < 1 then a else if _h : g.val - 1 < 1 then b else if _h : g.val - 1 - 1 < 1 then c else e)
    = ![a, b, c, e] g := by
  fin_cases g <;> rfl

theorem pick_sum (g : Fin 4) (a b c e : EReal) : (((if _h : 3 ≤ g.val ∧ g.val - 3 < 1 then e else 0) + if _h : 2 ≤ g.val ∧ g.val - 2 < 1 then c else 0)
    + if _h : 1 ≤ g.val ∧ g.val - 1 < 1 then b else 0) + (if _h : g.val < 1 then a else 0) = ![a, b, c, e] g := by
  fin_cases g <;> simp

theorem sum_rows {M : Type*} [AddCommMonoid M] (f : ℕ → M) : ∑ t : Fin 4096, f t = ∑ t ∈ Finset.Ico (512 * 0) 4096, f t := by
  rw [Fin.sum_univ_eq_sum_range f 4096, Finset.range_eq_Ico]

variable {d : Data} {x0 x5 : S4096x1024.Idx → EReal} {x1 x3 x4 : S1x1024.Idx → EReal} {x2 : S4x256x256.Idx → EReal}

theorem low0 (t : Fin 4096) : val_main_v35 (F := Ideal) (ix2 t 0) = BitVec.ofNat 32 (t + 1 - Data.wid 0) := by
  pointwise [val_main_v35, val_main_v34, val_main_v29, val_main_v27, val_main_v25, val_main_v19, val_main_v24, val_main_c, val_main_v26, val_main_c_5, val_main_v28, val_main_c_6, val_main_v31, val_main_v30, val_main_c_7, val_main_v33, val_main_v32, val_main_c_8]
  exact low_word t 2 t.isLt (by decide)

theorem cnt0 (t : Fin 4096) : val_main_v44 (F := Ideal) (ix2 t 0) = ((Data.cnt 0 t : ℝ) : EReal) := by
  pointwise [val_main_v44, val_main_v41, val_main_v40, val_main_v38, val_main_v19, val_main_v37, val_main_c_9, val_main_v39, val_main_c_10]
  exact row_count t 0 2 t.isLt (by decide) (by decide)

theorem low1 (t : Fin 4096) : val_main_v60 (F := Ideal) (ix2 t 0) = BitVec.ofNat 32 (t + 1 - Data.wid 1) := by
  pointwise [val_main_v60, val_main_v59, val_main_v54, val_main_v52, val_main_v50, val_main_v19, val_main_v49, val_main_c_11, val_main_v51, val_main_c_12, val_main_v53, val_main_c_13, val_main_v56, val_main_v55, val_main_c_14, val_main_v58, val_main_v57, val_main_c_15]
  exact low_word t 4 t.isLt (by decide)

theorem cnt1 (t : Fin 4096) : val_main_v69 (F := Ideal) (ix2 t 0) = ((Data.cnt 1 t : ℝ) : EReal) := by
  pointwise [val_main_v69, val_main_v66, val_main_v65, val_main_v63, val_main_v19, val_main_v62, val_main_c_16, val_main_v64, val_main_c_17]
  exact row_count t 1 4 t.isLt (by decide) (by decide)

theorem low2 (t : Fin 4096) : val_main_v85 (F := Ideal) (ix2 t 0) = BitVec.ofNat 32 (t + 1 - Data.wid 2) := by
  pointwise [val_main_v85, val_main_v84, val_main_v79, val_main_v77, val_main_v75, val_main_v19, val_main_v74, val_main_c_18, val_main_v76, val_main_c_19, val_main_v78, val_main_c_20, val_main_v81, val_main_v80, val_main_c_21, val_main_v83, val_main_v82, val_main_c_22]
  exact low_word t 8 t.isLt (by decide)

theorem cnt2 (t : Fin 4096) : val_main_v94 (F := Ideal) (ix2 t 0) = ((Data.cnt 2 t : ℝ) : EReal) := by
  pointwise [val_main_v94, val_main_v91, val_main_v90, val_main_v88, val_main_v19, val_main_v87, val_main_c_23, val_main_v89, val_main_c_24]
  exact row_count t 2 8 t.isLt (by decide) (by decide)

theorem low3 (t : Fin 4096) : val_main_v110 (F := Ideal) (ix2 t 0) = BitVec.ofNat 32 (t + 1 - Data.wid 3) := by
  pointwise [val_main_v110, val_main_v109, val_main_v104, val_main_v102, val_main_v100, val_main_v19, val_main_v99, val_main_c_25, val_main_v101, val_main_c_26, val_main_v103, val_main_c_27, val_main_v106, val_main_v105, val_main_c_28, val_main_v108, val_main_v107, val_main_c_29]
  exact low_word t 16 t.isLt (by decide)

theorem cnt3 (t : Fin 4096) : val_main_v119 (F := Ideal) (ix2 t 0) = ((Data.cnt 3 t : ℝ) : EReal) := by
  pointwise [val_main_v119, val_main_v116, val_main_v115, val_main_v113, val_main_v112, val_main_c_30, val_main_v19, val_main_v114, val_main_c_31]
  exact row_count t 3 16 t.isLt (by decide) (by decide)

variable (hd : d.RefFits x0 x1 x2 x3 x4 x5)

include hd in
theorem inv_eq (t : Fin 4096) : val_main_v7 (F := Ideal) x0 (ix2 t 0) = ((d.inv t : ℝ) : EReal) := by
  pointwise [val_main_v7, val_main_v6, val_main_v4, val_main_v2, val_main_v1, val_main_cst, val_main_v0, val_main_v3, val_main_cst_0, val_main_v5, val_main_cst_1]
  simp only [hd.x]
  exact rsqrt_row d _

include hd in
theorem inv3_eq (t : Fin 4096) : val_main_v10 (F := Ideal) x0 (ix2 t 0) = ((-(1 / 2) * (d.inv t / (d.ms t + eps)) : ℝ) : EReal) := by
  pointwise [val_main_v10, val_main_v8, val_main_v9, val_main_cst_2]
  have h6 : val_main_v6 (F := Ideal) x0 (ix2 t 0) = ((d.ms t + eps : ℝ) : EReal) := by
    pointwise [val_main_v6, val_main_v4, val_main_v2, val_main_v1, val_main_cst, val_main_v0, val_main_v3, val_main_cst_0, val_main_v5, val_main_cst_1]
    simp only [hd.x, ← EReal.coe_mul, ← coe_sum, ofBits_1024, ofBits_eps]
    rw [div_real _ _ (by norm_num), ← EReal.coe_add]
    rfl
  rw [inv_eq hd, h6, div_real _ _ (d.ms_eps_pos t).ne', ofBits_neg_half, ← EReal.coe_mul]

include hd in
theorem xh_eq (t : Fin 4096) (c : Fin 1024) : val_main_v12 (F := Ideal) x0 (ix2 t c) = ((d.xh t c : ℝ) : EReal) := by
  pointwise [val_main_v12, val_main_v11]
  rw [inv_eq hd, hd.x, ← EReal.coe_mul]; rfl

include hd in
theorem hn_eq (t : Fin 4096) (c : Fin 1024) : val_main_v14 (F := Ideal) x0 x1 (ix2 t c) = ((d.hn t c : ℝ) : EReal) := by
  pointwise [val_main_v14, val_main_v13]
  rw [xh_eq hd, hd.g, ← EReal.coe_mul]; rfl

include hd in
theorem sum_eq (t : Fin 4096) (c : Fin 1024) : val_main_v16 (F := Ideal) x0 x1 (ix2 t c) = ((d.cs (t + 1) c : ℝ) : EReal) := by
  have h0 : val_main_call0_call0_v0 (F := Ideal) (Shape.Idx.first h_S_) = (0 : EReal) := Ideal.ofBits_zero_f32
  unfold val_main_v16 Host.reduceWindowAdd
  rw [Ideal.hostReduceWindowAdd_def, h0]
  exact cumsum_entry reduceWindows_S4096x1024_S4096x1024_w4096s1p4095_0_w1s1p0_0 (val_main_v14 (F := Ideal) x0 x1) d.hn (hn_eq hd) t c

include hd in
theorem cs_eq (t : Fin 4097) (c : Fin 1024) : val_main_v17 (F := Ideal) x0 x1 (ix2 t c) = ((d.cs t c : ℝ) : EReal) := by
  pointwise [val_main_v17, val_main_v15, val_main_cst_3]
  by_cases h : t.val < 1
  · rw [dif_pos h]
    have : t.val = 0 := by omega
    simp [Data.cs, this]
  · rw [dif_neg h, sum_eq hd]
    exact congrArg (fun n => ((d.cs n c : ℝ) : EReal)) (show t.val - 1 + 1 = t.val by omega)

include hd in
theorem cs0_eq (t : Fin 4097) (i : Fin 256) : val_main_v23 (F := Ideal) x0 x1 (ix2 t i) = ((d.cs t (256 * 0 + i) : ℝ) : EReal) := by
  pointwise [val_main_v23, val_main_v22, val_main_v21]
  rw [cs_eq hd]

include hd in
theorem low0_eq (t : Fin 4096) (i : Fin 256) : val_main_v36 (F := Ideal) x0 x1 (ix2 t i) = ((d.cs (t + 1 - Data.wid 0) (256 * 0 + i) : ℝ) : EReal) := by
  have hb : t.val + 1 - Data.wid 0 < 4097 := by have := t.isLt; omega
  exact (Routing.gather_row gather_S4097x256_S4096x1_S4096x256_1_0_n_n_0_1_1256 rfl rfl rfl rfl rfl (val_main_v23 (F := Ideal) x0 x1) (val_main_v35 (F := Ideal)) t i ⟨_, hb⟩ (low0 t) (by norm_num)).trans
    (cs0_eq hd ⟨_, hb⟩ i)

include hd in
theorem mean0_eq (t : Fin 4096) (i : Fin 256) : val_main_v46 (F := Ideal) x0 x1 (ix2 t i) = ((d.win 0 t (256 * 0 + i) / Data.cnt 0 t : ℝ) : EReal) := by
  pointwise [val_main_v46, val_main_v43, val_main_v42, val_main_v45]
  rw [cs0_eq hd, low0_eq hd, cnt0, ← EReal.coe_sub, div_real _ _ (Data.cnt_pos 0 t).ne', ← cs_window d 0 t _ (by decide)]
  simp only [add_comm 1 t.val, Nat.mul_zero, Nat.zero_add, Nat.reduceMul]

include hd in
theorem cs1_eq (t : Fin 4097) (i : Fin 256) : val_main_v48 (F := Ideal) x0 x1 (ix2 t i) = ((d.cs t (256 * 1 + i) : ℝ) : EReal) := by
  pointwise [val_main_v48, val_main_v47, val_main_v21]
  rw [cs_eq hd]

include hd in
theorem low1_eq (t : Fin 4096) (i : Fin 256) : val_main_v61 (F := Ideal) x0 x1 (ix2 t i) = ((d.cs (t + 1 - Data.wid 1) (256 * 1 + i) : ℝ) : EReal) := by
  have hb : t.val + 1 - Data.wid 1 < 4097 := by have := t.isLt; omega
  exact (Routing.gather_row gather_S4097x256_S4096x1_S4096x256_1_0_n_n_0_1_1256 rfl rfl rfl rfl rfl (val_main_v48 (F := Ideal) x0 x1) (val_main_v60 (F := Ideal)) t i ⟨_, hb⟩ (low1 t) (by norm_num)).trans
    (cs1_eq hd ⟨_, hb⟩ i)

include hd in
theorem mean1_eq (t : Fin 4096) (i : Fin 256) : val_main_v71 (F := Ideal) x0 x1 (ix2 t i) = ((d.win 1 t (256 * 1 + i) / Data.cnt 1 t : ℝ) : EReal) := by
  pointwise [val_main_v71, val_main_v68, val_main_v67, val_main_v70]
  rw [cs1_eq hd, low1_eq hd, cnt1, ← EReal.coe_sub, div_real _ _ (Data.cnt_pos 1 t).ne', ← cs_window d 1 t _ (by decide)]
  simp only [add_comm 1 t.val, Nat.mul_zero, Nat.zero_add, Nat.reduceMul]

include hd in
theorem cs2_eq (t : Fin 4097) (i : Fin 256) : val_main_v73 (F := Ideal) x0 x1 (ix2 t i) = ((d.cs t (256 * 2 + i) : ℝ) : EReal) := by
  pointwise [val_main_v73, val_main_v72, val_main_v21]
  rw [cs_eq hd]

include hd in
theorem low2_eq (t : Fin 4096) (i : Fin 256) : val_main_v86 (F := Ideal) x0 x1 (ix2 t i) = ((d.cs (t + 1 - Data.wid 2) (256 * 2 + i) : ℝ) : EReal) := by
  have hb : t.val + 1 - Data.wid 2 < 4097 := by have := t.isLt; omega
  exact (Routing.gather_row gather_S4097x256_S4096x1_S4096x256_1_0_n_n_0_1_1256 rfl rfl rfl rfl rfl (val_main_v73 (F := Ideal) x0 x1) (val_main_v85 (F := Ideal)) t i ⟨_, hb⟩ (low2 t) (by norm_num)).trans
    (cs2_eq hd ⟨_, hb⟩ i)

include hd in
theorem mean2_eq (t : Fin 4096) (i : Fin 256) : val_main_v96 (F := Ideal) x0 x1 (ix2 t i) = ((d.win 2 t (256 * 2 + i) / Data.cnt 2 t : ℝ) : EReal) := by
  pointwise [val_main_v96, val_main_v93, val_main_v92, val_main_v95]
  rw [cs2_eq hd, low2_eq hd, cnt2, ← EReal.coe_sub, div_real _ _ (Data.cnt_pos 2 t).ne', ← cs_window d 2 t _ (by decide)]
  simp only [add_comm 1 t.val, Nat.mul_zero, Nat.zero_add, Nat.reduceMul]

include hd in
theorem cs3_eq (t : Fin 4097) (i : Fin 256) : val_main_v98 (F := Ideal) x0 x1 (ix2 t i) = ((d.cs t (256 * 3 + i) : ℝ) : EReal) := by
  pointwise [val_main_v98, val_main_v97, val_main_v21]
  rw [cs_eq hd]

include hd in
theorem low3_eq (t : Fin 4096) (i : Fin 256) : val_main_v111 (F := Ideal) x0 x1 (ix2 t i) = ((d.cs (t + 1 - Data.wid 3) (256 * 3 + i) : ℝ) : EReal) := by
  have hb : t.val + 1 - Data.wid 3 < 4097 := by have := t.isLt; omega
  exact (Routing.gather_row gather_S4097x256_S4096x1_S4096x256_1_0_n_n_0_1_1256 rfl rfl rfl rfl rfl (val_main_v98 (F := Ideal) x0 x1) (val_main_v110 (F := Ideal)) t i ⟨_, hb⟩ (low3 t) (by norm_num)).trans
    (cs3_eq hd ⟨_, hb⟩ i)

include hd in
theorem mean3_eq (t : Fin 4096) (i : Fin 256) : val_main_v121 (F := Ideal) x0 x1 (ix2 t i) = ((d.win 3 t (256 * 3 + i) / Data.cnt 3 t : ℝ) : EReal) := by
  pointwise [val_main_v121, val_main_v118, val_main_v117, val_main_v120]
  rw [cs3_eq hd, low3_eq hd, cnt3, ← EReal.coe_sub, div_real _ _ (Data.cnt_pos 3 t).ne', ← cs_window d 3 t _ (by decide)]
  simp only [add_comm 1 t.val, Nat.mul_zero, Nat.zero_add, Nat.reduceMul]

include hd in
theorem mixed_eq (t : Fin 4096) (g : Fin 4) (i : Fin 256) : val_main_v127 (F := Ideal) x0 x1 (ix3 t g i) = ((d.mixed g t i : ℝ) : EReal) := by
  pointwise [val_main_v127, val_main_v126, val_main_v122, val_main_v123, val_main_v124, val_main_v125, val_main_v20]
  rw [mean0_eq hd, mean1_eq hd, mean2_eq hd, mean3_eq hd, hn_eq hd]
  simp only [mul_comm g.val 256]
  rw [pick]
  fin_cases g
  · exact (EReal.coe_sub _ _).symm
  · exact (EReal.coe_sub _ _).symm
  · exact (EReal.coe_sub _ _).symm
  · exact (EReal.coe_sub _ _).symm

include hd in
theorem pre_eq (t : Fin 4096) (c : Fin 1024) : val_main_v132 (F := Ideal) x0 x1 x2 x3 (ix2 t c) = d.pre (c / 256) t (c % 256) := by
  pointwise [val_main_v132, val_main_v130, val_main_v129, val_main_v128, val_main_v131]
  simp only [mixed_eq hd, hd.w, hd.b, ← EReal.coe_mul, ← coe_sum]
  unfold Data.pre
  rw [show 256 * (c.val / 256) + c.val % 256 = c.val by omega]
  refine congrArg (fun s : ℝ => (s : EReal) + d.B c) (Finset.sum_congr rfl fun i _ => mul_comm _ _)

include hd in
theorem dpre_eq (t : Fin 4096) (c : Fin 1024) : val_main_v141 (F := Ideal) x4 x5 (ix2 t c) = ((d.D t c * d.S c : ℝ) : EReal) := by
  pointwise [val_main_v141, val_main_v136, val_main_v140]
  rw [hd.dh, hd.s, ← EReal.coe_mul]

include hd in
theorem db_eq (c : Fin 1024) : val_main_v143 (F := Ideal) x4 x5 (ix2 0 c) = ((d.accB 0 c : ℝ) : EReal) := by
  pointwise [val_main_v143, val_main_v142, val_main_cst_33]
  simp only [dpre_eq hd, ← coe_sum]
  refine congrArg _ ((sum_rows fun t => d.D t c * d.S c).trans (Finset.sum_congr rfl fun t _ => ?_))
  unfold Data.dpre
  rw [show 256 * (c.val / 256) + c.val % 256 = c.val by omega]

include hd in
theorem ds_eq (c : Fin 1024) : val_main_v139 (F := Ideal) x0 x1 x2 x3 x5 (ix2 0 c) = d.accS 0 c := by
  pointwise [val_main_v139, val_main_v138, val_main_cst_32, val_main_v137, val_main_v136]
  simp only [pre_eq hd, hd.dh]
  refine (sum_rows fun t => d.pre (c / 256) t (c % 256) * (d.D t c : EReal)).trans (Finset.sum_congr rfl fun t _ => mul_comm _ _)

include hd in
theorem dm_eq (t : Fin 4096) (g : Fin 4) (i : Fin 256) : val_main_v147 (F := Ideal) x2 x4 x5 (ix3 t g i) = ((d.dm g t i : ℝ) : EReal) := by
  pointwise [val_main_v147, val_main_v146, val_main_v145, val_main_v144]
  simp only [dpre_eq hd, hd.w, ← EReal.coe_mul, ← coe_sum, mul_comm g.val 256]
  rfl

include hd in
theorem dw_eq (g : Fin 4) (i o : Fin 256) : val_main_v149 (F := Ideal) x0 x1 x4 x5 (ix3 g i o) = ((d.accW 0 g i o : ℝ) : EReal) := by
  pointwise [val_main_v149, val_main_v148, val_main_v145, val_main_v144]
  simp only [dpre_eq hd, mixed_eq hd, ← EReal.coe_mul, ← coe_sum, mul_comm g.val 256]
  refine congrArg _ ((sum_rows fun t => d.D t (256 * g + o) * d.S (256 * g + o) * d.mixed g t i).trans (Finset.sum_congr rfl fun t _ => mul_comm _ _))

include hd in
theorem dm0_eq (t : Fin 4096) (i : Fin 256) : val_main_v152 (F := Ideal) x2 x4 x5 (ix2 t i) = ((d.dm 0 t i : ℝ) : EReal) := by
  pointwise [val_main_v152, val_main_v151]
  exact dm_eq hd t 0 i

include hd in
theorem dq0_eq (t : Fin 4096) (i : Fin 256) : val_main_v189 (F := Ideal) x2 x4 x5 (ix2 t i) = ((d.dq 0 t i : ℝ) : EReal) := by
  pointwise [val_main_v189, val_main_v188]
  rw [dm0_eq hd, cnt0, div_real _ _ (Data.cnt_pos 0 t).ne', Data.dq, if_pos t.isLt]

include hd in
theorem ndq0_eq (t : Fin 4096) (i : Fin 256) : val_main_v190 (F := Ideal) x2 x4 x5 (ix2 t i) = ((-d.dq 0 t i : ℝ) : EReal) := by
  pointwise [val_main_v190]
  rw [dq0_eq hd, ← EReal.coe_neg]

include hd in
theorem back0_eq (n : Fin 4097) (hn : 1 ≤ n.val) (i : Fin 256) : val_main_v193 (F := Ideal) x2 x4 x5 (ix2 n i) = ((-d.dq 0 (n + Data.wid 0 - 1) i : ℝ) : EReal) := by
  have h0 : val_main_v192 (F := Ideal) (ix2 n i) = (0 : EReal) := Ideal.ofBits_zero_f32
  refine (scatter_entry (val_main_v192 (F := Ideal)) (val_main_v35 (F := Ideal)) (val_main_v190 (F := Ideal) x2 x4 x5) (fun t i => -d.dq 0 t i) (Data.wid 0) (Data.wid_pos 0) low0 (ndq0_eq hd)
    (fun t i ht => by rw [Data.dq, if_neg (by omega), neg_zero]) n hn i).trans ?_
  rw [h0, zero_add]

include hd in
theorem grad0_eq (n : Fin 4097) (hn : 1 ≤ n.val) (i : Fin 256) : val_main_v194 (F := Ideal) x2 x4 x5 (ix2 n i) = ((d.dq 0 (n - 1) i - d.dq 0 (n - 1 + Data.wid 0) i : ℝ) : EReal) := by
  pointwise [val_main_v194, val_main_v191, val_main_cst_43]
  rw [dif_pos ⟨hn, by omega⟩, dq0_eq hd, back0_eq hd n hn, ← EReal.coe_add, ← sub_eq_add_neg, show n.val + Data.wid 0 - 1 = n.val - 1 + Data.wid 0 by omega]

include hd in
theorem dm1_eq (t : Fin 4096) (i : Fin 256) : val_main_v154 (F := Ideal) x2 x4 x5 (ix2 t i) = ((d.dm 1 t i : ℝ) : EReal) := by
  pointwise [val_main_v154, val_main_v153]
  exact dm_eq hd t 1 i

include hd in
theorem dq1_eq (t : Fin 4096) (i : Fin 256) : val_main_v179 (F := Ideal) x2 x4 x5 (ix2 t i) = ((d.dq 1 t i : ℝ) : EReal) := by
  pointwise [val_main_v179, val_main_v178]
  rw [dm1_eq hd, cnt1, div_real _ _ (Data.cnt_pos 1 t).ne', Data.dq, if_pos t.isLt]

include hd in
theorem ndq1_eq (t : Fin 4096) (i : Fin 256) : val_main_v180 (F := Ideal) x2 x4 x5 (ix2 t i) = ((-d.dq 1 t i : ℝ) : EReal) := by
  pointwise [val_main_v180]
  rw [dq1_eq hd, ← EReal.coe_neg]

include hd in
theorem back1_eq (n : Fin 4097) (hn : 1 ≤ n.val) (i : Fin 256) : val_main_v183 (F := Ideal) x2 x4 x5 (ix2 n i) = ((-d.dq 1 (n + Data.wid 1 - 1) i : ℝ) : EReal) := by
  have h0 : val_main_v182 (F := Ideal) (ix2 n i) = (0 : EReal) := Ideal.ofBits_zero_f32
  refine (scatter_entry (val_main_v182 (F := Ideal)) (val_main_v60 (F := Ideal)) (val_main_v180 (F := Ideal) x2 x4 x5) (fun t i => -d.dq 1 t i) (Data.wid 1) (Data.wid_pos 1) low1 (ndq1_eq hd)
    (fun t i ht => by rw [Data.dq, if_neg (by omega), neg_zero]) n hn i).trans ?_
  rw [h0, zero_add]

include hd in
theorem grad1_eq (n : Fin 4097) (hn : 1 ≤ n.val) (i : Fin 256) : val_main_v184 (F := Ideal) x2 x4 x5 (ix2 n i) = ((d.dq 1 (n - 1) i - d.dq 1 (n - 1 + Data.wid 1) i : ℝ) : EReal) := by
  pointwise [val_main_v184, val_main_v181, val_main_cst_40]
  rw [dif_pos ⟨hn, by omega⟩, dq1_eq hd, back1_eq hd n hn, ← EReal.coe_add, ← sub_eq_add_neg, show n.val + Data.wid 1 - 1 = n.val - 1 + Data.wid 1 by omega]

include hd in
theorem dm2_eq (t : Fin 4096) (i : Fin 256) : val_main_v156 (F := Ideal) x2 x4 x5 (ix2 t i) = ((d.dm 2 t i : ℝ) : EReal) := by
  pointwise [val_main_v156, val_main_v155]
  exact dm_eq hd t 2 i

include hd in
theorem dq2_eq (t : Fin 4096) (i : Fin 256) : val_main_v169 (F := Ideal) x2 x4 x5 (ix2 t i) = ((d.dq 2 t i : ℝ) : EReal) := by
  pointwise [val_main_v169, val_main_v168]
  rw [dm2_eq hd, cnt2, div_real _ _ (Data.cnt_pos 2 t).ne', Data.dq, if_pos t.isLt]

include hd in
theorem ndq2_eq (t : Fin 4096) (i : Fin 256) : val_main_v170 (F := Ideal) x2 x4 x5 (ix2 t i) = ((-d.dq 2 t i : ℝ) : EReal) := by
  pointwise [val_main_v170]
  rw [dq2_eq hd, ← EReal.coe_neg]

include hd in
theorem back2_eq (n : Fin 4097) (hn : 1 ≤ n.val) (i : Fin 256) : val_main_v173 (F := Ideal) x2 x4 x5 (ix2 n i) = ((-d.dq 2 (n + Data.wid 2 - 1) i : ℝ) : EReal) := by
  have h0 : val_main_v172 (F := Ideal) (ix2 n i) = (0 : EReal) := Ideal.ofBits_zero_f32
  refine (scatter_entry (val_main_v172 (F := Ideal)) (val_main_v85 (F := Ideal)) (val_main_v170 (F := Ideal) x2 x4 x5) (fun t i => -d.dq 2 t i) (Data.wid 2) (Data.wid_pos 2) low2 (ndq2_eq hd)
    (fun t i ht => by rw [Data.dq, if_neg (by omega), neg_zero]) n hn i).trans ?_
  rw [h0, zero_add]

include hd in
theorem grad2_eq (n : Fin 4097) (hn : 1 ≤ n.val) (i : Fin 256) : val_main_v174 (F := Ideal) x2 x4 x5 (ix2 n i) = ((d.dq 2 (n - 1) i - d.dq 2 (n - 1 + Data.wid 2) i : ℝ) : EReal) := by
  pointwise [val_main_v174, val_main_v171, val_main_cst_37]
  rw [dif_pos ⟨hn, by omega⟩, dq2_eq hd, back2_eq hd n hn, ← EReal.coe_add, ← sub_eq_add_neg, show n.val + Data.wid 2 - 1 = n.val - 1 + Data.wid 2 by omega]

include hd in
theorem dm3_eq (t : Fin 4096) (i : Fin 256) : val_main_v158 (F := Ideal) x2 x4 x5 (ix2 t i) = ((d.dm 3 t i : ℝ) : EReal) := by
  pointwise [val_main_v158, val_main_v157]
  exact dm_eq hd t 3 i

include hd in
theorem dq3_eq (t : Fin 4096) (i : Fin 256) : val_main_v160 (F := Ideal) x2 x4 x5 (ix2 t i) = ((d.dq 3 t i : ℝ) : EReal) := by
  pointwise [val_main_v160, val_main_v159]
  rw [dm3_eq hd, cnt3, div_real _ _ (Data.cnt_pos 3 t).ne', Data.dq, if_pos t.isLt]

include hd in
theorem ndq3_eq (t : Fin 4096) (i : Fin 256) : val_main_v161 (F := Ideal) x2 x4 x5 (ix2 t i) = ((-d.dq 3 t i : ℝ) : EReal) := by
  pointwise [val_main_v161]
  rw [dq3_eq hd, ← EReal.coe_neg]

include hd in
theorem back3_eq (n : Fin 4097) (hn : 1 ≤ n.val) (i : Fin 256) : val_main_v164 (F := Ideal) x2 x4 x5 (ix2 n i) = ((-d.dq 3 (n + Data.wid 3 - 1) i : ℝ) : EReal) := by
  have h0 : val_main_v163 (F := Ideal) (ix2 n i) = (0 : EReal) := Ideal.ofBits_zero_f32
  refine (scatter_entry (val_main_v163 (F := Ideal)) (val_main_v110 (F := Ideal)) (val_main_v161 (F := Ideal) x2 x4 x5) (fun t i => -d.dq 3 t i) (Data.wid 3) (Data.wid_pos 3) low3 (ndq3_eq hd)
    (fun t i ht => by rw [Data.dq, if_neg (by omega), neg_zero]) n hn i).trans ?_
  rw [h0, zero_add]

include hd in
theorem grad3_eq (n : Fin 4097) (hn : 1 ≤ n.val) (i : Fin 256) : val_main_v165 (F := Ideal) x2 x4 x5 (ix2 n i) = ((d.dq 3 (n - 1) i - d.dq 3 (n - 1 + Data.wid 3) i : ℝ) : EReal) := by
  pointwise [val_main_v165, val_main_v162, val_main_cst_34]
  rw [dif_pos ⟨hn, by omega⟩, dq3_eq hd, back3_eq hd n hn, ← EReal.coe_add, ← sub_eq_add_neg, show n.val + Data.wid 3 - 1 = n.val - 1 + Data.wid 3 by omega]

include hd in
theorem grad_eq (n : Fin 4097) (hn : 1 ≤ n.val) (g : Fin 4) (i : Fin 256) : val_main_v197 (F := Ideal) x2 x4 x5 (ix3 n g i) = ((d.dq g (n - 1) i - d.dq g (n - 1 + Data.wid g) i : ℝ) : EReal) := by
  pointwise [val_main_v197, val_main_v187, val_main_v177, val_main_v167, val_main_cst_36, val_main_v166, val_main_v176, val_main_cst_39, val_main_v175, val_main_v186, val_main_cst_42, val_main_v185, val_main_v196, val_main_cst_45, val_main_v195]
  rw [grad0_eq hd n hn, grad1_eq hd n hn, grad2_eq hd n hn, grad3_eq hd n hn, pick_sum]
  fin_cases g <;> rfl

include hd in
theorem gradc_eq (t : Fin 4096) (c : Fin 1024) : val_main_v201 (F := Ideal) x2 x4 x5 (ix2 t c) = ((d.dq (c / 256) t (c % 256) - d.dq (c / 256) (t + Data.wid (c / 256)) (c % 256) : ℝ) : EReal) := by
  pointwise [val_main_v201, val_main_v198]
  refine (grad_eq hd _ ?_ _ _).trans ?_
  · simp
  · simp

include hd in
theorem dsum_eq (t : Fin 4096) (c : Fin 1024) : val_main_v202 (F := Ideal) x2 x4 x5 (ix2 t c) = ((∑ k ∈ Finset.range (Data.wid (c / 256)), d.dq (c / 256) (t + k) (c % 256) : ℝ) : EReal) := by
  have h0 : val_main_call1_call0_v0 (F := Ideal) (Shape.Idx.first h_S_) = (0 : EReal) := Ideal.ofBits_zero_f32
  have hz : ∀ g t i, 4096 ≤ t → d.dq g t i = 0 := fun g t i ht => by rw [Data.dq, if_neg (by omega)]
  rw [← rev_window (fun k => d.dq (c / 256) k (c % 256)) (Data.wid (c / 256)) t fun k hk => hz _ _ _ hk]
  unfold val_main_v202 Host.reduceWindowAdd
  rw [Ideal.hostReduceWindowAdd_def, h0]
  exact cumsum_rev_entry reduceWindows_S4096x1024_S4096x1024_w4096s1p0_4095_w1s1p0_0 (val_main_v201 (F := Ideal) x2 x4 x5)
    (fun t c => d.dq (c / 256) t (c % 256) - d.dq (c / 256) (t + Data.wid (c / 256)) (c % 256)) (gradc_eq hd) t c
    fun k hk => by rw [hz _ _ _ hk, hz _ _ _ (by omega), sub_zero]

include hd in
theorem dhn_eq (t : Fin 4096) (c : Fin 1024) : val_main_v203 (F := Ideal) x2 x4 x5 (ix2 t c) = ((d.dhn (c / 256) t (c % 256) : ℝ) : EReal) := by
  pointwise [val_main_v203, val_main_v199, val_main_v150]
  rw [dsum_eq hd, dm_eq hd, ← EReal.coe_neg, ← EReal.coe_add, add_comm, ← sub_eq_add_neg]
  rfl

include hd in
theorem dg_eq (c : Fin 1024) : val_main_v206 (F := Ideal) x0 x2 x4 x5 (ix2 0 c) = ((d.accG 0 c : ℝ) : EReal) := by
  pointwise [val_main_v206, val_main_v205, val_main_cst_46, val_main_v204]
  simp only [xh_eq hd, dhn_eq hd, ← EReal.coe_mul, ← coe_sum]
  refine congrArg _ ((sum_rows fun t => d.xh t c * d.dhn (c / 256) t (c % 256)).trans (Finset.sum_congr rfl fun t _ => mul_comm _ _))

include hd in
theorem dxh_eq (t : Fin 4096) (c : Fin 1024) : val_main_v208 (F := Ideal) x1 x2 x4 x5 (ix2 t c) = ((d.dxh t c : ℝ) : EReal) := by
  pointwise [val_main_v208, val_main_v207]
  rw [dhn_eq hd, hd.g, ← EReal.coe_mul]; rfl

include hd in
theorem corr_eq (t : Fin 4096) (c : Fin 1024) : val_main_v219 (F := Ideal) x0 x1 x2 x4 x5 (ix2 t c) = (((∑ e : Fin 1024, d.X t e * d.dxh t e) * (-(1 / 2) * (d.inv t / (d.ms t + eps))) / 1024 : ℝ) : EReal) := by
  pointwise [val_main_v219, val_main_v218, val_main_cst_49, val_main_v217, val_main_v215, val_main_v211, val_main_v210, val_main_cst_47, val_main_v209, val_main_v216, val_main_cst_48]
  have hx : ∀ x : Fin 1, val_main_v10 (F := Ideal) x0 (ix2 t x) = ((-(1 / 2) * (d.inv t / (d.ms t + eps)) : ℝ) : EReal) := fun x => by
    rw [Subsingleton.elim x 0]; exact inv3_eq hd t
  simp only [dxh_eq hd, hx, hd.x, ← EReal.coe_mul, ← coe_sum, ofBits_1024]
  rw [Fin.sum_univ_one, div_real _ _ (by norm_num)]

include hd in
theorem dx_eq (t : Fin 4096) (c : Fin 1024) : val_main_v223 (F := Ideal) x0 x1 x2 x4 x5 (ix2 t c) = ((d.dx t c : ℝ) : EReal) := by
  pointwise [val_main_v223, val_main_v221, val_main_v214, val_main_v213, val_main_v212, val_main_v220, val_main_v222]
  rw [corr_eq hd, dxh_eq hd, inv_eq hd, hd.x, hd.dh, ← EReal.coe_mul, ← EReal.coe_mul, ← EReal.coe_mul, ← EReal.coe_add, ← EReal.coe_add, ← EReal.coe_add]
  refine congrArg _ ?_
  have hs : d.inv t * d.inv t * (d.ms t + eps) = 1 := by
    have h := d.ms_eps_pos t
    have h2 : Real.sqrt (d.ms t + eps) * Real.sqrt (d.ms t + eps) = d.ms t + eps := Real.mul_self_sqrt h.le
    have key : ∀ s a : ℝ, s ≠ 0 → s * s = a → s⁻¹ * s⁻¹ * a = 1 := fun s a hs h => by rw [← h]; field_simp
    exact key _ _ (Real.sqrt_pos.mpr h).ne' h2
  have hne := (d.ms_eps_pos t).ne'
  have hq : d.inv t / (d.ms t + eps) = d.inv t * (d.inv t * d.inv t) := by
    rw [div_eq_iff hne]
    linear_combination (-d.inv t) * hs
  have hsum : ∑ e : Fin 1024, d.dxh t e * d.xh t e = (∑ e : Fin 1024, d.X t e * d.dxh t e) * d.inv t := by
    rw [Finset.sum_mul]
    refine Finset.sum_congr rfl fun e _ => ?_
    unfold Data.xh
    ring
  unfold Data.dx
  rw [hsum, hq]
  unfold Data.xh
  ring

include hd in
theorem small_eq (r : Fin 8) (c : Fin 1024) : val_main_v225 (F := Ideal) x0 x1 x2 x3 x4 x5 (ix2 r c) = d.small 0 r c := by
  pointwise [val_main_v225, val_main_v224, val_main_cst_50]
  have hg : ∀ z : Fin 1, val_main_v206 (F := Ideal) x0 x2 x4 x5 (ix2 z c) = ((d.accG 0 c : ℝ) : EReal) := fun z => by
    rw [Subsingleton.elim z 0]; exact dg_eq hd c
  have hb : ∀ z : Fin 1, val_main_v143 (F := Ideal) x4 x5 (ix2 z c) = ((d.accB 0 c : ℝ) : EReal) := fun z => by
    rw [Subsingleton.elim z 0]; exact db_eq hd c
  have hs : ∀ z : Fin 1, val_main_v139 (F := Ideal) x0 x1 x2 x3 x5 (ix2 z c) = d.accS 0 c := fun z => by
    rw [Subsingleton.elim z 0]; exact ds_eq hd c
  unfold Data.small
  by_cases h0 : r.val < 1
  · exact (dif_pos h0).trans ((hg _).trans (if_pos (by omega)).symm)
  refine (dif_neg h0).trans ((?_ : _ = _).trans (if_neg (by omega)).symm)
  by_cases h1 : r.val - 1 < 1
  · exact (dif_pos h1).trans ((hb _).trans (if_pos (by omega)).symm)
  refine (dif_neg h1).trans ((?_ : _ = _).trans (if_neg (by omega)).symm)
  by_cases h2 : r.val - 1 - 1 < 1
  · exact (dif_pos h2).trans ((hs _).trans (if_pos (by omega)).symm)
  · exact (dif_neg h2).trans (if_neg (by omega)).symm

end Ref

end Cert.PoolBwd

end
-- ==== Proof.GateRef.lean ====
/- The gate's gradient: the reference's results, in the model. -/
module

public import proofs.«01_k».proof.Proof.Gen.Reference5Ideal.Read
public import proofs.«01_k».proof.Proof.GateSlope
public import proofs.«01_k».proof.Proof.RefRead

@[expose] public section

set_option maxRecDepth 16384

noncomputable section

namespace Cert.Gate.Ref

open Idealize.ShloMosaic Idealize.ShloMosaic.TcCoe Idealize.ShloMosaic.Tactic
open Cert.PoolBwd (eps ofBits_eps)
open Cert.MlpBwd (norm_grad_of rowInvOf)
open Cert.Reference5Ideal Cert.Reference5Ideal.Gen Cert.Reference5Ideal.Read

/-- The column of entry `j` of group `q`. -/
abbrev col (q : Fin 4) (j : Fin 512) : Fin 2048 := ⟨512 * q + j, by omega⟩

theorem split_idx (r : Fin 4096) (q : Fin 4) (j : Fin 512) : idx_main_v4 (ix3 r q j) = ix2 r (col q j) := by
  funext a
  apply Fin.ext
  match a with
  | ⟨0, _⟩ => show ((r.val * 4 + q.val) * 512 + j.val) / 2048 = r.val; omega
  | ⟨1, _⟩ => show ((r.val * 4 + q.val) * 512 + j.val) % 2048 = 512 * q.val + j.val; omega

theorem join_idx (r : Fin 4096) (k : Fin 2048) : idx_main_v18 (ix2 r k) = ix3 r (⟨k / 512, by omega⟩ : Fin 4) (⟨k % 512, by omega⟩ : Fin 512) := by
  funext a
  apply Fin.ext
  match a with
  | ⟨0, _⟩ => show (r.val * 2048 + k.val) / 2048 = r.val; omega
  | ⟨1, _⟩ => show (r.val * 2048 + k.val) / 512 % 4 = k.val / 512; omega
  | ⟨2, _⟩ => show (r.val * 2048 + k.val) % 512 = k.val % 512; omega

variable {d : Data} {x0 x1 x2 : S4096x2048.Idx → EReal} {x3 : S1x2048.Idx → EReal}
variable (hd : d.Fits x0 x1 x2 x3)
include hd

theorem sig_eq (r : Fin 4096) (k : Fin 2048) : val_main_v2_2 (F := Ideal) x2 (ix2 r k) = d.sig r k := by
  pointwise [val_main_v2_2, val_main_call0_v4, val_main_call0_v3, val_main_call0_v2, val_main_call0_v1, val_main_call0_v0, val_main_v1, val_main_call0_cst, val_main_call0_cst_0]
  rw [hd.z]
  rfl

theorem sil_eq (r : Fin 4096) (k : Fin 2048) : val_main_v2_0 (F := Ideal) x2 (ix2 r k) = d.sil r k := by
  pointwise [val_main_v2_0, val_main_v1]
  rw [hd.z, sig_eq hd]
  rfl

theorem w_eq (r : Fin 4096) (k : Fin 2048) : val_main_v3 (F := Ideal) x1 x2 (ix2 r k) = d.w r k := by
  pointwise [val_main_v3, val_main_v0]
  rw [hd.y, sil_eq hd]
  rfl

theorem h_eq (r : Fin 4096) (q : Fin 4) (j : Fin 512) : val_main_v4 (F := Ideal) x1 x2 (ix3 r q j) = d.w r (512 * q + j) :=
  (val_main_v4_apply (F := Ideal) x1 x2 _).trans ((congrArg _ (split_idx r q j)).trans (w_eq hd r (col q j)))

theorem ms_eq (r : Fin 4096) (q : Fin 4) : val_main_v11 (F := Ideal) x1 x2 (ix3 r q 0)
    = Ideal.div (∑ c : Fin 512, d.w r (512 * q + c) * d.w r (512 * q + c)) (512 : ℝ) + (eps : EReal) := by
  pointwise [val_main_v11, val_main_v10, val_main_v9, val_main_v8, val_main_v7, val_main_v6, val_main_v5, val_main_cst, val_main_cst_0, val_main_cst_1]
  simp only [h_eq hd, Ideal.ofBits_zero_f32, zero_add, ofBits_512, ofBits_eps]

theorem inv_eq (r : Fin 4096) (q : Fin 4) : val_main_v12 (F := Ideal) x1 x2 (ix3 r q 0) = d.inv r q := by
  pointwise [val_main_v12]
  rw [ms_eq hd]
  rfl

/-- The slope of the reciprocal root. -/
theorem slope_eq (r : Fin 4096) (q : Fin 4) : val_main_v15 (F := Ideal) x1 x2 (ix3 r q 0)
    = ((-(1 / 2) : ℝ) : EReal) * Ideal.div (d.inv r q) (Ideal.div (∑ c : Fin 512, d.w r (512 * q + c) * d.w r (512 * q + c)) (512 : ℝ) + (eps : EReal)) := by
  pointwise [val_main_v15, val_main_v14, val_main_v13, val_main_cst_2]
  rw [ms_eq hd, inv_eq hd, Cert.PoolBwd.Ref.ofBits_neg_half]

theorem xh3_eq (r : Fin 4096) (q : Fin 4) (j : Fin 512) : val_main_v17 (F := Ideal) x1 x2 (ix3 r q j) = d.xh q r (512 * q + j) := by
  pointwise [val_main_v17, val_main_v16]
  rw [inv_eq hd, h_eq hd]
  rfl

theorem xh_eq (r : Fin 4096) (k : Fin 2048) : val_main_v18 (F := Ideal) x1 x2 (ix2 r k) = d.xh (k / 512) r k := by
  refine (val_main_v18_apply (F := Ideal) x1 x2 _).trans ((congrArg _ (join_idx r k)).trans ((xh3_eq hd r _ _).trans ?_))
  exact congrArg (d.xh (k / 512) r) (Nat.div_add_mod k.val 512)

theorem dxg_eq (r : Fin 4096) (k : Fin 2048) : val_main_v26 (F := Ideal) x0 x3 (ix2 r k) = d.dxg r k := by
  pointwise [val_main_v26, val_main_v25, val_main_v21]
  rw [hd.dyn, hd.g]
  rfl

theorem g_eq (r : Fin 4096) (q : Fin 4) (j : Fin 512) : val_main_v27 (F := Ideal) x0 x3 (ix3 r q j) = d.dxg r (512 * q + j) :=
  (val_main_v27_apply (F := Ideal) x0 x3 _).trans ((congrArg _ (split_idx r q j)).trans (dxg_eq hd r (col q j)))

theorem row_eq (r : Fin 4096) (q : Fin 4) : val_main_v30 (F := Ideal) x0 x1 x2 x3 (ix3 r q 0) = ∑ c : Fin 512, d.w r (512 * q + c) * d.dxg r (512 * q + c) := by
  pointwise [val_main_v30, val_main_v29, val_main_v28, val_main_cst_4]
  simp only [g_eq hd, h_eq hd, Ideal.ofBits_zero_f32, zero_add]

theorem half_eq (r : Fin 4096) (q : Fin 4) (j : Fin 512) : val_main_v37 (F := Ideal) x0 x1 x2 x3 (ix3 r q j)
    = Ideal.div ((∑ c : Fin 512, d.w r (512 * q + c) * d.dxg r (512 * q + c)) * (((-(1 / 2) : ℝ) : EReal)
        * Ideal.div (d.inv r q) (Ideal.div (∑ c : Fin 512, d.w r (512 * q + c) * d.w r (512 * q + c)) (512 : ℝ) + (eps : EReal)))) (512 : ℝ) := by
  pointwise [val_main_v37, val_main_v36, val_main_v35, val_main_v34, val_main_v33, val_main_cst_5, val_main_cst_6]
  simp only [Finset.univ_unique, Finset.sum_singleton, Ideal.ofBits_zero_f32, zero_add, ofBits_512]
  exact congrArg₂ (fun p q => Ideal.div (p * q) ((512 : ℝ) : EReal)) (row_eq hd r q) (slope_eq hd r q)

theorem dw3_eq (r : Fin 4096) (q : Fin 4) (j : Fin 512) : val_main_v41 (F := Ideal) x0 x1 x2 x3 (ix3 r q j) = d.dw q r (512 * q + j) := by
  pointwise [val_main_v41, val_main_v40, val_main_v39, val_main_v38, val_main_v32, val_main_v31]
  rw [half_eq hd, h_eq hd, g_eq hd, inv_eq hd]
  unfold Data.dw Data.proj Data.xh
  rw [add_assoc]
  exact norm_grad_of 512 (by norm_num) (fun c : Fin 512 => d.w r (512 * q + c)) (fun c : Fin 512 => d.dxg r (512 * q + c)) j

theorem dw_eq (r : Fin 4096) (k : Fin 2048) : val_main_v42 (F := Ideal) x0 x1 x2 x3 (ix2 r k) = d.dw (k / 512) r k := by
  refine (val_main_v42_apply (F := Ideal) x0 x1 x2 x3 _).trans ((congrArg _ (join_idx r k)).trans ((dw3_eq hd r _ _).trans ?_))
  exact congrArg (d.dw (k / 512) r) (Nat.div_add_mod k.val 512)

theorem dy_eq (r : Fin 4096) (k : Fin 2048) : val_main_v46 (F := Ideal) x0 x1 x2 x3 (ix2 r k) = d.dy (k / 512) r k := by
  pointwise [val_main_v46, val_main_v44]
  rw [dw_eq hd, sil_eq hd]
  rfl

theorem dz_eq (hD : ∀ i, (((x0 i).toReal : ℝ) : EReal) = x0 i) (hG : ∀ i, (((x3 i).toReal : ℝ) : EReal) = x3 i) (r : Fin 4096) (k : Fin 2048) :
    val_main_v47 (F := Ideal) x0 x1 x2 x3 (ix2 r k) = d.dz (k / 512) r k := by
  pointwise [val_main_v47, val_main_v45, val_main_call1_v2, val_main_call1_v1, val_main_call1_v0, val_main_v43, val_main_v2_1, val_main_call0_v7, val_main_call0_v6,
    val_main_call0_cst_1, val_main_v1, val_main_v0]
  rw [dw_eq hd, sig_eq hd, hd.y, hd.z]
  have hq : k.val / 512 < 4 := by omega
  refine Cert.Gate.dz_eq d r (k / 512) (fun c => ?_) (fun c => ?_) (⟨k % 512, by omega⟩ : Fin 512) k (Nat.div_add_mod k.val 512)
  · have h := hD (ix2 r (col ⟨k / 512, hq⟩ c))
    rw [hd.dyn] at h
    exact h
  · have h := hG (ix2 0 (col ⟨k / 512, hq⟩ c))
    rw [hd.g] at h
    exact h

theorem dg_eq (k : Fin 2048) : val_main_v24 (F := Ideal) x0 x1 x2 (ix2 0 k) = d.accG 8 k := by
  pointwise [val_main_v24, val_main_v23, val_main_v22, val_main_v21, val_main_cst_3]
  simp only [xh_eq hd, hd.dyn, Ideal.ofBits_zero_f32, zero_add]
  unfold Data.accG
  rw [Fin.sum_univ_eq_sum_range (fun t => d.xh (k / 512) t k * d.D t k) 4096]
  exact Finset.sum_congr rfl fun t _ => mul_comm _ _

theorem small_eq (r : Fin 8) (k : Fin 2048) : val_main_v49 (F := Ideal) x0 x1 x2 (ix2 r k) = d.small 8 r k := by
  pointwise [val_main_v49, val_main_v48, val_main_cst_7]
  unfold Data.small
  by_cases h : r.val = 0
  · rw [dif_pos (by omega), if_pos h, ← dg_eq hd k]
    exact congrArg _ (congrArg (ix2 · k) (Fin.ext h))
  · rw [dif_neg (by omega), if_neg h]

theorem dy_arr : val_main_v46 (F := Ideal) x0 x1 x2 x3 = resY d := by
  funext y
  have e : y = ix2 (y 0 : Fin 4096) (y 1 : Fin 2048) := funext fun a => match a with | ⟨0, _⟩ => rfl | ⟨1, _⟩ => rfl
  exact (congrArg _ e).trans (dy_eq hd (y 0) (y 1))

theorem dz_arr (hD : ∀ i, (((x0 i).toReal : ℝ) : EReal) = x0 i) (hG : ∀ i, (((x3 i).toReal : ℝ) : EReal) = x3 i) : val_main_v47 (F := Ideal) x0 x1 x2 x3 = resZ d := by
  funext y
  have e : y = ix2 (y 0 : Fin 4096) (y 1 : Fin 2048) := funext fun a => match a with | ⟨0, _⟩ => rfl | ⟨1, _⟩ => rfl
  exact (congrArg _ e).trans (dz_eq hd hD hG (y 0) (y 1))

theorem small_arr : val_main_v49 (F := Ideal) x0 x1 x2 = resG d := by
  funext y
  have e : y = ix2 (y 0 : Fin 8) (y 1 : Fin 2048) := funext fun a => match a with | ⟨0, _⟩ => rfl | ⟨1, _⟩ => rfl
  exact (congrArg _ e).trans (small_eq hd (y 0) (y 1))

end Cert.Gate.Ref

end
-- ==== Proof.GateFwdRef.lean ====
/- The mixer's gate and grouped normalization, forward: the reference's result, in the model. -/
module

public import proofs.«01_k».proof.Proof.Gen.Reference12Ideal.Read
public import proofs.«01_k».proof.Proof.GateFwd
public import proofs.«01_k».proof.Proof.GateRef

@[expose] public section

set_option maxRecDepth 16384

noncomputable section

namespace Cert.GateFwd.Ref

open Idealize.ShloMosaic Idealize.ShloMosaic.TcCoe Idealize.ShloMosaic.Tactic
open Cert.Reference12Ideal Cert.Reference12Ideal.Gen Cert.Reference12Ideal.Read

variable {d : Gate.Data} {x0 x1 : S4096x2048.Idx → EReal} {x2 : S1x2048.Idx → EReal}

/-- The gradient's reference starts by computing the same normalized value. -/
theorem same : val_main_v15 (F := Ideal) x0 x1 = Cert.Reference5Ideal.Read.val_main_v18 (F := Ideal) x0 x1 := rfl

variable (hd : Fits d x0 x1 x2)
include hd

theorem out_eq (r : Fin 4096) (k : Fin 2048) : val_main_v18 (F := Ideal) x0 x1 x2 (ix2 r k) = out d r k := by
  pointwise [val_main_v18, val_main_v17, val_main_v16]
  rw [same, Gate.Ref.xh_eq hd, hd.g]
  rfl

theorem arr : val_main_v18 (F := Ideal) x0 x1 x2 = res d := by
  funext y
  have e : y = ix2 (y 0 : Fin 4096) (y 1 : Fin 2048) := funext fun a => match a with | ⟨0, _⟩ => rfl | ⟨1, _⟩ => rfl
  exact (congrArg _ e).trans (out_eq hd (y 0) (y 1))

end Cert.GateFwd.Ref

end
-- ==== Proof.AdamW.lean ====
/- The optimiser's step on one entry of a weight, on the extended reals: as the kernels and as the reference compute it. -/
module

public import proofs.«01_k».proof.Proof.Gen.Kernel13Ideal
public import Idealize.ShloMosaic.PureOps.IdealRules

@[expose] public section

noncomputable section

namespace Cert.AdamW

open Idealize.ShloMosaic

/-- The kernels' first constant, named the reciprocal of the number that the reference divides by. -/
def invC1 : EReal := Named.named (F := Ideal) Cert.Kernel13Ideal.κ "inv_c1" (φ := .f32) 0x3FC48605#32
/-- The second one. -/
def invC2 : EReal := Named.named (F := Ideal) Cert.Kernel13Ideal.κ "inv_c2" (φ := .f32) 0x42C8E6D3#32

theorem invC1_eq : invC1 = ((8388608 / 5463681 : ℝ) : EReal) := IdealRules.named_const.ideal_named_scalar _ _ _ _ rfl
theorem invC2_eq : invC2 = ((268435456 / 2672307 : ℝ) : EReal) := IdealRules.named_const.ideal_named_scalar _ _ _ _ rfl

theorem c1_eq : Ideal.ofBits .f32 0x3F26BD02#32 = ((5463681 / 8388608 : ℝ) : EReal) := by
  simp [Ideal.ofBits, Ideal.ieee, -EReal.coe_mul]; norm_num
theorem c2_eq : Ideal.ofBits .f32 0x3C231ACC#32 = ((2672307 / 268435456 : ℝ) : EReal) := by
  simp [Ideal.ofBits, Ideal.ieee, -EReal.coe_mul]; norm_num

/-- A quotient by the reference's first constant is a product with the kernels'. -/
theorem div_c1 (x : EReal) : Ideal.div x (Ideal.ofBits .f32 0x3F26BD02#32) = x * invC1 := by
  rw [c1_eq, invC1_eq, Ideal.div_coe (by norm_num)]
  norm_num
theorem div_c2 (x : EReal) : Ideal.div x (Ideal.ofBits .f32 0x3C231ACC#32) = x * invC2 := by
  rw [c2_eq, invC2_eq, Ideal.div_coe (by norm_num)]
  norm_num

variable {s : Shape} (w g m v : s.Idx → EReal)

/-- The new first moment. -/
def newM : s.Idx → EReal := fun i => Ideal.ofBits .f32 0x3F666666#32 * m i + Ideal.ofBits .f32 0x3DCCCCCD#32 * g i
/-- The new second moment. -/
def newV : s.Idx → EReal := fun i => Ideal.ofBits .f32 0x3F7FBE77#32 * v i + Ideal.ofBits .f32 0x3A83126F#32 * (g i * g i)
/-- The step from the corrected moments `a` and `b`. -/
def step (a b : s.Idx → EReal) : s.Idx → EReal := fun i =>
  Ideal.ofBits .f32 0xBA83126F#32 * (Ideal.div (a i) (Ideal.sqrt (b i) + Ideal.ofBits .f32 0x322BCC77#32) + Ideal.ofBits .f32 0x3C23D70A#32 * w i)
/-- The step, as the kernels compute it. -/
def delta : s.Idx → EReal := step w (fun i => newM g m i * invC1) (fun i => newV g v i * invC2)
/-- The step, as the reference computes it. -/
def deltaRef : s.Idx → EReal :=
  step w (fun i => Ideal.div (newM g m i) (Ideal.ofBits .f32 0x3F26BD02#32)) (fun i => Ideal.div (newV g v i) (Ideal.ofBits .f32 0x3C231ACC#32))

theorem deltaRef_eq : deltaRef w g m v = delta w g m v := by
  unfold deltaRef delta
  simp only [div_c1, div_c2]

end Cert.AdamW

end
-- ==== Proof.KernelCaseA.lean ====
/- What one grid point of the gradient kernel leaves in its three outputs and its carried scratch, in the model: the first point. -/
module

public import proofs.«01_k».proof.Proof.Gen.KernelIdeal.Value
public import proofs.«01_k».proof.Proof.KernelRead
public import Idealize.ShloMosaic.Lib.Pipeline.ReadBack
public import Idealize.ShloMosaic.Lib.WritesUnit

@[expose] public section

set_option maxRecDepth 16384

noncomputable section

namespace Cert.PoolBwd

open Idealize.ShloMosaic Idealize.ShloMosaic.TcCoe Idealize.ShloMosaic.Tactic
open Idealize.SL.Sem
open Cert.KernelIdeal Cert.KernelIdeal.Gen

variable (d : Data) {b : ℕ} (hb : b < 8)
variable {i : grid0.Coords} (hi : Scalar.subi 7#32 (BitVec.ofNat 32 (i 0).val) = BitVec.ofNat 32 b)
variable {x0 x6 : Vec Ideal S512x1024 .f32} {x1 : Vec Ideal S16x1024 .f32} {x2 x4 x5 : Vec Ideal S1x1024 .f32} {x3 : Vec Ideal S4x256x256 .bf16}
variable (h0 : ∀ r c, x0 (ix2 r c) = ((d.X (512 * b + (r : Fin 512)) (c : Fin 1024) : ℝ) : EReal))
variable (h1 : ∀ r c, x1 (ix2 r c) = ((d.X (512 * b - 16 + (r : Fin 16)) (c : Fin 1024) : ℝ) : EReal))
variable (h2 : ∀ c, x2 (ix2 0 c) = ((d.G (c : Fin 1024) : ℝ) : EReal))
variable (h3 : ∀ g j o, x3 (ix3 g j o) = ((d.W (g : Fin 4) (j : Fin 256) (o : Fin 256) : ℝ) : EReal))
variable (h4 : ∀ c, x4 (ix2 0 c) = d.B (c : Fin 1024))
variable (h5 : ∀ c, x5 (ix2 0 c) = ((d.S (c : Fin 1024) : ℝ) : EReal))
variable (h6 : ∀ r c, x6 (ix2 r c) = ((d.D (512 * b + (r : Fin 512)) (c : Fin 1024) : ℝ) : EReal))

variable (c : Dev nD) (arg1 : Memref sig .tc .vmem S512x1024 .f32) (harg1 : arg1.IsWhole) (arg2 : Memref sig .tc .vmem S16x1024 .f32) (harg2 : arg2.IsWhole)
  (arg3 : Memref sig .tc .vmem S1x1024 .f32) (harg3 : arg3.IsWhole) (arg4 : Memref sig .tc .vmem S4x256x256 .bf16) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S512x1024 .f32) (harg7 : arg7.IsWhole) (arg8 : Memref sig .tc .vmem S512x1024 .f32) (harg8 : arg8.IsWhole)
  (arg9 : Memref sig .tc .vmem S4x256x256 .f32) (harg9 : arg9.IsWhole) (arg10 : Memref sig .tc .vmem S8x1024 .f32) (harg10 : arg10.IsWhole)
  (arg11 : Memref sig .tc .vmem S528x1024 .f32) (harg11 : arg11.IsWhole) (arg12 : Memref sig .tc .vmem S528x1024 .f32) (harg12 : arg12.IsWhole)

section
variable (hc0 : cond0_0 i)

variable (hb7 : b = 7)

include hb7 in
theorem k8A (g : Fin 4) (j o : Fin 256) : (k0_pay3 : FVec Ideal S4x256x256 .f32) (ix3 g j o) = ((d.accW (b + 1) g j o : ℝ) : EReal) := by
  subst hb7
  pointwise [k0_pay3]
  simp [Data.accW]

include hb7 in
theorem k9A (r : Fin 8) (c : Fin 1024) : (k0_pay4 : FVec Ideal S8x1024 .f32) (ix2 r c) = d.small (b + 1) r c := by
  subst hb7
  pointwise [k0_pay4]
  simp [Data.small, Data.accG, Data.accB, Data.accS]

include hb7 in
theorem ksA (r : Fin 16) (c : Fin 1024) (g t q : ℕ) (ht : 4096 ≤ t) : (k0_pay5 : FVec Ideal S16x1024 .f32) (ix2 r c) = ((d.dq g t q : ℝ) : EReal) := by
  pointwise [k0_pay5]
  rw [Data.dq, if_neg (by omega)]
  simp

set_option maxHeartbeats 2000000 in
include hb hi h3 h5 h6 in
theorem soutA_eq (r : Fin 528) (col : Fin 1024) (hr : 512 ≤ r.val) :
    sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r col) = ((d.dq (col / 256) (512 * b + (r - 512)) (col % 256) : ℝ) : EReal) := by
  unfold sout0_A_1 kernelRun0_A
  dsimp only
  sl_unfold_words
  simp (disch := first | rfl | decide | (intro a; fin_cases a <;> rfl)) only [↓View.readCov_skip, ↓View.readCov_fill]
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  have hcol : col.val < 256 ∨ (256 ≤ col.val ∧ col.val < 512) ∨ (512 ≤ col.val ∧ col.val < 768) ∨ 768 ≤ col.val := by omega
  rcases hcol with hg | hg | hg | hg
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ ⟨r - 512, by omega⟩ ⟨col - 0, by omega⟩ (by simp; omega) (by simp; try omega)).trans (lo0_eq d hb h6 (s_eq d h5 0 (by norm_num) _) (w_eq d h3 0 (by norm_num) _) _ _ |>.trans ?_)
    simp only [show col.val / 256 = 0 by omega, show col.val % 256 = col.val - 0 by omega]
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ ⟨r - 512, by omega⟩ ⟨col - 256, by omega⟩ (by simp; omega) (by simp; try omega)).trans (lo1_eq d hb h6 (s_eq d h5 256 (by norm_num) _) (w_eq d h3 1 (by norm_num) _) _ _ |>.trans ?_)
    simp only [show col.val / 256 = 1 by omega, show col.val % 256 = col.val - 256 by omega]
  · refine (skip2 _ _ _ _ _ _ _ (by omega)).trans ?_
    refine (skip2 _ _ _ _ _ _ _ (by omega)).trans ?_
    refine (hit2 _ _ _ _ _ _ _ ⟨r - 512, by omega⟩ ⟨col - 512, by omega⟩ (by simp; omega) (by simp; try omega)).trans (lo2_eq d hb h6 (s_eq d h5 512 (by norm_num) _) (w_eq d h3 2 (by norm_num) _) _ _ |>.trans ?_)
    simp only [show col.val / 256 = 2 by omega, show col.val % 256 = col.val - 512 by omega]
  · refine (hit2 _ _ _ _ _ _ _ ⟨r - 512, by omega⟩ ⟨col - 768, by omega⟩ (by simp; omega) (by simp; try omega)).trans (lo3_eq d hb h6 (s_eq d h5 768 (by norm_num) _) (w_eq d h3 3 (by norm_num) _) _ _ |>.trans ?_)
    simp only [show col.val / 256 = 3 by omega, show col.val % 256 = col.val - 768 by omega]

set_option maxHeartbeats 2000000 in
include hb hi h0 h1 h2 h3 h5 h6 hb7 in
theorem outA8_eq (g : Fin 4) (j o : Fin 256) : out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix3 g j o) = ((d.accW b g j o : ℝ) : EReal) := by
  unfold out0_A_8 kernelRun0_A
  dsimp only
  sl_unfold_words
  simp (disch := first | rfl | decide | (intro a; fin_cases a <;> rfl)) only [↓View.readCov_skip, ↓View.readCov_fill]
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  obtain ⟨g, hg⟩ := g
  interval_cases g
  · refine (skip3 _ _ _ _ _ _ _ _ (by simp)).trans ?_
    refine (skip3 _ _ _ _ _ _ _ _ (by simp)).trans ?_
    refine (skip3 _ _ _ _ _ _ _ _ (by simp)).trans ?_
    refine (hit3 _ _ _ _ _ _ _ _ 0 j o rfl (by simp) (by simp)).trans ((dw0_eq d h6 (mixed0_eq d hb h0 h2 (ext_eq d hb hi h0 h1 h2 _ _)) (s_eq d h5 0 (by norm_num) _) _ j o).trans ?_)
    rw [show Data.accW d b 0 j o = Data.accW d (b + 1) 0 j o + _ from block_sum _ b hb, EReal.coe_add]
    congr 1
    exact (ld3 (Val := Elt Ideal) _ _ 0 j o (by simp) (by omega) (by omega)).trans (((k8A d hb7) _ _ _).trans (by simp))
  · refine (skip3 _ _ _ _ _ _ _ _ (by simp)).trans ?_
    refine (skip3 _ _ _ _ _ _ _ _ (by simp)).trans ?_
    refine (hit3 _ _ _ _ _ _ _ _ 0 j o rfl (by simp) (by simp)).trans ((dw1_eq d h6 (mixed1_eq d hb h0 h2 (ext_eq d hb hi h0 h1 h2 _ _)) (s_eq d h5 256 (by norm_num) _) _ j o).trans ?_)
    rw [show Data.accW d b 1 j o = Data.accW d (b + 1) 1 j o + _ from block_sum _ b hb, EReal.coe_add]
    congr 1
    exact (ld3 (Val := Elt Ideal) _ _ 0 j o (by simp) (by omega) (by omega)).trans (((k8A d hb7) _ _ _).trans (by simp))
  · refine (skip3 _ _ _ _ _ _ _ _ (by simp)).trans ?_
    refine (hit3 _ _ _ _ _ _ _ _ 0 j o rfl (by simp) (by simp)).trans ((dw2_eq d h6 (mixed2_eq d hb h0 h2 (ext_eq d hb hi h0 h1 h2 _ _)) (s_eq d h5 512 (by norm_num) _) _ j o).trans ?_)
    rw [show Data.accW d b 2 j o = Data.accW d (b + 1) 2 j o + _ from block_sum _ b hb, EReal.coe_add]
    congr 1
    exact (ld3 (Val := Elt Ideal) _ _ 0 j o (by simp) (by omega) (by omega)).trans (((k8A d hb7) _ _ _).trans (by simp))
  · refine (hit3 _ _ _ _ _ _ _ _ 0 j o rfl (by simp) (by simp)).trans ((dw3_eq d h6 (mixed3_eq d hb h0 h2 (ext_eq d hb hi h0 h1 h2 _ _)) (s_eq d h5 768 (by norm_num) _) _ j o).trans ?_)
    rw [show Data.accW d b 3 j o = Data.accW d (b + 1) 3 j o + _ from block_sum _ b hb, EReal.coe_add]
    congr 1
    exact (ld3 (Val := Elt Ideal) _ _ 0 j o (by simp) (by omega) (by omega)).trans (((k8A d hb7) _ _ _).trans (by simp))

set_option maxHeartbeats 4000000 in
include hb hi h0 h1 h2 h3 h5 h6 hb7 in
theorem outA7_eq (r : Fin 512) (col : Fin 1024) : out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r col) = ((d.dx (512 * b + r) col : ℝ) : EReal) := by
  unfold out0_A_7 kernelRun0_A
  dsimp only
  sl_unfold_words
  simp (disch := first | rfl | decide | (intro a; fin_cases a <;> rfl)) only [↓View.readCov_skip, ↓View.readCov_fill]
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  refine (hit2 _ _ _ _ _ _ _ r col (by simp) (by simp)).trans (dx_eq d h0 h6 _ (fun r col => ?_) r col)
  refine (ld2 (Val := Elt Ideal) _ _ r col (by omega) (by omega)).trans ?_
  have hcol : col.val < 256 ∨ (256 ≤ col.val ∧ col.val < 512) ∨ (512 ≤ col.val ∧ col.val < 768) ∨ 768 ≤ col.val := by omega
  rcases hcol with hg | hg | hg | hg
  · refine (skip2 _ _ _ _ _ _ _ (by simp; omega)).trans ?_
    refine (skip2 _ _ _ _ _ _ _ (by simp; omega)).trans ?_
    refine (skip2 _ _ _ _ _ _ _ (by simp; omega)).trans ?_
    refine (hit2 _ _ _ _ _ _ _ r ⟨col - 0, by omega⟩ (by simp) (by simp; try omega)).trans ((dxh0_eq d h2 (dm0_eq d h6 (s_eq d h5 0 (by norm_num) _) (w_eq d h3 0 (by norm_num) _)) (dext_eq d _ _ 0 0 (by norm_num) rfl _ _ _ _ (st0_eq d hb h6 (s_eq d h5 0 (by norm_num) _) (w_eq d h3 0 (by norm_num) _)) (fun r c q hr hq => (hit2 _ _ _ _ _ _ _ ⟨r - 512, by omega⟩ c (by simp; omega) (by simp)).trans (ksA d hb7 _ _ _ _ _ (by omega)))) _ _).trans ?_)
    simp only [show 0 + (col.val - 0) = col.val by omega]
  · refine (skip2 _ _ _ _ _ _ _ (by simp; omega)).trans ?_
    refine (skip2 _ _ _ _ _ _ _ (by simp; omega)).trans ?_
    refine (hit2 _ _ _ _ _ _ _ r ⟨col - 256, by omega⟩ (by simp) (by simp; try omega)).trans ((dxh1_eq d h2 (dm1_eq d h6 (s_eq d h5 256 (by norm_num) _) (w_eq d h3 1 (by norm_num) _)) (dext_eq d _ _ 1 256 (by norm_num) rfl _ _ _ _ (st1_eq d hb h6 (s_eq d h5 256 (by norm_num) _) (w_eq d h3 1 (by norm_num) _)) (fun r c q hr hq => skip2 _ _ _ _ _ _ _ (by omega) |>.trans <| skip2 _ _ _ _ _ _ _ (by omega) |>.trans <| (hit2 _ _ _ _ _ _ _ ⟨r - 512, by omega⟩ c (by simp; omega) (by simp)).trans (ksA d hb7 _ _ _ _ _ (by omega)))) _ _).trans ?_)
    simp only [show 256 + (col.val - 256) = col.val by omega]
  · refine (skip2 _ _ _ _ _ _ _ (by simp; omega)).trans ?_
    refine (hit2 _ _ _ _ _ _ _ r ⟨col - 512, by omega⟩ (by simp) (by simp; try omega)).trans ((dxh2_eq d h2 (dm2_eq d h6 (s_eq d h5 512 (by norm_num) _) (w_eq d h3 2 (by norm_num) _)) (dext_eq d _ _ 2 512 (by norm_num) rfl _ _ _ _ (st2_eq d hb h6 (s_eq d h5 512 (by norm_num) _) (w_eq d h3 2 (by norm_num) _)) (fun r c q hr hq => skip2 _ _ _ _ _ _ _ (by omega) |>.trans <| skip2 _ _ _ _ _ _ _ (by omega) |>.trans <| skip2 _ _ _ _ _ _ _ (by omega) |>.trans <| skip2 _ _ _ _ _ _ _ (by omega) |>.trans <| (hit2 _ _ _ _ _ _ _ ⟨r - 512, by omega⟩ c (by simp; omega) (by simp)).trans (ksA d hb7 _ _ _ _ _ (by omega)))) _ _).trans ?_)
    simp only [show 512 + (col.val - 512) = col.val by omega]
  · refine (hit2 _ _ _ _ _ _ _ r ⟨col - 768, by omega⟩ (by simp) (by simp; try omega)).trans ((dxh3_eq d h2 (dm3_eq d h6 (s_eq d h5 768 (by norm_num) _) (w_eq d h3 3 (by norm_num) _)) (dext_eq d _ _ 3 768 (by norm_num) rfl _ _ _ _ (st3_eq d hb h6 (s_eq d h5 768 (by norm_num) _) (w_eq d h3 3 (by norm_num) _)) (fun r c q hr hq => skip2 _ _ _ _ _ _ _ (by omega) |>.trans <| skip2 _ _ _ _ _ _ _ (by omega) |>.trans <| skip2 _ _ _ _ _ _ _ (by omega) |>.trans <| skip2 _ _ _ _ _ _ _ (by omega) |>.trans <| skip2 _ _ _ _ _ _ _ (by omega) |>.trans <| skip2 _ _ _ _ _ _ _ (by omega) |>.trans <| (hit2 _ _ _ _ _ _ _ ⟨r - 512, by omega⟩ c (by simp; omega) (by simp)).trans (ksA d hb7 _ _ _ _ _ (by omega)))) _ _).trans ?_)
    simp only [show 768 + (col.val - 768) = col.val by omega]

set_option maxHeartbeats 4000000 in
include hb hi h0 h2 h3 h5 h6 hb7 in
theorem outA9_0 (r : Fin 8) (col : Fin 1024) (hr : r.val = 0) : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r col) = d.small b r col := by
  unfold out0_A_9 kernelRun0_A
  dsimp only
  sl_unfold_words
  simp (disch := first | rfl | decide | (intro a; fin_cases a <;> rfl)) only [↓View.readCov_skip, ↓View.readCov_fill]
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  have hcol : col.val < 256 ∨ (256 ≤ col.val ∧ col.val < 512) ∨ (512 ≤ col.val ∧ col.val < 768) ∨ 768 ≤ col.val := by omega
  rcases hcol with hg | hg | hg | hg
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 0, by omega⟩ (by simp; try omega) (by simp; try omega)).trans ((dg0_eq d h0 (dm0_eq d h6 (s_eq d h5 0 (by norm_num) _) (w_eq d h3 0 (by norm_num) _)) (dext_eq d _ _ 0 0 (by norm_num) rfl _ _ _ _ (st0_eq d hb h6 (s_eq d h5 0 (by norm_num) _) (w_eq d h3 0 (by norm_num) _)) (fun r c q hr hq => (hit2 _ _ _ _ _ _ _ ⟨r - 512, by omega⟩ c (by simp; omega) (by simp)).trans (ksA d hb7 _ _ _ _ _ (by omega)))) _).trans ?_)
    refine (congrArg (· + _) ((ld2 (Val := Elt Ideal) _ _ 0 ⟨col - 0, by omega⟩ (by simp) (by simp; try omega)).trans ((k9A d hb7) _ _))).trans ?_
    have e : 0 + (col.val - 0) = col.val := by omega
    simp only [e]
    exact small0 d hb col 0 (col.val - 0) (by omega) (by omega) r.val hr
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 256, by omega⟩ (by simp; try omega) (by simp; try omega)).trans ((dg1_eq d h0 (dm1_eq d h6 (s_eq d h5 256 (by norm_num) _) (w_eq d h3 1 (by norm_num) _)) (dext_eq d _ _ 1 256 (by norm_num) rfl _ _ _ _ (st1_eq d hb h6 (s_eq d h5 256 (by norm_num) _) (w_eq d h3 1 (by norm_num) _)) (fun r c q hr hq => skip2 _ _ _ _ _ _ _ (by omega) |>.trans <| skip2 _ _ _ _ _ _ _ (by omega) |>.trans <| (hit2 _ _ _ _ _ _ _ ⟨r - 512, by omega⟩ c (by simp; omega) (by simp)).trans (ksA d hb7 _ _ _ _ _ (by omega)))) _).trans ?_)
    refine (congrArg (· + _) ((ld2 (Val := Elt Ideal) _ _ 0 ⟨col - 256, by omega⟩ (by simp) (by simp; try omega)).trans ((k9A d hb7) _ _))).trans ?_
    have e : 256 + (col.val - 256) = col.val := by omega
    simp only [e]
    exact small0 d hb col 1 (col.val - 256) (by omega) (by omega) r.val hr
  · refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 512, by omega⟩ (by simp; try omega) (by simp; try omega)).trans ((dg2_eq d h0 (dm2_eq d h6 (s_eq d h5 512 (by norm_num) _) (w_eq d h3 2 (by norm_num) _)) (dext_eq d _ _ 2 512 (by norm_num) rfl _ _ _ _ (st2_eq d hb h6 (s_eq d h5 512 (by norm_num) _) (w_eq d h3 2 (by norm_num) _)) (fun r c q hr hq => skip2 _ _ _ _ _ _ _ (by omega) |>.trans <| skip2 _ _ _ _ _ _ _ (by omega) |>.trans <| skip2 _ _ _ _ _ _ _ (by omega) |>.trans <| skip2 _ _ _ _ _ _ _ (by omega) |>.trans <| (hit2 _ _ _ _ _ _ _ ⟨r - 512, by omega⟩ c (by simp; omega) (by simp)).trans (ksA d hb7 _ _ _ _ _ (by omega)))) _).trans ?_)
    refine (congrArg (· + _) ((ld2 (Val := Elt Ideal) _ _ 0 ⟨col - 512, by omega⟩ (by simp) (by simp; try omega)).trans ((k9A d hb7) _ _))).trans ?_
    have e : 512 + (col.val - 512) = col.val := by omega
    simp only [e]
    exact small0 d hb col 2 (col.val - 512) (by omega) (by omega) r.val hr
  · refine (hit2 _ _ _ _ _ _ _ 0 ⟨col - 768, by omega⟩ (by simp; try omega) (by simp; try omega)).trans ((dg3_eq d h0 (dm3_eq d h6 (s_eq d h5 768 (by norm_num) _) (w_eq d h3 3 (by norm_num) _)) (dext_eq d _ _ 3 768 (by norm_num) rfl _ _ _ _ (st3_eq d hb h6 (s_eq d h5 768 (by norm_num) _) (w_eq d h3 3 (by norm_num) _)) (fun r c q hr hq => skip2 _ _ _ _ _ _ _ (by omega) |>.trans <| skip2 _ _ _ _ _ _ _ (by omega) |>.trans <| skip2 _ _ _ _ _ _ _ (by omega) |>.trans <| skip2 _ _ _ _ _ _ _ (by omega) |>.trans <| skip2 _ _ _ _ _ _ _ (by omega) |>.trans <| skip2 _ _ _ _ _ _ _ (by omega) |>.trans <| (hit2 _ _ _ _ _ _ _ ⟨r - 512, by omega⟩ c (by simp; omega) (by simp)).trans (ksA d hb7 _ _ _ _ _ (by omega)))) _).trans ?_)
    refine (congrArg (· + _) ((ld2 (Val := Elt Ideal) _ _ 0 ⟨col - 768, by omega⟩ (by simp) (by simp; try omega)).trans ((k9A d hb7) _ _))).trans ?_
    have e : 768 + (col.val - 768) = col.val := by omega
    simp only [e]
    exact small0 d hb col 3 (col.val - 768) (by omega) (by omega) r.val hr

set_option maxHeartbeats 4000000 in
include hb hi h5 h6 hb7 in
theorem outA9_1 (r : Fin 8) (col : Fin 1024) (hr : r.val = 1) : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r col) = d.small b r col := by
  unfold out0_A_9 kernelRun0_A
  dsimp only
  sl_unfold_words
  simp (disch := first | rfl | decide | (intro a; fin_cases a <;> rfl)) only [↓View.readCov_skip, ↓View.readCov_fill]
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  have hcol : col.val < 256 ∨ (256 ≤ col.val ∧ col.val < 512) ∨ (512 ≤ col.val ∧ col.val < 768) ∨ 768 ≤ col.val := by omega
  rcases hcol with hg | hg | hg | hg
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 0, by omega⟩ (by simp; try omega) (by simp; try omega)).trans ((db0_eq d h6 (s_eq d h5 0 (by norm_num) _) _).trans ?_)
    refine (congrArg (· + _) ((ld2 (Val := Elt Ideal) _ _ 0 ⟨col - 0, by omega⟩ (by simp) (by simp; try omega)).trans ((k9A d hb7) _ _))).trans ?_
    have e : 0 + (col.val - 0) = col.val := by omega
    simp only [e]
    exact small1 d hb col 0 (col.val - 0) (by omega) (by omega) r.val hr
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 256, by omega⟩ (by simp; try omega) (by simp; try omega)).trans ((db1_eq d h6 (s_eq d h5 256 (by norm_num) _) _).trans ?_)
    refine (congrArg (· + _) ((ld2 (Val := Elt Ideal) _ _ 0 ⟨col - 256, by omega⟩ (by simp) (by simp; try omega)).trans ((k9A d hb7) _ _))).trans ?_
    have e : 256 + (col.val - 256) = col.val := by omega
    simp only [e]
    exact small1 d hb col 1 (col.val - 256) (by omega) (by omega) r.val hr
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 512, by omega⟩ (by simp; try omega) (by simp; try omega)).trans ((db2_eq d h6 (s_eq d h5 512 (by norm_num) _) _).trans ?_)
    refine (congrArg (· + _) ((ld2 (Val := Elt Ideal) _ _ 0 ⟨col - 512, by omega⟩ (by simp) (by simp; try omega)).trans ((k9A d hb7) _ _))).trans ?_
    have e : 512 + (col.val - 512) = col.val := by omega
    simp only [e]
    exact small1 d hb col 2 (col.val - 512) (by omega) (by omega) r.val hr
  · refine (skip2 _ _ _ _ _ _ _ (by omega)).trans ?_
    refine (hit2 _ _ _ _ _ _ _ 0 ⟨col - 768, by omega⟩ (by simp; try omega) (by simp; try omega)).trans ((db3_eq d h6 (s_eq d h5 768 (by norm_num) _) _).trans ?_)
    refine (congrArg (· + _) ((ld2 (Val := Elt Ideal) _ _ 0 ⟨col - 768, by omega⟩ (by simp) (by simp; try omega)).trans ((k9A d hb7) _ _))).trans ?_
    have e : 768 + (col.val - 768) = col.val := by omega
    simp only [e]
    exact small1 d hb col 3 (col.val - 768) (by omega) (by omega) r.val hr

set_option maxHeartbeats 4000000 in
include hb hi h0 h1 h2 h3 h4 h6 hb7 in
theorem outA9_2 (r : Fin 8) (col : Fin 1024) (hr : r.val = 2) : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r col) = d.small b r col := by
  unfold out0_A_9 kernelRun0_A
  dsimp only
  sl_unfold_words
  simp (disch := first | rfl | decide | (intro a; fin_cases a <;> rfl)) only [↓View.readCov_skip, ↓View.readCov_fill]
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  have hcol : col.val < 256 ∨ (256 ≤ col.val ∧ col.val < 512) ∨ (512 ≤ col.val ∧ col.val < 768) ∨ 768 ≤ col.val := by omega
  rcases hcol with hg | hg | hg | hg
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 0, by omega⟩ (by simp; try omega) (by simp; try omega)).trans ((ds0_eq d h6 (mixed0_eq d hb h0 h2 (ext_eq d hb hi h0 h1 h2 _ _)) (w_eq d h3 0 (by norm_num) _) (b_eq d h4 0 (by norm_num) _) _).trans ?_)
    refine (congrArg (· + _) ((ld2 (Val := Elt Ideal) _ _ 0 ⟨col - 0, by omega⟩ (by simp) (by simp; try omega)).trans ((k9A d hb7) _ _))).trans ?_
    have e : 0 + (col.val - 0) = col.val := by omega
    simp only [e]
    exact small2 d hb col 0 (col.val - 0) (by omega) (by omega) r.val hr
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 256, by omega⟩ (by simp; try omega) (by simp; try omega)).trans ((ds1_eq d h6 (mixed1_eq d hb h0 h2 (ext_eq d hb hi h0 h1 h2 _ _)) (w_eq d h3 1 (by norm_num) _) (b_eq d h4 256 (by norm_num) _) _).trans ?_)
    refine (congrArg (· + _) ((ld2 (Val := Elt Ideal) _ _ 0 ⟨col - 256, by omega⟩ (by simp) (by simp; try omega)).trans ((k9A d hb7) _ _))).trans ?_
    have e : 256 + (col.val - 256) = col.val := by omega
    simp only [e]
    exact small2 d hb col 1 (col.val - 256) (by omega) (by omega) r.val hr
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 512, by omega⟩ (by simp; try omega) (by simp; try omega)).trans ((ds2_eq d h6 (mixed2_eq d hb h0 h2 (ext_eq d hb hi h0 h1 h2 _ _)) (w_eq d h3 2 (by norm_num) _) (b_eq d h4 512 (by norm_num) _) _).trans ?_)
    refine (congrArg (· + _) ((ld2 (Val := Elt Ideal) _ _ 0 ⟨col - 512, by omega⟩ (by simp) (by simp; try omega)).trans ((k9A d hb7) _ _))).trans ?_
    have e : 512 + (col.val - 512) = col.val := by omega
    simp only [e]
    exact small2 d hb col 2 (col.val - 512) (by omega) (by omega) r.val hr
  · refine (skip2 _ _ _ _ _ _ _ (by omega)).trans ?_
    refine (skip2 _ _ _ _ _ _ _ (by omega)).trans ?_
    refine (hit2 _ _ _ _ _ _ _ 0 ⟨col - 768, by omega⟩ (by simp; try omega) (by simp; try omega)).trans ((ds3_eq d h6 (mixed3_eq d hb h0 h2 (ext_eq d hb hi h0 h1 h2 _ _)) (w_eq d h3 3 (by norm_num) _) (b_eq d h4 768 (by norm_num) _) _).trans ?_)
    refine (congrArg (· + _) ((ld2 (Val := Elt Ideal) _ _ 0 ⟨col - 768, by omega⟩ (by simp) (by simp; try omega)).trans ((k9A d hb7) _ _))).trans ?_
    have e : 768 + (col.val - 768) = col.val := by omega
    simp only [e]
    exact small2 d hb col 3 (col.val - 768) (by omega) (by omega) r.val hr

set_option maxHeartbeats 4000000 in
include hi hb7 in
theorem outA9_3 (r : Fin 8) (col : Fin 1024) (hr : 3 ≤ r.val) : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 r col) = d.small b r col := by
  unfold out0_A_9 kernelRun0_A
  dsimp only
  sl_unfold_words
  simp (disch := first | rfl | decide | (intro a; fin_cases a <;> rfl)) only [↓View.readCov_skip, ↓View.readCov_fill]
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (hit2 _ _ _ _ _ _ _ r col (by simp) (by simp)).trans (((k9A d hb7) _ _).trans ?_)
  unfold Data.small
  rw [if_neg (by omega), if_neg (by omega), if_neg (by omega), if_neg (by omega), if_neg (by omega), if_neg (by omega)]

end

end Cert.PoolBwd

end
-- ==== Proof.KernelCaseB.lean ====
/- What one grid point of the gradient kernel leaves in its three outputs and its carried scratch, in the model: every later point. -/
module

public import proofs.«01_k».proof.Proof.Gen.KernelIdeal.Value
public import proofs.«01_k».proof.Proof.KernelRead
public import Idealize.ShloMosaic.Lib.Pipeline.ReadBack
public import Idealize.ShloMosaic.Lib.WritesUnit

@[expose] public section

set_option maxRecDepth 16384

noncomputable section

namespace Cert.PoolBwd

open Idealize.ShloMosaic Idealize.ShloMosaic.TcCoe Idealize.ShloMosaic.Tactic
open Idealize.SL.Sem
open Cert.KernelIdeal Cert.KernelIdeal.Gen

variable (d : Data) {b : ℕ} (hb : b < 8)
variable {i : grid0.Coords} (hi : Scalar.subi 7#32 (BitVec.ofNat 32 (i 0).val) = BitVec.ofNat 32 b)
variable {x0 x6 : Vec Ideal S512x1024 .f32} {x1 : Vec Ideal S16x1024 .f32} {x2 x4 x5 : Vec Ideal S1x1024 .f32} {x3 : Vec Ideal S4x256x256 .bf16}
variable (h0 : ∀ r c, x0 (ix2 r c) = ((d.X (512 * b + (r : Fin 512)) (c : Fin 1024) : ℝ) : EReal))
variable (h1 : ∀ r c, x1 (ix2 r c) = ((d.X (512 * b - 16 + (r : Fin 16)) (c : Fin 1024) : ℝ) : EReal))
variable (h2 : ∀ c, x2 (ix2 0 c) = ((d.G (c : Fin 1024) : ℝ) : EReal))
variable (h3 : ∀ g j o, x3 (ix3 g j o) = ((d.W (g : Fin 4) (j : Fin 256) (o : Fin 256) : ℝ) : EReal))
variable (h4 : ∀ c, x4 (ix2 0 c) = d.B (c : Fin 1024))
variable (h5 : ∀ c, x5 (ix2 0 c) = ((d.S (c : Fin 1024) : ℝ) : EReal))
variable (h6 : ∀ r c, x6 (ix2 r c) = ((d.D (512 * b + (r : Fin 512)) (c : Fin 1024) : ℝ) : EReal))

variable (c : Dev nD) (arg1 : Memref sig .tc .vmem S512x1024 .f32) (harg1 : arg1.IsWhole) (arg2 : Memref sig .tc .vmem S16x1024 .f32) (harg2 : arg2.IsWhole)
  (arg3 : Memref sig .tc .vmem S1x1024 .f32) (harg3 : arg3.IsWhole) (arg4 : Memref sig .tc .vmem S4x256x256 .bf16) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S512x1024 .f32) (harg7 : arg7.IsWhole) (arg8 : Memref sig .tc .vmem S512x1024 .f32) (harg8 : arg8.IsWhole)
  (arg9 : Memref sig .tc .vmem S4x256x256 .f32) (harg9 : arg9.IsWhole) (arg10 : Memref sig .tc .vmem S8x1024 .f32) (harg10 : arg10.IsWhole)
  (arg11 : Memref sig .tc .vmem S528x1024 .f32) (harg11 : arg11.IsWhole) (arg12 : Memref sig .tc .vmem S528x1024 .f32) (harg12 : arg12.IsWhole)

section
variable (hc0 : ¬cond0_0 i)

variable {xo8 : Vec Ideal S4x256x256 .f32} {xo9 : Vec Ideal S8x1024 .f32} {xs1 : Vec Ideal S528x1024 .f32}
variable (k8 : ∀ g j o, xo8 (ix3 g j o) = ((d.accW (b + 1) (g : Fin 4) (j : Fin 256) (o : Fin 256) : ℝ) : EReal))
variable (k9 : ∀ r c, xo9 (ix2 r c) = d.small (b + 1) (r : Fin 8) (c : Fin 1024))
variable (ks : ∀ (r : Fin 528) (c : Fin 1024), 512 ≤ r.val → xs1 (ix2 r c) = ((d.dq (c / 256) (512 * b + r) (c % 256) : ℝ) : EReal))

include ks in
theorem tailB (g : ℕ) (hg : g < 4) (r : Fin 528) (c : Fin 1024) (q : Fin 256) (hr : 512 ≤ r.val) (hq : c.val = 256 * g + q.val) :
    arg12.view.read (Elt Ideal) (arg12.view.writes (Elt Ideal) (harg12.unread xs1) []) (ix2 r c) = ((d.dq g (512 * b + r) q : ℝ) : EReal) := by
  have e : arg12.view.read (Elt Ideal) (arg12.view.writes (Elt Ideal) (harg12.unread xs1) []) = xs1 := harg12.read_unread xs1
  rw [e, ks r c hr, show c.val / 256 = g by omega, show c.val % 256 = q.val by omega]

set_option maxHeartbeats 2000000 in
include hb hi h3 h5 h6 in
theorem soutB_eq (r : Fin 528) (col : Fin 1024) (hr : 512 ≤ r.val) :
    sout0_B_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xs1 (ix2 r col) = ((d.dq (col / 256) (512 * b + (r - 512)) (col % 256) : ℝ) : EReal) := by
  unfold sout0_B_1 kernelRun0_B
  dsimp only
  sl_unfold_words
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  have hcol : col.val < 256 ∨ (256 ≤ col.val ∧ col.val < 512) ∨ (512 ≤ col.val ∧ col.val < 768) ∨ 768 ≤ col.val := by omega
  rcases hcol with hg | hg | hg | hg
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ ⟨r - 512, by omega⟩ ⟨col - 0, by omega⟩ (by simp; omega) (by simp; try omega)).trans (lo0_eq d hb h6 (s_eq d h5 0 (by norm_num) _) (w_eq d h3 0 (by norm_num) _) _ _ |>.trans ?_)
    simp only [show col.val / 256 = 0 by omega, show col.val % 256 = col.val - 0 by omega]
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ ⟨r - 512, by omega⟩ ⟨col - 256, by omega⟩ (by simp; omega) (by simp; try omega)).trans (lo1_eq d hb h6 (s_eq d h5 256 (by norm_num) _) (w_eq d h3 1 (by norm_num) _) _ _ |>.trans ?_)
    simp only [show col.val / 256 = 1 by omega, show col.val % 256 = col.val - 256 by omega]
  · refine (skip2 _ _ _ _ _ _ _ (by omega)).trans ?_
    refine (skip2 _ _ _ _ _ _ _ (by omega)).trans ?_
    refine (hit2 _ _ _ _ _ _ _ ⟨r - 512, by omega⟩ ⟨col - 512, by omega⟩ (by simp; omega) (by simp; try omega)).trans (lo2_eq d hb h6 (s_eq d h5 512 (by norm_num) _) (w_eq d h3 2 (by norm_num) _) _ _ |>.trans ?_)
    simp only [show col.val / 256 = 2 by omega, show col.val % 256 = col.val - 512 by omega]
  · refine (hit2 _ _ _ _ _ _ _ ⟨r - 512, by omega⟩ ⟨col - 768, by omega⟩ (by simp; omega) (by simp; try omega)).trans (lo3_eq d hb h6 (s_eq d h5 768 (by norm_num) _) (w_eq d h3 3 (by norm_num) _) _ _ |>.trans ?_)
    simp only [show col.val / 256 = 3 by omega, show col.val % 256 = col.val - 768 by omega]

set_option maxHeartbeats 2000000 in
include hb hi h0 h1 h2 h3 h5 h6 k8 in
theorem outB8_eq (g : Fin 4) (j o : Fin 256) : out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xs1 (ix3 g j o) = ((d.accW b g j o : ℝ) : EReal) := by
  unfold out0_B_8 kernelRun0_B
  dsimp only
  sl_unfold_words
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  obtain ⟨g, hg⟩ := g
  interval_cases g
  · refine (skip3 _ _ _ _ _ _ _ _ (by simp)).trans ?_
    refine (skip3 _ _ _ _ _ _ _ _ (by simp)).trans ?_
    refine (skip3 _ _ _ _ _ _ _ _ (by simp)).trans ?_
    refine (hit3 _ _ _ _ _ _ _ _ 0 j o rfl (by simp) (by simp)).trans ((dw0_eq d h6 (mixed0_eq d hb h0 h2 (ext_eq d hb hi h0 h1 h2 _ _)) (s_eq d h5 0 (by norm_num) _) _ j o).trans ?_)
    rw [show Data.accW d b 0 j o = Data.accW d (b + 1) 0 j o + _ from block_sum _ b hb, EReal.coe_add]
    congr 1
    exact (ld3 (Val := Elt Ideal) _ _ 0 j o (by simp) (by omega) (by omega)).trans ((k8 _ _ _).trans (by simp))
  · refine (skip3 _ _ _ _ _ _ _ _ (by simp)).trans ?_
    refine (skip3 _ _ _ _ _ _ _ _ (by simp)).trans ?_
    refine (hit3 _ _ _ _ _ _ _ _ 0 j o rfl (by simp) (by simp)).trans ((dw1_eq d h6 (mixed1_eq d hb h0 h2 (ext_eq d hb hi h0 h1 h2 _ _)) (s_eq d h5 256 (by norm_num) _) _ j o).trans ?_)
    rw [show Data.accW d b 1 j o = Data.accW d (b + 1) 1 j o + _ from block_sum _ b hb, EReal.coe_add]
    congr 1
    exact (ld3 (Val := Elt Ideal) _ _ 0 j o (by simp) (by omega) (by omega)).trans ((k8 _ _ _).trans (by simp))
  · refine (skip3 _ _ _ _ _ _ _ _ (by simp)).trans ?_
    refine (hit3 _ _ _ _ _ _ _ _ 0 j o rfl (by simp) (by simp)).trans ((dw2_eq d h6 (mixed2_eq d hb h0 h2 (ext_eq d hb hi h0 h1 h2 _ _)) (s_eq d h5 512 (by norm_num) _) _ j o).trans ?_)
    rw [show Data.accW d b 2 j o = Data.accW d (b + 1) 2 j o + _ from block_sum _ b hb, EReal.coe_add]
    congr 1
    exact (ld3 (Val := Elt Ideal) _ _ 0 j o (by simp) (by omega) (by omega)).trans ((k8 _ _ _).trans (by simp))
  · refine (hit3 _ _ _ _ _ _ _ _ 0 j o rfl (by simp) (by simp)).trans ((dw3_eq d h6 (mixed3_eq d hb h0 h2 (ext_eq d hb hi h0 h1 h2 _ _)) (s_eq d h5 768 (by norm_num) _) _ j o).trans ?_)
    rw [show Data.accW d b 3 j o = Data.accW d (b + 1) 3 j o + _ from block_sum _ b hb, EReal.coe_add]
    congr 1
    exact (ld3 (Val := Elt Ideal) _ _ 0 j o (by simp) (by omega) (by omega)).trans ((k8 _ _ _).trans (by simp))

set_option maxHeartbeats 4000000 in
include hb hi h0 h1 h2 h3 h5 h6 ks in
theorem outB7_eq (r : Fin 512) (col : Fin 1024) : out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xs1 (ix2 r col) = ((d.dx (512 * b + r) col : ℝ) : EReal) := by
  unfold out0_B_7 kernelRun0_B
  dsimp only
  sl_unfold_words
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  refine (hit2 _ _ _ _ _ _ _ r col (by simp) (by simp)).trans (dx_eq d h0 h6 _ (fun r col => ?_) r col)
  refine (ld2 (Val := Elt Ideal) _ _ r col (by omega) (by omega)).trans ?_
  have hcol : col.val < 256 ∨ (256 ≤ col.val ∧ col.val < 512) ∨ (512 ≤ col.val ∧ col.val < 768) ∨ 768 ≤ col.val := by omega
  rcases hcol with hg | hg | hg | hg
  · refine (skip2 _ _ _ _ _ _ _ (by simp; omega)).trans ?_
    refine (skip2 _ _ _ _ _ _ _ (by simp; omega)).trans ?_
    refine (skip2 _ _ _ _ _ _ _ (by simp; omega)).trans ?_
    refine (hit2 _ _ _ _ _ _ _ r ⟨col - 0, by omega⟩ (by simp) (by simp; try omega)).trans ((dxh0_eq d h2 (dm0_eq d h6 (s_eq d h5 0 (by norm_num) _) (w_eq d h3 0 (by norm_num) _)) (dext_eq d _ _ 0 0 (by norm_num) rfl _ _ _ _ (st0_eq d hb h6 (s_eq d h5 0 (by norm_num) _) (w_eq d h3 0 (by norm_num) _)) (fun r c q hr hq => (tailB d arg12 harg12 ks 0 (by norm_num) r c q hr hq))) _ _).trans ?_)
    simp only [show 0 + (col.val - 0) = col.val by omega]
  · refine (skip2 _ _ _ _ _ _ _ (by simp; omega)).trans ?_
    refine (skip2 _ _ _ _ _ _ _ (by simp; omega)).trans ?_
    refine (hit2 _ _ _ _ _ _ _ r ⟨col - 256, by omega⟩ (by simp) (by simp; try omega)).trans ((dxh1_eq d h2 (dm1_eq d h6 (s_eq d h5 256 (by norm_num) _) (w_eq d h3 1 (by norm_num) _)) (dext_eq d _ _ 1 256 (by norm_num) rfl _ _ _ _ (st1_eq d hb h6 (s_eq d h5 256 (by norm_num) _) (w_eq d h3 1 (by norm_num) _)) (fun r c q hr hq => skip2 _ _ _ _ _ _ _ (by omega) |>.trans <| skip2 _ _ _ _ _ _ _ (by omega) |>.trans <| (tailB d arg12 harg12 ks 1 (by norm_num) r c q hr hq))) _ _).trans ?_)
    simp only [show 256 + (col.val - 256) = col.val by omega]
  · refine (skip2 _ _ _ _ _ _ _ (by simp; omega)).trans ?_
    refine (hit2 _ _ _ _ _ _ _ r ⟨col - 512, by omega⟩ (by simp) (by simp; try omega)).trans ((dxh2_eq d h2 (dm2_eq d h6 (s_eq d h5 512 (by norm_num) _) (w_eq d h3 2 (by norm_num) _)) (dext_eq d _ _ 2 512 (by norm_num) rfl _ _ _ _ (st2_eq d hb h6 (s_eq d h5 512 (by norm_num) _) (w_eq d h3 2 (by norm_num) _)) (fun r c q hr hq => skip2 _ _ _ _ _ _ _ (by omega) |>.trans <| skip2 _ _ _ _ _ _ _ (by omega) |>.trans <| skip2 _ _ _ _ _ _ _ (by omega) |>.trans <| skip2 _ _ _ _ _ _ _ (by omega) |>.trans <| (tailB d arg12 harg12 ks 2 (by norm_num) r c q hr hq))) _ _).trans ?_)
    simp only [show 512 + (col.val - 512) = col.val by omega]
  · refine (hit2 _ _ _ _ _ _ _ r ⟨col - 768, by omega⟩ (by simp) (by simp; try omega)).trans ((dxh3_eq d h2 (dm3_eq d h6 (s_eq d h5 768 (by norm_num) _) (w_eq d h3 3 (by norm_num) _)) (dext_eq d _ _ 3 768 (by norm_num) rfl _ _ _ _ (st3_eq d hb h6 (s_eq d h5 768 (by norm_num) _) (w_eq d h3 3 (by norm_num) _)) (fun r c q hr hq => skip2 _ _ _ _ _ _ _ (by omega) |>.trans <| skip2 _ _ _ _ _ _ _ (by omega) |>.trans <| skip2 _ _ _ _ _ _ _ (by omega) |>.trans <| skip2 _ _ _ _ _ _ _ (by omega) |>.trans <| skip2 _ _ _ _ _ _ _ (by omega) |>.trans <| skip2 _ _ _ _ _ _ _ (by omega) |>.trans <| (tailB d arg12 harg12 ks 3 (by norm_num) r c q hr hq))) _ _).trans ?_)
    simp only [show 768 + (col.val - 768) = col.val by omega]

set_option maxHeartbeats 4000000 in
include hb hi h0 h2 h3 h5 h6 ks k9 in
theorem outB9_0 (r : Fin 8) (col : Fin 1024) (hr : r.val = 0) : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xs1 (ix2 r col) = d.small b r col := by
  unfold out0_B_9 kernelRun0_B
  dsimp only
  sl_unfold_words
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  have hcol : col.val < 256 ∨ (256 ≤ col.val ∧ col.val < 512) ∨ (512 ≤ col.val ∧ col.val < 768) ∨ 768 ≤ col.val := by omega
  rcases hcol with hg | hg | hg | hg
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 0, by omega⟩ (by simp; try omega) (by simp; try omega)).trans ((dg0_eq d h0 (dm0_eq d h6 (s_eq d h5 0 (by norm_num) _) (w_eq d h3 0 (by norm_num) _)) (dext_eq d _ _ 0 0 (by norm_num) rfl _ _ _ _ (st0_eq d hb h6 (s_eq d h5 0 (by norm_num) _) (w_eq d h3 0 (by norm_num) _)) (fun r c q hr hq => (tailB d arg12 harg12 ks 0 (by norm_num) r c q hr hq))) _).trans ?_)
    refine (congrArg (· + _) ((ld2 (Val := Elt Ideal) _ _ 0 ⟨col - 0, by omega⟩ (by simp) (by simp; try omega)).trans (k9 _ _))).trans ?_
    have e : 0 + (col.val - 0) = col.val := by omega
    simp only [e]
    exact small0 d hb col 0 (col.val - 0) (by omega) (by omega) r.val hr
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 256, by omega⟩ (by simp; try omega) (by simp; try omega)).trans ((dg1_eq d h0 (dm1_eq d h6 (s_eq d h5 256 (by norm_num) _) (w_eq d h3 1 (by norm_num) _)) (dext_eq d _ _ 1 256 (by norm_num) rfl _ _ _ _ (st1_eq d hb h6 (s_eq d h5 256 (by norm_num) _) (w_eq d h3 1 (by norm_num) _)) (fun r c q hr hq => skip2 _ _ _ _ _ _ _ (by omega) |>.trans <| skip2 _ _ _ _ _ _ _ (by omega) |>.trans <| (tailB d arg12 harg12 ks 1 (by norm_num) r c q hr hq))) _).trans ?_)
    refine (congrArg (· + _) ((ld2 (Val := Elt Ideal) _ _ 0 ⟨col - 256, by omega⟩ (by simp) (by simp; try omega)).trans (k9 _ _))).trans ?_
    have e : 256 + (col.val - 256) = col.val := by omega
    simp only [e]
    exact small0 d hb col 1 (col.val - 256) (by omega) (by omega) r.val hr
  · refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 512, by omega⟩ (by simp; try omega) (by simp; try omega)).trans ((dg2_eq d h0 (dm2_eq d h6 (s_eq d h5 512 (by norm_num) _) (w_eq d h3 2 (by norm_num) _)) (dext_eq d _ _ 2 512 (by norm_num) rfl _ _ _ _ (st2_eq d hb h6 (s_eq d h5 512 (by norm_num) _) (w_eq d h3 2 (by norm_num) _)) (fun r c q hr hq => skip2 _ _ _ _ _ _ _ (by omega) |>.trans <| skip2 _ _ _ _ _ _ _ (by omega) |>.trans <| skip2 _ _ _ _ _ _ _ (by omega) |>.trans <| skip2 _ _ _ _ _ _ _ (by omega) |>.trans <| (tailB d arg12 harg12 ks 2 (by norm_num) r c q hr hq))) _).trans ?_)
    refine (congrArg (· + _) ((ld2 (Val := Elt Ideal) _ _ 0 ⟨col - 512, by omega⟩ (by simp) (by simp; try omega)).trans (k9 _ _))).trans ?_
    have e : 512 + (col.val - 512) = col.val := by omega
    simp only [e]
    exact small0 d hb col 2 (col.val - 512) (by omega) (by omega) r.val hr
  · refine (hit2 _ _ _ _ _ _ _ 0 ⟨col - 768, by omega⟩ (by simp; try omega) (by simp; try omega)).trans ((dg3_eq d h0 (dm3_eq d h6 (s_eq d h5 768 (by norm_num) _) (w_eq d h3 3 (by norm_num) _)) (dext_eq d _ _ 3 768 (by norm_num) rfl _ _ _ _ (st3_eq d hb h6 (s_eq d h5 768 (by norm_num) _) (w_eq d h3 3 (by norm_num) _)) (fun r c q hr hq => skip2 _ _ _ _ _ _ _ (by omega) |>.trans <| skip2 _ _ _ _ _ _ _ (by omega) |>.trans <| skip2 _ _ _ _ _ _ _ (by omega) |>.trans <| skip2 _ _ _ _ _ _ _ (by omega) |>.trans <| skip2 _ _ _ _ _ _ _ (by omega) |>.trans <| skip2 _ _ _ _ _ _ _ (by omega) |>.trans <| (tailB d arg12 harg12 ks 3 (by norm_num) r c q hr hq))) _).trans ?_)
    refine (congrArg (· + _) ((ld2 (Val := Elt Ideal) _ _ 0 ⟨col - 768, by omega⟩ (by simp) (by simp; try omega)).trans (k9 _ _))).trans ?_
    have e : 768 + (col.val - 768) = col.val := by omega
    simp only [e]
    exact small0 d hb col 3 (col.val - 768) (by omega) (by omega) r.val hr

set_option maxHeartbeats 4000000 in
include hb hi h5 h6 k9 in
theorem outB9_1 (r : Fin 8) (col : Fin 1024) (hr : r.val = 1) : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xs1 (ix2 r col) = d.small b r col := by
  unfold out0_B_9 kernelRun0_B
  dsimp only
  sl_unfold_words
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  have hcol : col.val < 256 ∨ (256 ≤ col.val ∧ col.val < 512) ∨ (512 ≤ col.val ∧ col.val < 768) ∨ 768 ≤ col.val := by omega
  rcases hcol with hg | hg | hg | hg
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 0, by omega⟩ (by simp; try omega) (by simp; try omega)).trans ((db0_eq d h6 (s_eq d h5 0 (by norm_num) _) _).trans ?_)
    refine (congrArg (· + _) ((ld2 (Val := Elt Ideal) _ _ 0 ⟨col - 0, by omega⟩ (by simp) (by simp; try omega)).trans (k9 _ _))).trans ?_
    have e : 0 + (col.val - 0) = col.val := by omega
    simp only [e]
    exact small1 d hb col 0 (col.val - 0) (by omega) (by omega) r.val hr
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 256, by omega⟩ (by simp; try omega) (by simp; try omega)).trans ((db1_eq d h6 (s_eq d h5 256 (by norm_num) _) _).trans ?_)
    refine (congrArg (· + _) ((ld2 (Val := Elt Ideal) _ _ 0 ⟨col - 256, by omega⟩ (by simp) (by simp; try omega)).trans (k9 _ _))).trans ?_
    have e : 256 + (col.val - 256) = col.val := by omega
    simp only [e]
    exact small1 d hb col 1 (col.val - 256) (by omega) (by omega) r.val hr
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 512, by omega⟩ (by simp; try omega) (by simp; try omega)).trans ((db2_eq d h6 (s_eq d h5 512 (by norm_num) _) _).trans ?_)
    refine (congrArg (· + _) ((ld2 (Val := Elt Ideal) _ _ 0 ⟨col - 512, by omega⟩ (by simp) (by simp; try omega)).trans (k9 _ _))).trans ?_
    have e : 512 + (col.val - 512) = col.val := by omega
    simp only [e]
    exact small1 d hb col 2 (col.val - 512) (by omega) (by omega) r.val hr
  · refine (skip2 _ _ _ _ _ _ _ (by omega)).trans ?_
    refine (hit2 _ _ _ _ _ _ _ 0 ⟨col - 768, by omega⟩ (by simp; try omega) (by simp; try omega)).trans ((db3_eq d h6 (s_eq d h5 768 (by norm_num) _) _).trans ?_)
    refine (congrArg (· + _) ((ld2 (Val := Elt Ideal) _ _ 0 ⟨col - 768, by omega⟩ (by simp) (by simp; try omega)).trans (k9 _ _))).trans ?_
    have e : 768 + (col.val - 768) = col.val := by omega
    simp only [e]
    exact small1 d hb col 3 (col.val - 768) (by omega) (by omega) r.val hr

set_option maxHeartbeats 4000000 in
include hb hi h0 h1 h2 h3 h4 h6 k9 in
theorem outB9_2 (r : Fin 8) (col : Fin 1024) (hr : r.val = 2) : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xs1 (ix2 r col) = d.small b r col := by
  unfold out0_B_9 kernelRun0_B
  dsimp only
  sl_unfold_words
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  have hcol : col.val < 256 ∨ (256 ≤ col.val ∧ col.val < 512) ∨ (512 ≤ col.val ∧ col.val < 768) ∨ 768 ≤ col.val := by omega
  rcases hcol with hg | hg | hg | hg
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 0, by omega⟩ (by simp; try omega) (by simp; try omega)).trans ((ds0_eq d h6 (mixed0_eq d hb h0 h2 (ext_eq d hb hi h0 h1 h2 _ _)) (w_eq d h3 0 (by norm_num) _) (b_eq d h4 0 (by norm_num) _) _).trans ?_)
    refine (congrArg (· + _) ((ld2 (Val := Elt Ideal) _ _ 0 ⟨col - 0, by omega⟩ (by simp) (by simp; try omega)).trans (k9 _ _))).trans ?_
    have e : 0 + (col.val - 0) = col.val := by omega
    simp only [e]
    exact small2 d hb col 0 (col.val - 0) (by omega) (by omega) r.val hr
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 256, by omega⟩ (by simp; try omega) (by simp; try omega)).trans ((ds1_eq d h6 (mixed1_eq d hb h0 h2 (ext_eq d hb hi h0 h1 h2 _ _)) (w_eq d h3 1 (by norm_num) _) (b_eq d h4 256 (by norm_num) _) _).trans ?_)
    refine (congrArg (· + _) ((ld2 (Val := Elt Ideal) _ _ 0 ⟨col - 256, by omega⟩ (by simp) (by simp; try omega)).trans (k9 _ _))).trans ?_
    have e : 256 + (col.val - 256) = col.val := by omega
    simp only [e]
    exact small2 d hb col 1 (col.val - 256) (by omega) (by omega) r.val hr
  · refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (skip2 _ _ _ _ _ _ _ (by omega)).trans ?_
    refine (hit2 _ _ _ _ _ _ _ 0 ⟨col - 512, by omega⟩ (by simp; try omega) (by simp; try omega)).trans ((ds2_eq d h6 (mixed2_eq d hb h0 h2 (ext_eq d hb hi h0 h1 h2 _ _)) (w_eq d h3 2 (by norm_num) _) (b_eq d h4 512 (by norm_num) _) _).trans ?_)
    refine (congrArg (· + _) ((ld2 (Val := Elt Ideal) _ _ 0 ⟨col - 512, by omega⟩ (by simp) (by simp; try omega)).trans (k9 _ _))).trans ?_
    have e : 512 + (col.val - 512) = col.val := by omega
    simp only [e]
    exact small2 d hb col 2 (col.val - 512) (by omega) (by omega) r.val hr
  · refine (skip2 _ _ _ _ _ _ _ (by omega)).trans ?_
    refine (skip2 _ _ _ _ _ _ _ (by omega)).trans ?_
    refine (hit2 _ _ _ _ _ _ _ 0 ⟨col - 768, by omega⟩ (by simp; try omega) (by simp; try omega)).trans ((ds3_eq d h6 (mixed3_eq d hb h0 h2 (ext_eq d hb hi h0 h1 h2 _ _)) (w_eq d h3 3 (by norm_num) _) (b_eq d h4 768 (by norm_num) _) _).trans ?_)
    refine (congrArg (· + _) ((ld2 (Val := Elt Ideal) _ _ 0 ⟨col - 768, by omega⟩ (by simp) (by simp; try omega)).trans (k9 _ _))).trans ?_
    have e : 768 + (col.val - 768) = col.val := by omega
    simp only [e]
    exact small2 d hb col 3 (col.val - 768) (by omega) (by omega) r.val hr

set_option maxHeartbeats 4000000 in
include hi k9 in
theorem outB9_3 (r : Fin 8) (col : Fin 1024) (hr : 3 ≤ r.val) : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xs1 (ix2 r col) = d.small b r col := by
  unfold out0_B_9 kernelRun0_B
  dsimp only
  sl_unfold_words
  simp only [hi, View.readCov, View.readAt_eq_ld, harg1.read_unread, harg2.read_unread, harg3.read_unread, harg4.read_unread, harg5.read_unread, harg6.read_unread,
    harg7.read_unread, harg9.read_unread, harg10.read_unread, View.ld_unit_zero (S := S512x1024) zeros2, View.ld_unit_zero (S := S1x1024) zeros2,
    View.ld_unit_zero (S := S16x1024) zeros2, View.ld_unit_zero (S := S528x1024) zeros2]
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (skip2 _ _ _ _ _ _ _ (by omega)).trans ?_
  refine (congrFun (harg10.read_unread xo9) (ix2 r col)).trans ((k9 _ _).trans ?_)
  unfold Data.small
  rw [if_neg (by omega), if_neg (by omega), if_neg (by omega), if_neg (by omega), if_neg (by omega), if_neg (by omega)]

end

end Cert.PoolBwd

end
-- ==== Proof.KernelFinal.lean ====
/- The arrays the gradient kernel leaves, in the model: the sweep over the blocks, last block first, then the final arrays. -/
module

public import proofs.«01_k».proof.Proof.KernelCaseA
public import proofs.«01_k».proof.Proof.KernelCaseB
public import Idealize.ShloMosaic.Lib.Pipeline.Value

@[expose] public section

set_option maxRecDepth 16384

noncomputable section

namespace Cert.PoolBwd

open Idealize.ShloMosaic Idealize.ShloMosaic.TcCoe Idealize.ShloMosaic.Tactic
open Idealize.SL.Sem
open Idealize.ShloMosaic.Pipeline (Dat Cfg Window cellOf)
open Cert.KernelIdeal Cert.KernelIdeal.Gen

/-- The arguments' entries are the model's numbers. -/
structure Data.Fits (d : Data) (x : S4096x1024.Idx → EReal) (g : S1x1024.Idx → EReal) (w : S4x256x256.Idx → EReal) (b s : S1x1024.Idx → EReal)
    (dh : S4096x1024.Idx → EReal) : Prop where
  x : ∀ r c, x (ix2 r c) = ((d.X (r : Fin 4096) (c : Fin 1024) : ℝ) : EReal)
  g : ∀ c, g (ix2 0 c) = ((d.G (c : Fin 1024) : ℝ) : EReal)
  w : ∀ k j o, w (ix3 k j o) = ((d.W (k : Fin 4) (j : Fin 256) (o : Fin 256) : ℝ) : EReal)
  b : ∀ c, b (ix2 0 c) = d.B (c : Fin 1024)
  s : ∀ c, s (ix2 0 c) = ((d.S (c : Fin 1024) : ℝ) : EReal)
  dh : ∀ r c, dh (ix2 r c) = ((d.D (r : Fin 4096) (c : Fin 1024) : ℝ) : EReal)

variable (m : (ℓ : Loc nD τ sig) → Buf (Elt Ideal) ℓ) (c : Dev nD)

theorem idx0 : ∀ t : Fin grid0.N, win0_0.index t = ![7 - t.val, 0] := by decide +kernel
theorem idx1 : ∀ t : Fin grid0.N, win0_1.index t = ![32 * (7 - t.val) - 1, 0] := by decide +kernel
theorem idx2 : ∀ t : Fin grid0.N, win0_2.index t = ![0, 0] := by decide +kernel
theorem idx3 : ∀ t : Fin grid0.N, win0_3.index t = ![0, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![7 - t.val, 0] := by decide +kernel
theorem idx7 : ∀ t : Fin grid0.N, win0_7.index t = ![7 - t.val, 0] := by decide +kernel
theorem idx8 : ∀ t : Fin grid0.N, win0_8.index t = ![0, 0, 0] := by decide +kernel
theorem idx9 : ∀ t : Fin grid0.N, win0_9.index t = ![0, 0] := by decide +kernel

theorem block_of (t : Fin cfg0.N) : Scalar.subi 7#32 (BitVec.ofNat 32 ((grid0.coords t) 0).val) = BitVec.ofNat 32 (7 - t.val) :=
  (by decide +kernel : ∀ t : Fin grid0.N, Scalar.subi 7#32 (BitVec.ofNat 32 ((grid0.coords t) 0).val) = BitVec.ofNat 32 (7 - t.val)) t

theorem V_v0 : V m c main_v0 = (fun y => m ((c : Thread nD τ).loc main_arg2) y : S4x256x256.Idx → EReal) := rfl

variable (d : Data) (hd : d.Fits (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)))
variable (t : Fin cfg0.N)

include hd in
theorem iblk0 (r : Fin 512) (k : Fin 1024) : iblk m c 0 t (ix2 r k) = ((d.X (512 * (7 - t.val) + r) k : ℝ) : EReal) := by
  unfold iblk
  rw [View.read_apply]
  have hN : t.val < 8 := t.isLt
  refine (congrFun (V_main_arg0 m c) _).trans (.trans (congrArg _ ?_) (hd.x ⟨512 * (7 - t.val) + r, by omega⟩ k))
  funext a
  apply Fin.ext
  match a with
  | ⟨0, _⟩ => show win0_0.index t 0 * 512 + 1 * r.val = _; rw [idx0]; simp; omega
  | ⟨1, _⟩ => show win0_0.index t 1 * 1024 + 1 * k.val = _; rw [idx0]; simp

include hd in
theorem iblk1 (r : Fin 16) (k : Fin 1024) : iblk m c 1 t (ix2 r k) = ((d.X (512 * (7 - t.val) - 16 + r) k : ℝ) : EReal) := by
  unfold iblk
  rw [View.read_apply]
  have hN : t.val < 8 := t.isLt
  refine (congrFun (V_main_arg0 m c) _).trans (.trans (congrArg _ ?_) (hd.x ⟨512 * (7 - t.val) - 16 + r, by omega⟩ k))
  funext a
  apply Fin.ext
  match a with
  | ⟨0, _⟩ => show win0_1.index t 0 * 16 + 1 * r.val = _; rw [idx1]; simp; omega
  | ⟨1, _⟩ => show win0_1.index t 1 * 1024 + 1 * k.val = _; rw [idx1]; simp

include hd in
theorem iblk2 (k : Fin 1024) : iblk m c 2 t (ix2 0 k) = ((d.G k : ℝ) : EReal) := by
  unfold iblk
  rw [View.read_apply]
  refine (congrFun (V_main_arg1 m c) _).trans (.trans (congrArg _ ?_) (hd.g k))
  funext a
  apply Fin.ext
  match a with
  | ⟨0, _⟩ => show win0_2.index t 0 * 1 + 1 * 0 = _; rw [idx2]; rfl
  | ⟨1, _⟩ => show win0_2.index t 1 * 1024 + 1 * k.val = _; rw [idx2]; simp

include hd in
theorem iblk3 (g : Fin 4) (j o : Fin 256) : iblk m c 3 t (ix3 g j o) = ((d.W g j o : ℝ) : EReal) := by
  unfold iblk
  rw [View.read_apply]
  refine (congrFun (V_v0 m c) _).trans (.trans (congrArg (m ((c : Thread nD τ).loc main_arg2)) ?_) (hd.w g j o))
  funext a
  apply Fin.ext
  match a with
  | ⟨0, _⟩ => show win0_3.index t 0 * 4 + 1 * g.val = _; rw [idx3]; simp
  | ⟨1, _⟩ => show win0_3.index t 1 * 256 + 1 * j.val = _; rw [idx3]; simp
  | ⟨2, _⟩ => show win0_3.index t 2 * 256 + 1 * o.val = _; rw [idx3]; simp

include hd in
theorem iblk4 (k : Fin 1024) : iblk m c 4 t (ix2 0 k) = d.B k := by
  unfold iblk
  rw [View.read_apply]
  refine (congrFun (V_main_arg3 m c) _).trans (.trans (congrArg _ ?_) (hd.b k))
  funext a
  apply Fin.ext
  match a with
  | ⟨0, _⟩ => show win0_4.index t 0 * 1 + 1 * 0 = _; rw [idx4]; rfl
  | ⟨1, _⟩ => show win0_4.index t 1 * 1024 + 1 * k.val = _; rw [idx4]; simp

include hd in
theorem iblk5 (k : Fin 1024) : iblk m c 5 t (ix2 0 k) = ((d.S k : ℝ) : EReal) := by
  unfold iblk
  rw [View.read_apply]
  refine (congrFun (V_main_arg4 m c) _).trans (.trans (congrArg _ ?_) (hd.s k))
  funext a
  apply Fin.ext
  match a with
  | ⟨0, _⟩ => show win0_5.index t 0 * 1 + 1 * 0 = _; rw [idx5]; rfl
  | ⟨1, _⟩ => show win0_5.index t 1 * 1024 + 1 * k.val = _; rw [idx5]; simp

include hd in
theorem iblk6 (r : Fin 512) (k : Fin 1024) : iblk m c 6 t (ix2 r k) = ((d.D (512 * (7 - t.val) + r) k : ℝ) : EReal) := by
  unfold iblk
  rw [View.read_apply]
  have hN : t.val < 8 := t.isLt
  refine (congrFun (V_main_arg5 m c) _).trans (.trans (congrArg _ ?_) (hd.dh ⟨512 * (7 - t.val) + r, by omega⟩ k))
  funext a
  apply Fin.ext
  match a with
  | ⟨0, _⟩ => show win0_6.index t 0 * 512 + 1 * r.val = _; rw [idx6]; simp; omega
  | ⟨1, _⟩ => show win0_6.index t 1 * 1024 + 1 * k.val = _; rw [idx6]; simp

/-- What the point that treats block `b` leaves: the block of the input's gradient, the running parameter gradients, and the carried rows. -/
structure Data.Left (d : Data) (b : ℕ) (p : Vec Ideal S512x1024 .f32 × Vec Ideal S4x256x256 .f32 × Vec Ideal S8x1024 .f32 × Vec Ideal S528x1024 .f32) : Prop where
  dx : ∀ r k, p.1 (ix2 r k) = ((d.dx (512 * b + (r : Fin 512)) (k : Fin 1024) : ℝ) : EReal)
  w : ∀ g j o, p.2.1 (ix3 g j o) = ((d.accW b (g : Fin 4) (j : Fin 256) (o : Fin 256) : ℝ) : EReal)
  small : ∀ r k, p.2.2.1 (ix2 r k) = d.small b (r : Fin 8) (k : Fin 1024)
  ext : ∀ (r : Fin 528) (k : Fin 1024), 512 ≤ r.val → p.2.2.2 (ix2 r k) = ((d.dq (k / 256) (512 * b + (r - 512)) (k % 256) : ℝ) : EReal)

theorem small_eq {b : ℕ} (f : S8x1024.Idx → EReal) (h0 : ∀ (r : Fin 8) (k : Fin 1024), r.val = 0 → f (ix2 r k) = d.small b r k)
    (h1 : ∀ (r : Fin 8) (k : Fin 1024), r.val = 1 → f (ix2 r k) = d.small b r k) (h2 : ∀ (r : Fin 8) (k : Fin 1024), r.val = 2 → f (ix2 r k) = d.small b r k)
    (h3 : ∀ (r : Fin 8) (k : Fin 1024), 3 ≤ r.val → f (ix2 r k) = d.small b r k) (r : Fin 8) (k : Fin 1024) : f (ix2 r k) = d.small b r k := by
  have h : r.val = 0 ∨ r.val = 1 ∨ r.val = 2 ∨ 3 ≤ r.val := by omega
  rcases h with h | h | h | h
  exacts [h0 r k h, h1 r k h, h2 r k h, h3 r k h]

include hd in
theorem left_first (ht : t.val % 8 = 0) : d.Left (7 - t.val) (outsAt0 m c t.val t.isLt) := by
  have hN : t.val < 8 := t.isLt
  have hb : 7 - t.val < 8 := by omega
  have hb7 : 7 - t.val = 7 := by omega
  have hi := block_of t
  have i0 := iblk0 m c d hd t
  have i1 := iblk1 m c d hd t
  have i2 := iblk2 m c d hd t
  have i3 := iblk3 m c d hd t
  have i4 := iblk4 m c d hd t
  have i5 := iblk5 m c d hd t
  have i6 := iblk6 m c d hd t
  rw [outsAt0_A m c t ht]
  refine ⟨fun r k => ?_, fun g j o => ?_, small_eq d _ (fun r k hr => ?_) (fun r k hr => ?_) (fun r k hr => ?_) (fun r k hr => ?_), fun r k hr => ?_⟩
  · dsimp only
    exact outA7_eq (d := d) (hb := hb) (hi := hi) (hb7 := hb7) (h0 := i0) (h1 := i1) (h2 := i2) (h3 := i3) (h5 := i5) (h6 := i6) ..
  · dsimp only
    exact outA8_eq (d := d) (hb := hb) (hi := hi) (hb7 := hb7) (h0 := i0) (h1 := i1) (h2 := i2) (h3 := i3) (h5 := i5) (h6 := i6) ..
  · dsimp only
    exact outA9_0 (d := d) (hb := hb) (hi := hi) (hb7 := hb7) (h0 := i0) (h2 := i2) (h3 := i3) (h5 := i5) (h6 := i6) (hr := hr) ..
  · dsimp only
    exact outA9_1 (d := d) (hb := hb) (hi := hi) (hb7 := hb7) (h5 := i5) (h6 := i6) (hr := hr) ..
  · dsimp only
    exact outA9_2 (d := d) (hb := hb) (hi := hi) (hb7 := hb7) (h0 := i0) (h1 := i1) (h2 := i2) (h3 := i3) (h4 := i4) (h6 := i6) (hr := hr) ..
  · dsimp only
    exact outA9_3 (d := d) (hi := hi) (hb7 := hb7) (hr := hr) ..
  · dsimp only
    exact soutA_eq (d := d) (hb := hb) (hi := hi) (h3 := i3) (h5 := i5) (h6 := i6) (hr := hr) ..

include hd in
theorem left_later (ht : ¬t.val % 8 = 0) (ih : d.Left (7 - t.val + 1) (outsAt0 m c (t.val - 1) (Nat.lt_of_le_of_lt (Nat.sub_le _ _) t.isLt))) :
    d.Left (7 - t.val) (outsAt0 m c t.val t.isLt) := by
  have hN : t.val < 8 := t.isLt
  have hb : 7 - t.val < 8 := by omega
  have hi := block_of t
  have i0 := iblk0 m c d hd t
  have i1 := iblk1 m c d hd t
  have i2 := iblk2 m c d hd t
  have i3 := iblk3 m c d hd t
  have i4 := iblk4 m c d hd t
  have i5 := iblk5 m c d hd t
  have i6 := iblk6 m c d hd t
  have k8 := ih.w
  have k9 := ih.small
  have ks : ∀ (r : Fin 528) (k : Fin 1024), 512 ≤ r.val → (outsAt0 m c (t.val - 1) (Nat.lt_of_le_of_lt (Nat.sub_le _ _) t.isLt)).2.2.2 (ix2 r k)
      = ((d.dq (k / 256) (512 * (7 - t.val) + r) (k % 256) : ℝ) : EReal) := fun r k hr => by
    rw [ih.ext r k hr, show 512 * (7 - t.val + 1) + (r.val - 512) = 512 * (7 - t.val) + r.val by omega]
  rw [outsAt0_B m c t ht]
  refine ⟨fun r k => ?_, fun g j o => ?_, small_eq d _ (fun r k hr => ?_) (fun r k hr => ?_) (fun r k hr => ?_) (fun r k hr => ?_), fun r k hr => ?_⟩
  · dsimp only
    exact outB7_eq (d := d) (hb := hb) (hi := hi) (ks := ks) (h0 := i0) (h1 := i1) (h2 := i2) (h3 := i3) (h5 := i5) (h6 := i6) ..
  · dsimp only
    exact outB8_eq (d := d) (hb := hb) (hi := hi) (k8 := k8) (h0 := i0) (h1 := i1) (h2 := i2) (h3 := i3) (h5 := i5) (h6 := i6) ..
  · dsimp only
    exact outB9_0 (d := d) (hb := hb) (hi := hi) (k9 := k9) (ks := ks) (h0 := i0) (h2 := i2) (h3 := i3) (h5 := i5) (h6 := i6) (hr := hr) ..
  · dsimp only
    exact outB9_1 (d := d) (hb := hb) (hi := hi) (k9 := k9) (h5 := i5) (h6 := i6) (hr := hr) ..
  · dsimp only
    exact outB9_2 (d := d) (hb := hb) (hi := hi) (k9 := k9) (h0 := i0) (h1 := i1) (h2 := i2) (h3 := i3) (h4 := i4) (h6 := i6) (hr := hr) ..
  · dsimp only
    exact outB9_3 (d := d) (hi := hi) (k9 := k9) (hr := hr) ..
  · dsimp only
    exact soutB_eq (d := d) (hb := hb) (hi := hi) (h3 := i3) (h5 := i5) (h6 := i6) (hr := hr) ..

include hd in
theorem left : ∀ (n : ℕ) (h : n < cfg0.N), d.Left (7 - n) (outsAt0 m c n h)
  | 0, h => left_first m c d hd ⟨0, h⟩ rfl
  | n + 1, h => by
    have hN : n + 1 < 8 := h
    refine left_later m c d hd ⟨n + 1, h⟩ (by dsimp only; omega) ?_
    have e : 7 - (⟨n + 1, h⟩ : Fin cfg0.N).val + 1 = 7 - n := by dsimp only; omega
    rw [e]
    exact left n (Nat.lt_of_succ_lt h)

/-- The input's gradient, as an array. -/
def res7 : S4096x1024.Idx → EReal := fun y => ((d.dx (y 0).val (y 1).val : ℝ) : EReal)
/-- The mixing weights' gradient, as an array. -/
def res8 : S4x256x256.Idx → EReal := fun y => ((d.accW 0 (y 0).val (y 1).val (y 2).val : ℝ) : EReal)
/-- The small gradients, as an array. -/
def res9 : S8x1024.Idx → EReal := fun y => d.small 0 (y 0).val (y 1).val

include hd in
theorem final7 : (dats m 0 c).arrAt 7 cfg0.N = res7 d := by
  refine (dats m 0 c).arrAt_eq_of_cover 7 (res7 d) (fun t _ => ?_) fun (i : S4096x1024.Idx) => ?_
  · have hN : t.val < 8 := t.isLt
    rw [Cert.KernelIdeal.Value.flushed7]
    funext y
    rw [View.read_apply]
    refine ((left m c d hd t.val t.isLt).dx (y 0) (y 1) |> fun h => ?_)
    refine (congrArg (outsAt0 m c t.val t.isLt).1 (?_ : _ = ix2 (y 0) (y 1))).trans (h.trans ?_)
    · funext a
      match a with
      | ⟨0, _⟩ => rfl
      | ⟨1, _⟩ => rfl
    · unfold res7
      congr 2
      · show _ = win0_7.index t 0 * 512 + 1 * (y 0).val
        rw [idx7]; simp; omega
      · show _ = win0_7.index t 1 * 1024 + 1 * (y 1).val
        rw [idx7]; simp
  · have h0 : (i 0).val < 4096 := (i 0).isLt
    have h1 : (i 1).val < 1024 := (i 1).isLt
    obtain ⟨u, hu⟩ : ∃ u : Fin grid0.N, u.val = 7 - (i 0).val / 512 := ⟨⟨7 - (i 0).val / 512, by show _ < 8; omega⟩, rfl⟩
    refine ⟨u, flush0_7 _, ?_⟩
    show i ∈ ((View.whole main_v1_0).slice (win0_7.rect u)).set
    rw [View.set_slice_whole, Rect.mem_set_unit]
    intro a
    match a with
    | ⟨0, _⟩ => show win0_7.index _ 0 * 512 ≤ (i 0).val ∧ (i 0).val < win0_7.index _ 0 * 512 + 512; rw [idx7, hu]; simp; omega
    | ⟨1, _⟩ => show win0_7.index _ 1 * 1024 ≤ (i 1).val ∧ (i 1).val < win0_7.index _ 1 * 1024 + 1024; rw [idx7]; simp; omega

include hd in
theorem final8 : (dats m 0 c).arrAt 8 cfg0.N = res8 d := by
  refine (dats m 0 c).arrAt_eq_of_cover 8 (res8 d) (fun t hf => ?_) fun (i : S4x256x256.Idx) => ?_
  · have hN : t.val < 8 := t.isLt
    have h7 := (flush0_8 t).mp hf
    rw [Cert.KernelIdeal.Value.flushed8]
    funext y
    rw [View.read_apply]
    refine ((left m c d hd t.val t.isLt).w (y 0) (y 1) (y 2) |> fun h => ?_)
    refine (congrArg (outsAt0 m c t.val t.isLt).2.1 (?_ : _ = ix3 (y 0) (y 1) (y 2))).trans (h.trans ?_)
    · funext a
      match a with
      | ⟨0, _⟩ => rfl
      | ⟨1, _⟩ => rfl
      | ⟨2, _⟩ => rfl
    · unfold res8
      rw [show 7 - t.val = 0 by omega]
      congr 2
      · show _ = win0_8.index t 0 * 4 + 1 * (y 0).val
        rw [idx8]; simp
      · show _ = win0_8.index t 1 * 256 + 1 * (y 1).val
        rw [idx8]; simp
      · show _ = win0_8.index t 2 * 256 + 1 * (y 2).val
        rw [idx8]; simp
  · have h0 : (i 0).val < 4 := (i 0).isLt
    have h1 : (i 1).val < 256 := (i 1).isLt
    have h2 : (i 2).val < 256 := (i 2).isLt
    refine ⟨t0_7, (flush0_8 _).mpr rfl, ?_⟩
    show i ∈ ((View.whole main_v1_1).slice (win0_8.rect t0_7)).set
    rw [View.set_slice_whole, Rect.mem_set_unit]
    intro a
    match a with
    | ⟨0, _⟩ => show win0_8.index _ 0 * 4 ≤ (i 0).val ∧ (i 0).val < win0_8.index _ 0 * 4 + 4; rw [idx8]; simp; omega
    | ⟨1, _⟩ => show win0_8.index _ 1 * 256 ≤ (i 1).val ∧ (i 1).val < win0_8.index _ 1 * 256 + 256; rw [idx8]; simp; omega
    | ⟨2, _⟩ => show win0_8.index _ 2 * 256 ≤ (i 2).val ∧ (i 2).val < win0_8.index _ 2 * 256 + 256; rw [idx8]; simp; omega

include hd in
theorem final9 : (dats m 0 c).arrAt 9 cfg0.N = res9 d := by
  refine (dats m 0 c).arrAt_eq_of_cover 9 (res9 d) (fun t hf => ?_) fun (i : S8x1024.Idx) => ?_
  · have hN : t.val < 8 := t.isLt
    have h7 := (flush0_9 t).mp hf
    rw [Cert.KernelIdeal.Value.flushed9]
    funext y
    rw [View.read_apply]
    refine ((left m c d hd t.val t.isLt).small (y 0) (y 1) |> fun h => ?_)
    refine (congrArg (outsAt0 m c t.val t.isLt).2.2.1 (?_ : _ = ix2 (y 0) (y 1))).trans (h.trans ?_)
    · funext a
      match a with
      | ⟨0, _⟩ => rfl
      | ⟨1, _⟩ => rfl
    · unfold res9
      rw [show 7 - t.val = 0 by omega]
      congr 1
      · show _ = win0_9.index t 0 * 8 + 1 * (y 0).val
        rw [idx9]; simp
      · show _ = win0_9.index t 1 * 1024 + 1 * (y 1).val
        rw [idx9]; simp
  · have h0 : (i 0).val < 8 := (i 0).isLt
    have h1 : (i 1).val < 1024 := (i 1).isLt
    refine ⟨t0_7, (flush0_9 _).mpr rfl, ?_⟩
    show i ∈ ((View.whole main_v1_2).slice (win0_9.rect t0_7)).set
    rw [View.set_slice_whole, Rect.mem_set_unit]
    intro a
    match a with
    | ⟨0, _⟩ => show win0_9.index _ 0 * 8 ≤ (i 0).val ∧ (i 0).val < win0_9.index _ 0 * 8 + 8; rw [idx9]; simp; omega
    | ⟨1, _⟩ => show win0_9.index _ 1 * 1024 ≤ (i 1).val ∧ (i 1).val < win0_9.index _ 1 * 1024 + 1024; rw [idx9]; simp; omega

end Cert.PoolBwd

end
-- ==== Proof.Pre.lean ====
/- The precondition, opened: it makes every argument but the bias an array of reals, and so the arguments the model's. -/
module

public import proofs.«01_k».proof.Proof.Gen.Pre_finite
public import proofs.«01_k».proof.Proof.Model
public import Idealize.ShloMosaic.PureOps.Ideal
public import Idealize.ShloMosaic.Lib.ReduceAll
public import Idealize.ShloMosaic.Lib.Tactic

@[expose] public section

set_option maxRecDepth 16384

noncomputable section

namespace Cert.PoolBwd

open Idealize.ShloMosaic Idealize.ShloMosaic.TcCoe Idealize.ShloMosaic.Tactic
open Cert.Pre_finite Cert.Pre_finite.Gen

theorem inf_word : Ideal.ofBits .f32 (0x7F800000#32) = (⊤ : EReal) := by
  simp [Ideal.ofBits, Ideal.ieee]

/-- An entry whose absolute value is below infinity is real. -/
theorem real_of_lt (x : EReal) (h : FloatOps.cmpf (F := Ideal) (φ := .f32) .olt (FloatOps.hostAbsf (F := Ideal) (φ := .f32) x) (Ideal.ofBits .f32 (0x7F800000#32)) = 1#1) :
    ((x.toReal : ℝ) : EReal) = x := by
  rw [inf_word] at h
  change Ideal.cmp .olt (max x (-x)) ⊤ = 1#1 at h
  induction x using EReal.rec with
  | bot => exact absurd h (by simp [Ideal.cmp])
  | coe r => simp
  | top => exact absurd h (by simp [Ideal.cmp])

theorem and_split (a b : BitVec 1) (h : IntOp.andi a b = 1#1) : a = 1#1 ∧ b = 1#1 := by
  revert a b; decide

theorem pre_real (x : S4096x1024.Idx → EReal) (g : S1x1024.Idx → EReal) (w : S4x256x256.Idx → EReal) (b s : S1x1024.Idx → EReal) (dh : S4096x1024.Idx → EReal)
    (h : fn (F := Ideal) x g w b s dh = fun _ => 1#1) :
    (∀ i, (((x i).toReal : ℝ) : EReal) = x i) ∧ (∀ i, (((g i).toReal : ℝ) : EReal) = g i) ∧ (∀ i, (((w i).toReal : ℝ) : EReal) = w i)
      ∧ (∀ i, (((s i).toReal : ℝ) : EReal) = s i) ∧ ∀ i, (((dh i).toReal : ℝ) : EReal) = dh i := by
  have : Subsingleton S_.Idx := ⟨fun a b => funext fun (i : Fin 0) => i.elim0⟩
  have h0 := congrFun h (Shape.Idx.first h_S_)
  unfold fn fn_part1 at h0
  dsimp only at h0
  obtain ⟨h1, h5⟩ := and_split _ _ h0
  obtain ⟨h2, h4⟩ := and_split _ _ h1
  obtain ⟨h3, hw⟩ := and_split _ _ h2
  obtain ⟨hx, hg⟩ := and_split _ _ h3
  refine ⟨fun i => real_of_lt _ (Host.reduce_andi_all _ _ _ _ _ hx i), fun i => real_of_lt _ (Host.reduce_andi_all _ _ _ _ _ hg i),
    fun i => real_of_lt _ (Host.reduce_andi_all _ _ _ _ _ hw i), fun i => real_of_lt _ (Host.reduce_andi_all _ _ _ _ _ h4 i),
    fun i => real_of_lt _ (Host.reduce_andi_all _ _ _ _ _ h5 i)⟩

/-- The model of given arguments: their entries as reals, zero outside. -/
def ofArgs (x : S4096x1024.Idx → EReal) (g : S1x1024.Idx → EReal) (w : S4x256x256.Idx → EReal) (b s : S1x1024.Idx → EReal) (dh : S4096x1024.Idx → EReal) : Data where
  X r c := if h : r < 4096 ∧ c < 1024 then (x (ix2 ⟨r, h.1⟩ ⟨c, h.2⟩)).toReal else 0
  G c := if h : c < 1024 then (g (ix2 0 ⟨c, h⟩)).toReal else 0
  W k i o := if h : k < 4 ∧ i < 256 ∧ o < 256 then (w (ix3 ⟨k, h.1⟩ ⟨i, h.2.1⟩ ⟨o, h.2.2⟩)).toReal else 0
  B c := if h : c < 1024 then b (ix2 0 ⟨c, h⟩) else 0
  S c := if h : c < 1024 then (s (ix2 0 ⟨c, h⟩)).toReal else 0
  D r c := if h : r < 4096 ∧ c < 1024 then (dh (ix2 ⟨r, h.1⟩ ⟨c, h.2⟩)).toReal else 0

end Cert.PoolBwd

end
-- ==== Proof.MlpNorm.lean ====
/- What one grid point of the last kernel of the MLP sub-layer's gradient leaves in its three outputs, in the model: the product by the first
   weights' transpose, shard by shard, the normalization's gradient on top, and the gain's running gradient. -/
module

public import proofs.«01_k».proof.Proof.Gen.Kernel2Ideal.Frame
public import proofs.«01_k».proof.Proof.MlpPay
public import proofs.«01_k».proof.Proof.KernelRead

@[expose] public section

set_option maxRecDepth 16384

noncomputable section

namespace Cert.MlpBwd

open Idealize.ShloMosaic Idealize.ShloMosaic.TcCoe Idealize.ShloMosaic.Tactic
open Idealize.SL.Sem
open Cert.PoolBwd (zeros2 ld2 ld3 hit2 skip2)
open Cert.Kernel2Ideal Cert.Kernel2Ideal.Gen

section first

variable (d : Data)

/-- The gain's gradient after one more block. -/
theorem small_succ (a : ℕ) (r : Fin 8) (k : Fin 1024) (hr : r.val = 0) (x : EReal) (hx : x = d.accG a k) :
    x + (∑ r : Fin 256, d.dhn (256 * a + r) k * d.xh (256 * a + r) k) = d.small (a + 1) r k := by
  rw [hx, Data.small, if_pos hr, d.accG_succ]

theorem accG_zero (k : ℕ) : d.accG 0 k = 0 := by simp [Data.accG]

end first

variable (d : Data) {a : ℕ} (c : Dev nD) (i : grid3.Coords)
variable (arg2 : Memref sig .tc .vmem S256x4096 .bf16) (harg2 : arg2.IsWhole) (arg3 : Memref sig .tc .vmem S4x1024x1024 .bf16) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S8x1024 .f32) (harg9 : arg9.IsWhole)
variable (x0 : Vec Ideal S256x4096 .bf16) (x1 : Vec Ideal S4x1024x1024 .bf16) (x2 : Vec Ideal S256x1024 .f32) (x3 : Vec Ideal S1x1024 .f32) (x4 : Vec Ideal S256x1024 .f32)
variable (h0 : ∀ r k, x0 (ix2 r k) = d.du (256 * a + (r : Fin 256)) (k : Fin 4096))
variable (h1 : ∀ s r k, x1 (ix3 s r k) = d.W1 (r : Fin 1024) (1024 * (s : Fin 4) + (k : Fin 1024)))
variable (h2 : ∀ r k, x2 (ix2 r k) = d.H (256 * a + (r : Fin 256)) (k : Fin 1024))
variable (h3 : ∀ k, x3 (ix2 0 k) = d.G (k : Fin 1024))
variable (h4 : ∀ r k, x4 (ix2 r k) = d.D (256 * a + (r : Fin 256)) (k : Fin 1024))

include h1 in
theorem shard_eq (s : ℕ) (hs : s < 4) (n : ℕ) (hn : n = 1024 * s) (inb) (r k : Fin 1024) :
    View.ld x1 (Rect.unit (s := S4x1024x1024) ![s, 0, 0] ![1, 1024, 1024] inb) (ix3 0 r k) = d.W1 r (n + k) := by
  refine (ld3 (Val := Elt Ideal) x1 inb 0 r k (by simpa using hs) (by omega) (by omega)).trans ((h1 _ _ _).trans ?_)
  simp [hn]

include h1 in
theorem shard0_eq (inb) (r k : Fin 1024) :
    View.ld x1 (Rect.unit (s := S4x1024x1024) ![0, 0, 0] ![1, 1024, 1024] inb) (ix3 0 r k) = d.W1 r k := by
  rw [shard_eq d x1 h1 0 (by norm_num) 0 rfl, Nat.zero_add]

set_option maxHeartbeats 2000000 in
include h0 h1 h2 h3 h4 in
theorem outA5_eq (hc0 : cond3_0 i) (r : Fin 256) (k : Fin 1024) : out3_A_5 c i arg2 harg2 arg3 harg3 arg4 harg4 arg5 harg5 arg6 harg6 arg7 harg7 arg8 harg8 arg9 harg9 hc0 x0 x1 x2 x3 x4 (ix2 r k) = d.dx (256 * a + r) k := by
  unfold out3_A_5 kernelRun3_A
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S256x1024) zeros2, View.ld_unit_zero (S := S1x1024) zeros2]
  refine (hit2 _ _ _ _ _ _ _ r k (by simp) (by simp)).trans ?_
  exact pay_dx d h2 h3 h4 (pay_dhn d h0 (shard0_eq d x1 h1 _) (shard_eq d x1 h1 1 (by norm_num) 1024 rfl _) (shard_eq d x1 h1 2 (by norm_num) 2048 rfl _) (shard_eq d x1 h1 3 (by norm_num) 3072 rfl _)) r k

set_option maxHeartbeats 2000000 in
include h0 h1 h2 h3 h4 in
theorem outA6_eq (hc0 : cond3_0 i) (r : Fin 256) (k : Fin 1024) : out3_A_6 c i arg2 harg2 arg3 harg3 arg4 harg4 arg5 harg5 arg6 harg6 arg7 harg7 arg8 harg8 arg9 harg9 hc0 x0 x1 x2 x3 x4 (ix2 r k) = d.dx (256 * a + r) k := by
  unfold out3_A_6 kernelRun3_A
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S256x1024) zeros2, View.ld_unit_zero (S := S1x1024) zeros2]
  refine (hit2 _ _ _ _ _ _ _ r k (by simp) (by simp)).trans ?_
  pointwise [k3_pay4]
  exact pay_dx d h2 h3 h4 (pay_dhn d h0 (shard0_eq d x1 h1 _) (shard_eq d x1 h1 1 (by norm_num) 1024 rfl _) (shard_eq d x1 h1 2 (by norm_num) 2048 rfl _) (shard_eq d x1 h1 3 (by norm_num) 3072 rfl _)) r k

set_option maxHeartbeats 2000000 in
include h0 h1 h2 in
theorem outA7_eq (hc0 : cond3_0 i) (ha : a = 0) (r : Fin 8) (k : Fin 1024) : out3_A_7 c i arg2 harg2 arg3 harg3 arg4 harg4 arg5 harg5 arg6 harg6 arg7 harg7 arg8 harg8 arg9 harg9 hc0 x0 x1 x2 x3 x4 (ix2 r k) = d.small (a + 1) r k := by
  unfold out3_A_7 kernelRun3_A
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S256x1024) zeros2, View.ld_unit_zero (S := S1x1024) zeros2]
  by_cases hr : r.val = 0
  · refine (hit2 _ _ _ _ _ _ _ 0 k (by simpa using hr) (by simp)).trans ?_
    refine (pay_dg d h2 (pay_dhn d h0 (shard0_eq d x1 h1 _) (shard_eq d x1 h1 1 (by norm_num) 1024 rfl _) (shard_eq d x1 h1 2 (by norm_num) 2048 rfl _) (shard_eq d x1 h1 3 (by norm_num) 3072 rfl _)) k).trans ?_
    refine small_succ d a r k hr _ ?_
    refine (ld2 (Val := Elt Ideal) _ _ 0 k (by simp) (by simp)).trans ?_
    rw [ha, accG_zero]
    pointwise [k3_pay7]
  · refine (skip2 _ _ _ _ _ _ _ (by simp; omega)).trans ?_
    refine (hit2 _ _ _ _ _ _ _ r k (by simp) (by simp)).trans ?_
    rw [Data.small, if_neg hr]
    pointwise [k3_pay7]

set_option maxHeartbeats 2000000 in
include h0 h1 h2 h3 h4 in
theorem outB5_eq (hc0 : ¬cond3_0 i) (xo7 : Vec Ideal S8x1024 .f32) (r : Fin 256) (k : Fin 1024) : out3_B_5 c i arg2 harg2 arg3 harg3 arg4 harg4 arg5 harg5 arg6 harg6 arg7 harg7 arg8 harg8 arg9 harg9 hc0 x0 x1 x2 x3 x4 xo7 (ix2 r k) = d.dx (256 * a + r) k := by
  unfold out3_B_5 kernelRun3_B
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S256x1024) zeros2, View.ld_unit_zero (S := S1x1024) zeros2]
  refine (hit2 _ _ _ _ _ _ _ r k (by simp) (by simp)).trans ?_
  exact pay_dx d h2 h3 h4 (pay_dhn d h0 (shard0_eq d x1 h1 _) (shard_eq d x1 h1 1 (by norm_num) 1024 rfl _) (shard_eq d x1 h1 2 (by norm_num) 2048 rfl _) (shard_eq d x1 h1 3 (by norm_num) 3072 rfl _)) r k

set_option maxHeartbeats 2000000 in
include h0 h1 h2 h3 h4 in
theorem outB6_eq (hc0 : ¬cond3_0 i) (xo7 : Vec Ideal S8x1024 .f32) (r : Fin 256) (k : Fin 1024) : out3_B_6 c i arg2 harg2 arg3 harg3 arg4 harg4 arg5 harg5 arg6 harg6 arg7 harg7 arg8 harg8 arg9 harg9 hc0 x0 x1 x2 x3 x4 xo7 (ix2 r k) = d.dx (256 * a + r) k := by
  unfold out3_B_6 kernelRun3_B
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S256x1024) zeros2, View.ld_unit_zero (S := S1x1024) zeros2]
  refine (hit2 _ _ _ _ _ _ _ r k (by simp) (by simp)).trans ?_
  pointwise [k3_pay4]
  exact pay_dx d h2 h3 h4 (pay_dhn d h0 (shard0_eq d x1 h1 _) (shard_eq d x1 h1 1 (by norm_num) 1024 rfl _) (shard_eq d x1 h1 2 (by norm_num) 2048 rfl _) (shard_eq d x1 h1 3 (by norm_num) 3072 rfl _)) r k

set_option maxHeartbeats 2000000 in
include h0 h1 h2 in
theorem outB7_eq (hc0 : ¬cond3_0 i) (xo7 : Vec Ideal S8x1024 .f32) (h7 : ∀ r k, xo7 (ix2 r k) = d.small a (r : Fin 8) (k : Fin 1024)) (r : Fin 8) (k : Fin 1024) : out3_B_7 c i arg2 harg2 arg3 harg3 arg4 harg4 arg5 harg5 arg6 harg6 arg7 harg7 arg8 harg8 arg9 harg9 hc0 x0 x1 x2 x3 x4 xo7 (ix2 r k) = d.small (a + 1) r k := by
  unfold out3_B_7 kernelRun3_B
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S256x1024) zeros2, View.ld_unit_zero (S := S1x1024) zeros2]
  by_cases hr : r.val = 0
  · refine (hit2 _ _ _ _ _ _ _ 0 k (by simpa using hr) (by simp)).trans ?_
    refine (pay_dg d h2 (pay_dhn d h0 (shard0_eq d x1 h1 _) (shard_eq d x1 h1 1 (by norm_num) 1024 rfl _) (shard_eq d x1 h1 2 (by norm_num) 2048 rfl _) (shard_eq d x1 h1 3 (by norm_num) 3072 rfl _)) k).trans ?_
    refine small_succ d a r k hr _ ?_
    refine (ld2 (Val := Elt Ideal) _ _ 0 k (by simp) (by simp)).trans ((h7 _ _).trans ?_)
    rw [Data.small, if_pos (by simp)]
    simp
  · refine (skip2 _ _ _ _ _ _ _ (by simp; omega)).trans ?_
    refine (congrFun (harg9.read_unread xo7) (ix2 r k)).trans ((h7 _ _).trans ?_)
    rw [Data.small, Data.small, if_neg hr, if_neg hr]

end Cert.MlpBwd

end
-- ==== Proof.MlpSweep.lean ====
/- The sweep of the last kernel of the MLP sub-layer's gradient over its sixteen blocks of positions, and the arrays it leaves. -/
module

public import proofs.«01_k».proof.Proof.MlpNorm
public import proofs.«01_k».proof.Proof.MlpHost

@[expose] public section

set_option maxRecDepth 16384

noncomputable section

namespace Cert.MlpBwd

open Idealize.ShloMosaic Idealize.ShloMosaic.TcCoe Idealize.ShloMosaic.Tactic
open Idealize.SL.Sem
open Idealize.ShloMosaic.Pipeline (Dat Cfg Window cellOf)
open Cert.Kernel2Ideal Cert.Kernel2Ideal.Gen

variable (d : Data) (V : (c : Dev nD) → (b : Ref sig .tc) → Buf (Elt Ideal) ((c : Thread nD τ).loc b)) (c : Dev nD)

theorem idx3_0 : ∀ t : Fin grid3.N, win3_0.index t = ![t.val, 0] := by decide +kernel
theorem idx3_1 : ∀ t : Fin grid3.N, win3_1.index t = ![0, 0, 0] := by decide +kernel
theorem idx3_2 : ∀ t : Fin grid3.N, win3_2.index t = ![t.val, 0] := by decide +kernel
theorem idx3_3 : ∀ t : Fin grid3.N, win3_3.index t = ![0, 0] := by decide +kernel
theorem idx3_4 : ∀ t : Fin grid3.N, win3_4.index t = ![t.val, 0] := by decide +kernel
theorem idx3_5 : ∀ t : Fin grid3.N, win3_5.index t = ![t.val, 0] := by decide +kernel
theorem idx3_6 : ∀ t : Fin grid3.N, win3_6.index t = ![t.val, 0] := by decide +kernel
theorem idx3_7 : ∀ t : Fin grid3.N, win3_7.index t = ![0, 0] := by decide +kernel

variable (hU : ∀ (r k : Fin 4096), (V c main_v20 : S4096x4096.Idx → EReal) (ix2 r k) = d.du r k)
variable (hW : ∀ (s : Fin 4) (r k : Fin 1024), (V c main_v19 : S4x1024x1024.Idx → EReal) (ix3 s r k) = d.W1 r (1024 * s + k))
variable (hH : ∀ (r : Fin 4096) (k : Fin 1024), (V c main_arg0 : S4096x1024.Idx → EReal) (ix2 r k) = d.H r k)
variable (hG : ∀ (k : Fin 1024), (V c main_arg1 : S1x1024.Idx → EReal) (ix2 0 k) = d.G k)
variable (hD : ∀ (r : Fin 4096) (k : Fin 1024), (V c main_arg4 : S4096x1024.Idx → EReal) (ix2 r k) = d.D r k)
variable (t : Fin cfg3.N)

include hU in
theorem iblk3_0 (r : Fin 256) (k : Fin 4096) : iblk3 V c 0 t (ix2 r k) = d.du (256 * t.val + r) k := by
  unfold iblk3
  rw [View.read_apply]
  have hN : t.val < 16 := t.isLt
  refine (congrArg (V c main_v20 : S4096x4096.Idx → EReal) ?_).trans (hU ⟨256 * t.val + r, by omega⟩ k)
  funext a
  apply Fin.ext
  match a with
  | ⟨0, _⟩ => show win3_0.index t 0 * 256 + 1 * r.val = _; rw [idx3_0]; simp; omega
  | ⟨1, _⟩ => show win3_0.index t 1 * 4096 + 1 * k.val = _; rw [idx3_0]; simp

include hW in
theorem iblk3_1 (s : Fin 4) (r k : Fin 1024) : iblk3 V c 1 t (ix3 s r k) = d.W1 r (1024 * s + k) := by
  unfold iblk3
  rw [View.read_apply]
  have hN : t.val < 16 := t.isLt
  refine (congrArg (V c main_v19 : S4x1024x1024.Idx → EReal) ?_).trans (hW s r k)
  funext a
  apply Fin.ext
  match a with
  | ⟨0, _⟩ => show win3_1.index t 0 * 4 + 1 * s.val = _; rw [idx3_1]; simp
  | ⟨1, _⟩ => show win3_1.index t 1 * 1024 + 1 * r.val = _; rw [idx3_1]; simp
  | ⟨2, _⟩ => show win3_1.index t 2 * 1024 + 1 * k.val = _; rw [idx3_1]; simp

include hH in
theorem iblk3_2 (r : Fin 256) (k : Fin 1024) : iblk3 V c 2 t (ix2 r k) = d.H (256 * t.val + r) k := by
  unfold iblk3
  rw [View.read_apply]
  have hN : t.val < 16 := t.isLt
  refine (congrArg (V c main_arg0 : S4096x1024.Idx → EReal) ?_).trans (hH ⟨256 * t.val + r, by omega⟩ k)
  funext a
  apply Fin.ext
  match a with
  | ⟨0, _⟩ => show win3_2.index t 0 * 256 + 1 * r.val = _; rw [idx3_2]; simp; omega
  | ⟨1, _⟩ => show win3_2.index t 1 * 1024 + 1 * k.val = _; rw [idx3_2]; simp

include hG in
theorem iblk3_3 (k : Fin 1024) : iblk3 V c 3 t (ix2 0 k) = d.G k := by
  unfold iblk3
  rw [View.read_apply]
  have hN : t.val < 16 := t.isLt
  refine (congrArg (V c main_arg1 : S1x1024.Idx → EReal) ?_).trans (hG k)
  funext a
  apply Fin.ext
  match a with
  | ⟨0, _⟩ => show win3_3.index t 0 * 1 + 1 * 0 = _; rw [idx3_3]; rfl
  | ⟨1, _⟩ => show win3_3.index t 1 * 1024 + 1 * k.val = _; rw [idx3_3]; simp

include hD in
theorem iblk3_4 (r : Fin 256) (k : Fin 1024) : iblk3 V c 4 t (ix2 r k) = d.D (256 * t.val + r) k := by
  unfold iblk3
  rw [View.read_apply]
  have hN : t.val < 16 := t.isLt
  refine (congrArg (V c main_arg4 : S4096x1024.Idx → EReal) ?_).trans (hD ⟨256 * t.val + r, by omega⟩ k)
  funext a
  apply Fin.ext
  match a with
  | ⟨0, _⟩ => show win3_4.index t 0 * 256 + 1 * r.val = _; rw [idx3_4]; simp; omega
  | ⟨1, _⟩ => show win3_4.index t 1 * 1024 + 1 * k.val = _; rw [idx3_4]; simp

/-- What the point that treats block `n` leaves: the block of the input's gradient, twice, and the gain's running gradient. -/
structure Data.Left (d : Data) (n : ℕ) (p : Vec Ideal S256x1024 .f32 × Vec Ideal S256x1024 .bf16 × Vec Ideal S8x1024 .f32) : Prop where
  dx : ∀ r k, p.1 (ix2 r k) = d.dx (256 * n + (r : Fin 256)) (k : Fin 1024)
  dx16 : ∀ r k, p.2.1 (ix2 r k) = d.dx (256 * n + (r : Fin 256)) (k : Fin 1024)
  small : ∀ r k, p.2.2 (ix2 r k) = d.small (n + 1) (r : Fin 8) (k : Fin 1024)

include hU hW hH hG hD in
theorem left_first (ht : t.val % 16 = 0) : d.Left t.val (outsAt3 V c t.val t.isLt) := by
  have hN : t.val < 16 := t.isLt
  have i0 := iblk3_0 d V c hU t
  have i1 := iblk3_1 d V c hW t
  have i2 := iblk3_2 d V c hH t
  have i3 := iblk3_3 d V c hG t
  have i4 := iblk3_4 d V c hD t
  rw [outsAt3_A V c t ht]
  refine ⟨fun r k => ?_, fun r k => ?_, fun r k => ?_⟩
  · dsimp only
    exact outA5_eq (d := d) (h0 := i0) (h1 := i1) (h2 := i2) (h3 := i3) (h4 := i4) ..
  · dsimp only
    exact outA6_eq (d := d) (h0 := i0) (h1 := i1) (h2 := i2) (h3 := i3) (h4 := i4) ..
  · dsimp only
    exact outA7_eq (d := d) (h0 := i0) (h1 := i1) (h2 := i2) (ha := by omega) ..

include hU hW hH hG hD in
theorem left_later (ht : ¬t.val % 16 = 0) (ih : d.Left (t.val - 1) (outsAt3 V c (t.val - 1) (Nat.lt_of_le_of_lt (Nat.sub_le _ _) t.isLt))) :
    d.Left t.val (outsAt3 V c t.val t.isLt) := by
  have hN : t.val < 16 := t.isLt
  have i0 := iblk3_0 d V c hU t
  have i1 := iblk3_1 d V c hW t
  have i2 := iblk3_2 d V c hH t
  have i3 := iblk3_3 d V c hG t
  have i4 := iblk3_4 d V c hD t
  have k7 := ih.small
  rw [show t.val - 1 + 1 = t.val by omega] at k7
  rw [outsAt3_B V c t ht]
  refine ⟨fun r k => ?_, fun r k => ?_, fun r k => ?_⟩
  · dsimp only
    exact outB5_eq (d := d) (h0 := i0) (h1 := i1) (h2 := i2) (h3 := i3) (h4 := i4) ..
  · dsimp only
    exact outB6_eq (d := d) (h0 := i0) (h1 := i1) (h2 := i2) (h3 := i3) (h4 := i4) ..
  · dsimp only
    exact outB7_eq (d := d) (h0 := i0) (h1 := i1) (h2 := i2) (h7 := k7) ..

include hU hW hH hG hD in
theorem left : ∀ (n : ℕ) (h : n < cfg3.N), d.Left n (outsAt3 V c n h)
  | 0, h => left_first d V c hU hW hH hG hD ⟨0, h⟩ rfl
  | n + 1, h => by
    have hN : n + 1 < 16 := h
    exact left_later d V c hU hW hH hG hD ⟨n + 1, h⟩ (by dsimp only; omega) (left n (Nat.lt_of_succ_lt h))

/-- The input's gradient, as an array. -/
def resX : S4096x1024.Idx → EReal := fun y => d.dx (y 0).val (y 1).val
/-- The small gradients, as an array. -/
def resG : S8x1024.Idx → EReal := fun y => d.small 16 (y 0).val (y 1).val

include hU hW hH hG hD in
theorem final_dx : (dat3 V c).arrAt 5 cfg3.N = resX d := by
  refine (dat3 V c).arrAt_eq_of_cover 5 (resX d) (fun t _ => ?_) fun (i : S4096x1024.Idx) => ?_
  · have hN : t.val < 16 := t.isLt
    show (cfg3.win 5).cut (grid3.coords t) ((dat3 V c).after 5 t) = _
    rw [after3_5]
    funext y
    rw [View.read_apply]
    refine (congrArg (outsAt3 V c t.val t.isLt).1 (?_ : _ = ix2 (y 0) (y 1))).trans (((left d V c hU hW hH hG hD t.val t.isLt).dx (y 0) (y 1)).trans ?_)
    · funext a
      match a with
      | ⟨0, _⟩ => rfl
      | ⟨1, _⟩ => rfl
    · refine congrArg₂ d.dx ?_ ?_
      · show _ = win3_5.index t 0 * 256 + 1 * (y 0).val
        rw [idx3_5]; simp; omega
      · show _ = win3_5.index t 1 * 1024 + 1 * (y 1).val
        rw [idx3_5]; simp
  · have h0 : (i 0).val < 4096 := (i 0).isLt
    have h1 : (i 1).val < 1024 := (i 1).isLt
    obtain ⟨u, hu⟩ : ∃ u : Fin grid3.N, u.val = (i 0).val / 256 := ⟨⟨(i 0).val / 256, by show _ < 16; omega⟩, rfl⟩
    refine ⟨u, flush3_5 _, ?_⟩
    show i ∈ ((View.whole main_v23_0).slice (win3_5.rect u)).set
    rw [View.set_slice_whole, Rect.mem_set_unit]
    intro a
    match a with
    | ⟨0, _⟩ => show win3_5.index _ 0 * 256 ≤ (i 0).val ∧ (i 0).val < win3_5.index _ 0 * 256 + 256; rw [idx3_5, hu]; simp; omega
    | ⟨1, _⟩ => show win3_5.index _ 1 * 1024 ≤ (i 1).val ∧ (i 1).val < win3_5.index _ 1 * 1024 + 1024; rw [idx3_5]; simp; omega

include hU hW hH hG hD in
theorem final_dx16 : (dat3 V c).arrAt 6 cfg3.N = resX d := by
  refine (dat3 V c).arrAt_eq_of_cover 6 (resX d) (fun t _ => ?_) fun (i : S4096x1024.Idx) => ?_
  · have hN : t.val < 16 := t.isLt
    show (cfg3.win 6).cut (grid3.coords t) ((dat3 V c).after 6 t) = _
    rw [after3_6]
    funext y
    rw [View.read_apply]
    refine (congrArg (outsAt3 V c t.val t.isLt).2.1 (?_ : _ = ix2 (y 0) (y 1))).trans (((left d V c hU hW hH hG hD t.val t.isLt).dx16 (y 0) (y 1)).trans ?_)
    · funext a
      match a with
      | ⟨0, _⟩ => rfl
      | ⟨1, _⟩ => rfl
    · refine congrArg₂ d.dx ?_ ?_
      · show _ = win3_6.index t 0 * 256 + 1 * (y 0).val
        rw [idx3_6]; simp; omega
      · show _ = win3_6.index t 1 * 1024 + 1 * (y 1).val
        rw [idx3_6]; simp
  · have h0 : (i 0).val < 4096 := (i 0).isLt
    have h1 : (i 1).val < 1024 := (i 1).isLt
    obtain ⟨u, hu⟩ : ∃ u : Fin grid3.N, u.val = (i 0).val / 256 := ⟨⟨(i 0).val / 256, by show _ < 16; omega⟩, rfl⟩
    refine ⟨u, flush3_6 _, ?_⟩
    show i ∈ ((View.whole main_v23_1).slice (win3_6.rect u)).set
    rw [View.set_slice_whole, Rect.mem_set_unit]
    intro a
    match a with
    | ⟨0, _⟩ => show win3_6.index _ 0 * 256 ≤ (i 0).val ∧ (i 0).val < win3_6.index _ 0 * 256 + 256; rw [idx3_6, hu]; simp; omega
    | ⟨1, _⟩ => show win3_6.index _ 1 * 1024 ≤ (i 1).val ∧ (i 1).val < win3_6.index _ 1 * 1024 + 1024; rw [idx3_6]; simp; omega

include hU hW hH hG hD in
theorem final_small : (dat3 V c).arrAt 7 cfg3.N = resG d := by
  refine (dat3 V c).arrAt_eq_of_cover 7 (resG d) (fun t hf => ?_) fun (i : S8x1024.Idx) => ?_
  · have hN : t.val < 16 := t.isLt
    have h15 := (flush3_7 t).mp hf
    show (cfg3.win 7).cut (grid3.coords t) ((dat3 V c).after 7 t) = _
    rw [after3_7]
    funext y
    rw [View.read_apply]
    refine (congrArg (outsAt3 V c t.val t.isLt).2.2 (?_ : _ = ix2 (y 0) (y 1))).trans (((left d V c hU hW hH hG hD t.val t.isLt).small (y 0) (y 1)).trans ?_)
    · funext a
      match a with
      | ⟨0, _⟩ => rfl
      | ⟨1, _⟩ => rfl
    · unfold resG
      rw [show t.val + 1 = 16 by omega]
      congr 1
      · show _ = win3_7.index t 0 * 8 + 1 * (y 0).val
        rw [idx3_7]; simp
      · show _ = win3_7.index t 1 * 1024 + 1 * (y 1).val
        rw [idx3_7]; simp
  · have h0 : (i 0).val < 8 := (i 0).isLt
    have h1 : (i 1).val < 1024 := (i 1).isLt
    obtain ⟨u, hu⟩ : ∃ u : Fin grid3.N, u.val = 15 := ⟨⟨15, by show _ < 16; omega⟩, rfl⟩
    refine ⟨u, (flush3_7 _).mpr (by rw [hu]), ?_⟩
    show i ∈ ((View.whole main_v23_2).slice (win3_7.rect u)).set
    rw [View.set_slice_whole, Rect.mem_set_unit]
    intro a
    match a with
    | ⟨0, _⟩ => show win3_7.index _ 0 * 8 ≤ (i 0).val ∧ (i 0).val < win3_7.index _ 0 * 8 + 8; rw [idx3_7]; simp; omega
    | ⟨1, _⟩ => show win3_7.index _ 1 * 1024 ≤ (i 1).val ∧ (i 1).val < win3_7.index _ 1 * 1024 + 1024; rw [idx3_7]; simp; omega

end Cert.MlpBwd

end
-- ==== Proof.MlpRegions.lean ====
/- The arrays the three plain products of the MLP sub-layer's gradient leave, in the model: each kernel's final array from what its input
   arrays hold when it starts. -/
module

public import proofs.«01_k».proof.Proof.MlpHost
public import proofs.«01_k».proof.Proof.KernelRead
public import Idealize.ShloMosaic.Lib.Pipeline.Value

@[expose] public section

set_option maxRecDepth 16384

noncomputable section

namespace Cert.MlpBwd

open Idealize.ShloMosaic Idealize.ShloMosaic.TcCoe Idealize.ShloMosaic.Tactic
open Idealize.SL.Sem
open Idealize.ShloMosaic.Pipeline (Dat Cfg Window cellOf)
open Cert.PoolBwd (zeros2)
open Cert.Kernel2Ideal Cert.Kernel2Ideal.Gen

theorem zeros3 : (![0, 0, 0] : Fin 3 → Nat) = fun _ => 0 := funext fun a => by fin_cases a <;> rfl

variable (d : Data) (V : (c : Dev nD) → (b : Ref sig .tc) → Buf (Elt Ideal) ((c : Thread nD τ).loc b)) (c : Dev nD)

theorem idx0_0 : ∀ t : Fin grid0.N, win0_0.index t = ![t.val / 4, 0] := by decide +kernel
theorem idx0_1 : ∀ t : Fin grid0.N, win0_1.index t = ![t.val % 4, 0] := by decide +kernel
theorem idx0_2 : ∀ t : Fin grid0.N, win0_2.index t = ![t.val / 4, t.val % 4] := by decide +kernel
theorem idx0_3 : ∀ t : Fin grid0.N, win0_3.index t = ![t.val / 4, t.val % 4] := by decide +kernel
theorem idx1_0 : ∀ t : Fin grid1.N, win1_0.index t = ![0, t.val] := by decide +kernel
theorem idx1_1 : ∀ t : Fin grid1.N, win1_1.index t = ![0, 0] := by decide +kernel
theorem idx1_2 : ∀ t : Fin grid1.N, win1_2.index t = ![t.val, 0] := by decide +kernel
theorem idx2_0 : ∀ t : Fin grid2.N, win2_0.index t = ![0, 0] := by decide +kernel
theorem idx2_1 : ∀ t : Fin grid2.N, win2_1.index t = ![0, t.val] := by decide +kernel
theorem idx2_2 : ∀ t : Fin grid2.N, win2_2.index t = ![t.val, 0, 0] := by decide +kernel

/-- The gradient of the hidden layer, as an array. -/
def resU : S4096x4096.Idx → EReal := fun y => d.du (y 0).val (y 1).val
/-- The gradient of the second weight matrix, as an array. -/
def resW2 : S4096x1024.Idx → EReal := fun y => d.dw2 (y 0).val (y 1).val
/-- The gradient of the first weight matrix, as an array of column shards. -/
def resW1 : S4x1024x1024.Idx → EReal := fun y => d.dw1 (y 1).val (1024 * (y 0).val + (y 2).val)

section du

variable (hD : ∀ (r : Fin 4096) (k : Fin 1024), (V c main_v2 : S4096x1024.Idx → EReal) (ix2 r k) = d.D r k)
variable (hW : ∀ (r : Fin 4096) (k : Fin 1024), (V c main_v1 : S4096x1024.Idx → EReal) (ix2 r k) = d.W2 r k)
variable (hU : ∀ (r k : Fin 4096), (V c main_v17 : S4096x4096.Idx → EReal) (ix2 r k) = d.U r k)
variable (t : Fin cfg0.N)

include hD in
theorem iblk0_0 (r : Fin 2048) (k : Fin 1024) : iblk0 V c 0 t (ix2 r k) = d.D (2048 * (t.val / 4) + r) k := by
  unfold iblk0
  rw [View.read_apply]
  have hN : t.val < 8 := t.isLt
  refine (congrArg (V c main_v2 : S4096x1024.Idx → EReal) ?_).trans (hD ⟨2048 * (t.val / 4) + r, by omega⟩ k)
  funext a
  apply Fin.ext
  match a with
  | ⟨0, _⟩ => show win0_0.index t 0 * 2048 + 1 * r.val = _; rw [idx0_0]; simp; omega
  | ⟨1, _⟩ => show win0_0.index t 1 * 1024 + 1 * k.val = _; rw [idx0_0]; simp

include hW in
theorem iblk0_1 (r k : Fin 1024) : iblk0 V c 1 t (ix2 r k) = d.W2 (1024 * (t.val % 4) + r) k := by
  unfold iblk0
  rw [View.read_apply]
  refine (congrArg (V c main_v1 : S4096x1024.Idx → EReal) ?_).trans (hW ⟨1024 * (t.val % 4) + r, by omega⟩ k)
  funext a
  apply Fin.ext
  match a with
  | ⟨0, _⟩ => show win0_1.index t 0 * 1024 + 1 * r.val = _; rw [idx0_1]; simp; omega
  | ⟨1, _⟩ => show win0_1.index t 1 * 1024 + 1 * k.val = _; rw [idx0_1]; simp

include hU in
theorem iblk0_2 (r : Fin 2048) (k : Fin 1024) : iblk0 V c 2 t (ix2 r k) = d.U (2048 * (t.val / 4) + r) (1024 * (t.val % 4) + k) := by
  unfold iblk0
  rw [View.read_apply]
  have hN : t.val < 8 := t.isLt
  refine (congrArg (V c main_v17 : S4096x4096.Idx → EReal) ?_).trans (hU ⟨2048 * (t.val / 4) + r, by omega⟩ ⟨1024 * (t.val % 4) + k, by omega⟩)
  funext a
  apply Fin.ext
  match a with
  | ⟨0, _⟩ => show win0_2.index t 0 * 2048 + 1 * r.val = _; rw [idx0_2]; simp; omega
  | ⟨1, _⟩ => show win0_2.index t 1 * 1024 + 1 * k.val = _; rw [idx0_2]; simp; omega

include hD hW hU in
theorem out_du (r : Fin 2048) (k : Fin 1024) : out0_3 (iblk0 V c 0 t) (iblk0 V c 1 t) (iblk0 V c 2 t) (ix2 r k)
    = d.du (2048 * (t.val / 4) + r) (1024 * (t.val % 4) + k) := by
  unfold out0_3
  simp only [View.ld_unit_zero (S := S2048x1024) zeros2, View.ld_unit_zero (S := S1024x1024) zeros2]
  refine (congrFun (View.canon_unit_zero (S := S2048x1024) zeros2 _ _) _).trans ?_
  exact pay_du d (iblk0_0 d V c hD t) (iblk0_1 d V c hW t) (iblk0_2 d V c hU t) r k

include hD hW hU in
theorem final_du : (dat0 V c).arrAt 3 cfg0.N = resU d := by
  refine (dat0 V c).arrAt_eq_of_cover 3 (resU d) (fun t _ => ?_) fun (i : S4096x4096.Idx) => ?_
  · have hN : t.val < 8 := t.isLt
    show (cfg0.win 3).cut (grid0.coords t) ((dat0 V c).after 3 t) = _
    rw [after0_3]
    funext y
    rw [View.read_apply]
    refine (congrArg (out0_3 (iblk0 V c 0 t) (iblk0 V c 1 t) (iblk0 V c 2 t)) (?_ : _ = ix2 (y 0) (y 1))).trans ((out_du d V c hD hW hU t (y 0) (y 1)).trans ?_)
    · funext a
      match a with
      | ⟨0, _⟩ => rfl
      | ⟨1, _⟩ => rfl
    · refine congrArg₂ d.du ?_ ?_
      · show _ = win0_3.index t 0 * 2048 + 1 * (y 0).val
        rw [idx0_3]; simp; omega
      · show _ = win0_3.index t 1 * 1024 + 1 * (y 1).val
        rw [idx0_3]; simp; omega
  · have h0 : (i 0).val < 4096 := (i 0).isLt
    have h1 : (i 1).val < 4096 := (i 1).isLt
    obtain ⟨u, hu⟩ : ∃ u : Fin grid0.N, u.val = 4 * ((i 0).val / 2048) + (i 1).val / 1024 := ⟨⟨4 * ((i 0).val / 2048) + (i 1).val / 1024, by show _ < 8; omega⟩, rfl⟩
    refine ⟨u, flush0_3 _, ?_⟩
    show i ∈ ((View.whole main_v20).slice (win0_3.rect u)).set
    rw [View.set_slice_whole, Rect.mem_set_unit]
    intro a
    match a with
    | ⟨0, _⟩ => show win0_3.index _ 0 * 2048 ≤ (i 0).val ∧ (i 0).val < win0_3.index _ 0 * 2048 + 2048; rw [idx0_3, hu]; simp; omega
    | ⟨1, _⟩ => show win0_3.index _ 1 * 1024 ≤ (i 1).val ∧ (i 1).val < win0_3.index _ 1 * 1024 + 1024; rw [idx0_3, hu]; simp; omega

end du

section dw2

variable (hU : ∀ (r k : Fin 4096), (V c main_v17 : S4096x4096.Idx → EReal) (ix2 r k) = d.U r k)
variable (hD : ∀ (r : Fin 4096) (k : Fin 1024), (V c main_v2 : S4096x1024.Idx → EReal) (ix2 r k) = d.D r k)
variable (t : Fin cfg1.N)

include hU in
theorem iblk1_0 (r : Fin 4096) (k : Fin 1024) : iblk1 V c 0 t (ix2 r k) = d.U r (1024 * t.val + k) := by
  unfold iblk1
  rw [View.read_apply]
  have hN : t.val < 4 := t.isLt
  refine (congrArg (V c main_v17 : S4096x4096.Idx → EReal) ?_).trans (hU r ⟨1024 * t.val + k, by omega⟩)
  funext a
  apply Fin.ext
  match a with
  | ⟨0, _⟩ => show win1_0.index t 0 * 4096 + 1 * r.val = _; rw [idx1_0]; simp
  | ⟨1, _⟩ => show win1_0.index t 1 * 1024 + 1 * k.val = _; rw [idx1_0]; simp; omega

include hD in
theorem iblk1_1 (r : Fin 4096) (k : Fin 1024) : iblk1 V c 1 t (ix2 r k) = d.D r k := by
  unfold iblk1
  rw [View.read_apply]
  refine (congrArg (V c main_v2 : S4096x1024.Idx → EReal) ?_).trans (hD r k)
  funext a
  apply Fin.ext
  match a with
  | ⟨0, _⟩ => show win1_1.index t 0 * 4096 + 1 * r.val = _; rw [idx1_1]; simp
  | ⟨1, _⟩ => show win1_1.index t 1 * 1024 + 1 * k.val = _; rw [idx1_1]; simp

include hU hD in
theorem out_dw2 (r k : Fin 1024) : out1_2 (iblk1 V c 0 t) (iblk1 V c 1 t) (ix2 r k) = d.dw2 (1024 * t.val + r) k := by
  unfold out1_2
  simp only [View.ld_unit_zero (S := S4096x1024) zeros2]
  refine (congrFun (View.canon_unit_zero (S := S1024x1024) zeros2 _ _) _).trans ?_
  exact pay_dw2 d (iblk1_0 d V c hU t) (iblk1_1 d V c hD t) r k

include hU hD in
theorem final_dw2 : (dat1 V c).arrAt 2 cfg1.N = resW2 d := by
  refine (dat1 V c).arrAt_eq_of_cover 2 (resW2 d) (fun t _ => ?_) fun (i : S4096x1024.Idx) => ?_
  · have hN : t.val < 4 := t.isLt
    show (cfg1.win 2).cut (grid1.coords t) ((dat1 V c).after 2 t) = _
    rw [after1_2]
    funext y
    rw [View.read_apply]
    refine (congrArg (out1_2 (iblk1 V c 0 t) (iblk1 V c 1 t)) (?_ : _ = ix2 (y 0) (y 1))).trans ((out_dw2 d V c hU hD t (y 0) (y 1)).trans ?_)
    · funext a
      match a with
      | ⟨0, _⟩ => rfl
      | ⟨1, _⟩ => rfl
    · refine congrArg₂ d.dw2 ?_ ?_
      · show _ = win1_2.index t 0 * 1024 + 1 * (y 0).val
        rw [idx1_2]; simp; omega
      · show _ = win1_2.index t 1 * 1024 + 1 * (y 1).val
        rw [idx1_2]; simp
  · have h0 : (i 0).val < 4096 := (i 0).isLt
    have h1 : (i 1).val < 1024 := (i 1).isLt
    obtain ⟨u, hu⟩ : ∃ u : Fin grid1.N, u.val = (i 0).val / 1024 := ⟨⟨(i 0).val / 1024, by show _ < 4; omega⟩, rfl⟩
    refine ⟨u, flush1_2 _, ?_⟩
    show i ∈ ((View.whole main_v21).slice (win1_2.rect u)).set
    rw [View.set_slice_whole, Rect.mem_set_unit]
    intro a
    match a with
    | ⟨0, _⟩ => show win1_2.index _ 0 * 1024 ≤ (i 0).val ∧ (i 0).val < win1_2.index _ 0 * 1024 + 1024; rw [idx1_2, hu]; simp; omega
    | ⟨1, _⟩ => show win1_2.index _ 1 * 1024 ≤ (i 1).val ∧ (i 1).val < win1_2.index _ 1 * 1024 + 1024; rw [idx1_2]; simp; omega

end dw2

section dw1

variable (hH : ∀ (r : Fin 4096) (k : Fin 1024), (V c main_v15 : S4096x1024.Idx → EReal) (ix2 r k) = d.hn r k)
variable (hU : ∀ (r k : Fin 4096), (V c main_v20 : S4096x4096.Idx → EReal) (ix2 r k) = d.du r k)
variable (t : Fin cfg2.N)

include hH in
theorem iblk2_0 (r : Fin 4096) (k : Fin 1024) : iblk2 V c 0 t (ix2 r k) = d.hn r k := by
  unfold iblk2
  rw [View.read_apply]
  refine (congrArg (V c main_v15 : S4096x1024.Idx → EReal) ?_).trans (hH r k)
  funext a
  apply Fin.ext
  match a with
  | ⟨0, _⟩ => show win2_0.index t 0 * 4096 + 1 * r.val = _; rw [idx2_0]; simp
  | ⟨1, _⟩ => show win2_0.index t 1 * 1024 + 1 * k.val = _; rw [idx2_0]; simp

include hU in
theorem iblk2_1 (r : Fin 4096) (k : Fin 1024) : iblk2 V c 1 t (ix2 r k) = d.du r (1024 * t.val + k) := by
  unfold iblk2
  rw [View.read_apply]
  have hN : t.val < 4 := t.isLt
  refine (congrArg (V c main_v20 : S4096x4096.Idx → EReal) ?_).trans (hU r ⟨1024 * t.val + k, by omega⟩)
  funext a
  apply Fin.ext
  match a with
  | ⟨0, _⟩ => show win2_1.index t 0 * 4096 + 1 * r.val = _; rw [idx2_1]; simp
  | ⟨1, _⟩ => show win2_1.index t 1 * 1024 + 1 * k.val = _; rw [idx2_1]; simp; omega

include hH hU in
theorem out_dw1 (r k : Fin 1024) : out2_2 (iblk2 V c 0 t) (iblk2 V c 1 t) (ix3 0 r k) = d.dw1 r (1024 * t.val + k) := by
  unfold out2_2
  simp only [View.ld_unit_zero (S := S4096x1024) zeros2]
  refine (congrFun (View.canon_unit_zero (S := S1x1024x1024) zeros3 _ _) _).trans ?_
  exact pay_dw1 d (iblk2_0 d V c hH t) (iblk2_1 d V c hU t) r k

include hH hU in
theorem final_dw1 : (dat2 V c).arrAt 2 cfg2.N = resW1 d := by
  refine (dat2 V c).arrAt_eq_of_cover 2 (resW1 d) (fun t _ => ?_) fun (i : S4x1024x1024.Idx) => ?_
  · have hN : t.val < 4 := t.isLt
    show (cfg2.win 2).cut (grid2.coords t) ((dat2 V c).after 2 t) = _
    rw [after2_2]
    funext y
    rw [View.read_apply]
    have hy : (y 0).val < 1 := (y 0).isLt
    refine (congrArg (out2_2 (iblk2 V c 0 t) (iblk2 V c 1 t)) (?_ : _ = ix3 0 (y 1) (y 2))).trans ((out_dw1 d V c hH hU t (y 1) (y 2)).trans ?_)
    · funext a
      match a with
      | ⟨0, _⟩ => exact Fin.ext (show (y 0).val = 0 by omega)
      | ⟨1, _⟩ => rfl
      | ⟨2, _⟩ => rfl
    · refine congrArg₂ d.dw1 ?_ ?_
      · show _ = win2_2.index t 1 * 1024 + 1 * (y 1).val
        rw [idx2_2]; simp
      · show _ = 1024 * (win2_2.index t 0 * 1 + 1 * (y 0).val) + (win2_2.index t 2 * 1024 + 1 * (y 2).val)
        rw [idx2_2]; simp; omega
  · have h0 : (i 0).val < 4 := (i 0).isLt
    have h1 : (i 1).val < 1024 := (i 1).isLt
    have h2 : (i 2).val < 1024 := (i 2).isLt
    obtain ⟨u, hu⟩ : ∃ u : Fin grid2.N, u.val = (i 0).val := ⟨⟨(i 0).val, h0⟩, rfl⟩
    refine ⟨u, flush2_2 _, ?_⟩
    show i ∈ ((View.whole main_v22).slice (win2_2.rect u)).set
    rw [View.set_slice_whole, Rect.mem_set_unit]
    intro a
    match a with
    | ⟨0, _⟩ => show win2_2.index _ 0 * 1 ≤ (i 0).val ∧ (i 0).val < win2_2.index _ 0 * 1 + 1; rw [idx2_2, hu]; simp
    | ⟨1, _⟩ => show win2_2.index _ 1 * 1024 ≤ (i 1).val ∧ (i 1).val < win2_2.index _ 1 * 1024 + 1024; rw [idx2_2]; simp; omega
    | ⟨2, _⟩ => show win2_2.index _ 2 * 1024 ≤ (i 2).val ∧ (i 2).val < win2_2.index _ 2 * 1024 + 1024; rw [idx2_2]; simp; omega

end dw1

end Cert.MlpBwd

end
-- ==== Proof.MlpRun.lean ====
/- The run of the four kernels of the MLP sub-layer's gradient: what each kernel finds, and the five arrays the program ends with. -/
module

public import proofs.«01_k».proof.Proof.MlpSweep
public import proofs.«01_k».proof.Proof.MlpRegions

@[expose] public section

set_option maxRecDepth 16384

noncomputable section

namespace Cert.MlpBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel2Ideal Cert.Kernel2Ideal.Gen

section entries

variable (m : (ℓ : Loc nD τ sig) → Buf (Elt Ideal) ℓ) (ρ : Dev nD → PrngReg) (c : Dev nD) (d : Data)
variable (hd : d.Fits (m ((c : Thread nD τ).loc main_arg0)) (m ((c : Thread nD τ).loc main_arg1)) (m ((c : Thread nD τ).loc main_arg2))
  (m ((c : Thread nD τ).loc main_arg3)) (m ((c : Thread nD τ).loc main_arg4)))

include hd

theorem e1_dh (r : Fin 4096) (k : Fin 1024) : (V1 m ρ c main_v2 : S4096x1024.Idx → EReal) (ix2 r k) = d.D r k :=
  (congrFun (V1_dh m ρ c) (ix2 r k)).trans (hd.dh r k)

theorem e1_w2 (r : Fin 4096) (k : Fin 1024) : (V1 m ρ c main_v1 : S4096x1024.Idx → EReal) (ix2 r k) = d.W2 r k :=
  (congrFun (V1_w2 m ρ c) (ix2 r k)).trans (hd.w2 r k)

theorem e1_u (r k : Fin 4096) : (V1 m ρ c main_v17 : S4096x4096.Idx → EReal) (ix2 r k) = d.U r k :=
  (congrFun (V1_u m ρ c) (ix2 r k)).trans (uH_eq hd.h hd.g hd.w1 r k)

theorem e1_hm (r : Fin 4096) (k : Fin 1024) : (V1 m ρ c main_v15 : S4096x1024.Idx → EReal) (ix2 r k) = d.hn r k :=
  (congrFun (V1_hm m ρ c) (ix2 r k)).trans (hmH_eq hd.h hd.g r k)

theorem e1_w1 (s : Fin 4) (r k : Fin 1024) : (V1 m ρ c main_v19 : S4x1024x1024.Idx → EReal) (ix3 s r k) = d.W1 r (1024 * s + k) :=
  (congrFun (V1_shards m ρ c) (ix3 s r k)).trans (shardH_eq hd.w1 s r k)

theorem arr_du : W2 m ρ c (Proc.devRef .tc main_v20) = resU d :=
  (W2_arr m ρ c 3).trans (final_du d (V1 m ρ) c (e1_dh m ρ c d hd) (e1_w2 m ρ c d hd) (e1_u m ρ c d hd))

theorem e2_u (r k : Fin 4096) : (V2 m ρ c main_v17 : S4096x4096.Idx → EReal) (ix2 r k) = d.U r k :=
  (congrFun (W2_of m ρ c main_v17 (by decide)) (ix2 r k)).trans (e1_u m ρ c d hd r k)

theorem e2_dh (r : Fin 4096) (k : Fin 1024) : (V2 m ρ c main_v2 : S4096x1024.Idx → EReal) (ix2 r k) = d.D r k :=
  (congrFun (W2_of m ρ c main_v2 (by decide)) (ix2 r k)).trans (e1_dh m ρ c d hd r k)

theorem arr_dw2 : W3 m ρ c (Proc.devRef .tc main_v21) = resW2 d :=
  (W3_arr m ρ c 2).trans (final_dw2 d (V2 m ρ) c (e2_u m ρ c d hd) (e2_dh m ρ c d hd))

theorem e3_du (r k : Fin 4096) : (V3 m ρ c main_v20 : S4096x4096.Idx → EReal) (ix2 r k) = d.du r k :=
  (congrFun (W3_of m ρ c main_v20 (by decide)) (ix2 r k)).trans (congrFun (arr_du m ρ c d hd) (ix2 r k))

theorem e3_hm (r : Fin 4096) (k : Fin 1024) : (V3 m ρ c main_v15 : S4096x1024.Idx → EReal) (ix2 r k) = d.hn r k :=
  (congrFun ((W3_of m ρ c main_v15 (by decide)).trans (W2_of m ρ c main_v15 (by decide))) (ix2 r k)).trans (e1_hm m ρ c d hd r k)

theorem arr_dw1 : W4 m ρ c (Proc.devRef .tc main_v22) = resW1 d :=
  (W4_arr m ρ c 2).trans (final_dw1 d (V3 m ρ) c (e3_hm m ρ c d hd) (e3_du m ρ c d hd))

theorem e4_du (r k : Fin 4096) : (V4 m ρ c main_v20 : S4096x4096.Idx → EReal) (ix2 r k) = d.du r k :=
  (congrFun (W4_of m ρ c main_v20 (by decide)) (ix2 r k)).trans (e3_du m ρ c d hd r k)

theorem e4_w1 (s : Fin 4) (r k : Fin 1024) : (V4 m ρ c main_v19 : S4x1024x1024.Idx → EReal) (ix3 s r k) = d.W1 r (1024 * s + k) :=
  (congrFun ((W4_of m ρ c main_v19 (by decide)).trans ((W3_of m ρ c main_v19 (by decide)).trans (W2_of m ρ c main_v19 (by decide)))) (ix3 s r k)).trans (e1_w1 m ρ c d hd s r k)

theorem e4_h (r : Fin 4096) (k : Fin 1024) : (V4 m ρ c main_arg0 : S4096x1024.Idx → EReal) (ix2 r k) = d.H r k :=
  (congrFun (W4_args m ρ c main_arg0 (by decide)) (ix2 r k)).trans (hd.h r k)

theorem e4_g (k : Fin 1024) : (V4 m ρ c main_arg1 : S1x1024.Idx → EReal) (ix2 0 k) = d.G k :=
  (congrFun (W4_args m ρ c main_arg1 (by decide)) (ix2 0 k)).trans (hd.g k)

theorem e4_dh (r : Fin 4096) (k : Fin 1024) : (V4 m ρ c main_arg4 : S4096x1024.Idx → EReal) (ix2 r k) = d.D r k :=
  (congrFun (W4_args m ρ c main_arg4 (by decide)) (ix2 r k)).trans (hd.dh r k)

theorem end_dx : W5 m ρ c (Proc.devRef .tc main_v23_0) = resX d :=
  (W5_arr m ρ c 5).trans (final_dx d (V4 m ρ) c (e4_du m ρ c d hd) (e4_w1 m ρ c d hd) (e4_h m ρ c d hd) (e4_g m ρ c d hd) (e4_dh m ρ c d hd))

theorem end_dx16 : W5 m ρ c (Proc.devRef .tc main_v23_1) = resX d :=
  (W5_arr m ρ c 6).trans (final_dx16 d (V4 m ρ) c (e4_du m ρ c d hd) (e4_w1 m ρ c d hd) (e4_h m ρ c d hd) (e4_g m ρ c d hd) (e4_dh m ρ c d hd))

theorem end_small : W5 m ρ c (Proc.devRef .tc main_v23_2) = resG d :=
  (W5_arr m ρ c 7).trans (final_small d (V4 m ρ) c (e4_du m ρ c d hd) (e4_w1 m ρ c d hd) (e4_h m ρ c d hd) (e4_g m ρ c d hd) (e4_dh m ρ c d hd))

theorem end_dw1 : W5 m ρ c (Proc.devRef .tc main_v22) = resW1 d :=
  (W5_of m ρ c main_v22 (by decide)).trans (arr_dw1 m ρ c d hd)

theorem end_dw2 : W5 m ρ c (Proc.devRef .tc main_v21) = resW2 d :=
  ((W5_of m ρ c main_v21 (by decide)).trans (W4_of m ρ c main_v21 (by decide))).trans (arr_dw2 m ρ c d hd)

end entries

set_option backward.isDefEq.respectTransparency.types false in
/-- Every run ends, and the final memory of every device is the last boundary's contents at every reference outside the kernels' scratch. -/
theorem run_last (m : (ℓ : Loc nD τ sig) → Buf (Elt Ideal) ℓ) (ρ : Dev nD → PrngReg) :
    θ_run defs (onTc (τ := τ) (main (F := Ideal))) ⟨m, fun _ => 0, ρ⟩
      (fun r => ∀ c : Dev nD, ∀ b ∈ Pipeline.ucRefs τ sig, r.2.mem (((c : Thread nD τ)).1, b) = W5 m ρ c b) := by
  refine Pipeline.θ_run_regions_kit_sems (pcfgs (F := Ideal)) adm (pdats m ρ) () cellOf_inj emb₁ defs₀ 𝒱₀ L lv m ρ main (segs m ρ)
    (fun c Q => by rw [main_run m ρ c]) ?_ (O₀ := 0) (fun _ _ => rfl) (G := fun _ => iprop(emp))
    (u₀ := initOf (Pipeline.cells cfgs cellOf_inj) (Pipeline.launchToks cfgs cellOf_inj)) ?_
    (T₀ := fun c => iprop(StableHlo.held (c : Thread nD τ) (Pipeline.ucRefs τ sig) (W0 m ρ c) ∗ R c)) (Tₙ := Tₙ m ρ)
    ⟨fun _ => .rfl, fun _ => .rfl, fun _ => .rfl, fun _ => .rfl, fun _ => .rfl, fun _ => .rfl⟩ ?_
    (QY := fun c s => ∀ b ∈ Pipeline.ucRefs τ sig, s.mem (((c : Thread nD τ)).1, b) = W5 m ρ c b) ?_ (fun s h _ => h)
  · simp only [segs, Pipeline.Seg.pipes_host, Pipeline.Seg.pipes_region, Pipeline.Seg.pipes_nil]
    decide
  · iintro Htok
    imodintro
    isplitl [Htok]
    · iapply (show (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) from .rfl)
      iexact Htok
    · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howe, -, Hreg, -⟩, -⟩
    imodintro
    isplitl [Hbufs]
    · iexact Hbufs
    isplitl [Hreg]
    · iexists _
      iexact Hreg
    · iexists ∅
      iexact Howe
  · intro c s'
    iintro ⟨⟨Hbufs, -⟩, Hst⟩
    unfold StableHlo.held
    imodintro
    iapply (pointsTo_read_all (Pipeline.ucRefs τ sig) (fun b => (((c : Thread nD τ)).1, b)) (W5 m ρ c) s')
    isplitl [Hbufs] <;> iassumption

end Cert.MlpBwd

end
-- ==== Proof.MlpRef.lean ====
/- What the reference of the MLP sub-layer's gradient computes, entry by entry, in the model. -/
module

public import proofs.«01_k».proof.Proof.Gen.Reference2Ideal.Read
public import proofs.«01_k».proof.Proof.MlpModel
public import proofs.«01_k».proof.Proof.NormGrad
public import proofs.«01_k».proof.Proof.RefRead
public import Idealize.ShloMosaic.Lib.Pointwise
public import Idealize.ShloMosaic.PureOps.Ideal

@[expose] public section

set_option maxRecDepth 16384

noncomputable section

namespace Cert.MlpBwd

open Idealize.ShloMosaic Idealize.ShloMosaic.TcCoe Idealize.ShloMosaic.Tactic
open Cert.PoolBwd (eps ofBits_1024 ofBits_eps)
open Cert.Reference2Ideal Cert.Reference2Ideal.Gen Cert.Reference2Ideal.Read

namespace Ref

variable {d : Data} {x0 x3 x4 : S4096x1024.Idx → EReal} {x1 : S1x1024.Idx → EReal} {x2 : S1024x4096.Idx → EReal}

/-- The reference's arguments' entries are the model's numbers. -/
structure Fits (d : Data) (x0 : S4096x1024.Idx → EReal) (x1 : S1x1024.Idx → EReal) (x2 : S1024x4096.Idx → EReal) (x3 x4 : S4096x1024.Idx → EReal) : Prop where
  h : ∀ r c, x0 (ix2 r c) = d.H (r : Fin 4096) (c : Fin 1024)
  g : ∀ c, x1 (ix2 0 c) = d.G (c : Fin 1024)
  w1 : ∀ r c, x2 (ix2 r c) = d.W1 (r : Fin 1024) (c : Fin 4096)
  w2 : ∀ r c, x3 (ix2 r c) = d.W2 (r : Fin 4096) (c : Fin 1024)
  dh : ∀ r c, x4 (ix2 r c) = d.D (r : Fin 4096) (c : Fin 1024)

variable (hd : Fits d x0 x1 x2 x3 x4)
include hd

theorem ms_eq (r : Fin 4096) : val_main_v6 (F := Ideal) x0 (ix2 r 0) = d.ms r + (eps : EReal) := by
  pointwise [val_main_v6, val_main_v5, val_main_v4, val_main_v3, val_main_v2, val_main_v1, val_main_v0, val_main_cst, val_main_cst_0, val_main_cst_1]
  simp only [hd.h, Ideal.ofBits_zero_f32, zero_add, ofBits_1024, ofBits_eps]
  rfl

theorem inv_eq (r : Fin 4096) : val_main_v7 (F := Ideal) x0 (ix2 r 0) = d.inv r := by
  pointwise [val_main_v7]
  rw [ms_eq hd]
  rfl

/-- The slope of the reciprocal root. -/
theorem slope_eq (r : Fin 4096) : val_main_v10 (F := Ideal) x0 (ix2 r 0) = ((-(1 / 2) : ℝ) : EReal) * Ideal.div (d.inv r) (d.ms r + (eps : EReal)) := by
  pointwise [val_main_v10, val_main_v9, val_main_v8, val_main_cst_2]
  rw [ms_eq hd, inv_eq hd, Cert.PoolBwd.Ref.ofBits_neg_half]

theorem xh_eq (r : Fin 4096) (c : Fin 1024) : val_main_v12 (F := Ideal) x0 (ix2 r c) = d.xh r c := by
  pointwise [val_main_v12, val_main_v11]
  rw [inv_eq hd, hd.h]
  rfl

theorem hn_eq (r : Fin 4096) (c : Fin 1024) : val_main_v14 (F := Ideal) x0 x1 (ix2 r c) = d.hn r c := by
  pointwise [val_main_v14, val_main_v13]
  rw [xh_eq hd, hd.g]
  rfl

theorem u_eq (r k : Fin 4096) : val_main_v15 (F := Ideal) x0 x1 x2 (ix2 r k) = d.U r k := by
  pointwise [val_main_v15]
  simp only [hn_eq hd, hd.w1]
  rfl

theorem relu_eq (r k : Fin 4096) : val_main_v16 (F := Ideal) x0 x1 x2 (ix2 r k) = max (d.U r k) 0 := by
  pointwise [val_main_v16, val_main_call0_v0, val_main_call0_cst]
  rw [u_eq hd]

theorem dy_eq (r : Fin 4096) (c : Fin 1024) : val_main_v23 (F := Ideal) x4 (ix2 r c) = d.D r c := by
  pointwise [val_main_v23]
  exact hd.dh r c

theorem dw2_eq (k : Fin 4096) (c : Fin 1024) : val_main_v25 (F := Ideal) x0 x1 x2 x4 (ix2 k c) = d.dw2 k c := by
  pointwise [val_main_v25, val_main_v24, val_main_v20]
  simp only [dy_eq hd, relu_eq hd]
  unfold Data.dw2
  exact Finset.sum_congr rfl fun t _ => mul_comm _ _

theorem da_eq (r k : Fin 4096) : val_main_v26 (F := Ideal) x3 x4 (ix2 r k) = d.da r k := by
  pointwise [val_main_v26]
  simp only [dy_eq hd, hd.w2]
  rfl

theorem du_eq (r k : Fin 4096) : val_main_v31 (F := Ideal) x0 x1 x2 x3 x4 (ix2 r k) = d.du r k := by
  pointwise [val_main_v31, val_main_v18, val_main_v17, val_main_v29, val_main_v27, val_main_v28, val_main_v30, val_main_cst_3, val_main_cst_5]
  rw [u_eq hd, relu_eq hd, da_eq hd]
  unfold Data.du
  by_cases h : 0 < d.U r k
  · rw [if_pos h, max_eq_left h.le, mul_comm (d.U r k) (d.da r k), twice, mul_assoc, mul_comm (d.U r k)]
  · rw [if_neg h, max_eq_right (not_lt.mp h), mul_zero, mul_zero]

theorem dw1_eq (s : Fin 4) (r k : Fin 1024) : val_main_v56 (F := Ideal) x0 x1 x2 x3 x4 (ix3 s r k) = d.dw1 r (1024 * s + k) := by
  pointwise [val_main_v56, val_main_v55, val_main_v33, val_main_v32]
  simp only [hn_eq hd, du_eq hd]
  rw [mul_comm s.val 1024]
  exact Finset.sum_congr rfl fun t _ => mul_comm _ _

theorem dhn_eq (r : Fin 4096) (c : Fin 1024) : val_main_v34 (F := Ideal) x0 x1 x2 x3 x4 (ix2 r c) = d.dhn r c := by
  pointwise [val_main_v34]
  simp only [du_eq hd, hd.w1]
  rfl

theorem dxg_eq (r : Fin 4096) (c : Fin 1024) : val_main_v39 (F := Ideal) x0 x1 x2 x3 x4 (ix2 r c) = d.dxg r c := by
  pointwise [val_main_v39, val_main_v38]
  rw [dhn_eq hd, hd.g]
  rfl

theorem row_eq (r : Fin 4096) : val_main_v42 (F := Ideal) x0 x1 x2 x3 x4 (ix2 r 0) = (∑ c : Fin 1024, d.H r c * d.dxg r c) := by
  pointwise [val_main_v42, val_main_v41, val_main_v40, val_main_cst_7]
  simp only [dxg_eq hd, hd.h, Ideal.ofBits_zero_f32, zero_add]

theorem half_eq (r : Fin 4096) (c : Fin 1024) : val_main_v50 (F := Ideal) x0 x1 x2 x3 x4 (ix2 r c)
    = Ideal.div ((∑ c : Fin 1024, d.H r c * d.dxg r c) * (((-(1 / 2) : ℝ) : EReal) * Ideal.div (d.inv r) (d.ms r + (eps : EReal)))) (1024 : ℝ) := by
  pointwise [val_main_v50, val_main_v49, val_main_v48, val_main_v47, val_main_v46, val_main_cst_8, val_main_cst_9]
  rw [show (∑ x : Fin 1, Ideal.div (val_main_v42 (F := Ideal) x0 x1 x2 x3 x4 (ix2 r x) * val_main_v10 (F := Ideal) x0 (ix2 r x)) (Ideal.ofBits FTy.f32 1149239296#32))
      = Ideal.div (val_main_v42 (F := Ideal) x0 x1 x2 x3 x4 (ix2 r 0) * val_main_v10 (F := Ideal) x0 (ix2 r 0)) (Ideal.ofBits FTy.f32 1149239296#32) from Fin.sum_univ_one _,
    row_eq hd, slope_eq hd, ofBits_1024]

theorem dx_eq (r : Fin 4096) (c : Fin 1024) : val_main_v54 (F := Ideal) x0 x1 x2 x3 x4 (ix2 r c) = d.dx r c := by
  pointwise [val_main_v54, val_main_v53, val_main_v52, val_main_v51, val_main_v45, val_main_v44, val_main_v43]
  rw [half_eq hd, hd.h, hd.dh, dxg_eq hd, inv_eq hd]
  unfold Data.dx Data.proj Data.xh
  rw [add_assoc, add_assoc]
  congr 1
  exact norm_grad (fun c : Fin 1024 => d.H r c) (fun c : Fin 1024 => d.dxg r c) c

theorem dx16_eq (r : Fin 4096) (c : Fin 1024) : val_main_v57 (F := Ideal) x0 x1 x2 x3 x4 (ix2 r c) = d.dx r c := by
  pointwise [val_main_v57]
  exact dx_eq hd r c

theorem dg_eq (c : Fin 1024) : val_main_v37 (F := Ideal) x0 x1 x2 x3 x4 (ix2 0 c) = d.accG 16 c := by
  pointwise [val_main_v37, val_main_v36, val_main_v35, val_main_cst_6]
  simp only [xh_eq hd, dhn_eq hd, Ideal.ofBits_zero_f32, zero_add]
  unfold Data.accG
  rw [Fin.sum_univ_eq_sum_range (fun t => d.xh t c * d.dhn t c) 4096]
  exact Finset.sum_congr rfl fun t _ => mul_comm _ _

theorem small_eq (r : Fin 8) (c : Fin 1024) : val_main_v59 (F := Ideal) x0 x1 x2 x3 x4 (ix2 r c) = d.small 16 r c := by
  pointwise [val_main_v59, val_main_v58, val_main_cst_10]
  unfold Data.small
  by_cases h : r.val = 0
  · rw [dif_pos (by omega), if_pos h, ← dg_eq hd c]
    exact congrArg _ (congrArg (ix2 · c) (Fin.ext h))
  · rw [dif_neg (by omega), if_neg h]

end Ref

end Cert.MlpBwd

end
-- ==== Proof.InProjPay.lean ====
/- What each value the four kernels of the input projection's gradient compute is, in the model: one lemma per stored payload. -/
module

public import proofs.«01_k».proof.Proof.Gen.Kernel3Ideal.Skeleton
public import proofs.«01_k».proof.Proof.InProjHost

@[expose] public section

set_option maxRecDepth 16384

noncomputable section

namespace Cert.InProj

open Idealize.ShloMosaic Idealize.ShloMosaic.TcCoe Idealize.ShloMosaic.Tactic
open Idealize.SL.Sem
open Cert.PoolBwd (ofBits_1024)
open Cert.Kernel3Ideal Cert.Kernel3Ideal.Gen

variable (d : Data)

theorem pay_dw1 {b : ℕ} {x0 x1 : Vec Ideal S4096x1024 .bf16}
    (h0 : ∀ r c, x0 (ix2 r c) = d.C (r : Fin 4096) (1024 * b + (c : Fin 1024)))
    (h1 : ∀ r c, x1 (ix2 r c) = d.hn (r : Fin 4096) (c : Fin 1024)) (r c : Fin 1024) :
    k0_pay1 (F := Ideal) x0 x1 (ix2 r c) = d.dw (1024 * b + r) c := by
  pointwise [k0_pay1]
  simp only [h0, h1]
  rfl

theorem pay_dw2 {b : ℕ} {x0 x1 : Vec Ideal S4096x1024 .bf16}
    (h0 : ∀ r c, x0 (ix2 r c) = d.C (r : Fin 4096) (2048 + (1024 * b + (c : Fin 1024))))
    (h1 : ∀ r c, x1 (ix2 r c) = d.hn (r : Fin 4096) (c : Fin 1024)) (r c : Fin 1024) :
    k1_pay1 (F := Ideal) x0 x1 (ix2 r c) = d.dw (2048 + (1024 * b + r)) c := by
  pointwise [k1_pay1]
  simp only [h0, h1]
  rfl

theorem pay_dw3 {x0 : Vec Ideal S4096x128 .f32} {x1 : Vec Ideal S4096x1024 .bf16}
    (h0 : ∀ r c, x0 (ix2 r c) = d.C3 (r : Fin 4096) (c : Fin 128))
    (h1 : ∀ r c, x1 (ix2 r c) = d.hn (r : Fin 4096) (c : Fin 1024)) (r : Fin 128) (c : Fin 1024) :
    k2_pay1 (F := Ideal) x0 x1 (ix2 r c) = d.dw3 r c := by
  pointwise [k2_pay1]
  simp only [h0, h1]
  exact d.dw3_eq r c

variable {a : ℕ} {x0 : Vec Ideal S256x3072 .bf16} {x1 : Vec Ideal S3072x1024 .bf16} {x2 : Vec Ideal S256x2048 .bf16} {x3 : Vec Ideal S2048x1024 .bf16} {x4 : Vec Ideal S256x128 .f32} {x5 : Vec Ideal S128x1024 .bf16} {x6 : Vec Ideal S256x1024 .f32} {x7 : Vec Ideal S1x1024 .f32} {x8 : Vec Ideal S256x1024 .f32}
variable (h0 : ∀ r k, x0 (ix2 r k) = d.C (256 * a + (r : Fin 256)) (2048 + (k : Fin 3072)))
variable (h1 : ∀ k c, x1 (ix2 k c) = d.W (c : Fin 1024) (2048 + (k : Fin 3072)))
variable (h2 : ∀ r k, x2 (ix2 r k) = d.C (256 * a + (r : Fin 256)) (k : Fin 2048))
variable (h3 : ∀ k c, x3 (ix2 k c) = d.W (c : Fin 1024) (k : Fin 2048))
variable (h4 : ∀ r k, x4 (ix2 r k) = d.C3 (256 * a + (r : Fin 256)) (k : Fin 128))
variable (h5 : ∀ k c, x5 (ix2 k c) = d.W3 (k : Fin 128) (c : Fin 1024))
variable (h6 : ∀ r k, x6 (ix2 r k) = d.H (256 * a + (r : Fin 256)) (k : Fin 1024))
variable (h7 : ∀ k, x7 (ix2 0 k) = d.G (k : Fin 1024))
variable (h8 : ∀ r k, x8 (ix2 r k) = d.D (256 * a + (r : Fin 256)) (k : Fin 1024))

include h0 h1 h2 h3 h4 h5 in
theorem pay_dhn (r : Fin 256) (c : Fin 1024) : k3_pay4 (F := Ideal) x0 x1 x2 x3 x4 x5 (ix2 r c) = d.dhn (256 * a + r) c := by
  pointwise [k3_pay4]
  simp only [h0, h1, h2, h3, h4, h5]
  exact d.dhn_eq _ _

include h6 in
theorem pay_inv (r : Fin 256) (c : Fin 1) : k3_pay6 (F := Ideal) x6 (ix2 r c) = d.inv (256 * a + r) := by
  pointwise [k3_pay6]
  simp only [h6]
  exact rsqrt_row d _

include h6 in
theorem pay_xh (r : Fin 256) (c : Fin 1024) : k3_pay7 (F := Ideal) x6 (ix2 r c) = d.xh (256 * a + r) c := by
  pointwise [k3_pay7]
  rw [pay_inv d h6, h6]; rfl

include h0 h1 h2 h3 h4 h5 h7 in
theorem pay_dxg (r : Fin 256) (c : Fin 1024) : k3_pay8 (F := Ideal) x0 x1 x2 x3 x4 x5 x7 (ix2 r c) = d.dxg (256 * a + r) c := by
  pointwise [k3_pay8]
  rw [pay_dhn d h0 h1 h2 h3 h4 h5, h7]; rfl

include h0 h1 h2 h3 h4 h5 h6 h7 h8 in
theorem pay_dx (r : Fin 256) (c : Fin 1024) :
    k3_pay1 (F := Ideal) (k3_pay6 x6) (k3_pay7 x6) (k3_pay8 x0 x1 x2 x3 x4 x5 x7) x8 (ix2 r c) = d.dx (256 * a + r) c := by
  pointwise [k3_pay1]
  simp only [pay_inv d h6, pay_xh d h6, pay_dxg d h0 h1 h2 h3 h4 h5 h7, h8, ofBits_1024]
  rfl

include h0 h1 h2 h3 h4 h5 h6 h7 h8 in
theorem pay_dx16 (r : Fin 256) (c : Fin 1024) :
    k3_pay2 (F := Ideal) (k3_pay6 x6) (k3_pay7 x6) (k3_pay8 x0 x1 x2 x3 x4 x5 x7) x8 (ix2 r c) = d.dx (256 * a + r) c := by
  pointwise [k3_pay2]
  exact pay_dx d h0 h1 h2 h3 h4 h5 h6 h7 h8 r c

include h0 h1 h2 h3 h4 h5 h6 in
theorem pay_dg {acc : Vec Ideal S1x1024 .f32} (c : Fin 1024) : k3_pay3 (F := Ideal) (k3_pay4 x0 x1 x2 x3 x4 x5) (k3_pay7 x6) acc (ix2 0 c)
    = acc (ix2 0 c) + (∑ r : Fin 256, d.dhn (256 * a + r) c * d.xh (256 * a + r) c) := by
  pointwise [k3_pay3]
  simp only [pay_xh d h6, pay_dhn d h0 h1 h2 h3 h4 h5]

end Cert.InProj

end
-- ==== Proof.InProjRegions.lean ====
/- The three groups' weight gradients: what the three product kernels leave. -/
module

public import proofs.«01_k».proof.Proof.InProjPay
public import proofs.«01_k».proof.Proof.KernelRead
public import Idealize.ShloMosaic.Lib.Pipeline.Value

@[expose] public section

set_option maxRecDepth 16384

noncomputable section

namespace Cert.InProj

open Idealize.ShloMosaic Idealize.ShloMosaic.TcCoe Idealize.ShloMosaic.Tactic
open Idealize.SL.Sem
open Idealize.ShloMosaic.Pipeline (Dat Cfg Window cellOf)
open Cert.PoolBwd (zeros2)
open Cert.Kernel3Ideal Cert.Kernel3Ideal.Gen

variable (d : Data) (V : (c : Dev nD) → (b : Ref sig .tc) → Buf (Elt Ideal) ((c : Thread nD τ).loc b)) (c : Dev nD)

/-- The first group's rows of the weight's gradient, as an array. -/
def resW1 : S2048x1024.Idx → EReal := fun y => d.dw (y 0).val (y 1).val
/-- The second group's rows. -/
def resW2 : S3072x1024.Idx → EReal := fun y => d.dw (2048 + (y 0).val) (y 1).val
/-- The last group's rows, continued by zeros. -/
def resW3 : S128x1024.Idx → EReal := fun y => d.dw3 (y 0).val (y 1).val

theorem idx0_0 : ∀ t : Fin grid0.N, win0_0.index t = ![0, t.val] := by decide +kernel
theorem idx0_1 : ∀ t : Fin grid0.N, win0_1.index t = ![0, 0] := by decide +kernel
theorem idx0_2 : ∀ t : Fin grid0.N, win0_2.index t = ![t.val, 0] := by decide +kernel
theorem idx1_0 : ∀ t : Fin grid1.N, win1_0.index t = ![0, t.val] := by decide +kernel
theorem idx1_1 : ∀ t : Fin grid1.N, win1_1.index t = ![0, 0] := by decide +kernel
theorem idx1_2 : ∀ t : Fin grid1.N, win1_2.index t = ![t.val, 0] := by decide +kernel
theorem idx2_0 : ∀ t : Fin grid2.N, win2_0.index t = ![0, 0] := by decide +kernel
theorem idx2_1 : ∀ t : Fin grid2.N, win2_1.index t = ![0, 0] := by decide +kernel
theorem idx2_2 : ∀ t : Fin grid2.N, win2_2.index t = ![0, 0] := by decide +kernel

variable (hN : ∀ (r : Fin 4096) (k : Fin 1024), (V c main_v12 : S4096x1024.Idx → EReal) (ix2 r k) = d.hn r k)

section dw1

variable (hC : ∀ (r : Fin 4096) (k : Fin 2048), (V c main_arg3 : S4096x2048.Idx → EReal) (ix2 r k) = d.C r k)
variable (t : Fin cfg0.N)

include hC in
theorem iblk0_0 (r : Fin 4096) (k : Fin 1024) : iblk0 V c 0 t (ix2 r k) = d.C r (1024 * t.val + k) := by
  unfold iblk0
  rw [View.read_apply]
  have hN : t.val < 2 := t.isLt
  refine (congrArg (V c main_arg3 : S4096x2048.Idx → EReal) ?_).trans (hC r ⟨1024 * t.val + k, by omega⟩)
  funext a
  apply Fin.ext
  match a with
  | ⟨0, _⟩ => show win0_0.index t 0 * 4096 + 1 * r.val = _; rw [idx0_0]; simp
  | ⟨1, _⟩ => show win0_0.index t 1 * 1024 + 1 * k.val = _; rw [idx0_0]; simp; omega

include hN in
theorem iblk0_1 (r : Fin 4096) (k : Fin 1024) : iblk0 V c 1 t (ix2 r k) = d.hn r k := by
  unfold iblk0
  rw [View.read_apply]
  have hT : t.val < 2 := t.isLt
  refine (congrArg (V c main_v12 : S4096x1024.Idx → EReal) ?_).trans (hN r k)
  funext a
  apply Fin.ext
  match a with
  | ⟨0, _⟩ => show win0_1.index t 0 * 4096 + 1 * r.val = _; rw [idx0_1]; simp
  | ⟨1, _⟩ => show win0_1.index t 1 * 1024 + 1 * k.val = _; rw [idx0_1]; simp

include hN hC in
theorem out_dw1 (r k : Fin 1024) : out0_2 (iblk0 V c 0 t) (iblk0 V c 1 t) (ix2 r k) = d.dw (1024 * t.val + r) k := by
  unfold out0_2
  simp only [View.ld_unit_zero (S := S4096x1024) zeros2]
  refine (congrFun (View.canon_unit_zero (S := S1024x1024) zeros2 _ _) _).trans ?_
  exact pay_dw1 d (iblk0_0 d V c hC t) (iblk0_1 d V c hN t) r k

include hN hC in
theorem final_dw1 : (dat0 V c).arrAt 2 cfg0.N = resW1 d := by
  refine (dat0 V c).arrAt_eq_of_cover 2 (resW1 d) (fun t _ => ?_) fun (i : S2048x1024.Idx) => ?_
  · have hT : t.val < 2 := t.isLt
    show (cfg0.win 2).cut (grid0.coords t) ((dat0 V c).after 2 t) = _
    rw [after0_2]
    funext y
    rw [View.read_apply]
    refine (congrArg (out0_2 (iblk0 V c 0 t) (iblk0 V c 1 t)) (?_ : _ = ix2 (y 0) (y 1))).trans ((out_dw1 d V c hN hC t (y 0) (y 1)).trans ?_)
    · funext a
      match a with
      | ⟨0, _⟩ => rfl
      | ⟨1, _⟩ => rfl
    · refine congrArg₂ d.dw ?_ ?_
      · show _ = win0_2.index t 0 * 1024 + 1 * (y 0).val
        rw [idx0_2]; simp; omega
      · show _ = win0_2.index t 1 * 1024 + 1 * (y 1).val
        rw [idx0_2]; simp
  · have h0 : (i 0).val < 2048 := (i 0).isLt
    have h1 : (i 1).val < 1024 := (i 1).isLt
    obtain ⟨u, hu⟩ : ∃ u : Fin grid0.N, u.val = (i 0).val / 1024 := ⟨⟨(i 0).val / 1024, by show _ < 2; omega⟩, rfl⟩
    refine ⟨u, flush0_2 _, ?_⟩
    show i ∈ ((View.whole main_v22).slice (win0_2.rect u)).set
    rw [View.set_slice_whole, Rect.mem_set_unit]
    intro a
    match a with
    | ⟨0, _⟩ => show win0_2.index _ 0 * 1024 ≤ (i 0).val ∧ (i 0).val < win0_2.index _ 0 * 1024 + 1024; rw [idx0_2, hu]; simp; omega
    | ⟨1, _⟩ => show win0_2.index _ 1 * 1024 ≤ (i 1).val ∧ (i 1).val < win0_2.index _ 1 * 1024 + 1024; rw [idx0_2]; simp; omega

end dw1

section dw2

variable (hC : ∀ (r : Fin 4096) (k : Fin 3072), (V c main_arg4 : S4096x3072.Idx → EReal) (ix2 r k) = d.C r (2048 + k))
variable (t : Fin cfg1.N)

include hC in
theorem iblk1_0 (r : Fin 4096) (k : Fin 1024) : iblk1 V c 0 t (ix2 r k) = d.C r (2048 + (1024 * t.val + k)) := by
  unfold iblk1
  rw [View.read_apply]
  have hN : t.val < 3 := t.isLt
  refine (congrArg (V c main_arg4 : S4096x3072.Idx → EReal) ?_).trans (hC r ⟨1024 * t.val + k, by omega⟩)
  funext a
  apply Fin.ext
  match a with
  | ⟨0, _⟩ => show win1_0.index t 0 * 4096 + 1 * r.val = _; rw [idx1_0]; simp
  | ⟨1, _⟩ => show win1_0.index t 1 * 1024 + 1 * k.val = _; rw [idx1_0]; simp; omega

include hN in
theorem iblk1_1 (r : Fin 4096) (k : Fin 1024) : iblk1 V c 1 t (ix2 r k) = d.hn r k := by
  unfold iblk1
  rw [View.read_apply]
  have hT : t.val < 3 := t.isLt
  refine (congrArg (V c main_v12 : S4096x1024.Idx → EReal) ?_).trans (hN r k)
  funext a
  apply Fin.ext
  match a with
  | ⟨0, _⟩ => show win1_1.index t 0 * 4096 + 1 * r.val = _; rw [idx1_1]; simp
  | ⟨1, _⟩ => show win1_1.index t 1 * 1024 + 1 * k.val = _; rw [idx1_1]; simp

include hN hC in
theorem out_dw2 (r k : Fin 1024) : out1_2 (iblk1 V c 0 t) (iblk1 V c 1 t) (ix2 r k) = d.dw (2048 + (1024 * t.val + r)) k := by
  unfold out1_2
  simp only [View.ld_unit_zero (S := S4096x1024) zeros2]
  refine (congrFun (View.canon_unit_zero (S := S1024x1024) zeros2 _ _) _).trans ?_
  exact pay_dw2 d (iblk1_0 d V c hC t) (iblk1_1 d V c hN t) r k

include hN hC in
theorem final_dw2 : (dat1 V c).arrAt 2 cfg1.N = resW2 d := by
  refine (dat1 V c).arrAt_eq_of_cover 2 (resW2 d) (fun t _ => ?_) fun (i : S3072x1024.Idx) => ?_
  · have hT : t.val < 3 := t.isLt
    show (cfg1.win 2).cut (grid1.coords t) ((dat1 V c).after 2 t) = _
    rw [after1_2]
    funext y
    rw [View.read_apply]
    refine (congrArg (out1_2 (iblk1 V c 0 t) (iblk1 V c 1 t)) (?_ : _ = ix2 (y 0) (y 1))).trans ((out_dw2 d V c hN hC t (y 0) (y 1)).trans ?_)
    · funext a
      match a with
      | ⟨0, _⟩ => rfl
      | ⟨1, _⟩ => rfl
    · refine congrArg₂ d.dw ?_ ?_
      · show _ = 2048 + (win1_2.index t 0 * 1024 + 1 * (y 0).val)
        rw [idx1_2]; simp; omega
      · show _ = win1_2.index t 1 * 1024 + 1 * (y 1).val
        rw [idx1_2]; simp
  · have h0 : (i 0).val < 3072 := (i 0).isLt
    have h1 : (i 1).val < 1024 := (i 1).isLt
    obtain ⟨u, hu⟩ : ∃ u : Fin grid1.N, u.val = (i 0).val / 1024 := ⟨⟨(i 0).val / 1024, by show _ < 3; omega⟩, rfl⟩
    refine ⟨u, flush1_2 _, ?_⟩
    show i ∈ ((View.whole main_v23).slice (win1_2.rect u)).set
    rw [View.set_slice_whole, Rect.mem_set_unit]
    intro a
    match a with
    | ⟨0, _⟩ => show win1_2.index _ 0 * 1024 ≤ (i 0).val ∧ (i 0).val < win1_2.index _ 0 * 1024 + 1024; rw [idx1_2, hu]; simp; omega
    | ⟨1, _⟩ => show win1_2.index _ 1 * 1024 ≤ (i 1).val ∧ (i 1).val < win1_2.index _ 1 * 1024 + 1024; rw [idx1_2]; simp; omega

end dw2

section dw3

variable (hC : ∀ (r : Fin 4096) (k : Fin 128), (V c main_v21 : S4096x128.Idx → EReal) (ix2 r k) = d.C3 r k)
variable (t : Fin cfg2.N)

include hC in
theorem iblk2_0 (r : Fin 4096) (k : Fin 128) : iblk2 V c 0 t (ix2 r k) = d.C3 r k := by
  unfold iblk2
  rw [View.read_apply]
  have hN : t.val < 1 := t.isLt
  refine (congrArg (V c main_v21 : S4096x128.Idx → EReal) ?_).trans (hC r k)
  funext a
  apply Fin.ext
  match a with
  | ⟨0, _⟩ => show win2_0.index t 0 * 4096 + 1 * r.val = _; rw [idx2_0]; simp
  | ⟨1, _⟩ => show win2_0.index t 1 * 128 + 1 * k.val = _; rw [idx2_0]; simp

include hN in
theorem iblk2_1 (r : Fin 4096) (k : Fin 1024) : iblk2 V c 1 t (ix2 r k) = d.hn r k := by
  unfold iblk2
  rw [View.read_apply]
  have hT : t.val < 1 := t.isLt
  refine (congrArg (V c main_v12 : S4096x1024.Idx → EReal) ?_).trans (hN r k)
  funext a
  apply Fin.ext
  match a with
  | ⟨0, _⟩ => show win2_1.index t 0 * 4096 + 1 * r.val = _; rw [idx2_1]; simp
  | ⟨1, _⟩ => show win2_1.index t 1 * 1024 + 1 * k.val = _; rw [idx2_1]; simp

include hN hC in
theorem out_dw3 (r : Fin 128) (k : Fin 1024) : out2_2 (iblk2 V c 0 t) (iblk2 V c 1 t) (ix2 r k) = d.dw3 r k := by
  unfold out2_2
  simp only [View.ld_unit_zero (S := S4096x1024) zeros2, View.ld_unit_zero (S := S4096x128) zeros2]
  refine (congrFun (View.canon_unit_zero (S := S128x1024) zeros2 _ _) _).trans ?_
  exact pay_dw3 d (iblk2_0 d V c hC t) (iblk2_1 d V c hN t) r k

include hN hC in
theorem final_dw3 : (dat2 V c).arrAt 2 cfg2.N = resW3 d := by
  refine (dat2 V c).arrAt_eq_of_cover 2 (resW3 d) (fun t _ => ?_) fun (i : S128x1024.Idx) => ?_
  · have hT : t.val < 1 := t.isLt
    show (cfg2.win 2).cut (grid2.coords t) ((dat2 V c).after 2 t) = _
    rw [after2_2]
    funext y
    rw [View.read_apply]
    refine (congrArg (out2_2 (iblk2 V c 0 t) (iblk2 V c 1 t)) (?_ : _ = ix2 (y 0) (y 1))).trans ((out_dw3 d V c hN hC t (y 0) (y 1)).trans ?_)
    · funext a
      match a with
      | ⟨0, _⟩ => rfl
      | ⟨1, _⟩ => rfl
    · refine congrArg₂ d.dw3 ?_ ?_
      · show _ = win2_2.index t 0 * 128 + 1 * (y 0).val
        rw [idx2_2]; simp
      · show _ = win2_2.index t 1 * 1024 + 1 * (y 1).val
        rw [idx2_2]; simp
  · have h0 : (i 0).val < 128 := (i 0).isLt
    have h1 : (i 1).val < 1024 := (i 1).isLt
    obtain ⟨u, hu⟩ : ∃ u : Fin grid2.N, u.val = (i 0).val / 128 := ⟨⟨(i 0).val / 128, by show _ < 1; omega⟩, rfl⟩
    refine ⟨u, flush2_2 _, ?_⟩
    show i ∈ ((View.whole main_v24).slice (win2_2.rect u)).set
    rw [View.set_slice_whole, Rect.mem_set_unit]
    intro a
    match a with
    | ⟨0, _⟩ => show win2_2.index _ 0 * 128 ≤ (i 0).val ∧ (i 0).val < win2_2.index _ 0 * 128 + 128; rw [idx2_2]; simp; omega
    | ⟨1, _⟩ => show win2_2.index _ 1 * 1024 ≤ (i 1).val ∧ (i 1).val < win2_2.index _ 1 * 1024 + 1024; rw [idx2_2]; simp; omega

end dw3

end Cert.InProj

end
-- ==== Proof.InProjNorm.lean ====
/- What one grid point of the last kernel of the input projection's gradient leaves in its three outputs, in the model: the three groups' products
   by the weights, the normalization's gradient on top, and the gain's running gradient. -/
module

public import proofs.«01_k».proof.Proof.InProjPay
public import proofs.«01_k».proof.Proof.KernelRead

@[expose] public section

set_option maxRecDepth 16384

noncomputable section

namespace Cert.InProj

open Idealize.ShloMosaic Idealize.ShloMosaic.TcCoe Idealize.ShloMosaic.Tactic
open Idealize.SL.Sem
open Cert.PoolBwd (zeros2 ld2 hit2 skip2)
open Cert.Kernel3Ideal Cert.Kernel3Ideal.Gen

variable (d : Data) {a : ℕ} (c : Dev nD) (i : grid3.Coords)
variable (arg2 : Memref sig .tc .vmem S256x3072 .bf16) (harg2 : arg2.IsWhole) (arg3 : Memref sig .tc .vmem S3072x1024 .bf16) (harg3 : arg3.IsWhole) (arg4 : Memref sig .tc .vmem S256x2048 .bf16) (harg4 : arg4.IsWhole) (arg5 : Memref sig .tc .vmem S2048x1024 .bf16) (harg5 : arg5.IsWhole) (arg6 : Memref sig .tc .vmem S256x128 .f32) (harg6 : arg6.IsWhole) (arg7 : Memref sig .tc .vmem S128x1024 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S8x1024 .f32) (harg13 : arg13.IsWhole)
variable (x0 : Vec Ideal S256x3072 .bf16) (x1 : Vec Ideal S3072x1024 .bf16) (x2 : Vec Ideal S256x2048 .bf16) (x3 : Vec Ideal S2048x1024 .bf16) (x4 : Vec Ideal S256x128 .f32) (x5 : Vec Ideal S128x1024 .bf16) (x6 : Vec Ideal S256x1024 .f32) (x7 : Vec Ideal S1x1024 .f32) (x8 : Vec Ideal S256x1024 .f32)
variable (h0 : ∀ r k, x0 (ix2 r k) = d.C (256 * a + (r : Fin 256)) (2048 + (k : Fin 3072)))
variable (h1 : ∀ k c, x1 (ix2 k c) = d.W (c : Fin 1024) (2048 + (k : Fin 3072)))
variable (h2 : ∀ r k, x2 (ix2 r k) = d.C (256 * a + (r : Fin 256)) (k : Fin 2048))
variable (h3 : ∀ k c, x3 (ix2 k c) = d.W (c : Fin 1024) (k : Fin 2048))
variable (h4 : ∀ r k, x4 (ix2 r k) = d.C3 (256 * a + (r : Fin 256)) (k : Fin 128))
variable (h5 : ∀ k c, x5 (ix2 k c) = d.W3 (k : Fin 128) (c : Fin 1024))
variable (h6 : ∀ r k, x6 (ix2 r k) = d.H (256 * a + (r : Fin 256)) (k : Fin 1024))
variable (h7 : ∀ k, x7 (ix2 0 k) = d.G (k : Fin 1024))
variable (h8 : ∀ r k, x8 (ix2 r k) = d.D (256 * a + (r : Fin 256)) (k : Fin 1024))

set_option maxHeartbeats 2000000 in
include h0 h1 h2 h3 h4 h5 h6 h7 h8 in
theorem outA9_eq (hc0 : cond3_0 i) (r : Fin 256) (k : Fin 1024) : out3_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 r k) = d.dx (256 * a + r) k := by
  unfold out3_A_9 kernelRun3_A
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg7.read_unread, harg8.read_unread, harg9.read_unread, harg10.read_unread, harg13.read_unread,
    View.ld_unit_zero (S := S256x3072) zeros2, View.ld_unit_zero (S := S3072x1024) zeros2, View.ld_unit_zero (S := S256x2048) zeros2, View.ld_unit_zero (S := S2048x1024) zeros2,
    View.ld_unit_zero (S := S256x128) zeros2, View.ld_unit_zero (S := S128x1024) zeros2, View.ld_unit_zero (S := S256x1024) zeros2, View.ld_unit_zero (S := S1x1024) zeros2]
  refine (hit2 _ _ _ _ _ _ _ r k (by simp) (by simp)).trans ?_
  exact pay_dx d h0 h1 h2 h3 h4 h5 h6 h7 h8 r k

set_option maxHeartbeats 2000000 in
include h0 h1 h2 h3 h4 h5 h6 h7 h8 in
theorem outA10_eq (hc0 : cond3_0 i) (r : Fin 256) (k : Fin 1024) : out3_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 r k) = d.dx (256 * a + r) k := by
  unfold out3_A_10 kernelRun3_A
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg7.read_unread, harg8.read_unread, harg9.read_unread, harg10.read_unread, harg13.read_unread,
    View.ld_unit_zero (S := S256x3072) zeros2, View.ld_unit_zero (S := S3072x1024) zeros2, View.ld_unit_zero (S := S256x2048) zeros2, View.ld_unit_zero (S := S2048x1024) zeros2,
    View.ld_unit_zero (S := S256x128) zeros2, View.ld_unit_zero (S := S128x1024) zeros2, View.ld_unit_zero (S := S256x1024) zeros2, View.ld_unit_zero (S := S1x1024) zeros2]
  refine (hit2 _ _ _ _ _ _ _ r k (by simp) (by simp)).trans ?_
  exact pay_dx16 d h0 h1 h2 h3 h4 h5 h6 h7 h8 r k

set_option maxHeartbeats 2000000 in
include h0 h1 h2 h3 h4 h5 h6 in
theorem outA11_eq (hc0 : cond3_0 i) (ha : a = 0) (r : Fin 8) (k : Fin 1024) : out3_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 r k) = d.small (a + 1) r k := by
  unfold out3_A_11 kernelRun3_A
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg7.read_unread, harg8.read_unread, harg9.read_unread, harg10.read_unread, harg13.read_unread,
    View.ld_unit_zero (S := S256x3072) zeros2, View.ld_unit_zero (S := S3072x1024) zeros2, View.ld_unit_zero (S := S256x2048) zeros2, View.ld_unit_zero (S := S2048x1024) zeros2,
    View.ld_unit_zero (S := S256x128) zeros2, View.ld_unit_zero (S := S128x1024) zeros2, View.ld_unit_zero (S := S256x1024) zeros2, View.ld_unit_zero (S := S1x1024) zeros2]
  by_cases hr : r.val = 0
  · refine (hit2 _ _ _ _ _ _ _ 0 k (by simpa using hr) (by simp)).trans ?_
    refine (pay_dg d h0 h1 h2 h3 h4 h5 h6 k).trans ?_
    refine d.small_succ a r k hr _ ?_
    refine (ld2 (Val := Elt Ideal) _ _ 0 k (by simp) (by simp)).trans ?_
    rw [ha, d.accG_zero]
    pointwise [k3_pay5]
  · refine (skip2 _ _ _ _ _ _ _ (by simp; omega)).trans ?_
    refine (hit2 _ _ _ _ _ _ _ r k (by simp) (by simp)).trans ?_
    rw [Data.small, if_neg hr]
    pointwise [k3_pay5]

set_option maxHeartbeats 2000000 in
include h0 h1 h2 h3 h4 h5 h6 h7 h8 in
theorem outB9_eq (hc0 : ¬cond3_0 i) (xo : Vec Ideal S8x1024 .f32) (r : Fin 256) (k : Fin 1024) : out3_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo (ix2 r k) = d.dx (256 * a + r) k := by
  unfold out3_B_9 kernelRun3_B
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg7.read_unread, harg8.read_unread, harg9.read_unread, harg10.read_unread, harg13.read_unread,
    View.ld_unit_zero (S := S256x3072) zeros2, View.ld_unit_zero (S := S3072x1024) zeros2, View.ld_unit_zero (S := S256x2048) zeros2, View.ld_unit_zero (S := S2048x1024) zeros2,
    View.ld_unit_zero (S := S256x128) zeros2, View.ld_unit_zero (S := S128x1024) zeros2, View.ld_unit_zero (S := S256x1024) zeros2, View.ld_unit_zero (S := S1x1024) zeros2]
  refine (hit2 _ _ _ _ _ _ _ r k (by simp) (by simp)).trans ?_
  exact pay_dx d h0 h1 h2 h3 h4 h5 h6 h7 h8 r k

set_option maxHeartbeats 2000000 in
include h0 h1 h2 h3 h4 h5 h6 h7 h8 in
theorem outB10_eq (hc0 : ¬cond3_0 i) (xo : Vec Ideal S8x1024 .f32) (r : Fin 256) (k : Fin 1024) : out3_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo (ix2 r k) = d.dx (256 * a + r) k := by
  unfold out3_B_10 kernelRun3_B
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg7.read_unread, harg8.read_unread, harg9.read_unread, harg10.read_unread, harg13.read_unread,
    View.ld_unit_zero (S := S256x3072) zeros2, View.ld_unit_zero (S := S3072x1024) zeros2, View.ld_unit_zero (S := S256x2048) zeros2, View.ld_unit_zero (S := S2048x1024) zeros2,
    View.ld_unit_zero (S := S256x128) zeros2, View.ld_unit_zero (S := S128x1024) zeros2, View.ld_unit_zero (S := S256x1024) zeros2, View.ld_unit_zero (S := S1x1024) zeros2]
  refine (hit2 _ _ _ _ _ _ _ r k (by simp) (by simp)).trans ?_
  exact pay_dx16 d h0 h1 h2 h3 h4 h5 h6 h7 h8 r k

set_option maxHeartbeats 2000000 in
include h0 h1 h2 h3 h4 h5 h6 in
theorem outB11_eq (hc0 : ¬cond3_0 i) (xo : Vec Ideal S8x1024 .f32) (ho : ∀ r k, xo (ix2 r k) = d.small a (r : Fin 8) (k : Fin 1024)) (r : Fin 8) (k : Fin 1024) : out3_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo (ix2 r k) = d.small (a + 1) r k := by
  unfold out3_B_11 kernelRun3_B
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg7.read_unread, harg8.read_unread, harg9.read_unread, harg10.read_unread, harg13.read_unread,
    View.ld_unit_zero (S := S256x3072) zeros2, View.ld_unit_zero (S := S3072x1024) zeros2, View.ld_unit_zero (S := S256x2048) zeros2, View.ld_unit_zero (S := S2048x1024) zeros2,
    View.ld_unit_zero (S := S256x128) zeros2, View.ld_unit_zero (S := S128x1024) zeros2, View.ld_unit_zero (S := S256x1024) zeros2, View.ld_unit_zero (S := S1x1024) zeros2]
  by_cases hr : r.val = 0
  · refine (hit2 _ _ _ _ _ _ _ 0 k (by simpa using hr) (by simp)).trans ?_
    refine (pay_dg d h0 h1 h2 h3 h4 h5 h6 k).trans ?_
    refine d.small_succ a r k hr _ ?_
    refine (ld2 (Val := Elt Ideal) _ _ 0 k (by simp) (by simp)).trans ((ho _ _).trans ?_)
    rw [Data.small, if_pos (by simp)]
    simp
  · refine (skip2 _ _ _ _ _ _ _ (by simp; omega)).trans ?_
    refine (congrFun (harg13.read_unread xo) (ix2 r k)).trans ((ho _ _).trans ?_)
    rw [Data.small, Data.small, if_neg hr, if_neg hr]

end Cert.InProj

end
-- ==== Proof.InProjSweep.lean ====
/- The sweep of the last kernel of the input projection's gradient over its sixteen blocks of positions, and the arrays it leaves. -/
module

public import proofs.«01_k».proof.Proof.InProjNorm
public import Idealize.ShloMosaic.Lib.Pipeline.Value

@[expose] public section

set_option maxRecDepth 16384

noncomputable section

namespace Cert.InProj

open Idealize.ShloMosaic Idealize.ShloMosaic.TcCoe Idealize.ShloMosaic.Tactic
open Idealize.SL.Sem
open Idealize.ShloMosaic.Pipeline (Dat Cfg Window cellOf)
open Cert.Kernel3Ideal Cert.Kernel3Ideal.Gen

variable (d : Data) (V : (c : Dev nD) → (b : Ref sig .tc) → Buf (Elt Ideal) ((c : Thread nD τ).loc b)) (c : Dev nD)

theorem idx3_0 : ∀ t : Fin grid3.N, win3_0.index t = ![t.val, 0] := by decide +kernel
theorem idx3_1 : ∀ t : Fin grid3.N, win3_1.index t = ![0, 0] := by decide +kernel
theorem idx3_2 : ∀ t : Fin grid3.N, win3_2.index t = ![t.val, 0] := by decide +kernel
theorem idx3_3 : ∀ t : Fin grid3.N, win3_3.index t = ![0, 0] := by decide +kernel
theorem idx3_4 : ∀ t : Fin grid3.N, win3_4.index t = ![t.val, 0] := by decide +kernel
theorem idx3_5 : ∀ t : Fin grid3.N, win3_5.index t = ![0, 0] := by decide +kernel
theorem idx3_6 : ∀ t : Fin grid3.N, win3_6.index t = ![t.val, 0] := by decide +kernel
theorem idx3_7 : ∀ t : Fin grid3.N, win3_7.index t = ![0, 0] := by decide +kernel
theorem idx3_8 : ∀ t : Fin grid3.N, win3_8.index t = ![t.val, 0] := by decide +kernel
theorem idx3_9 : ∀ t : Fin grid3.N, win3_9.index t = ![t.val, 0] := by decide +kernel
theorem idx3_10 : ∀ t : Fin grid3.N, win3_10.index t = ![t.val, 0] := by decide +kernel
theorem idx3_11 : ∀ t : Fin grid3.N, win3_11.index t = ![0, 0] := by decide +kernel

variable (hX : ∀ (r : Fin 4096) (k : Fin 3072), (V c main_arg4 : S4096x3072.Idx → EReal) (ix2 r k) = d.C r (2048 + k))
variable (hWx : ∀ (r : Fin 3072) (k : Fin 1024), (V c main_v16 : S3072x1024.Idx → EReal) (ix2 r k) = d.W k (2048 + r))
variable (hZ : ∀ (r : Fin 4096) (k : Fin 2048), (V c main_arg3 : S4096x2048.Idx → EReal) (ix2 r k) = d.C r k)
variable (hWz : ∀ (r : Fin 2048) (k : Fin 1024), (V c main_v15 : S2048x1024.Idx → EReal) (ix2 r k) = d.W k r)
variable (hT : ∀ (r : Fin 4096) (k : Fin 128), (V c main_v21 : S4096x128.Idx → EReal) (ix2 r k) = d.C3 r k)
variable (hWt : ∀ (r : Fin 128) (k : Fin 1024), (V c main_v19 : S128x1024.Idx → EReal) (ix2 r k) = d.W3 r k)
variable (hH : ∀ (r : Fin 4096) (k : Fin 1024), (V c main_arg0 : S4096x1024.Idx → EReal) (ix2 r k) = d.H r k)
variable (hG : ∀ (k : Fin 1024), (V c main_arg1 : S1x1024.Idx → EReal) (ix2 0 k) = d.G k)
variable (hD : ∀ (r : Fin 4096) (k : Fin 1024), (V c main_arg6 : S4096x1024.Idx → EReal) (ix2 r k) = d.D r k)
variable (t : Fin cfg3.N)

include hX in
theorem iblk3_0 (r : Fin 256) (k : Fin 3072) : iblk3 V c 0 t (ix2 r k) = d.C (256 * t.val + r) (2048 + k) := by
  unfold iblk3
  rw [View.read_apply]
  have hN : t.val < 16 := t.isLt
  refine (congrArg (V c main_arg4 : S4096x3072.Idx → EReal) ?_).trans (hX ⟨256 * t.val + r, by omega⟩ k)
  funext a
  apply Fin.ext
  match a with
  | ⟨0, _⟩ => show win3_0.index t 0 * 256 + 1 * r.val = _; rw [idx3_0]; simp; omega
  | ⟨1, _⟩ => show win3_0.index t 1 * 3072 + 1 * k.val = _; rw [idx3_0]; simp

include hWx in
theorem iblk3_1 (r : Fin 3072) (k : Fin 1024) : iblk3 V c 1 t (ix2 r k) = d.W k (2048 + r) := by
  unfold iblk3
  rw [View.read_apply]
  have hN : t.val < 16 := t.isLt
  refine (congrArg (V c main_v16 : S3072x1024.Idx → EReal) ?_).trans (hWx r k)
  funext a
  apply Fin.ext
  match a with
  | ⟨0, _⟩ => show win3_1.index t 0 * 3072 + 1 * r.val = _; rw [idx3_1]; simp
  | ⟨1, _⟩ => show win3_1.index t 1 * 1024 + 1 * k.val = _; rw [idx3_1]; simp

include hZ in
theorem iblk3_2 (r : Fin 256) (k : Fin 2048) : iblk3 V c 2 t (ix2 r k) = d.C (256 * t.val + r) k := by
  unfold iblk3
  rw [View.read_apply]
  have hN : t.val < 16 := t.isLt
  refine (congrArg (V c main_arg3 : S4096x2048.Idx → EReal) ?_).trans (hZ ⟨256 * t.val + r, by omega⟩ k)
  funext a
  apply Fin.ext
  match a with
  | ⟨0, _⟩ => show win3_2.index t 0 * 256 + 1 * r.val = _; rw [idx3_2]; simp; omega
  | ⟨1, _⟩ => show win3_2.index t 1 * 2048 + 1 * k.val = _; rw [idx3_2]; simp

include hWz in
theorem iblk3_3 (r : Fin 2048) (k : Fin 1024) : iblk3 V c 3 t (ix2 r k) = d.W k r := by
  unfold iblk3
  rw [View.read_apply]
  have hN : t.val < 16 := t.isLt
  refine (congrArg (V c main_v15 : S2048x1024.Idx → EReal) ?_).trans (hWz r k)
  funext a
  apply Fin.ext
  match a with
  | ⟨0, _⟩ => show win3_3.index t 0 * 2048 + 1 * r.val = _; rw [idx3_3]; simp
  | ⟨1, _⟩ => show win3_3.index t 1 * 1024 + 1 * k.val = _; rw [idx3_3]; simp

include hT in
theorem iblk3_4 (r : Fin 256) (k : Fin 128) : iblk3 V c 4 t (ix2 r k) = d.C3 (256 * t.val + r) k := by
  unfold iblk3
  rw [View.read_apply]
  have hN : t.val < 16 := t.isLt
  refine (congrArg (V c main_v21 : S4096x128.Idx → EReal) ?_).trans (hT ⟨256 * t.val + r, by omega⟩ k)
  funext a
  apply Fin.ext
  match a with
  | ⟨0, _⟩ => show win3_4.index t 0 * 256 + 1 * r.val = _; rw [idx3_4]; simp; omega
  | ⟨1, _⟩ => show win3_4.index t 1 * 128 + 1 * k.val = _; rw [idx3_4]; simp

include hWt in
theorem iblk3_5 (r : Fin 128) (k : Fin 1024) : iblk3 V c 5 t (ix2 r k) = d.W3 r k := by
  unfold iblk3
  rw [View.read_apply]
  have hN : t.val < 16 := t.isLt
  refine (congrArg (V c main_v19 : S128x1024.Idx → EReal) ?_).trans (hWt r k)
  funext a
  apply Fin.ext
  match a with
  | ⟨0, _⟩ => show win3_5.index t 0 * 128 + 1 * r.val = _; rw [idx3_5]; simp
  | ⟨1, _⟩ => show win3_5.index t 1 * 1024 + 1 * k.val = _; rw [idx3_5]; simp

include hH in
theorem iblk3_6 (r : Fin 256) (k : Fin 1024) : iblk3 V c 6 t (ix2 r k) = d.H (256 * t.val + r) k := by
  unfold iblk3
  rw [View.read_apply]
  have hN : t.val < 16 := t.isLt
  refine (congrArg (V c main_arg0 : S4096x1024.Idx → EReal) ?_).trans (hH ⟨256 * t.val + r, by omega⟩ k)
  funext a
  apply Fin.ext
  match a with
  | ⟨0, _⟩ => show win3_6.index t 0 * 256 + 1 * r.val = _; rw [idx3_6]; simp; omega
  | ⟨1, _⟩ => show win3_6.index t 1 * 1024 + 1 * k.val = _; rw [idx3_6]; simp

include hG in
theorem iblk3_7 (k : Fin 1024) : iblk3 V c 7 t (ix2 0 k) = d.G k := by
  unfold iblk3
  rw [View.read_apply]
  refine (congrArg (V c main_arg1 : S1x1024.Idx → EReal) ?_).trans (hG k)
  funext a
  apply Fin.ext
  match a with
  | ⟨0, _⟩ => show win3_7.index t 0 * 1 + 1 * 0 = _; rw [idx3_7]; rfl
  | ⟨1, _⟩ => show win3_7.index t 1 * 1024 + 1 * k.val = _; rw [idx3_7]; simp

include hD in
theorem iblk3_8 (r : Fin 256) (k : Fin 1024) : iblk3 V c 8 t (ix2 r k) = d.D (256 * t.val + r) k := by
  unfold iblk3
  rw [View.read_apply]
  have hN : t.val < 16 := t.isLt
  refine (congrArg (V c main_arg6 : S4096x1024.Idx → EReal) ?_).trans (hD ⟨256 * t.val + r, by omega⟩ k)
  funext a
  apply Fin.ext
  match a with
  | ⟨0, _⟩ => show win3_8.index t 0 * 256 + 1 * r.val = _; rw [idx3_8]; simp; omega
  | ⟨1, _⟩ => show win3_8.index t 1 * 1024 + 1 * k.val = _; rw [idx3_8]; simp

/-- What the point that treats block `n` leaves: the block of the input's gradient, twice, and the gain's running gradient. -/
structure Data.Left (d : Data) (n : ℕ) (p : Vec Ideal S256x1024 .f32 × Vec Ideal S256x1024 .bf16 × Vec Ideal S8x1024 .f32) : Prop where
  dx : ∀ r k, p.1 (ix2 r k) = d.dx (256 * n + (r : Fin 256)) (k : Fin 1024)
  dx16 : ∀ r k, p.2.1 (ix2 r k) = d.dx (256 * n + (r : Fin 256)) (k : Fin 1024)
  small : ∀ r k, p.2.2 (ix2 r k) = d.small (n + 1) (r : Fin 8) (k : Fin 1024)

include hX hWx hZ hWz hT hWt hH hG hD in
theorem left_first (ht : t.val % 16 = 0) : d.Left t.val (outsAt3 V c t.val t.isLt) := by
  have hN : t.val < 16 := t.isLt
  have i0 := iblk3_0 d V c hX t
  have i1 := iblk3_1 d V c hWx t
  have i2 := iblk3_2 d V c hZ t
  have i3 := iblk3_3 d V c hWz t
  have i4 := iblk3_4 d V c hT t
  have i5 := iblk3_5 d V c hWt t
  have i6 := iblk3_6 d V c hH t
  have i7 := iblk3_7 d V c hG t
  have i8 := iblk3_8 d V c hD t
  rw [outsAt3_A V c t ht]
  refine ⟨fun r k => ?_, fun r k => ?_, fun r k => ?_⟩
  · dsimp only
    exact outA9_eq (d := d) (h0 := i0) (h1 := i1) (h2 := i2) (h3 := i3) (h4 := i4) (h5 := i5) (h6 := i6) (h7 := i7) (h8 := i8) ..
  · dsimp only
    exact outA10_eq (d := d) (h0 := i0) (h1 := i1) (h2 := i2) (h3 := i3) (h4 := i4) (h5 := i5) (h6 := i6) (h7 := i7) (h8 := i8) ..
  · dsimp only
    exact outA11_eq (d := d) (h0 := i0) (h1 := i1) (h2 := i2) (h3 := i3) (h4 := i4) (h5 := i5) (h6 := i6) (ha := by omega) ..

include hX hWx hZ hWz hT hWt hH hG hD in
theorem left_later (ht : ¬t.val % 16 = 0) (ih : d.Left (t.val - 1) (outsAt3 V c (t.val - 1) (Nat.lt_of_le_of_lt (Nat.sub_le _ _) t.isLt))) :
    d.Left t.val (outsAt3 V c t.val t.isLt) := by
  have hN : t.val < 16 := t.isLt
  have i0 := iblk3_0 d V c hX t
  have i1 := iblk3_1 d V c hWx t
  have i2 := iblk3_2 d V c hZ t
  have i3 := iblk3_3 d V c hWz t
  have i4 := iblk3_4 d V c hT t
  have i5 := iblk3_5 d V c hWt t
  have i6 := iblk3_6 d V c hH t
  have i7 := iblk3_7 d V c hG t
  have i8 := iblk3_8 d V c hD t
  have ks := ih.small
  rw [show t.val - 1 + 1 = t.val by omega] at ks
  rw [outsAt3_B V c t ht]
  refine ⟨fun r k => ?_, fun r k => ?_, fun r k => ?_⟩
  · dsimp only
    exact outB9_eq (d := d) (h0 := i0) (h1 := i1) (h2 := i2) (h3 := i3) (h4 := i4) (h5 := i5) (h6 := i6) (h7 := i7) (h8 := i8) ..
  · dsimp only
    exact outB10_eq (d := d) (h0 := i0) (h1 := i1) (h2 := i2) (h3 := i3) (h4 := i4) (h5 := i5) (h6 := i6) (h7 := i7) (h8 := i8) ..
  · dsimp only
    exact outB11_eq (d := d) (h0 := i0) (h1 := i1) (h2 := i2) (h3 := i3) (h4 := i4) (h5 := i5) (h6 := i6) (ho := ks) ..

include hX hWx hZ hWz hT hWt hH hG hD in
theorem left : ∀ (n : ℕ) (h : n < cfg3.N), d.Left n (outsAt3 V c n h)
  | 0, h => left_first d V c hX hWx hZ hWz hT hWt hH hG hD ⟨0, h⟩ rfl
  | n + 1, h => by
    have hN : n + 1 < 16 := h
    exact left_later d V c hX hWx hZ hWz hT hWt hH hG hD ⟨n + 1, h⟩ (by dsimp only; omega) (left n (Nat.lt_of_succ_lt h))

/-- The input's gradient, as an array. -/
def resX : S4096x1024.Idx → EReal := fun y => d.dx (y 0).val (y 1).val
/-- The small gradients, as an array. -/
def resG : S8x1024.Idx → EReal := fun y => d.small 16 (y 0).val (y 1).val

include hX hWx hZ hWz hT hWt hH hG hD in
theorem final_dx : (dat3 V c).arrAt 9 cfg3.N = resX d := by
  refine (dat3 V c).arrAt_eq_of_cover 9 (resX d) (fun t _ => ?_) fun (i : S4096x1024.Idx) => ?_
  · have hN : t.val < 16 := t.isLt
    show (cfg3.win 9).cut (grid3.coords t) ((dat3 V c).after 9 t) = _
    rw [after3_9]
    funext y
    rw [View.read_apply]
    refine (congrArg (outsAt3 V c t.val t.isLt).1 (?_ : _ = ix2 (y 0) (y 1))).trans (((left d V c hX hWx hZ hWz hT hWt hH hG hD t.val t.isLt).dx (y 0) (y 1)).trans ?_)
    · funext a
      match a with
      | ⟨0, _⟩ => rfl
      | ⟨1, _⟩ => rfl
    · refine congrArg₂ d.dx ?_ ?_
      · show _ = win3_9.index t 0 * 256 + 1 * (y 0).val
        rw [idx3_9]; simp; omega
      · show _ = win3_9.index t 1 * 1024 + 1 * (y 1).val
        rw [idx3_9]; simp
  · have h0 : (i 0).val < 4096 := (i 0).isLt
    have h1 : (i 1).val < 1024 := (i 1).isLt
    obtain ⟨u, hu⟩ : ∃ u : Fin grid3.N, u.val = (i 0).val / 256 := ⟨⟨(i 0).val / 256, by show _ < 16; omega⟩, rfl⟩
    refine ⟨u, flush3_9 _, ?_⟩
    show i ∈ ((View.whole main_v25_0).slice (win3_9.rect u)).set
    rw [View.set_slice_whole, Rect.mem_set_unit]
    intro a
    match a with
    | ⟨0, _⟩ => show win3_9.index _ 0 * 256 ≤ (i 0).val ∧ (i 0).val < win3_9.index _ 0 * 256 + 256; rw [idx3_9, hu]; simp; omega
    | ⟨1, _⟩ => show win3_9.index _ 1 * 1024 ≤ (i 1).val ∧ (i 1).val < win3_9.index _ 1 * 1024 + 1024; rw [idx3_9]; simp; omega

include hX hWx hZ hWz hT hWt hH hG hD in
theorem final_dx16 : (dat3 V c).arrAt 10 cfg3.N = resX d := by
  refine (dat3 V c).arrAt_eq_of_cover 10 (resX d) (fun t _ => ?_) fun (i : S4096x1024.Idx) => ?_
  · have hN : t.val < 16 := t.isLt
    show (cfg3.win 10).cut (grid3.coords t) ((dat3 V c).after 10 t) = _
    rw [after3_10]
    funext y
    rw [View.read_apply]
    refine (congrArg (outsAt3 V c t.val t.isLt).2.1 (?_ : _ = ix2 (y 0) (y 1))).trans (((left d V c hX hWx hZ hWz hT hWt hH hG hD t.val t.isLt).dx16 (y 0) (y 1)).trans ?_)
    · funext a
      match a with
      | ⟨0, _⟩ => rfl
      | ⟨1, _⟩ => rfl
    · refine congrArg₂ d.dx ?_ ?_
      · show _ = win3_10.index t 0 * 256 + 1 * (y 0).val
        rw [idx3_10]; simp; omega
      · show _ = win3_10.index t 1 * 1024 + 1 * (y 1).val
        rw [idx3_10]; simp
  · have h0 : (i 0).val < 4096 := (i 0).isLt
    have h1 : (i 1).val < 1024 := (i 1).isLt
    obtain ⟨u, hu⟩ : ∃ u : Fin grid3.N, u.val = (i 0).val / 256 := ⟨⟨(i 0).val / 256, by show _ < 16; omega⟩, rfl⟩
    refine ⟨u, flush3_10 _, ?_⟩
    show i ∈ ((View.whole main_v25_1).slice (win3_10.rect u)).set
    rw [View.set_slice_whole, Rect.mem_set_unit]
    intro a
    match a with
    | ⟨0, _⟩ => show win3_10.index _ 0 * 256 ≤ (i 0).val ∧ (i 0).val < win3_10.index _ 0 * 256 + 256; rw [idx3_10, hu]; simp; omega
    | ⟨1, _⟩ => show win3_10.index _ 1 * 1024 ≤ (i 1).val ∧ (i 1).val < win3_10.index _ 1 * 1024 + 1024; rw [idx3_10]; simp; omega

include hX hWx hZ hWz hT hWt hH hG hD in
theorem final_small : (dat3 V c).arrAt 11 cfg3.N = resG d := by
  refine (dat3 V c).arrAt_eq_of_cover 11 (resG d) (fun t hf => ?_) fun (i : S8x1024.Idx) => ?_
  · have hN : t.val < 16 := t.isLt
    have h15 := (flush3_11 t).mp hf
    show (cfg3.win 11).cut (grid3.coords t) ((dat3 V c).after 11 t) = _
    rw [after3_11]
    funext y
    rw [View.read_apply]
    refine (congrArg (outsAt3 V c t.val t.isLt).2.2 (?_ : _ = ix2 (y 0) (y 1))).trans (((left d V c hX hWx hZ hWz hT hWt hH hG hD t.val t.isLt).small (y 0) (y 1)).trans ?_)
    · funext a
      match a with
      | ⟨0, _⟩ => rfl
      | ⟨1, _⟩ => rfl
    · unfold resG
      rw [show t.val + 1 = 16 by omega]
      refine congrArg₂ (d.small 16) ?_ ?_
      · show _ = win3_11.index t 0 * 8 + 1 * (y 0).val
        rw [idx3_11]; simp
      · show _ = win3_11.index t 1 * 1024 + 1 * (y 1).val
        rw [idx3_11]; simp
  · have h0 : (i 0).val < 8 := (i 0).isLt
    have h1 : (i 1).val < 1024 := (i 1).isLt
    obtain ⟨u, hu⟩ : ∃ u : Fin grid3.N, u.val = 15 := ⟨⟨15, by show _ < 16; omega⟩, rfl⟩
    refine ⟨u, (flush3_11 _).mpr (by rw [hu]), ?_⟩
    show i ∈ ((View.whole main_v25_2).slice (win3_11.rect u)).set
    rw [View.set_slice_whole, Rect.mem_set_unit]
    intro a
    match a with
    | ⟨0, _⟩ => show win3_11.index _ 0 * 8 ≤ (i 0).val ∧ (i 0).val < win3_11.index _ 0 * 8 + 8; rw [idx3_11]; simp; omega
    | ⟨1, _⟩ => show win3_11.index _ 1 * 1024 ≤ (i 1).val ∧ (i 1).val < win3_11.index _ 1 * 1024 + 1024; rw [idx3_11]; simp; omega

end Cert.InProj

end
-- ==== Proof.InProjRun.lean ====
/- The arrays the four kernels of the input projection's gradient end with, from any memory, and the run that ends with them. -/
module

public import proofs.«01_k».proof.Proof.Gen.Kernel3Ideal.Frame
public import proofs.«01_k».proof.Proof.InProjRegions
public import proofs.«01_k».proof.Proof.InProjSweep

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

section entries

variable (m : (ℓ : Loc nD τ sig) → Buf (Elt Ideal) ℓ) (ρ : Dev nD → PrngReg) (c : Dev nD) (d : Data)
variable (hd : d.Fits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))

include hd

theorem e1_hn (r : Fin 4096) (k : Fin 1024) : (V1 m ρ c main_v12 : S4096x1024.Idx → EReal) (ix2 r k) = d.hn r k :=
  (congrFun (V1_hn m ρ c) (ix2 r k)).trans (hnH_eq hd.h hd.g r k)

theorem e1_w1 (r : Fin 2048) (k : Fin 1024) : (V1 m ρ c main_v15 : S2048x1024.Idx → EReal) (ix2 r k) = d.W k r :=
  (congrFun (V1_w1 m ρ c) (ix2 r k)).trans (w1H_eq hd.w r k)

theorem e1_w2 (r : Fin 3072) (k : Fin 1024) : (V1 m ρ c main_v16 : S3072x1024.Idx → EReal) (ix2 r k) = d.W k (2048 + r) :=
  (congrFun (V1_w2 m ρ c) (ix2 r k)).trans (w2H_eq hd.w r k)

theorem e1_w3 (r : Fin 128) (k : Fin 1024) : (V1 m ρ c main_v19 : S128x1024.Idx → EReal) (ix2 r k) = d.W3 r k :=
  (congrFun (V1_w3 m ρ c) (ix2 r k)).trans (w3H_eq hd.w r k)

theorem e1_dt (r : Fin 4096) (k : Fin 128) : (V1 m ρ c main_v21 : S4096x128.Idx → EReal) (ix2 r k) = d.C3 r k :=
  (congrFun (V1_dt m ρ c) (ix2 r k)).trans (dtH_eq hd.ddt r k)

theorem e1_dz (r : Fin 4096) (k : Fin 2048) : (V1 m ρ c main_arg3 : S4096x2048.Idx → EReal) (ix2 r k) = d.C r k :=
  (congrFun (W1_args m ρ c main_arg3 (by decide)) (ix2 r k)).trans (hd.dz r k)

theorem arr_dw1 : W2 m ρ c (Proc.devRef .tc main_v22) = resW1 d :=
  (W2_arr m ρ c 2).trans (final_dw1 d (V1 m ρ) c (e1_hn m ρ c d hd) (e1_dz m ρ c d hd))

theorem e2_hn (r : Fin 4096) (k : Fin 1024) : (V2 m ρ c main_v12 : S4096x1024.Idx → EReal) (ix2 r k) = d.hn r k :=
  (congrFun (W2_of m ρ c main_v12 (by decide)) (ix2 r k)).trans (e1_hn m ρ c d hd r k)

theorem e2_dxbc (r : Fin 4096) (k : Fin 3072) : (V2 m ρ c main_arg4 : S4096x3072.Idx → EReal) (ix2 r k) = d.C r (2048 + k) :=
  (congrFun (W2_args m ρ c main_arg4 (by decide)) (ix2 r k)).trans (hd.dxbc r k)

theorem arr_dw2 : W3 m ρ c (Proc.devRef .tc main_v23) = resW2 d :=
  (W3_arr m ρ c 2).trans (final_dw2 d (V2 m ρ) c (e2_hn m ρ c d hd) (e2_dxbc m ρ c d hd))

theorem e3_hn (r : Fin 4096) (k : Fin 1024) : (V3 m ρ c main_v12 : S4096x1024.Idx → EReal) (ix2 r k) = d.hn r k :=
  (congrFun ((W3_of m ρ c main_v12 (by decide)).trans (W2_of m ρ c main_v12 (by decide))) (ix2 r k)).trans (e1_hn m ρ c d hd r k)

theorem e3_dt (r : Fin 4096) (k : Fin 128) : (V3 m ρ c main_v21 : S4096x128.Idx → EReal) (ix2 r k) = d.C3 r k :=
  (congrFun ((W3_of m ρ c main_v21 (by decide)).trans (W2_of m ρ c main_v21 (by decide))) (ix2 r k)).trans (e1_dt m ρ c d hd r k)

theorem arr_dw3 : W4 m ρ c (Proc.devRef .tc main_v24) = resW3 d :=
  (W4_arr m ρ c 2).trans (final_dw3 d (V3 m ρ) c (e3_hn m ρ c d hd) (e3_dt m ρ c d hd))

theorem e4_w1 (r : Fin 2048) (k : Fin 1024) : (V4 m ρ c main_v15 : S2048x1024.Idx → EReal) (ix2 r k) = d.W k r :=
  (congrFun ((W4_of m ρ c main_v15 (by decide)).trans ((W3_of m ρ c main_v15 (by decide)).trans (W2_of m ρ c main_v15 (by decide)))) (ix2 r k)).trans (e1_w1 m ρ c d hd r k)

theorem e4_w2 (r : Fin 3072) (k : Fin 1024) : (V4 m ρ c main_v16 : S3072x1024.Idx → EReal) (ix2 r k) = d.W k (2048 + r) :=
  (congrFun ((W4_of m ρ c main_v16 (by decide)).trans ((W3_of m ρ c main_v16 (by decide)).trans (W2_of m ρ c main_v16 (by decide)))) (ix2 r k)).trans (e1_w2 m ρ c d hd r k)

theorem e4_w3 (r : Fin 128) (k : Fin 1024) : (V4 m ρ c main_v19 : S128x1024.Idx → EReal) (ix2 r k) = d.W3 r k :=
  (congrFun ((W4_of m ρ c main_v19 (by decide)).trans ((W3_of m ρ c main_v19 (by decide)).trans (W2_of m ρ c main_v19 (by decide)))) (ix2 r k)).trans (e1_w3 m ρ c d hd r k)

theorem e4_dt (r : Fin 4096) (k : Fin 128) : (V4 m ρ c main_v21 : S4096x128.Idx → EReal) (ix2 r k) = d.C3 r k :=
  (congrFun ((W4_of m ρ c main_v21 (by decide)).trans ((W3_of m ρ c main_v21 (by decide)).trans (W2_of m ρ c main_v21 (by decide)))) (ix2 r k)).trans (e1_dt m ρ c d hd r k)

theorem e4_dxbc (r : Fin 4096) (k : Fin 3072) : (V4 m ρ c main_arg4 : S4096x3072.Idx → EReal) (ix2 r k) = d.C r (2048 + k) :=
  (congrFun (W4_args m ρ c main_arg4 (by decide)) (ix2 r k)).trans (hd.dxbc r k)

theorem e4_dz (r : Fin 4096) (k : Fin 2048) : (V4 m ρ c main_arg3 : S4096x2048.Idx → EReal) (ix2 r k) = d.C r k :=
  (congrFun (W4_args m ρ c main_arg3 (by decide)) (ix2 r k)).trans (hd.dz r k)

theorem e4_h (r : Fin 4096) (k : Fin 1024) : (V4 m ρ c main_arg0 : S4096x1024.Idx → EReal) (ix2 r k) = d.H r k :=
  (congrFun (W4_args m ρ c main_arg0 (by decide)) (ix2 r k)).trans (hd.h r k)

theorem e4_dh (r : Fin 4096) (k : Fin 1024) : (V4 m ρ c main_arg6 : S4096x1024.Idx → EReal) (ix2 r k) = d.D r k :=
  (congrFun (W4_args m ρ c main_arg6 (by decide)) (ix2 r k)).trans (hd.dh r k)

theorem e4_g (k : Fin 1024) : (V4 m ρ c main_arg1 : S1x1024.Idx → EReal) (ix2 0 k) = d.G k :=
  (congrFun (W4_args m ρ c main_arg1 (by decide)) (ix2 0 k)).trans (hd.g k)

theorem end_dx : W5 m ρ c (Proc.devRef .tc main_v25_0) = resX d :=
  (W5_arr m ρ c 9).trans (final_dx d (V4 m ρ) c (e4_dxbc m ρ c d hd) (e4_w2 m ρ c d hd) (e4_dz m ρ c d hd) (e4_w1 m ρ c d hd) (e4_dt m ρ c d hd) (e4_w3 m ρ c d hd) (e4_h m ρ c d hd) (e4_g m ρ c d hd) (e4_dh m ρ c d hd))

theorem end_dx16 : W5 m ρ c (Proc.devRef .tc main_v25_1) = resX d :=
  (W5_arr m ρ c 10).trans (final_dx16 d (V4 m ρ) c (e4_dxbc m ρ c d hd) (e4_w2 m ρ c d hd) (e4_dz m ρ c d hd) (e4_w1 m ρ c d hd) (e4_dt m ρ c d hd) (e4_w3 m ρ c d hd) (e4_h m ρ c d hd) (e4_g m ρ c d hd) (e4_dh m ρ c d hd))

theorem end_small : W5 m ρ c (Proc.devRef .tc main_v25_2) = resG d :=
  (W5_arr m ρ c 11).trans (final_small d (V4 m ρ) c (e4_dxbc m ρ c d hd) (e4_w2 m ρ c d hd) (e4_dz m ρ c d hd) (e4_w1 m ρ c d hd) (e4_dt m ρ c d hd) (e4_w3 m ρ c d hd) (e4_h m ρ c d hd) (e4_g m ρ c d hd) (e4_dh m ρ c d hd))

theorem end_dw1 : W5 m ρ c (Proc.devRef .tc main_v22) = resW1 d :=
  ((W5_of m ρ c main_v22 (by decide)).trans ((W4_of m ρ c main_v22 (by decide)).trans (W3_of m ρ c main_v22 (by decide)))).trans (arr_dw1 m ρ c d hd)

theorem end_dw2 : W5 m ρ c (Proc.devRef .tc main_v23) = resW2 d :=
  ((W5_of m ρ c main_v23 (by decide)).trans (W4_of m ρ c main_v23 (by decide))).trans (arr_dw2 m ρ c d hd)

theorem end_dw3 : W5 m ρ c (Proc.devRef .tc main_v24) = resW3 d :=
  (W5_of m ρ c main_v24 (by decide)).trans (arr_dw3 m ρ c d hd)

end entries

set_option backward.isDefEq.respectTransparency.types false in
/-- Every run ends, and the final memory of every device is the last boundary's contents at every reference outside the kernels' scratch. -/
theorem run_last (m : (ℓ : Loc nD τ sig) → Buf (Elt Ideal) ℓ) (ρ : Dev nD → PrngReg) :
    θ_run defs (onTc (τ := τ) (main (F := Ideal))) ⟨m, fun _ => 0, ρ⟩
      (fun r => ∀ c : Dev nD, ∀ b ∈ Pipeline.ucRefs τ sig, r.2.mem (((c : Thread nD τ)).1, b) = W5 m ρ c b) := by
  refine Pipeline.θ_run_regions_kit_sems (pcfgs (F := Ideal)) adm (pdats m ρ) () cellOf_inj emb₁ defs₀ 𝒱₀ L lv m ρ main (segs m ρ)
    (fun c Q => by rw [main_run m ρ c]) ?_ (O₀ := 0) (fun _ _ => rfl) (G := fun _ => iprop(emp))
    (u₀ := initOf (Pipeline.cells cfgs cellOf_inj) (Pipeline.launchToks cfgs cellOf_inj)) ?_
    (T₀ := fun c => iprop(StableHlo.held (c : Thread nD τ) (Pipeline.ucRefs τ sig) (W0 m ρ c) ∗ R c)) (Tₙ := Tₙ m ρ)
    ⟨fun _ => .rfl, fun _ => .rfl, fun _ => .rfl, fun _ => .rfl, fun _ => .rfl, fun _ => .rfl⟩ ?_
    (QY := fun c s => ∀ b ∈ Pipeline.ucRefs τ sig, s.mem (((c : Thread nD τ)).1, b) = W5 m ρ c b) ?_ (fun s h _ => h)
  · simp only [segs, Pipeline.Seg.pipes_host, Pipeline.Seg.pipes_region, Pipeline.Seg.pipes_nil]
    decide
  · iintro Htok
    imodintro
    isplitl [Htok]
    · iapply (show (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) from .rfl)
      iexact Htok
    · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howe, -, Hreg, -⟩, -⟩
    imodintro
    isplitl [Hbufs]
    · iexact Hbufs
    isplitl [Hreg]
    · iexists _
      iexact Hreg
    · iexists ∅
      iexact Howe
  · intro c s'
    iintro ⟨⟨Hbufs, -⟩, Hst⟩
    unfold StableHlo.held
    imodintro
    iapply (pointsTo_read_all (Pipeline.ucRefs τ sig) (fun b => (((c : Thread nD τ)).1, b)) (W5 m ρ c) s')
    isplitl [Hbufs] <;> iassumption

end Cert.InProj

end
-- ==== Proof.InProjRef.lean ====
/- What the reference of the input projection's gradient computes, entry by entry, in the model. -/
module

public import proofs.«01_k».proof.Proof.Gen.Reference3Ideal.Read
public import proofs.«01_k».proof.Proof.InProjRegions
public import proofs.«01_k».proof.Proof.InProjSweep
public import proofs.«01_k».proof.Proof.NormGrad
public import proofs.«01_k».proof.Proof.MlpArgs
public import proofs.«01_k».proof.Proof.RefRead
public import Idealize.ShloMosaic.Lib.Pointwise
public import Idealize.ShloMosaic.PureOps.Ideal

@[expose] public section

set_option maxRecDepth 16384

noncomputable section

namespace Cert.InProj.Ref

open Idealize.ShloMosaic Idealize.ShloMosaic.TcCoe Idealize.ShloMosaic.Tactic
open Cert.PoolBwd (eps ofBits_1024 ofBits_eps)
open Cert.MlpBwd (norm_grad ofMat ofMat_eq)
open Cert.Reference3Ideal Cert.Reference3Ideal.Gen Cert.Reference3Ideal.Read

variable {d : Data} {x0 : S4096x1024.Idx → EReal} {x1 : S1x1024.Idx → EReal} {x2 : S1024x5152.Idx → EReal} {x3 : S4096x2048.Idx → EReal} {x4 : S4096x3072.Idx → EReal} {x5 : S4096x32.Idx → EReal} {x6 : S4096x1024.Idx → EReal}

/-- The model's numbers of given arguments. -/
def ofArgs (x0 : S4096x1024.Idx → EReal) (x1 : S1x1024.Idx → EReal) (x2 : S1024x5152.Idx → EReal) (x3 : S4096x2048.Idx → EReal) (x4 : S4096x3072.Idx → EReal) (x5 : S4096x32.Idx → EReal) (x6 : S4096x1024.Idx → EReal) : Data where
  H := ofMat x0
  G := ofMat x1 0
  W := ofMat x2
  C t k := if k < 2048 then ofMat x3 t k else if k < 5120 then ofMat x4 t (k - 2048) else ofMat x5 t (k - 5120)
  D := ofMat x6

theorem fits_ofArgs : (ofArgs x0 x1 x2 x3 x4 x5 x6).Fits x0 x1 x2 x3 x4 x5 x6 where
  h r c := ofMat_eq x0 r c
  g c := ofMat_eq x1 0 c
  w r c := ofMat_eq x2 r c
  dz r c := by
    have hc := c.isLt
    show _ = if c.val < 2048 then _ else _
    rw [if_pos (by omega)]
    exact ofMat_eq x3 r c
  dxbc r c := by
    have hc := c.isLt
    show _ = if 2048 + c.val < 2048 then _ else if 2048 + c.val < 5120 then _ else _
    rw [if_neg (by omega), if_pos (by omega), Nat.add_sub_cancel_left]
    exact ofMat_eq x4 r c
  ddt r c := by
    have hc := c.isLt
    show _ = if 5120 + c.val < 2048 then _ else if 5120 + c.val < 5120 then _ else _
    rw [if_neg (by omega), if_neg (by omega), Nat.add_sub_cancel_left]
    exact ofMat_eq x5 r c
  dh r c := ofMat_eq x6 r c

variable (hd : d.Fits x0 x1 x2 x3 x4 x5 x6)
include hd

theorem ms_eq (r : Fin 4096) : val_main_v9 (F := Ideal) x0 (ix2 r 0) = d.ms r + (eps : EReal) := by
  pointwise [val_main_v9, val_main_v8, val_main_v7, val_main_v6, val_main_v5, val_main_v4, val_main_v3, val_main_cst, val_main_cst_0, val_main_cst_1]
  simp only [hd.h, Ideal.ofBits_zero_f32, zero_add, ofBits_1024, ofBits_eps]
  rfl

theorem inv_eq (r : Fin 4096) : val_main_v10 (F := Ideal) x0 (ix2 r 0) = d.inv r := by
  pointwise [val_main_v10]
  rw [ms_eq hd]
  rfl

/-- The slope of the reciprocal root. -/
theorem slope_eq (r : Fin 4096) : val_main_v13 (F := Ideal) x0 (ix2 r 0) = ((-(1 / 2) : ℝ) : EReal) * Ideal.div (d.inv r) (d.ms r + (eps : EReal)) := by
  pointwise [val_main_v13, val_main_v12, val_main_v11, val_main_cst_2]
  rw [ms_eq hd, inv_eq hd, Cert.PoolBwd.Ref.ofBits_neg_half]

theorem xh_eq (r : Fin 4096) (c : Fin 1024) : val_main_v15 (F := Ideal) x0 (ix2 r c) = d.xh r c := by
  pointwise [val_main_v15, val_main_v14]
  rw [inv_eq hd, hd.h]
  rfl

theorem hn_eq (r : Fin 4096) (c : Fin 1024) : val_main_v17 (F := Ideal) x0 x1 (ix2 r c) = d.hn r c := by
  pointwise [val_main_v17, val_main_v16]
  rw [xh_eq hd, hd.g]
  rfl

/-- The three groups of columns, side by side. -/
theorem joined_eq (r : Fin 4096) (k : Fin 5152) : val_main_v2 (F := Ideal) x3 x4 x5 (ix2 r k) = d.C r k := by
  have hk := k.isLt
  pointwise [val_main_v2, val_main_v1, val_main_v0]
  by_cases h : k.val < 2048
  · rw [dif_pos (by omega)]
    exact hd.dz r ⟨k, h⟩
  · rw [dif_neg (by omega)]
    by_cases h' : k.val < 5120
    · rw [dif_pos (by omega)]
      refine (hd.dxbc r ⟨k - 2048, by omega⟩).trans (congrArg (d.C r) ?_)
      show 2048 + (k.val - 2048) = k.val
      omega
    · rw [dif_neg (by omega)]
      refine (hd.ddt r ⟨k - 5120, by omega⟩).trans (congrArg (d.C r) ?_)
      show 5120 + (k.val - 5120) = k.val
      omega

theorem dw_eq (k : Fin 5152) (c : Fin 1024) : val_main_v42 (F := Ideal) x0 x1 x3 x4 x5 (ix2 k c) = d.dw k c := by
  pointwise [val_main_v42, val_main_v20, val_main_v19]
  simp only [joined_eq hd, hn_eq hd]
  rfl

theorem dhn_eq (r : Fin 4096) (c : Fin 1024) : val_main_v21 (F := Ideal) x2 x3 x4 x5 (ix2 r c) = d.dhn r c := by
  pointwise [val_main_v21]
  simp only [joined_eq hd, hd.w]
  rfl

theorem dxg_eq (r : Fin 4096) (c : Fin 1024) : val_main_v26 (F := Ideal) x1 x2 x3 x4 x5 (ix2 r c) = d.dxg r c := by
  pointwise [val_main_v26, val_main_v25]
  rw [dhn_eq hd, hd.g]
  rfl

theorem row_eq (r : Fin 4096) : val_main_v29 (F := Ideal) x0 x1 x2 x3 x4 x5 (ix2 r 0) = (∑ c : Fin 1024, d.H r c * d.dxg r c) := by
  pointwise [val_main_v29, val_main_v28, val_main_v27, val_main_cst_4]
  simp only [dxg_eq hd, hd.h, Ideal.ofBits_zero_f32, zero_add]

theorem half_eq (r : Fin 4096) (c : Fin 1024) : val_main_v37 (F := Ideal) x0 x1 x2 x3 x4 x5 (ix2 r c)
    = Ideal.div ((∑ c : Fin 1024, d.H r c * d.dxg r c) * (((-(1 / 2) : ℝ) : EReal) * Ideal.div (d.inv r) (d.ms r + (eps : EReal)))) (1024 : ℝ) := by
  pointwise [val_main_v37, val_main_v36, val_main_v35, val_main_v34, val_main_v33, val_main_cst_5, val_main_cst_6]
  rw [show (∑ x : Fin 1, Ideal.div (val_main_v29 (F := Ideal) x0 x1 x2 x3 x4 x5 (ix2 r x) * val_main_v13 (F := Ideal) x0 (ix2 r x)) (Ideal.ofBits FTy.f32 1149239296#32))
      = Ideal.div (val_main_v29 (F := Ideal) x0 x1 x2 x3 x4 x5 (ix2 r 0) * val_main_v13 (F := Ideal) x0 (ix2 r 0)) (Ideal.ofBits FTy.f32 1149239296#32) from Fin.sum_univ_one _,
    row_eq hd, slope_eq hd, ofBits_1024]

theorem dx_eq (r : Fin 4096) (c : Fin 1024) : val_main_v41 (F := Ideal) x0 x1 x2 x3 x4 x5 x6 (ix2 r c) = d.dx r c := by
  pointwise [val_main_v41, val_main_v40, val_main_v39, val_main_v38, val_main_v32, val_main_v31, val_main_v30]
  rw [half_eq hd, hd.h, hd.dh, dxg_eq hd, inv_eq hd]
  unfold Data.dx Data.proj Data.xh
  rw [add_assoc, add_assoc]
  congr 1
  exact norm_grad (fun c : Fin 1024 => d.H r c) (fun c : Fin 1024 => d.dxg r c) c

theorem dx16_eq (r : Fin 4096) (c : Fin 1024) : val_main_v48 (F := Ideal) x0 x1 x2 x3 x4 x5 x6 (ix2 r c) = d.dx r c := by
  pointwise [val_main_v48]
  exact dx_eq hd r c

theorem dg_eq (c : Fin 1024) : val_main_v24 (F := Ideal) x0 x2 x3 x4 x5 (ix2 0 c) = d.accG 16 c := by
  pointwise [val_main_v24, val_main_v23, val_main_v22, val_main_cst_3]
  simp only [xh_eq hd, dhn_eq hd, Ideal.ofBits_zero_f32, zero_add]
  unfold Data.accG
  rw [Fin.sum_univ_eq_sum_range (fun t => d.xh t c * d.dhn t c) 4096]
  exact Finset.sum_congr rfl fun t _ => mul_comm _ _

theorem small_eq (r : Fin 8) (c : Fin 1024) : val_main_v47 (F := Ideal) x0 x2 x3 x4 x5 (ix2 r c) = d.small 16 r c := by
  pointwise [val_main_v47, val_main_v46, val_main_cst_8]
  unfold Data.small
  by_cases h : r.val = 0
  · rw [dif_pos (by omega), if_pos h, ← dg_eq hd c]
    exact congrArg _ (congrArg (ix2 · c) (Fin.ext h))
  · rw [dif_neg (by omega), if_neg h]

theorem dw1_eq (k : Fin 2048) (c : Fin 1024) : val_main_v49 (F := Ideal) x0 x1 x3 x4 x5 (ix2 k c) = d.dw k c := by
  pointwise [val_main_v49]
  refine (dw_eq hd _ _).trans ?_
  simp

theorem dw2_eq (k : Fin 3072) (c : Fin 1024) : val_main_v50 (F := Ideal) x0 x1 x3 x4 x5 (ix2 k c) = d.dw (2048 + k) c := by
  pointwise [val_main_v50]
  refine (dw_eq hd _ _).trans ?_
  simp

theorem dw3_eq (k : Fin 128) (c : Fin 1024) : val_main_v45 (F := Ideal) x0 x1 x3 x4 x5 (ix2 k c) = d.dw3 k c := by
  pointwise [val_main_v45, val_main_v44, val_main_v43, val_main_cst_7]
  unfold Data.dw3
  by_cases h : k.val < 32
  · rw [dif_pos (by omega), if_pos h]
    refine (dw_eq hd _ _).trans ?_
    simp
  · rw [dif_neg (by omega), if_neg h]

theorem dx_arr : val_main_v41 (F := Ideal) x0 x1 x2 x3 x4 x5 x6 = resX d := by
  funext y
  have e : y = ix2 (y 0 : Fin 4096) (y 1 : Fin 1024) := funext fun a => match a with | ⟨0, _⟩ => rfl | ⟨1, _⟩ => rfl
  exact (congrArg _ e).trans (dx_eq hd (y 0) (y 1))

theorem dx16_arr : val_main_v48 (F := Ideal) x0 x1 x2 x3 x4 x5 x6 = resX d := by
  funext y
  have e : y = ix2 (y 0 : Fin 4096) (y 1 : Fin 1024) := funext fun a => match a with | ⟨0, _⟩ => rfl | ⟨1, _⟩ => rfl
  exact (congrArg _ e).trans (dx16_eq hd (y 0) (y 1))

theorem dw1_arr : val_main_v49 (F := Ideal) x0 x1 x3 x4 x5 = resW1 d := by
  funext y
  have e : y = ix2 (y 0 : Fin 2048) (y 1 : Fin 1024) := funext fun a => match a with | ⟨0, _⟩ => rfl | ⟨1, _⟩ => rfl
  exact (congrArg _ e).trans (dw1_eq hd (y 0) (y 1))

theorem dw2_arr : val_main_v50 (F := Ideal) x0 x1 x3 x4 x5 = resW2 d := by
  funext y
  have e : y = ix2 (y 0 : Fin 3072) (y 1 : Fin 1024) := funext fun a => match a with | ⟨0, _⟩ => rfl | ⟨1, _⟩ => rfl
  exact (congrArg _ e).trans (dw2_eq hd (y 0) (y 1))

theorem dw3_arr : val_main_v45 (F := Ideal) x0 x1 x3 x4 x5 = resW3 d := by
  funext y
  have e : y = ix2 (y 0 : Fin 128) (y 1 : Fin 1024) := funext fun a => match a with | ⟨0, _⟩ => rfl | ⟨1, _⟩ => rfl
  exact (congrArg _ e).trans (dw3_eq hd (y 0) (y 1))

theorem small_arr : val_main_v47 (F := Ideal) x0 x2 x3 x4 x5 = resG d := by
  funext y
  have e : y = ix2 (y 0 : Fin 8) (y 1 : Fin 1024) := funext fun a => match a with | ⟨0, _⟩ => rfl | ⟨1, _⟩ => rfl
  exact (congrArg _ e).trans (small_eq hd (y 0) (y 1))

end Cert.InProj.Ref

end
-- ==== Proof.OutProj.lean ====
/- The gradient of the output projection `yn @ w_out`: its model, on the extended reals, and the two arrays its two kernels end with. -/
module

public import proofs.«01_k».proof.Proof.Gen.Kernel4Ideal.Skeleton
public import proofs.«01_k».proof.Proof.Gen.Kernel4Ideal.Frame
public import proofs.«01_k».proof.Proof.KernelRead
public import Idealize.ShloMosaic.Lib.Pipeline.Value
public import Idealize.ShloMosaic.Lib.Claim

@[expose] public section

set_option maxRecDepth 16384

noncomputable section

namespace Cert.OutProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.PoolBwd (zeros2)
open Cert.Kernel4Ideal Cert.Kernel4Ideal.Gen

/-- The arguments as functions of row and column numbers: the projection's input `Y`, its weight `W`, and the incoming gradient `D`. -/
structure Data where
  Y : ℕ → ℕ → EReal
  W : ℕ → ℕ → EReal
  D : ℕ → ℕ → EReal

variable (d : Data)

/-- The gradient of the projection's input. -/
def Data.dyn (t k : ℕ) : EReal := ∑ c : Fin 1024, d.D t c * d.W k c
/-- The gradient of the weight. -/
def Data.dw (k c : ℕ) : EReal := ∑ t : Fin 4096, d.Y t k * d.D t c

/-- The arguments' entries are the model's. -/
structure Data.Fits (yn : S4096x2048.Idx → EReal) (w : S2048x1024.Idx → EReal) (dh : S4096x1024.Idx → EReal) : Prop where
  y : ∀ r c, yn (ix2 r c) = d.Y (r : Fin 4096) (c : Fin 2048)
  w : ∀ r c, w (ix2 r c) = d.W (r : Fin 2048) (c : Fin 1024)
  dh : ∀ r c, dh (ix2 r c) = d.D (r : Fin 4096) (c : Fin 1024)

/-- The gradient of the projection's input, as an array. -/
def resY : S4096x2048.Idx → EReal := fun y => d.dyn (y 0).val (y 1).val
/-- The gradient of the weight, as an array. -/
def resW : S2048x1024.Idx → EReal := fun y => d.dw (y 0).val (y 1).val

theorem pay_dyn {a b : ℕ} {x0 : Vec Ideal S2048x1024 .bf16} {x1 : Vec Ideal S1024x1024 .bf16}
    (h0 : ∀ r c, x0 (ix2 r c) = d.D (2048 * a + (r : Fin 2048)) (c : Fin 1024))
    (h1 : ∀ r c, x1 (ix2 r c) = d.W (1024 * b + (r : Fin 1024)) (c : Fin 1024)) (r : Fin 2048) (c : Fin 1024) :
    k0_pay1 (F := Ideal) x0 x1 (ix2 r c) = d.dyn (2048 * a + r) (1024 * b + c) := by
  pointwise [k0_pay1]
  simp only [h0, h1]
  rfl

theorem pay_dw {b : ℕ} {x0 x1 : Vec Ideal S4096x1024 .bf16}
    (h0 : ∀ r c, x0 (ix2 r c) = d.Y (r : Fin 4096) (1024 * b + (c : Fin 1024)))
    (h1 : ∀ r c, x1 (ix2 r c) = d.D (r : Fin 4096) (c : Fin 1024)) (r c : Fin 1024) :
    k1_pay1 (F := Ideal) x0 x1 (ix2 r c) = d.dw (1024 * b + r) c := by
  pointwise [k1_pay1]
  simp only [h0, h1]
  rfl

section regions

variable (V : (c : Dev nD) → (b : Ref sig .tc) → Buf (Elt Ideal) ((c : Thread nD τ).loc b)) (c : Dev nD)

theorem idx0_0 : ∀ t : Fin grid0.N, win0_0.index t = ![t.val / 2, 0] := by decide +kernel
theorem idx0_1 : ∀ t : Fin grid0.N, win0_1.index t = ![t.val % 2, 0] := by decide +kernel
theorem idx0_2 : ∀ t : Fin grid0.N, win0_2.index t = ![t.val / 2, t.val % 2] := by decide +kernel
theorem idx1_0 : ∀ t : Fin grid1.N, win1_0.index t = ![0, t.val] := by decide +kernel
theorem idx1_1 : ∀ t : Fin grid1.N, win1_1.index t = ![0, 0] := by decide +kernel
theorem idx1_2 : ∀ t : Fin grid1.N, win1_2.index t = ![t.val, 0] := by decide +kernel

section dyn

variable (hD : ∀ (r : Fin 4096) (k : Fin 1024), (V c main_v1 : S4096x1024.Idx → EReal) (ix2 r k) = d.D r k)
variable (hW : ∀ (r : Fin 2048) (k : Fin 1024), (V c main_v0 : S2048x1024.Idx → EReal) (ix2 r k) = d.W r k)
variable (t : Fin cfg0.N)

include hD in
theorem iblk0_0 (r : Fin 2048) (k : Fin 1024) : iblk0 V c 0 t (ix2 r k) = d.D (2048 * (t.val / 2) + r) k := by
  unfold iblk0
  rw [View.read_apply]
  have hN : t.val < 4 := t.isLt
  refine (congrArg (V c main_v1 : S4096x1024.Idx → EReal) ?_).trans (hD ⟨2048 * (t.val / 2) + r, by omega⟩ k)
  funext a
  apply Fin.ext
  match a with
  | ⟨0, _⟩ => show win0_0.index t 0 * 2048 + 1 * r.val = _; rw [idx0_0]; simp; omega
  | ⟨1, _⟩ => show win0_0.index t 1 * 1024 + 1 * k.val = _; rw [idx0_0]; simp

include hW in
theorem iblk0_1 (r k : Fin 1024) : iblk0 V c 1 t (ix2 r k) = d.W (1024 * (t.val % 2) + r) k := by
  unfold iblk0
  rw [View.read_apply]
  refine (congrArg (V c main_v0 : S2048x1024.Idx → EReal) ?_).trans (hW ⟨1024 * (t.val % 2) + r, by omega⟩ k)
  funext a
  apply Fin.ext
  match a with
  | ⟨0, _⟩ => show win0_1.index t 0 * 1024 + 1 * r.val = _; rw [idx0_1]; simp; omega
  | ⟨1, _⟩ => show win0_1.index t 1 * 1024 + 1 * k.val = _; rw [idx0_1]; simp

include hD hW in
theorem out_dyn (r : Fin 2048) (k : Fin 1024) : out0_2 (iblk0 V c 0 t) (iblk0 V c 1 t) (ix2 r k) = d.dyn (2048 * (t.val / 2) + r) (1024 * (t.val % 2) + k) := by
  unfold out0_2
  simp only [View.ld_unit_zero (S := S2048x1024) zeros2, View.ld_unit_zero (S := S1024x1024) zeros2]
  refine (congrFun (View.canon_unit_zero (S := S2048x1024) zeros2 _ _) _).trans ?_
  exact pay_dyn d (iblk0_0 d V c hD t) (iblk0_1 d V c hW t) r k

include hD hW in
theorem final_dyn : (dat0 V c).arrAt 2 cfg0.N = resY d := by
  refine (dat0 V c).arrAt_eq_of_cover 2 (resY d) (fun t _ => ?_) fun (i : S4096x2048.Idx) => ?_
  · have hN : t.val < 4 := t.isLt
    show (cfg0.win 2).cut (grid0.coords t) ((dat0 V c).after 2 t) = _
    rw [after0_2]
    funext y
    rw [View.read_apply]
    refine (congrArg (out0_2 (iblk0 V c 0 t) (iblk0 V c 1 t)) (?_ : _ = ix2 (y 0) (y 1))).trans ((out_dyn d V c hD hW t (y 0) (y 1)).trans ?_)
    · funext a
      match a with
      | ⟨0, _⟩ => rfl
      | ⟨1, _⟩ => rfl
    · refine congrArg₂ d.dyn ?_ ?_
      · show _ = win0_2.index t 0 * 2048 + 1 * (y 0).val
        rw [idx0_2]; simp; omega
      · show _ = win0_2.index t 1 * 1024 + 1 * (y 1).val
        rw [idx0_2]; simp; omega
  · have h0 : (i 0).val < 4096 := (i 0).isLt
    have h1 : (i 1).val < 2048 := (i 1).isLt
    obtain ⟨u, hu⟩ : ∃ u : Fin grid0.N, u.val = 2 * ((i 0).val / 2048) + (i 1).val / 1024 := ⟨⟨2 * ((i 0).val / 2048) + (i 1).val / 1024, by show _ < 4; omega⟩, rfl⟩
    refine ⟨u, flush0_2 _, ?_⟩
    show i ∈ ((View.whole main_v2).slice (win0_2.rect u)).set
    rw [View.set_slice_whole, Rect.mem_set_unit]
    intro a
    match a with
    | ⟨0, _⟩ => show win0_2.index _ 0 * 2048 ≤ (i 0).val ∧ (i 0).val < win0_2.index _ 0 * 2048 + 2048; rw [idx0_2, hu]; simp; omega
    | ⟨1, _⟩ => show win0_2.index _ 1 * 1024 ≤ (i 1).val ∧ (i 1).val < win0_2.index _ 1 * 1024 + 1024; rw [idx0_2, hu]; simp; omega

end dyn

section dw

variable (hY : ∀ (r : Fin 4096) (k : Fin 2048), (V c main_arg0 : S4096x2048.Idx → EReal) (ix2 r k) = d.Y r k)
variable (hD : ∀ (r : Fin 4096) (k : Fin 1024), (V c main_v1 : S4096x1024.Idx → EReal) (ix2 r k) = d.D r k)
variable (t : Fin cfg1.N)

include hY in
theorem iblk1_0 (r : Fin 4096) (k : Fin 1024) : iblk1 V c 0 t (ix2 r k) = d.Y r (1024 * t.val + k) := by
  unfold iblk1
  rw [View.read_apply]
  have hN : t.val < 2 := t.isLt
  refine (congrArg (V c main_arg0 : S4096x2048.Idx → EReal) ?_).trans (hY r ⟨1024 * t.val + k, by omega⟩)
  funext a
  apply Fin.ext
  match a with
  | ⟨0, _⟩ => show win1_0.index t 0 * 4096 + 1 * r.val = _; rw [idx1_0]; simp
  | ⟨1, _⟩ => show win1_0.index t 1 * 1024 + 1 * k.val = _; rw [idx1_0]; simp; omega

include hD in
theorem iblk1_1 (r : Fin 4096) (k : Fin 1024) : iblk1 V c 1 t (ix2 r k) = d.D r k := by
  unfold iblk1
  rw [View.read_apply]
  refine (congrArg (V c main_v1 : S4096x1024.Idx → EReal) ?_).trans (hD r k)
  funext a
  apply Fin.ext
  match a with
  | ⟨0, _⟩ => show win1_1.index t 0 * 4096 + 1 * r.val = _; rw [idx1_1]; simp
  | ⟨1, _⟩ => show win1_1.index t 1 * 1024 + 1 * k.val = _; rw [idx1_1]; simp

include hY hD in
theorem out_dw (r k : Fin 1024) : out1_2 (iblk1 V c 0 t) (iblk1 V c 1 t) (ix2 r k) = d.dw (1024 * t.val + r) k := by
  unfold out1_2
  simp only [View.ld_unit_zero (S := S4096x1024) zeros2]
  refine (congrFun (View.canon_unit_zero (S := S1024x1024) zeros2 _ _) _).trans ?_
  exact pay_dw d (iblk1_0 d V c hY t) (iblk1_1 d V c hD t) r k

include hY hD in
theorem final_dw : (dat1 V c).arrAt 2 cfg1.N = resW d := by
  refine (dat1 V c).arrAt_eq_of_cover 2 (resW d) (fun t _ => ?_) fun (i : S2048x1024.Idx) => ?_
  · have hN : t.val < 2 := t.isLt
    show (cfg1.win 2).cut (grid1.coords t) ((dat1 V c).after 2 t) = _
    rw [after1_2]
    funext y
    rw [View.read_apply]
    refine (congrArg (out1_2 (iblk1 V c 0 t) (iblk1 V c 1 t)) (?_ : _ = ix2 (y 0) (y 1))).trans ((out_dw d V c hY hD t (y 0) (y 1)).trans ?_)
    · funext a
      match a with
      | ⟨0, _⟩ => rfl
      | ⟨1, _⟩ => rfl
    · refine congrArg₂ d.dw ?_ ?_
      · show _ = win1_2.index t 0 * 1024 + 1 * (y 0).val
        rw [idx1_2]; simp; omega
      · show _ = win1_2.index t 1 * 1024 + 1 * (y 1).val
        rw [idx1_2]; simp
  · have h0 : (i 0).val < 2048 := (i 0).isLt
    have h1 : (i 1).val < 1024 := (i 1).isLt
    obtain ⟨u, hu⟩ : ∃ u : Fin grid1.N, u.val = (i 0).val / 1024 := ⟨⟨(i 0).val / 1024, by show _ < 2; omega⟩, rfl⟩
    refine ⟨u, flush1_2 _, ?_⟩
    show i ∈ ((View.whole main_v3).slice (win1_2.rect u)).set
    rw [View.set_slice_whole, Rect.mem_set_unit]
    intro a
    match a with
    | ⟨0, _⟩ => show win1_2.index _ 0 * 1024 ≤ (i 0).val ∧ (i 0).val < win1_2.index _ 0 * 1024 + 1024; rw [idx1_2, hu]; simp; omega
    | ⟨1, _⟩ => show win1_2.index _ 1 * 1024 ≤ (i 1).val ∧ (i 1).val < win1_2.index _ 1 * 1024 + 1024; rw [idx1_2]; simp; omega

end dw

end regions

section entries

variable (m : (ℓ : Loc nD τ sig) → Buf (Elt Ideal) ℓ) (ρ : Dev nD → PrngReg) (c : Dev nD)

theorem V1_w : V1 m ρ c main_v0 = (fun y => m ((c : Thread nD τ).loc main_arg1) y : S2048x1024.Idx → EReal) := by
  unfold_abbrev_sides
  after_results
  rfl

theorem V1_dh : V1 m ρ c main_v1 = (fun y => m ((c : Thread nD τ).loc main_arg2) y : S4096x1024.Idx → EReal) := by
  unfold_abbrev_sides
  after_results
  rfl

variable (hd : d.Fits (m ((c : Thread nD τ).loc main_arg0)) (m ((c : Thread nD τ).loc main_arg1)) (m ((c : Thread nD τ).loc main_arg2)))

include hd

theorem e1_dh (r : Fin 4096) (k : Fin 1024) : (V1 m ρ c main_v1 : S4096x1024.Idx → EReal) (ix2 r k) = d.D r k :=
  (congrFun (V1_dh m ρ c) (ix2 r k)).trans (hd.dh r k)

theorem e1_w (r : Fin 2048) (k : Fin 1024) : (V1 m ρ c main_v0 : S2048x1024.Idx → EReal) (ix2 r k) = d.W r k :=
  (congrFun (V1_w m ρ c) (ix2 r k)).trans (hd.w r k)

theorem e2_dh (r : Fin 4096) (k : Fin 1024) : (V2 m ρ c main_v1 : S4096x1024.Idx → EReal) (ix2 r k) = d.D r k :=
  (congrFun (W2_of m ρ c main_v1 (by decide)) (ix2 r k)).trans (e1_dh d m ρ c hd r k)

theorem e2_y (r : Fin 4096) (k : Fin 2048) : (V2 m ρ c main_arg0 : S4096x2048.Idx → EReal) (ix2 r k) = d.Y r k :=
  (congrFun (W2_args m ρ c main_arg0 (by decide)) (ix2 r k)).trans (hd.y r k)

theorem end_dyn : W3 m ρ c (Proc.devRef .tc main_v2) = resY d :=
  (W3_of m ρ c main_v2 (by decide)).trans ((W2_arr m ρ c 2).trans (final_dyn d (V1 m ρ) c (e1_dh d m ρ c hd) (e1_w d m ρ c hd)))

theorem end_dw : W3 m ρ c (Proc.devRef .tc main_v3) = resW d :=
  (W3_arr m ρ c 2).trans (final_dw d (V2 m ρ) c (e2_y d m ρ c hd) (e2_dh d m ρ c hd))

end entries

set_option backward.isDefEq.respectTransparency.types false in
/-- Every run ends, and the final memory of every device is the last boundary's contents at every reference outside the kernels' scratch. -/
theorem run_last (m : (ℓ : Loc nD τ sig) → Buf (Elt Ideal) ℓ) (ρ : Dev nD → PrngReg) :
    θ_run defs (onTc (τ := τ) (main (F := Ideal))) ⟨m, fun _ => 0, ρ⟩
      (fun r => ∀ c : Dev nD, ∀ b ∈ Pipeline.ucRefs τ sig, r.2.mem (((c : Thread nD τ)).1, b) = W3 m ρ c b) := by
  refine Pipeline.θ_run_regions_kit_sems (pcfgs (F := Ideal)) adm (pdats m ρ) () cellOf_inj emb₁ defs₀ 𝒱₀ L lv m ρ main (segs m ρ)
    (fun c Q => by rw [main_run m ρ c]) ?_ (O₀ := 0) (fun _ _ => rfl) (G := fun _ => iprop(emp))
    (u₀ := initOf (Pipeline.cells cfgs cellOf_inj) (Pipeline.launchToks cfgs cellOf_inj)) ?_
    (T₀ := fun c => iprop(StableHlo.held (c : Thread nD τ) (Pipeline.ucRefs τ sig) (W0 m ρ c) ∗ R c)) (Tₙ := Tₙ m ρ)
    ⟨fun _ => .rfl, fun _ => .rfl, fun _ => .rfl, fun _ => .rfl⟩ ?_
    (QY := fun c s => ∀ b ∈ Pipeline.ucRefs τ sig, s.mem (((c : Thread nD τ)).1, b) = W3 m ρ c b) ?_ (fun s h _ => h)
  · simp only [segs, Pipeline.Seg.pipes_host, Pipeline.Seg.pipes_region, Pipeline.Seg.pipes_nil]
    decide
  · iintro Htok
    imodintro
    isplitl [Htok]
    · iapply (show (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) from .rfl)
      iexact Htok
    · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howe, -, Hreg, -⟩, -⟩
    imodintro
    isplitl [Hbufs]
    · iexact Hbufs
    isplitl [Hreg]
    · iexists _
      iexact Hreg
    · iexists ∅
      iexact Howe
  · intro c s'
    iintro ⟨⟨Hbufs, -⟩, Hst⟩
    unfold StableHlo.held
    imodintro
    iapply (pointsTo_read_all (Pipeline.ucRefs τ sig) (fun b => (((c : Thread nD τ)).1, b)) (W3 m ρ c) s')
    isplitl [Hbufs] <;> iassumption

end Cert.OutProj

end
-- ==== Proof.OutProjRef.lean ====
/- What the reference of the output projection's gradient computes, entry by entry, in the model. -/
module

public import proofs.«01_k».proof.Proof.Gen.Reference4Ideal.Read
public import proofs.«01_k».proof.Proof.OutProj
public import proofs.«01_k».proof.Proof.MlpArgs
public import Idealize.ShloMosaic.Lib.Pointwise

@[expose] public section

set_option maxRecDepth 16384

noncomputable section

namespace Cert.OutProj.Ref

open Idealize.ShloMosaic Idealize.ShloMosaic.TcCoe Idealize.ShloMosaic.Tactic
open Cert.MlpBwd (ofMat ofMat_eq)
open Cert.Reference4Ideal Cert.Reference4Ideal.Gen Cert.Reference4Ideal.Read

variable {d : Data} {x0 : S4096x2048.Idx → EReal} {x1 : S2048x1024.Idx → EReal} {x2 : S4096x1024.Idx → EReal}

/-- The model's numbers of given arguments. -/
def ofArgs (x0 : S4096x2048.Idx → EReal) (x1 : S2048x1024.Idx → EReal) (x2 : S4096x1024.Idx → EReal) : Data where
  Y := ofMat x0
  W := ofMat x1
  D := ofMat x2

theorem fits_ofArgs : (ofArgs x0 x1 x2).Fits x0 x1 x2 := ⟨ofMat_eq x0, ofMat_eq x1, ofMat_eq x2⟩

variable (hd : d.Fits x0 x1 x2)
include hd

theorem dyn_eq (r : Fin 4096) (k : Fin 2048) : val_main_v5 (F := Ideal) x1 x2 (ix2 r k) = d.dyn r k := by
  pointwise [val_main_v5, val_main_v4]
  simp only [hd.dh, hd.w]
  rfl

theorem dw_eq (k : Fin 2048) (c : Fin 1024) : val_main_v3 (F := Ideal) x0 x2 (ix2 k c) = d.dw k c := by
  pointwise [val_main_v3, val_main_v2, val_main_v0]
  simp only [hd.y, hd.dh]
  exact Finset.sum_congr rfl fun t _ => mul_comm _ _

theorem dyn_arr : val_main_v5 (F := Ideal) x1 x2 = resY d := by
  funext y
  have e : y = ix2 (y 0 : Fin 4096) (y 1 : Fin 2048) := funext fun a => match a with | ⟨0, _⟩ => rfl | ⟨1, _⟩ => rfl
  exact (congrArg _ e).trans (dyn_eq hd (y 0) (y 1))

theorem dw_arr : val_main_v3 (F := Ideal) x0 x2 = resW d := by
  funext y
  have e : y = ix2 (y 0 : Fin 2048) (y 1 : Fin 1024) := funext fun a => match a with | ⟨0, _⟩ => rfl | ⟨1, _⟩ => rfl
  exact (congrArg _ e).trans (dw_eq hd (y 0) (y 1))

end Cert.OutProj.Ref

end
-- ==== Proof.GatePre.lean ====
/- The precondition of the gate's gradient, opened: the incoming gradient and the gains are real. -/
module

public import proofs.«01_k».proof.Proof.Gen.Pre_finite5
public import proofs.«01_k».proof.Proof.Pre

@[expose] public section

set_option maxRecDepth 16384

noncomputable section

namespace Cert.Gate

open Idealize.ShloMosaic Idealize.ShloMosaic.TcCoe Idealize.ShloMosaic.Tactic
open Cert.PoolBwd (real_of_lt and_split inf_word)
open Cert.Pre_finite5 Cert.Pre_finite5.Gen

theorem inf_word16 : Ideal.ofBits .bf16 (0x7F80#16) = (⊤ : EReal) := by
  simp [Ideal.ofBits, Ideal.ieee]

/-- An entry whose absolute value is below infinity is real. -/
theorem real_of_lt16 (x : EReal) (h : FloatOps.cmpf (F := Ideal) (φ := .bf16) .olt (FloatOps.hostAbsf (F := Ideal) (φ := .bf16) x) (Ideal.ofBits .bf16 (0x7F80#16)) = 1#1) :
    ((x.toReal : ℝ) : EReal) = x := by
  rw [inf_word16, ← inf_word] at h
  exact real_of_lt x h

theorem pre_real (x y z : S4096x2048.Idx → EReal) (g : S1x2048.Idx → EReal) (h : fn (F := Ideal) x y z g = fun _ => 1#1) :
    (∀ i, (((x i).toReal : ℝ) : EReal) = x i) ∧ ∀ i, (((g i).toReal : ℝ) : EReal) = g i := by
  have : Subsingleton S_.Idx := ⟨fun a b => funext fun (i : Fin 0) => i.elim0⟩
  have h0 := congrFun h (Shape.Idx.first h_S_)
  unfold fn at h0
  dsimp only at h0
  obtain ⟨hx, hg⟩ := and_split _ _ h0
  exact ⟨fun i => real_of_lt16 _ (Host.reduce_andi_all _ _ _ _ _ hx i), fun i => real_of_lt _ (Host.reduce_andi_all _ _ _ _ _ hg i)⟩

end Cert.Gate

end
-- ==== Proof.LossHead.lean ====
/- The loss's head with the last MLP sub-layer's second product: its model, on the extended reals, and what each value its kernel computes is in the model. -/
module

public import proofs.«01_k».proof.Proof.Gen.Kernel6Ideal.Skeleton
public import proofs.«01_k».proof.Proof.KernelRead
public import proofs.«01_k».proof.Proof.MlpArgs
public import proofs.«01_k».proof.Proof.NormGrad

@[expose] public section

set_option maxRecDepth 16384

noncomputable section

namespace Cert.LossHead

open Idealize.ShloMosaic Idealize.ShloMosaic.TcCoe Idealize.ShloMosaic.Tactic
open Idealize.SL.Sem
open Cert.PoolBwd (eps ofBits_1024 ofBits_eps)
open Cert.MlpBwd (ofMat ofMat_eq rowInv sum_mul_real)
open Cert.Kernel6Ideal Cert.Kernel6Ideal.Gen

/-- One part in 2048, a word of the kernel. -/
theorem ofBits_2048th : Ideal.ofBits .f32 (973078528#32) = ((1 / 2048 : ℝ) : EReal) := by
  have h : Ideal.ofBits .f32 (973078528#32) = ((8388608 : ℝ) : EReal) * ((1 / 17179869184 : ℝ) : EReal) := by
    simp [Ideal.ofBits, Ideal.ieee]; norm_num
  rw [h, ← EReal.coe_mul]; norm_num

/-- One part in 1024, a word of the kernel. -/
theorem ofBits_1024th : Ideal.ofBits .f32 (981467136#32) = ((1 / 1024 : ℝ) : EReal) := by
  have h : Ideal.ofBits .f32 (981467136#32) = ((8388608 : ℝ) : EReal) * ((1 / 8589934592 : ℝ) : EReal) := by
    simp [Ideal.ofBits, Ideal.ieee]; norm_num
  rw [h, ← EReal.coe_mul]; norm_num

/-- The arguments as functions of row and column numbers: the first product `U`, the second weight `W`, the sub-layer's input `H`, the final gain `G`
    and the target `T`. -/
structure Data where
  U : ℕ → ℕ → EReal
  W : ℕ → ℕ → EReal
  H : ℕ → ℕ → EReal
  G : ℕ → EReal
  T : ℕ → ℕ → EReal

namespace Data

variable (d : Data)

/-- The squared ReLU of the first product. -/
def act (t k : ℕ) : EReal := max (d.U t k) 0 * max (d.U t k) 0
/-- The last sub-layer's output. -/
def x (t c : ℕ) : EReal := ∑ k : Fin 4096, d.act t k * d.W k c + d.H t c
/-- The reciprocal root mean square of row `t`. -/
def inv (t : ℕ) : EReal := rowInv fun c => d.x t c
/-- The normalized output, before the gain. -/
def xh (t c : ℕ) : EReal := d.x t c * d.inv t
/-- The error against the target. -/
def err (t c : ℕ) : EReal := d.xh t c * d.G c - d.T t c
/-- The loss's gradient at the gained output. -/
def de (t c : ℕ) : EReal := d.err t c * ((1 / 1024 : ℝ) : EReal)
/-- The same, with the gain. -/
def dxg (t c : ℕ) : EReal := d.de t c * d.G c
/-- The mean over row `t` of that gradient against the normalized row. -/
def proj (t : ℕ) : EReal := Ideal.div (∑ c : Fin 1024, d.dxg t c * d.xh t c) (1024 : ℝ)
/-- The loss's gradient at the last sub-layer's output. -/
def dx (t c : ℕ) : EReal := d.inv t * (d.dxg t c - d.xh t c * d.proj t)
/-- The gain's gradient from the first `n` blocks of 256 rows. -/
def accG (n c : ℕ) : EReal := ∑ t ∈ Finset.range (256 * n), d.de t c * d.xh t c
/-- The loss of column `c` from the first `n` blocks of 256 rows. -/
def accL (n c : ℕ) : EReal := ∑ t ∈ Finset.range (256 * n), d.err t c * d.err t c * ((1 / 2048 : ℝ) : EReal)
/-- What the third result holds at row `r`, column `c`, after `n` blocks: the gain's gradient, the loss, then zeros. -/
def small (n r c : ℕ) : EReal := if r = 0 then d.accG n c else if r = 1 then d.accL n c else 0

theorem accG_zero (k : ℕ) : d.accG 0 k = 0 := by simp [accG]

theorem accL_zero (k : ℕ) : d.accL 0 k = 0 := by simp [accL]

/-- The gain's gradient after one more block. -/
theorem accG_succ (n c : ℕ) (y : EReal) (hy : y = d.accG n c) : y + ∑ r : Fin 256, d.de (256 * n + r) c * d.xh (256 * n + r) c = d.accG (n + 1) c := by
  rw [hy]
  unfold accG
  rw [show 256 * (n + 1) = 256 * n + 256 by ring, Finset.sum_range_add, Fin.sum_univ_eq_sum_range (fun r => d.de (256 * n + r) c * d.xh (256 * n + r) c) 256]

/-- The loss after one more block. -/
theorem accL_succ (n c : ℕ) (y : EReal) (hy : y = d.accL n c) :
    y + ((1 / 2048 : ℝ) : EReal) * ∑ r : Fin 256, d.err (256 * n + r) c * d.err (256 * n + r) c = d.accL (n + 1) c := by
  rw [hy, mul_comm, sum_mul_real _ _ (by norm_num)]
  unfold accL
  rw [show 256 * (n + 1) = 256 * n + 256 by ring, Finset.sum_range_add,
    Fin.sum_univ_eq_sum_range (fun r => d.err (256 * n + r) c * d.err (256 * n + r) c * ((1 / 2048 : ℝ) : EReal)) 256]

/-- The arguments' entries are the model's. -/
structure Fits (x0 : S4096x4096.Idx → EReal) (x1 : S4096x1024.Idx → EReal) (x2 : S4096x1024.Idx → EReal) (x3 : S1x1024.Idx → EReal)
    (x4 : S4096x1024.Idx → EReal) : Prop where
  u : ∀ r c, x0 (ix2 r c) = d.U (r : Fin 4096) (c : Fin 4096)
  w : ∀ r c, x1 (ix2 r c) = d.W (r : Fin 4096) (c : Fin 1024)
  h : ∀ r c, x2 (ix2 r c) = d.H (r : Fin 4096) (c : Fin 1024)
  g : ∀ c, x3 (ix2 0 c) = d.G (c : Fin 1024)
  t : ∀ r c, x4 (ix2 r c) = d.T (r : Fin 4096) (c : Fin 1024)

end Data

/-- The model's numbers of given arguments. -/
def ofArgs (x0 : S4096x4096.Idx → EReal) (x1 : S4096x1024.Idx → EReal) (x2 : S4096x1024.Idx → EReal) (x3 : S1x1024.Idx → EReal)
    (x4 : S4096x1024.Idx → EReal) : Data where
  U := ofMat x0
  W := ofMat x1
  H := ofMat x2
  G := ofMat x3 0
  T := ofMat x4

theorem fits_ofArgs {x0 : S4096x4096.Idx → EReal} {x1 : S4096x1024.Idx → EReal} {x2 : S4096x1024.Idx → EReal} {x3 : S1x1024.Idx → EReal}
    {x4 : S4096x1024.Idx → EReal} : (ofArgs x0 x1 x2 x3 x4).Fits x0 x1 x2 x3 x4 :=
  ⟨ofMat_eq x0, ofMat_eq x1, ofMat_eq x2, fun c => ofMat_eq x3 0 c, ofMat_eq x4⟩

variable (d : Data)

/-- The loss's gradient at the last sub-layer's output, as an array. -/
def resX : S4096x1024.Idx → EReal := fun y => d.dx (y 0).val (y 1).val
/-- The gain's gradient and the loss, as an array. -/
def resG : S8x1024.Idx → EReal := fun y => d.small 16 (y 0).val (y 1).val

variable {a : ℕ} {x0 : Vec Ideal S256x4096 .bf16} {x1 : Vec Ideal S4096x1024 .bf16} {x2 : Vec Ideal S256x1024 .f32} {x3 : Vec Ideal S1x1024 .f32}
  {x4 : Vec Ideal S256x1024 .f32}
variable (h0 : ∀ r k, x0 (ix2 r k) = d.U (256 * a + (r : Fin 256)) (k : Fin 4096))
variable (h1 : ∀ k c, x1 (ix2 k c) = d.W (k : Fin 4096) (c : Fin 1024))
variable (h2 : ∀ r k, x2 (ix2 r k) = d.H (256 * a + (r : Fin 256)) (k : Fin 1024))
variable (h3 : ∀ k, x3 (ix2 0 k) = d.G (k : Fin 1024))
variable (h4 : ∀ r k, x4 (ix2 r k) = d.T (256 * a + (r : Fin 256)) (k : Fin 1024))

include h0 h1 h2 in
theorem pay_x (r : Fin 256) (c : Fin 1024) : k0_pay5 (F := Ideal) x0 x1 x2 (ix2 r c) = d.x (256 * a + r) c := by
  pointwise [k0_pay5]
  simp only [h0, h1, h2, Ideal.ofBits_zero_bf16]
  rfl

include h0 h1 h2 in
theorem pay_inv (r : Fin 256) (c : Fin 1) : k0_pay7 (F := Ideal) x0 x1 x2 (ix2 r c) = d.inv (256 * a + r) := by
  pointwise [k0_pay7]
  simp only [pay_x d h0 h1 h2, ofBits_1024, ofBits_eps]
  rfl

include h0 h1 h2 in
theorem pay_xh (r : Fin 256) (c : Fin 1024) : k0_pay8 (F := Ideal) x0 x1 x2 (ix2 r c) = d.xh (256 * a + r) c := by
  pointwise [k0_pay8]
  rw [pay_inv d h0 h1 h2, pay_x d h0 h1 h2]; rfl

include h0 h1 h2 h3 h4 in
theorem pay_err (r : Fin 256) (c : Fin 1024) : k0_pay9 (F := Ideal) x0 x1 x2 x3 x4 (ix2 r c) = d.err (256 * a + r) c := by
  pointwise [k0_pay9]
  rw [pay_xh d h0 h1 h2, h3, h4]; rfl

include h0 h1 h2 h3 h4 in
theorem pay_de (r : Fin 256) (c : Fin 1024) : k0_pay1 (F := Ideal) (k0_pay9 x0 x1 x2 x3 x4) (ix2 r c) = d.de (256 * a + r) c := by
  pointwise [k0_pay1]
  rw [pay_err d h0 h1 h2 h3 h4, ofBits_1024th]; rfl

include h0 h1 h2 h3 h4 in
theorem pay_dx (r : Fin 256) (c : Fin 1024) :
    k0_pay2 (F := Ideal) (k0_pay7 x0 x1 x2) (k0_pay8 x0 x1 x2) x3 (k0_pay9 x0 x1 x2 x3 x4) (ix2 r c) = d.dx (256 * a + r) c := by
  pointwise [k0_pay2]
  simp only [pay_inv d h0 h1 h2, pay_xh d h0 h1 h2, pay_de d h0 h1 h2 h3 h4, h3, ofBits_1024]
  rfl

include h0 h1 h2 h3 h4 in
theorem pay_dx16 (r : Fin 256) (c : Fin 1024) :
    k0_pay3 (F := Ideal) (k0_pay7 x0 x1 x2) (k0_pay8 x0 x1 x2) x3 (k0_pay9 x0 x1 x2 x3 x4) (ix2 r c) = d.dx (256 * a + r) c := by
  pointwise [k0_pay3]
  exact pay_dx d h0 h1 h2 h3 h4 r c

include h0 h1 h2 h3 h4 in
theorem pay_dg {acc : Vec Ideal S1x1024 .f32} (c : Fin 1024) : k0_pay4 (F := Ideal) (k0_pay8 x0 x1 x2) (k0_pay9 x0 x1 x2 x3 x4) acc (ix2 0 c)
    = acc (ix2 0 c) + (∑ r : Fin 256, d.de (256 * a + r) c * d.xh (256 * a + r) c) := by
  pointwise [k0_pay4]
  simp only [pay_xh d h0 h1 h2, pay_de d h0 h1 h2 h3 h4]

include h0 h1 h2 h3 h4 in
theorem pay_loss {acc : Vec Ideal S1x1024 .f32} (c : Fin 1024) : k0_pay10 (F := Ideal) x0 x1 x2 x3 x4 acc (ix2 0 c)
    = acc (ix2 0 c) + ((1 / 2048 : ℝ) : EReal) * (∑ r : Fin 256, d.err (256 * a + r) c * d.err (256 * a + r) c) := by
  pointwise [k0_pay10]
  simp only [pay_err d h0 h1 h2 h3 h4, ofBits_2048th]

end Cert.LossHead

end
-- ==== Proof.LossHeadRun.lean ====
/- What each grid point of the loss's head leaves, and the arrays the kernel ends with, in the model. -/
module

public import proofs.«01_k».proof.Proof.Gen.Kernel6Ideal.Value
public import proofs.«01_k».proof.Proof.LossHead
public import Idealize.ShloMosaic.Lib.Pipeline.Value

@[expose] public section

set_option maxRecDepth 16384

noncomputable section

namespace Cert.LossHead

open Idealize.ShloMosaic Idealize.ShloMosaic.TcCoe Idealize.ShloMosaic.Tactic
open Idealize.SL.Sem
open Cert.PoolBwd (zeros2 ld2 skip2 hit2)
open Cert.Kernel6Ideal Cert.Kernel6Ideal.Gen

variable (d : Data)

section point

variable {a : ℕ} (c : Dev nD) (i : grid0.Coords)
variable (arg2 : Memref sig .tc .vmem S256x4096 .bf16) (harg2 : arg2.IsWhole) (arg3 : Memref sig .tc .vmem S4096x1024 .bf16) (harg3 : arg3.IsWhole) (arg4 : Memref sig .tc .vmem S256x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .bf16) (harg8 : arg8.IsWhole) (arg9 : Memref sig .tc .vmem S8x1024 .f32) (harg9 : arg9.IsWhole)
variable (x0 : Vec Ideal S256x4096 .bf16) (x1 : Vec Ideal S4096x1024 .bf16) (x2 : Vec Ideal S256x1024 .f32) (x3 : Vec Ideal S1x1024 .f32) (x4 : Vec Ideal S256x1024 .f32)
variable (h0 : ∀ r k, x0 (ix2 r k) = d.U (256 * a + (r : Fin 256)) (k : Fin 4096))
variable (h1 : ∀ k c, x1 (ix2 k c) = d.W (k : Fin 4096) (c : Fin 1024))
variable (h2 : ∀ r k, x2 (ix2 r k) = d.H (256 * a + (r : Fin 256)) (k : Fin 1024))
variable (h3 : ∀ k, x3 (ix2 0 k) = d.G (k : Fin 1024))
variable (h4 : ∀ r k, x4 (ix2 r k) = d.T (256 * a + (r : Fin 256)) (k : Fin 1024))

set_option maxHeartbeats 2000000 in
include h0 h1 h2 h3 h4 in
theorem outA5_eq (hc0 : cond0_0 i) (r : Fin 256) (k : Fin 1024) :
    out0_A_5 c i arg2 harg2 arg3 harg3 arg4 harg4 arg5 harg5 arg6 harg6 arg7 harg7 arg8 harg8 arg9 harg9 hc0 x0 x1 x2 x3 x4 (ix2 r k) = d.dx (256 * a + r) k := by
  unfold out0_A_5 kernelRun0_A
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S4096x1024) zeros2, View.ld_unit_zero (S := S256x1024) zeros2, View.ld_unit_zero (S := S1x1024) zeros2]
  refine (hit2 _ _ _ _ _ _ _ r k (by simp) (by simp)).trans ?_
  exact pay_dx d h0 h1 h2 h3 h4 r k

set_option maxHeartbeats 2000000 in
include h0 h1 h2 h3 h4 in
theorem outA6_eq (hc0 : cond0_0 i) (r : Fin 256) (k : Fin 1024) :
    out0_A_6 c i arg2 harg2 arg3 harg3 arg4 harg4 arg5 harg5 arg6 harg6 arg7 harg7 arg8 harg8 arg9 harg9 hc0 x0 x1 x2 x3 x4 (ix2 r k) = d.dx (256 * a + r) k := by
  unfold out0_A_6 kernelRun0_A
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S4096x1024) zeros2, View.ld_unit_zero (S := S256x1024) zeros2, View.ld_unit_zero (S := S1x1024) zeros2]
  refine (hit2 _ _ _ _ _ _ _ r k (by simp) (by simp)).trans ?_
  exact pay_dx16 d h0 h1 h2 h3 h4 r k

set_option maxHeartbeats 2000000 in
include h0 h1 h2 h3 h4 in
theorem outA7_eq (hc0 : cond0_0 i) (ha : a = 0) (r : Fin 8) (k : Fin 1024) :
    out0_A_7 c i arg2 harg2 arg3 harg3 arg4 harg4 arg5 harg5 arg6 harg6 arg7 harg7 arg8 harg8 arg9 harg9 hc0 x0 x1 x2 x3 x4 (ix2 r k) = d.small (a + 1) r k := by
  unfold out0_A_7 kernelRun0_A
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S4096x1024) zeros2, View.ld_unit_zero (S := S256x1024) zeros2, View.ld_unit_zero (S := S1x1024) zeros2]
  by_cases hr : r.val = 0
  · refine (hit2 _ _ _ _ _ _ _ 0 k (by simpa using hr) (by simp)).trans ?_
    refine (pay_dg d h0 h1 h2 h3 h4 k).trans ?_
    rw [Data.small, if_pos hr]
    refine d.accG_succ a k _ ?_
    refine (ld2 (Val := Elt Ideal) _ _ 0 k (by simp) (by simp)).trans ?_
    rw [ha, d.accG_zero]
    pointwise [k0_pay6]
  · refine (skip2 _ _ _ _ _ _ _ (by simp; omega)).trans ?_
    by_cases hr' : r.val = 1
    · refine (hit2 _ _ _ _ _ _ _ 0 k (by simpa using hr') (by simp)).trans ?_
      refine (pay_loss d h0 h1 h2 h3 h4 k).trans ?_
      rw [Data.small, if_neg hr, if_pos hr']
      refine d.accL_succ a k _ ?_
      refine (ld2 (Val := Elt Ideal) _ _ 0 k (by simp) (by simp)).trans ?_
      rw [ha, d.accL_zero]
      pointwise [k0_pay6]
    · refine (skip2 _ _ _ _ _ _ _ (by simp; omega)).trans ?_
      refine (hit2 _ _ _ _ _ _ _ r k (by simp) (by simp)).trans ?_
      rw [Data.small, if_neg hr, if_neg hr']
      pointwise [k0_pay6]

set_option maxHeartbeats 2000000 in
include h0 h1 h2 h3 h4 in
theorem outB5_eq (hc0 : ¬cond0_0 i) (xo : Vec Ideal S8x1024 .f32) (r : Fin 256) (k : Fin 1024) :
    out0_B_5 c i arg2 harg2 arg3 harg3 arg4 harg4 arg5 harg5 arg6 harg6 arg7 harg7 arg8 harg8 arg9 harg9 hc0 x0 x1 x2 x3 x4 xo (ix2 r k) = d.dx (256 * a + r) k := by
  unfold out0_B_5 kernelRun0_B
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S4096x1024) zeros2, View.ld_unit_zero (S := S256x1024) zeros2, View.ld_unit_zero (S := S1x1024) zeros2]
  refine (hit2 _ _ _ _ _ _ _ r k (by simp) (by simp)).trans ?_
  exact pay_dx d h0 h1 h2 h3 h4 r k

set_option maxHeartbeats 2000000 in
include h0 h1 h2 h3 h4 in
theorem outB6_eq (hc0 : ¬cond0_0 i) (xo : Vec Ideal S8x1024 .f32) (r : Fin 256) (k : Fin 1024) :
    out0_B_6 c i arg2 harg2 arg3 harg3 arg4 harg4 arg5 harg5 arg6 harg6 arg7 harg7 arg8 harg8 arg9 harg9 hc0 x0 x1 x2 x3 x4 xo (ix2 r k) = d.dx (256 * a + r) k := by
  unfold out0_B_6 kernelRun0_B
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S4096x1024) zeros2, View.ld_unit_zero (S := S256x1024) zeros2, View.ld_unit_zero (S := S1x1024) zeros2]
  refine (hit2 _ _ _ _ _ _ _ r k (by simp) (by simp)).trans ?_
  exact pay_dx16 d h0 h1 h2 h3 h4 r k

set_option maxHeartbeats 2000000 in
include h0 h1 h2 h3 h4 in
theorem outB7_eq (hc0 : ¬cond0_0 i) (xo : Vec Ideal S8x1024 .f32) (ho : ∀ r k, xo (ix2 r k) = d.small a (r : Fin 8) (k : Fin 1024)) (r : Fin 8) (k : Fin 1024) :
    out0_B_7 c i arg2 harg2 arg3 harg3 arg4 harg4 arg5 harg5 arg6 harg6 arg7 harg7 arg8 harg8 arg9 harg9 hc0 x0 x1 x2 x3 x4 xo (ix2 r k) = d.small (a + 1) r k := by
  unfold out0_B_7 kernelRun0_B
  dsimp only
  sl_unfold_words
  simp (disch := first | rfl | decide | (intro a; fin_cases a <;> rfl)) only [↓View.readCov_skip, ↓View.readCov_fill]
  simp only [View.readCov, View.readAt_eq_ld, harg2.read_unread, harg3.read_unread, harg4.read_unread, harg5.read_unread, harg6.read_unread, harg9.read_unread,
    View.ld_unit_zero (S := S256x4096) zeros2, View.ld_unit_zero (S := S4096x1024) zeros2, View.ld_unit_zero (S := S256x1024) zeros2, View.ld_unit_zero (S := S1x1024) zeros2]
  by_cases hr : r.val = 0
  · refine (hit2 _ _ _ _ _ _ _ 0 k (by simpa using hr) (by simp)).trans ?_
    refine (pay_dg d h0 h1 h2 h3 h4 k).trans ?_
    rw [Data.small, if_pos hr]
    refine d.accG_succ a k _ ?_
    refine (ld2 (Val := Elt Ideal) _ _ 0 k (by simp) (by simp)).trans ((ho _ _).trans ?_)
    rw [Data.small, if_pos (by simp)]
    simp
  · refine (skip2 _ _ _ _ _ _ _ (by simp; omega)).trans ?_
    by_cases hr' : r.val = 1
    · refine (hit2 _ _ _ _ _ _ _ 0 k (by simpa using hr') (by simp)).trans ?_
      refine (pay_loss d h0 h1 h2 h3 h4 k).trans ?_
      rw [Data.small, if_neg hr, if_pos hr']
      refine d.accL_succ a k _ ?_
      refine (ld2 (Val := Elt Ideal) _ _ 0 k (by simp) (by simp)).trans ((ho _ _).trans ?_)
      rw [Data.small, if_neg (by simp), if_pos (by simp)]
      simp
    · refine (skip2 _ _ _ _ _ _ _ (by simp; omega)).trans ?_
      refine (congrFun (harg9.read_unread xo) (ix2 r k)).trans ((ho _ _).trans ?_)
      rw [Data.small, Data.small, if_neg hr, if_neg hr, if_neg hr', if_neg hr']

end point

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![0, 0] := by decide +kernel

variable (m : (ℓ : Loc nD τ sig) → Buf (Elt Ideal) ℓ) (c : Dev nD)

theorem V_w : V m c main_v0 = (fun y => m ((c : Thread nD τ).loc main_arg1) y : S4096x1024.Idx → EReal) := rfl

variable (hd : d.Fits (m ((c : Thread nD τ).loc main_arg0)) (m ((c : Thread nD τ).loc main_arg1)) (m ((c : Thread nD τ).loc main_arg2))
  (m ((c : Thread nD τ).loc main_arg3)) (m ((c : Thread nD τ).loc main_arg4)))
variable (t : Fin cfg0.N)

include hd

theorem iblk_u (r : Fin 256) (k : Fin 4096) : iblk m c 0 t (ix2 r k) = d.U (256 * t.val + r) k := by
  unfold iblk
  rw [View.read_apply]
  have hN : t.val < 16 := t.isLt
  refine (congrFun (V_main_arg0 m c) _).trans (.trans (congrArg _ ?_) (hd.u ⟨256 * t.val + r, by omega⟩ k))
  funext a
  apply Fin.ext
  match a with
  | ⟨0, _⟩ => show win0_0.index t 0 * 256 + 1 * r.val = _; rw [idx0]; simp; omega
  | ⟨1, _⟩ => show win0_0.index t 1 * 4096 + 1 * k.val = _; rw [idx0]; simp

theorem iblk_w (r : Fin 4096) (k : Fin 1024) : iblk m c 1 t (ix2 r k) = d.W r k := by
  unfold iblk
  rw [View.read_apply]
  refine (congrFun (V_w m c) _).trans (.trans (congrArg (m ((c : Thread nD τ).loc main_arg1)) ?_) (hd.w r k))
  funext a
  apply Fin.ext
  match a with
  | ⟨0, _⟩ => show win0_1.index t 0 * 4096 + 1 * r.val = _; rw [idx1]; simp
  | ⟨1, _⟩ => show win0_1.index t 1 * 1024 + 1 * k.val = _; rw [idx1]; simp

theorem iblk_h (r : Fin 256) (k : Fin 1024) : iblk m c 2 t (ix2 r k) = d.H (256 * t.val + r) k := by
  unfold iblk
  rw [View.read_apply]
  have hN : t.val < 16 := t.isLt
  refine (congrFun (V_main_arg2 m c) _).trans (.trans (congrArg _ ?_) (hd.h ⟨256 * t.val + r, by omega⟩ k))
  funext a
  apply Fin.ext
  match a with
  | ⟨0, _⟩ => show win0_2.index t 0 * 256 + 1 * r.val = _; rw [idx2]; simp; omega
  | ⟨1, _⟩ => show win0_2.index t 1 * 1024 + 1 * k.val = _; rw [idx2]; simp

theorem iblk_g (k : Fin 1024) : iblk m c 3 t (ix2 0 k) = d.G k := by
  unfold iblk
  rw [View.read_apply]
  refine (congrFun (V_main_arg3 m c) _).trans (.trans (congrArg _ ?_) (hd.g k))
  funext a
  apply Fin.ext
  match a with
  | ⟨0, _⟩ => show win0_3.index t 0 * 1 + 1 * 0 = _; rw [idx3]; rfl
  | ⟨1, _⟩ => show win0_3.index t 1 * 1024 + 1 * k.val = _; rw [idx3]; simp

theorem iblk_t (r : Fin 256) (k : Fin 1024) : iblk m c 4 t (ix2 r k) = d.T (256 * t.val + r) k := by
  unfold iblk
  rw [View.read_apply]
  have hN : t.val < 16 := t.isLt
  refine (congrFun (V_main_arg4 m c) _).trans (.trans (congrArg _ ?_) (hd.t ⟨256 * t.val + r, by omega⟩ k))
  funext a
  apply Fin.ext
  match a with
  | ⟨0, _⟩ => show win0_4.index t 0 * 256 + 1 * r.val = _; rw [idx4]; simp; omega
  | ⟨1, _⟩ => show win0_4.index t 1 * 1024 + 1 * k.val = _; rw [idx4]; simp

omit hd in
/-- What the point that treats block `n` leaves: the block of the output's gradient, twice, and the running gradient of the gain and loss. -/
structure Data.Left (d : Data) (n : ℕ) (p : Vec Ideal S256x1024 .f32 × Vec Ideal S256x1024 .bf16 × Vec Ideal S8x1024 .f32) : Prop where
  dx : ∀ r k, p.1 (ix2 r k) = d.dx (256 * n + (r : Fin 256)) (k : Fin 1024)
  dx16 : ∀ r k, p.2.1 (ix2 r k) = d.dx (256 * n + (r : Fin 256)) (k : Fin 1024)
  small : ∀ r k, p.2.2 (ix2 r k) = d.small (n + 1) (r : Fin 8) (k : Fin 1024)

theorem left_first (ht : t.val % 16 = 0) : d.Left t.val (outsAt0 m c t.val t.isLt) := by
  have hN : t.val < 16 := t.isLt
  rw [outsAt0_A m c t ht]
  refine ⟨fun r k => ?_, fun r k => ?_, fun r k => ?_⟩
  · dsimp only
    exact outA5_eq (d := d) (h0 := iblk_u d m c hd t) (h1 := iblk_w d m c hd t) (h2 := iblk_h d m c hd t) (h3 := iblk_g d m c hd t) (h4 := iblk_t d m c hd t) ..
  · dsimp only
    exact outA6_eq (d := d) (h0 := iblk_u d m c hd t) (h1 := iblk_w d m c hd t) (h2 := iblk_h d m c hd t) (h3 := iblk_g d m c hd t) (h4 := iblk_t d m c hd t) ..
  · dsimp only
    exact outA7_eq (d := d) (h0 := iblk_u d m c hd t) (h1 := iblk_w d m c hd t) (h2 := iblk_h d m c hd t) (h3 := iblk_g d m c hd t) (h4 := iblk_t d m c hd t) (ha := by omega) ..

theorem left_later (ht : ¬t.val % 16 = 0) (ih : d.Left (t.val - 1) (outsAt0 m c (t.val - 1) (Nat.lt_of_le_of_lt (Nat.sub_le _ _) t.isLt))) :
    d.Left t.val (outsAt0 m c t.val t.isLt) := by
  have hN : t.val < 16 := t.isLt
  have ks := ih.small
  rw [show t.val - 1 + 1 = t.val by omega] at ks
  rw [outsAt0_B m c t ht]
  refine ⟨fun r k => ?_, fun r k => ?_, fun r k => ?_⟩
  · dsimp only
    exact outB5_eq (d := d) (h0 := iblk_u d m c hd t) (h1 := iblk_w d m c hd t) (h2 := iblk_h d m c hd t) (h3 := iblk_g d m c hd t) (h4 := iblk_t d m c hd t) ..
  · dsimp only
    exact outB6_eq (d := d) (h0 := iblk_u d m c hd t) (h1 := iblk_w d m c hd t) (h2 := iblk_h d m c hd t) (h3 := iblk_g d m c hd t) (h4 := iblk_t d m c hd t) ..
  · dsimp only
    exact outB7_eq (d := d) (h0 := iblk_u d m c hd t) (h1 := iblk_w d m c hd t) (h2 := iblk_h d m c hd t) (h3 := iblk_g d m c hd t) (h4 := iblk_t d m c hd t) (ho := ks) ..

theorem left : ∀ (n : ℕ) (h : n < cfg0.N), d.Left n (outsAt0 m c n h)
  | 0, h => left_first d m c hd ⟨0, h⟩ rfl
  | n + 1, h => by
    have hN : n + 1 < 16 := h
    exact left_later d m c hd ⟨n + 1, h⟩ (by dsimp only; omega) (left n (Nat.lt_of_succ_lt h))

theorem final_dx : (dats m 0 c).arrAt 5 cfg0.N = resX d := by
  refine (dats m 0 c).arrAt_eq_of_cover 5 (resX d) (fun t _ => ?_) fun (i : S4096x1024.Idx) => ?_
  · have hN : t.val < 16 := t.isLt
    show (cfg0.win 5).cut (grid0.coords t) ((dats m 0 c).after 5 t) = _
    rw [after0_5]
    funext y
    rw [View.read_apply]
    refine (congrArg (outsAt0 m c t.val t.isLt).1 (?_ : _ = ix2 (y 0) (y 1))).trans (((left d m c hd t.val t.isLt).dx (y 0) (y 1)).trans ?_)
    · funext a
      match a with
      | ⟨0, _⟩ => rfl
      | ⟨1, _⟩ => rfl
    · refine congrArg₂ d.dx ?_ ?_
      · show _ = win0_5.index t 0 * 256 + 1 * (y 0).val
        rw [idx5]; simp; omega
      · show _ = win0_5.index t 1 * 1024 + 1 * (y 1).val
        rw [idx5]; simp
  · have h0 : (i 0).val < 4096 := (i 0).isLt
    have h1 : (i 1).val < 1024 := (i 1).isLt
    obtain ⟨u, hu⟩ : ∃ u : Fin grid0.N, u.val = (i 0).val / 256 := ⟨⟨(i 0).val / 256, by show _ < 16; omega⟩, rfl⟩
    refine ⟨u, flush0_5 _, ?_⟩
    show i ∈ ((View.whole main_v1_0).slice (win0_5.rect u)).set
    rw [View.set_slice_whole, Rect.mem_set_unit]
    intro a
    match a with
    | ⟨0, _⟩ => show win0_5.index _ 0 * 256 ≤ (i 0).val ∧ (i 0).val < win0_5.index _ 0 * 256 + 256; rw [idx5, hu]; simp; omega
    | ⟨1, _⟩ => show win0_5.index _ 1 * 1024 ≤ (i 1).val ∧ (i 1).val < win0_5.index _ 1 * 1024 + 1024; rw [idx5]; simp; omega

theorem final_dx16 : (dats m 0 c).arrAt 6 cfg0.N = resX d := by
  refine (dats m 0 c).arrAt_eq_of_cover 6 (resX d) (fun t _ => ?_) fun (i : S4096x1024.Idx) => ?_
  · have hN : t.val < 16 := t.isLt
    show (cfg0.win 6).cut (grid0.coords t) ((dats m 0 c).after 6 t) = _
    rw [after0_6]
    funext y
    rw [View.read_apply]
    refine (congrArg (outsAt0 m c t.val t.isLt).2.1 (?_ : _ = ix2 (y 0) (y 1))).trans (((left d m c hd t.val t.isLt).dx16 (y 0) (y 1)).trans ?_)
    · funext a
      match a with
      | ⟨0, _⟩ => rfl
      | ⟨1, _⟩ => rfl
    · refine congrArg₂ d.dx ?_ ?_
      · show _ = win0_6.index t 0 * 256 + 1 * (y 0).val
        rw [idx6]; simp; omega
      · show _ = win0_6.index t 1 * 1024 + 1 * (y 1).val
        rw [idx6]; simp
  · have h0 : (i 0).val < 4096 := (i 0).isLt
    have h1 : (i 1).val < 1024 := (i 1).isLt
    obtain ⟨u, hu⟩ : ∃ u : Fin grid0.N, u.val = (i 0).val / 256 := ⟨⟨(i 0).val / 256, by show _ < 16; omega⟩, rfl⟩
    refine ⟨u, flush0_6 _, ?_⟩
    show i ∈ ((View.whole main_v1_1).slice (win0_6.rect u)).set
    rw [View.set_slice_whole, Rect.mem_set_unit]
    intro a
    match a with
    | ⟨0, _⟩ => show win0_6.index _ 0 * 256 ≤ (i 0).val ∧ (i 0).val < win0_6.index _ 0 * 256 + 256; rw [idx6, hu]; simp; omega
    | ⟨1, _⟩ => show win0_6.index _ 1 * 1024 ≤ (i 1).val ∧ (i 1).val < win0_6.index _ 1 * 1024 + 1024; rw [idx6]; simp; omega

theorem final_small : (dats m 0 c).arrAt 7 cfg0.N = resG d := by
  refine (dats m 0 c).arrAt_eq_of_cover 7 (resG d) (fun t hf => ?_) fun (i : S8x1024.Idx) => ?_
  · have hN : t.val < 16 := t.isLt
    have h15 := (flush0_7 t).mp hf
    show (cfg0.win 7).cut (grid0.coords t) ((dats m 0 c).after 7 t) = _
    rw [after0_7]
    funext y
    rw [View.read_apply]
    refine (congrArg (outsAt0 m c t.val t.isLt).2.2 (?_ : _ = ix2 (y 0) (y 1))).trans (((left d m c hd t.val t.isLt).small (y 0) (y 1)).trans ?_)
    · funext a
      match a with
      | ⟨0, _⟩ => rfl
      | ⟨1, _⟩ => rfl
    · unfold resG
      rw [show t.val + 1 = 16 by omega]
      refine congrArg₂ (d.small 16) ?_ ?_
      · show _ = win0_7.index t 0 * 8 + 1 * (y 0).val
        rw [idx7]; simp
      · show _ = win0_7.index t 1 * 1024 + 1 * (y 1).val
        rw [idx7]; simp
  · have h0 : (i 0).val < 8 := (i 0).isLt
    have h1 : (i 1).val < 1024 := (i 1).isLt
    obtain ⟨u, hu⟩ : ∃ u : Fin grid0.N, u.val = 15 := ⟨⟨15, by show _ < 16; omega⟩, rfl⟩
    refine ⟨u, (flush0_7 _).mpr (by rw [hu]), ?_⟩
    show i ∈ ((View.whole main_v1_2).slice (win0_7.rect u)).set
    rw [View.set_slice_whole, Rect.mem_set_unit]
    intro a
    match a with
    | ⟨0, _⟩ => show win0_7.index _ 0 * 8 ≤ (i 0).val ∧ (i 0).val < win0_7.index _ 0 * 8 + 8; rw [idx7]; simp; omega
    | ⟨1, _⟩ => show win0_7.index _ 1 * 1024 ≤ (i 1).val ∧ (i 1).val < win0_7.index _ 1 * 1024 + 1024; rw [idx7]; simp; omega

end Cert.LossHead

end
-- ==== Proof.LossHeadRef.lean ====
/- The loss's head: the reference's results, in the model. -/
module

public import proofs.«01_k».proof.Proof.Gen.Reference6Ideal.Read
public import proofs.«01_k».proof.Proof.LossHead
public import proofs.«01_k».proof.Proof.RefRead

@[expose] public section

set_option maxRecDepth 16384

noncomputable section

namespace Cert.LossHead.Ref

open Idealize.ShloMosaic Idealize.ShloMosaic.TcCoe Idealize.ShloMosaic.Tactic
open Cert.PoolBwd (eps ofBits_1024 ofBits_eps div_real)
open Cert.MlpBwd (norm_grad rowInv sum_mul_real)
open Cert.Reference6Ideal Cert.Reference6Ideal.Gen Cert.Reference6Ideal.Read

theorem ofBits_half : Ideal.ofBits .f32 (1056964608#32) = ((1 / 2 : ℝ) : EReal) := by
  have h : Ideal.ofBits .f32 (1056964608#32) = ((8388608 : ℝ) : EReal) * ((1 / 16777216 : ℝ) : EReal) := by
    simp [Ideal.ofBits, Ideal.ieee]; norm_num
  rw [h, ← EReal.coe_mul]; norm_num

theorem ofBits_two : Ideal.ofBits .f32 (1073741824#32) = ((2 : ℝ) : EReal) := by
  have h : Ideal.ofBits .f32 (1073741824#32) = ((8388608 : ℝ) : EReal) * ((1 / 4194304 : ℝ) : EReal) := by
    simp [Ideal.ofBits, Ideal.ieee]; norm_num
  rw [h, ← EReal.coe_mul]; norm_num

theorem ofBits_one : Ideal.ofBits .f32 (1065353216#32) = ((1 : ℝ) : EReal) := by
  have h : Ideal.ofBits .f32 (1065353216#32) = ((8388608 : ℝ) : EReal) * ((1 / 8388608 : ℝ) : EReal) := by
    simp [Ideal.ofBits, Ideal.ieee]; norm_num
  rw [h, ← EReal.coe_mul]; norm_num

variable {d : Data} {x0 : S4096x4096.Idx → EReal} {x1 : S4096x1024.Idx → EReal} {x2 : S4096x1024.Idx → EReal} {x3 : S1x1024.Idx → EReal} {x4 : S4096x1024.Idx → EReal}
variable (hd : d.Fits x0 x1 x2 x3 x4)
include hd

theorem x_eq (r : Fin 4096) (c : Fin 1024) : val_main_v4 (F := Ideal) x0 x1 x2 (ix2 r c) = d.x r c := by
  pointwise [val_main_v4, val_main_v3, val_main_v2, val_main_v1, val_main_v0, val_main_call0_v0, val_main_call0_cst]
  simp only [hd.u, hd.w, hd.h, Ideal.ofBits_zero_f32]
  exact add_comm _ _

theorem ms_eq (r : Fin 4096) : val_main_v11 (F := Ideal) x0 x1 x2 (ix2 r 0) = Ideal.div (∑ c : Fin 1024, d.x r c * d.x r c) (1024 : ℝ) + (eps : EReal) := by
  pointwise [val_main_v11, val_main_v10, val_main_v9, val_main_v8, val_main_v7, val_main_v6, val_main_v5, val_main_cst, val_main_cst_0, val_main_cst_1]
  simp only [x_eq hd, Ideal.ofBits_zero_f32, zero_add, ofBits_1024, ofBits_eps]

theorem inv_eq (r : Fin 4096) : val_main_v12 (F := Ideal) x0 x1 x2 (ix2 r 0) = d.inv r := by
  pointwise [val_main_v12]
  rw [ms_eq hd]
  rfl

/-- The slope of the reciprocal root. -/
theorem slope_eq (r : Fin 4096) : val_main_v15 (F := Ideal) x0 x1 x2 (ix2 r 0)
    = ((-(1 / 2) : ℝ) : EReal) * Ideal.div (d.inv r) (Ideal.div (∑ c : Fin 1024, d.x r c * d.x r c) (1024 : ℝ) + (eps : EReal)) := by
  pointwise [val_main_v15, val_main_v14, val_main_v13, val_main_cst_2]
  rw [ms_eq hd, inv_eq hd, Cert.PoolBwd.Ref.ofBits_neg_half]

theorem xh_eq (r : Fin 4096) (c : Fin 1024) : val_main_v17 (F := Ideal) x0 x1 x2 (ix2 r c) = d.xh r c := by
  pointwise [val_main_v17, val_main_v16]
  rw [inv_eq hd, x_eq hd]
  rfl

theorem err_eq (r : Fin 4096) (c : Fin 1024) : val_main_v20 (F := Ideal) x0 x1 x2 x3 x4 (ix2 r c) = d.err r c := by
  pointwise [val_main_v20, val_main_v19, val_main_v18]
  rw [xh_eq hd, hd.g, hd.t]
  rfl

theorem loss_eq (c : Fin 1024) : val_main_v29 (F := Ideal) x0 x1 x2 x3 x4 (ix2 0 c) = d.accL 16 c := by
  pointwise [val_main_v29, val_main_v28, val_main_v27, val_main_v26, val_main_v25, val_main_v24, val_main_v21, val_main_cst_6, val_main_cst_5, val_main_cst_4]
  simp only [err_eq hd, Ideal.ofBits_zero_f32, zero_add, ofBits_1024, ofBits_half]
  rw [mul_comm, sum_mul_real _ _ (by norm_num)]
  unfold Data.accL
  rw [← Fin.sum_univ_eq_sum_range (fun t => d.err t c * d.err t c * ((1 / 2048 : ℝ) : EReal)) 4096]
  refine Finset.sum_congr rfl fun t _ => ?_
  rw [Ideal.div_coe (by norm_num), mul_assoc, ← EReal.coe_mul]
  norm_num

omit hd in
/-- The loss's slope: a half of the square's, over the columns. -/
theorem scale_eq (r : Fin 4096) (c : Fin 1024) : val_main_v36 (F := Ideal) (ix2 r c) = ((1 / 2048 : ℝ) : EReal) := by
  pointwise [val_main_v36, val_main_v35, val_main_v34, val_main_v33, val_main_v32, val_main_v31, val_main_v30, val_main_cst_7, val_main_cst_8, val_main_cst_9, val_main_cst_10]
  simp only [Ideal.ofBits_zero_f32, zero_add, ofBits_1024, ofBits_half, ofBits_one, Finset.univ_unique, Finset.sum_singleton]
  rw [div_real _ _ (by norm_num)]
  norm_num

theorem de_eq (r : Fin 4096) (c : Fin 1024) : val_main_v37 (F := Ideal) x0 x1 x2 x3 x4 (ix2 r c) = d.de r c := by
  pointwise [val_main_v37, val_main_v23, val_main_v22, val_main_cst_3]
  rw [scale_eq, err_eq hd, ofBits_two, ← mul_assoc, ← EReal.coe_mul, mul_comm]
  unfold Data.de
  norm_num

theorem dxg_eq (r : Fin 4096) (c : Fin 1024) : val_main_v42 (F := Ideal) x0 x1 x2 x3 x4 (ix2 r c) = d.dxg r c := by
  pointwise [val_main_v42, val_main_v41]
  rw [de_eq hd, hd.g]
  rfl

theorem row_eq (r : Fin 4096) : val_main_v45 (F := Ideal) x0 x1 x2 x3 x4 (ix2 r 0) = (∑ c : Fin 1024, d.x r c * d.dxg r c) := by
  pointwise [val_main_v45, val_main_v44, val_main_v43, val_main_cst_12]
  simp only [dxg_eq hd, x_eq hd, Ideal.ofBits_zero_f32, zero_add]

theorem half_eq (r : Fin 4096) (c : Fin 1024) : val_main_v52 (F := Ideal) x0 x1 x2 x3 x4 (ix2 r c)
    = Ideal.div ((∑ c : Fin 1024, d.x r c * d.dxg r c) * (((-(1 / 2) : ℝ) : EReal)
        * Ideal.div (d.inv r) (Ideal.div (∑ c : Fin 1024, d.x r c * d.x r c) (1024 : ℝ) + (eps : EReal)))) (1024 : ℝ) := by
  pointwise [val_main_v52, val_main_v51, val_main_v50, val_main_v49, val_main_v48, val_main_cst_13, val_main_cst_14]
  simp only [Finset.univ_unique, Finset.sum_singleton, Ideal.ofBits_zero_f32, zero_add, ofBits_1024]
  exact congrArg₂ (fun p q => Ideal.div (p * q) ((1024 : ℝ) : EReal)) (row_eq hd r) (slope_eq hd r)

theorem dx_eq (r : Fin 4096) (c : Fin 1024) : val_main_v56 (F := Ideal) x0 x1 x2 x3 x4 (ix2 r c) = d.dx r c := by
  pointwise [val_main_v56, val_main_v55, val_main_v54, val_main_v53, val_main_v47, val_main_v46]
  rw [half_eq hd, x_eq hd, dxg_eq hd, inv_eq hd]
  unfold Data.dx Data.proj Data.xh
  rw [add_assoc]
  exact norm_grad (fun c : Fin 1024 => d.x r c) (fun c : Fin 1024 => d.dxg r c) c

theorem dx16_eq (r : Fin 4096) (c : Fin 1024) : val_main_v57 (F := Ideal) x0 x1 x2 x3 x4 (ix2 r c) = d.dx r c := by
  pointwise [val_main_v57]
  exact dx_eq hd r c

theorem dg_eq (c : Fin 1024) : val_main_v40 (F := Ideal) x0 x1 x2 x3 x4 (ix2 0 c) = d.accG 16 c := by
  pointwise [val_main_v40, val_main_v39, val_main_v38, val_main_cst_11]
  simp only [xh_eq hd, de_eq hd, Ideal.ofBits_zero_f32, zero_add]
  unfold Data.accG
  rw [Fin.sum_univ_eq_sum_range (fun t => d.xh t c * d.de t c) 4096]
  exact Finset.sum_congr rfl fun t _ => mul_comm _ _

theorem small_eq (r : Fin 8) (c : Fin 1024) : val_main_v59 (F := Ideal) x0 x1 x2 x3 x4 (ix2 r c) = d.small 16 r c := by
  pointwise [val_main_v59, val_main_v58, val_main_cst_15]
  unfold Data.small
  by_cases h : r.val = 0
  · rw [dif_pos (by omega), if_pos h, ← dg_eq hd c]
    exact congrArg _ (congrArg (ix2 · c) (Fin.ext h))
  · rw [dif_neg (by omega), if_neg h]
    by_cases h' : r.val = 1
    · rw [dif_pos (by omega), if_pos h', ← loss_eq hd c]
      refine congrArg _ (congrArg (ix2 · c) (Fin.ext ?_))
      show r.val - 1 = 0
      omega
    · rw [dif_neg (by omega), if_neg h']

theorem dx_arr : val_main_v56 (F := Ideal) x0 x1 x2 x3 x4 = resX d := by
  funext y
  have e : y = ix2 (y 0 : Fin 4096) (y 1 : Fin 1024) := funext fun a => match a with | ⟨0, _⟩ => rfl | ⟨1, _⟩ => rfl
  exact (congrArg _ e).trans (dx_eq hd (y 0) (y 1))

theorem dx16_arr : val_main_v57 (F := Ideal) x0 x1 x2 x3 x4 = resX d := by
  funext y
  have e : y = ix2 (y 0 : Fin 4096) (y 1 : Fin 1024) := funext fun a => match a with | ⟨0, _⟩ => rfl | ⟨1, _⟩ => rfl
  exact (congrArg _ e).trans (dx16_eq hd (y 0) (y 1))

theorem small_arr : val_main_v59 (F := Ideal) x0 x1 x2 x3 x4 = resG d := by
  funext y
  have e : y = ix2 (y 0 : Fin 8) (y 1 : Fin 1024) := funext fun a => match a with | ⟨0, _⟩ => rfl | ⟨1, _⟩ => rfl
  exact (congrArg _ e).trans (small_eq hd (y 0) (y 1))

end Cert.LossHead.Ref

end
-- ==== Proof.InFwd.lean ====
/- Two groups of columns of the input projection, forward: their model, on the extended reals, and the two arrays the two kernels end with. -/
module

public import proofs.«01_k».proof.Proof.Gen.Kernel7Ideal.Skeleton
public import proofs.«01_k».proof.Proof.Gen.Kernel7Ideal.Frame
public import proofs.«01_k».proof.Proof.InProjHost
public import proofs.«01_k».proof.Proof.KernelRead
public import proofs.«01_k».proof.Proof.MlpArgs
public import Idealize.ShloMosaic.Lib.Pipeline.Value
public import Idealize.ShloMosaic.Lib.Claim

@[expose] public section

set_option maxRecDepth 16384

noncomputable section

namespace Cert.InFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.PoolBwd (zeros2)
open Cert.MlpBwd (ofMat ofMat_eq)
open Cert.Kernel7Ideal Cert.Kernel7Ideal.Gen

/-- The arguments as functions of row and column numbers: the normalized input `X` and the projection's weight `W`. -/
structure Data where
  X : ℕ → ℕ → EReal
  W : ℕ → ℕ → EReal

/-- The weight among the numbers of the projection's gradient, whose kernel prepares it the same way. -/
def Data.wide (d : Data) : InProj.Data := ⟨fun _ _ => 0, fun _ => 0, d.W, fun _ _ => 0, fun _ _ => 0⟩

variable (d : Data)

/-- The first group of columns. -/
def Data.z (t k : ℕ) : EReal := ∑ c : Fin 1024, d.X t c * d.W c k
/-- The last group of columns, continued by zeros. -/
def Data.dt (t k : ℕ) : EReal := if k < 32 then ∑ c : Fin 1024, d.X t c * d.W c (5120 + k) else 0

theorem Data.dt_eq (t k : ℕ) : ∑ c : Fin 1024, d.X t c * d.wide.W3 k c = d.dt t k := by
  unfold dt InProj.Data.W3
  by_cases h : k < 32
  · simp only [if_pos h]
    rfl
  · simp only [if_neg h, mul_zero, Finset.sum_const_zero]

/-- The arguments' entries are the model's. -/
structure Data.Fits (x0 : S4096x1024.Idx → EReal) (x1 : S1024x5152.Idx → EReal) : Prop where
  x : ∀ r c, x0 (ix2 r c) = d.X (r : Fin 4096) (c : Fin 1024)
  w : ∀ r c, x1 (ix2 r c) = d.W (r : Fin 1024) (c : Fin 5152)

/-- The model's numbers of given arguments. -/
def ofArgs (x0 : S4096x1024.Idx → EReal) (x1 : S1024x5152.Idx → EReal) : Data where
  X := ofMat x0
  W := ofMat x1

theorem fits_ofArgs {x0 : S4096x1024.Idx → EReal} {x1 : S1024x5152.Idx → EReal} : (ofArgs x0 x1).Fits x0 x1 := ⟨ofMat_eq x0, ofMat_eq x1⟩

/-- The first group of columns, as an array. -/
def resZ : S4096x2048.Idx → EReal := fun y => d.z (y 0).val (y 1).val
/-- The last group of columns, as an array. -/
def resT : S4096x128.Idx → EReal := fun y => d.dt (y 0).val (y 1).val

theorem pay_z {a b : ℕ} {x0 : Vec Ideal S2048x1024 .bf16} {x1 : Vec Ideal S1024x1024 .bf16}
    (h0 : ∀ r c, x0 (ix2 r c) = d.X (2048 * a + (r : Fin 2048)) (c : Fin 1024))
    (h1 : ∀ r c, x1 (ix2 r c) = d.W (c : Fin 1024) (1024 * b + (r : Fin 1024))) (r : Fin 2048) (c : Fin 1024) :
    k0_pay1 (F := Ideal) x0 x1 (ix2 r c) = d.z (2048 * a + r) (1024 * b + c) := by
  pointwise [k0_pay1]
  simp only [h0, h1]
  rfl

theorem pay_dt {a : ℕ} {x0 : Vec Ideal S2048x1024 .bf16} {x1 : Vec Ideal S128x1024 .bf16}
    (h0 : ∀ r c, x0 (ix2 r c) = d.X (2048 * a + (r : Fin 2048)) (c : Fin 1024))
    (h1 : ∀ r c, x1 (ix2 r c) = d.wide.W3 (r : Fin 128) (c : Fin 1024)) (r : Fin 2048) (c : Fin 128) :
    k1_pay1 (F := Ideal) x0 x1 (ix2 r c) = d.dt (2048 * a + r) c := by
  pointwise [k1_pay1]
  simp only [h0, h1]
  exact d.dt_eq _ _

section regions

variable (V : (c : Dev nD) → (b : Ref sig .tc) → Buf (Elt Ideal) ((c : Thread nD τ).loc b)) (c : Dev nD)

theorem idx0_0 : ∀ t : Fin grid0.N, win0_0.index t = ![t.val / 2, 0] := by decide +kernel
theorem idx0_1 : ∀ t : Fin grid0.N, win0_1.index t = ![t.val % 2, 0] := by decide +kernel
theorem idx0_2 : ∀ t : Fin grid0.N, win0_2.index t = ![t.val / 2, t.val % 2] := by decide +kernel
theorem idx1_0 : ∀ t : Fin grid1.N, win1_0.index t = ![t.val, 0] := by decide +kernel
theorem idx1_1 : ∀ t : Fin grid1.N, win1_1.index t = ![0, 0] := by decide +kernel
theorem idx1_2 : ∀ t : Fin grid1.N, win1_2.index t = ![t.val, 0] := by decide +kernel

variable (hX : ∀ (r : Fin 4096) (k : Fin 1024), (V c main_arg0 : S4096x1024.Idx → EReal) (ix2 r k) = d.X r k)

section z

variable (hW : ∀ (r : Fin 2048) (k : Fin 1024), (V c main_v2 : S2048x1024.Idx → EReal) (ix2 r k) = d.W k r)
variable (t : Fin cfg0.N)

include hX in
theorem iblk0_0 (r : Fin 2048) (k : Fin 1024) : iblk0 V c 0 t (ix2 r k) = d.X (2048 * (t.val / 2) + r) k := by
  unfold iblk0
  rw [View.read_apply]
  have hN : t.val < 4 := t.isLt
  refine (congrArg (V c main_arg0 : S4096x1024.Idx → EReal) ?_).trans (hX ⟨2048 * (t.val / 2) + r, by omega⟩ k)
  funext a
  apply Fin.ext
  match a with
  | ⟨0, _⟩ => show win0_0.index t 0 * 2048 + 1 * r.val = _; rw [idx0_0]; simp; omega
  | ⟨1, _⟩ => show win0_0.index t 1 * 1024 + 1 * k.val = _; rw [idx0_0]; simp

include hW in
theorem iblk0_1 (r k : Fin 1024) : iblk0 V c 1 t (ix2 r k) = d.W k (1024 * (t.val % 2) + r) := by
  unfold iblk0
  rw [View.read_apply]
  have hN : t.val < 4 := t.isLt
  refine (congrArg (V c main_v2 : S2048x1024.Idx → EReal) ?_).trans (hW ⟨1024 * (t.val % 2) + r, by omega⟩ k)
  funext a
  apply Fin.ext
  match a with
  | ⟨0, _⟩ => show win0_1.index t 0 * 1024 + 1 * r.val = _; rw [idx0_1]; simp; omega
  | ⟨1, _⟩ => show win0_1.index t 1 * 1024 + 1 * k.val = _; rw [idx0_1]; simp

include hX hW in
theorem out_z (r : Fin 2048) (k : Fin 1024) : out0_2 (iblk0 V c 0 t) (iblk0 V c 1 t) (ix2 r k) = d.z (2048 * (t.val / 2) + r) (1024 * (t.val % 2) + k) := by
  unfold out0_2
  simp only [View.ld_unit_zero (S := S2048x1024) zeros2, View.ld_unit_zero (S := S1024x1024) zeros2]
  refine (congrFun (View.canon_unit_zero (S := S2048x1024) zeros2 _ _) _).trans ?_
  exact pay_z d (iblk0_0 d V c hX t) (iblk0_1 d V c hW t) r k

include hX hW in
theorem final_z : (dat0 V c).arrAt 2 cfg0.N = resZ d := by
  refine (dat0 V c).arrAt_eq_of_cover 2 (resZ d) (fun t _ => ?_) fun (i : S4096x2048.Idx) => ?_
  · have hN : t.val < 4 := t.isLt
    show (cfg0.win 2).cut (grid0.coords t) ((dat0 V c).after 2 t) = _
    rw [after0_2]
    funext y
    rw [View.read_apply]
    refine (congrArg (out0_2 (iblk0 V c 0 t) (iblk0 V c 1 t)) (?_ : _ = ix2 (y 0) (y 1))).trans ((out_z d V c hX hW t (y 0) (y 1)).trans ?_)
    · funext a
      match a with
      | ⟨0, _⟩ => rfl
      | ⟨1, _⟩ => rfl
    · refine congrArg₂ d.z ?_ ?_
      · show _ = win0_2.index t 0 * 2048 + 1 * (y 0).val
        rw [idx0_2]; simp; omega
      · show _ = win0_2.index t 1 * 1024 + 1 * (y 1).val
        rw [idx0_2]; simp; omega
  · have h0 : (i 0).val < 4096 := (i 0).isLt
    have h1 : (i 1).val < 2048 := (i 1).isLt
    obtain ⟨u, hu⟩ : ∃ u : Fin grid0.N, u.val = 2 * ((i 0).val / 2048) + (i 1).val / 1024 := ⟨⟨2 * ((i 0).val / 2048) + (i 1).val / 1024, by show _ < 4; omega⟩, rfl⟩
    refine ⟨u, flush0_2 _, ?_⟩
    show i ∈ ((View.whole main_v6).slice (win0_2.rect u)).set
    rw [View.set_slice_whole, Rect.mem_set_unit]
    intro a
    match a with
    | ⟨0, _⟩ => show win0_2.index _ 0 * 2048 ≤ (i 0).val ∧ (i 0).val < win0_2.index _ 0 * 2048 + 2048; rw [idx0_2, hu]; simp; omega
    | ⟨1, _⟩ => show win0_2.index _ 1 * 1024 ≤ (i 1).val ∧ (i 1).val < win0_2.index _ 1 * 1024 + 1024; rw [idx0_2, hu]; simp; omega

end z

section dt

variable (hW : ∀ (r : Fin 128) (k : Fin 1024), (V c main_v5 : S128x1024.Idx → EReal) (ix2 r k) = d.wide.W3 r k)
variable (t : Fin cfg1.N)

include hX in
theorem iblk1_0 (r : Fin 2048) (k : Fin 1024) : iblk1 V c 0 t (ix2 r k) = d.X (2048 * t.val + r) k := by
  unfold iblk1
  rw [View.read_apply]
  have hN : t.val < 2 := t.isLt
  refine (congrArg (V c main_arg0 : S4096x1024.Idx → EReal) ?_).trans (hX ⟨2048 * t.val + r, by omega⟩ k)
  funext a
  apply Fin.ext
  match a with
  | ⟨0, _⟩ => show win1_0.index t 0 * 2048 + 1 * r.val = _; rw [idx1_0]; simp; omega
  | ⟨1, _⟩ => show win1_0.index t 1 * 1024 + 1 * k.val = _; rw [idx1_0]; simp

include hW in
theorem iblk1_1 (r : Fin 128) (k : Fin 1024) : iblk1 V c 1 t (ix2 r k) = d.wide.W3 r k := by
  unfold iblk1
  rw [View.read_apply]
  have hN : t.val < 2 := t.isLt
  refine (congrArg (V c main_v5 : S128x1024.Idx → EReal) ?_).trans (hW r k)
  funext a
  apply Fin.ext
  match a with
  | ⟨0, _⟩ => show win1_1.index t 0 * 128 + 1 * r.val = _; rw [idx1_1]; simp
  | ⟨1, _⟩ => show win1_1.index t 1 * 1024 + 1 * k.val = _; rw [idx1_1]; simp

include hX hW in
theorem out_dt (r : Fin 2048) (k : Fin 128) : out1_2 (iblk1 V c 0 t) (iblk1 V c 1 t) (ix2 r k) = d.dt (2048 * t.val + r) k := by
  unfold out1_2
  simp only [View.ld_unit_zero (S := S2048x1024) zeros2, View.ld_unit_zero (S := S128x1024) zeros2]
  refine (congrFun (View.canon_unit_zero (S := S2048x128) zeros2 _ _) _).trans ?_
  exact pay_dt d (iblk1_0 d V c hX t) (iblk1_1 d V c hW t) r k

include hX hW in
theorem final_dt : (dat1 V c).arrAt 2 cfg1.N = resT d := by
  refine (dat1 V c).arrAt_eq_of_cover 2 (resT d) (fun t _ => ?_) fun (i : S4096x128.Idx) => ?_
  · have hN : t.val < 2 := t.isLt
    show (cfg1.win 2).cut (grid1.coords t) ((dat1 V c).after 2 t) = _
    rw [after1_2]
    funext y
    rw [View.read_apply]
    refine (congrArg (out1_2 (iblk1 V c 0 t) (iblk1 V c 1 t)) (?_ : _ = ix2 (y 0) (y 1))).trans ((out_dt d V c hX hW t (y 0) (y 1)).trans ?_)
    · funext a
      match a with
      | ⟨0, _⟩ => rfl
      | ⟨1, _⟩ => rfl
    · refine congrArg₂ d.dt ?_ ?_
      · show _ = win1_2.index t 0 * 2048 + 1 * (y 0).val
        rw [idx1_2]; simp; omega
      · show _ = win1_2.index t 1 * 128 + 1 * (y 1).val
        rw [idx1_2]; simp
  · have h0 : (i 0).val < 4096 := (i 0).isLt
    have h1 : (i 1).val < 128 := (i 1).isLt
    obtain ⟨u, hu⟩ : ∃ u : Fin grid1.N, u.val = (i 0).val / 2048 := ⟨⟨(i 0).val / 2048, by show _ < 2; omega⟩, rfl⟩
    refine ⟨u, flush1_2 _, ?_⟩
    show i ∈ ((View.whole main_v7).slice (win1_2.rect u)).set
    rw [View.set_slice_whole, Rect.mem_set_unit]
    intro a
    match a with
    | ⟨0, _⟩ => show win1_2.index _ 0 * 2048 ≤ (i 0).val ∧ (i 0).val < win1_2.index _ 0 * 2048 + 2048; rw [idx1_2, hu]; simp; omega
    | ⟨1, _⟩ => show win1_2.index _ 1 * 128 ≤ (i 1).val ∧ (i 1).val < win1_2.index _ 1 * 128 + 128; rw [idx1_2]; simp; omega

end dt

end regions

section entries

variable (m : (ℓ : Loc nD τ sig) → Buf (Elt Ideal) ℓ) (ρ : Dev nD → PrngReg) (c : Dev nD)

theorem V1_z : V1 m ρ c main_v2 = InProj.w1H (m ((c : Thread nD τ).loc main_arg1)) := by
  unfold_abbrev_sides
  after_results
  rfl

theorem V1_dt : V1 m ρ c main_v5 = InProj.w3H (m ((c : Thread nD τ).loc main_arg1)) := by
  unfold_abbrev_sides
  after_results
  rfl

variable (hd : d.Fits (m ((c : Thread nD τ).loc main_arg0)) (m ((c : Thread nD τ).loc main_arg1)))

include hd

theorem e1_z (r : Fin 2048) (k : Fin 1024) : (V1 m ρ c main_v2 : S2048x1024.Idx → EReal) (ix2 r k) = d.W k r :=
  (congrFun (V1_z m ρ c) (ix2 r k)).trans (InProj.w1H_eq (d := d.wide) hd.w r k)

theorem e1_x (r : Fin 4096) (k : Fin 1024) : (V1 m ρ c main_arg0 : S4096x1024.Idx → EReal) (ix2 r k) = d.X r k :=
  (congrFun (W1_args m ρ c main_arg0 (by decide)) (ix2 r k)).trans (hd.x r k)

theorem e2_dt (r : Fin 128) (k : Fin 1024) : (V2 m ρ c main_v5 : S128x1024.Idx → EReal) (ix2 r k) = d.wide.W3 r k :=
  (congrFun ((W2_of m ρ c main_v5 (by decide)).trans (V1_dt m ρ c)) (ix2 r k)).trans (InProj.w3H_eq (d := d.wide) hd.w r k)

theorem e2_x (r : Fin 4096) (k : Fin 1024) : (V2 m ρ c main_arg0 : S4096x1024.Idx → EReal) (ix2 r k) = d.X r k :=
  (congrFun (W2_args m ρ c main_arg0 (by decide)) (ix2 r k)).trans (hd.x r k)

theorem end_z : W3 m ρ c (Proc.devRef .tc main_v6) = resZ d :=
  (W3_of m ρ c main_v6 (by decide)).trans ((W2_arr m ρ c 2).trans (final_z d (V1 m ρ) c (e1_x d m ρ c hd) (e1_z d m ρ c hd)))

theorem end_dt : W3 m ρ c (Proc.devRef .tc main_v7) = resT d :=
  (W3_arr m ρ c 2).trans (final_dt d (V2 m ρ) c (e2_x d m ρ c hd) (e2_dt d m ρ c hd))

end entries

set_option backward.isDefEq.respectTransparency.types false in
/-- Every run ends, and the final memory of every device is the last boundary's contents at every reference outside the kernels' scratch. -/
theorem run_last (m : (ℓ : Loc nD τ sig) → Buf (Elt Ideal) ℓ) (ρ : Dev nD → PrngReg) :
    θ_run defs (onTc (τ := τ) (main (F := Ideal))) ⟨m, fun _ => 0, ρ⟩
      (fun r => ∀ c : Dev nD, ∀ b ∈ Pipeline.ucRefs τ sig, r.2.mem (((c : Thread nD τ)).1, b) = W3 m ρ c b) := by
  refine Pipeline.θ_run_regions_kit_sems (pcfgs (F := Ideal)) adm (pdats m ρ) () cellOf_inj emb₁ defs₀ 𝒱₀ L lv m ρ main (segs m ρ)
    (fun c Q => by rw [main_run m ρ c]) ?_ (O₀ := 0) (fun _ _ => rfl) (G := fun _ => iprop(emp))
    (u₀ := initOf (Pipeline.cells cfgs cellOf_inj) (Pipeline.launchToks cfgs cellOf_inj)) ?_
    (T₀ := fun c => iprop(StableHlo.held (c : Thread nD τ) (Pipeline.ucRefs τ sig) (W0 m ρ c) ∗ R c)) (Tₙ := Tₙ m ρ)
    ⟨fun _ => .rfl, fun _ => .rfl, fun _ => .rfl, fun _ => .rfl⟩ ?_
    (QY := fun c s => ∀ b ∈ Pipeline.ucRefs τ sig, s.mem (((c : Thread nD τ)).1, b) = W3 m ρ c b) ?_ (fun s h _ => h)
  · simp only [segs, Pipeline.Seg.pipes_host, Pipeline.Seg.pipes_region, Pipeline.Seg.pipes_nil]
    decide
  · iintro Htok
    imodintro
    isplitl [Htok]
    · iapply (show (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) from .rfl)
      iexact Htok
    · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howe, -, Hreg, -⟩, -⟩
    imodintro
    isplitl [Hbufs]
    · iexact Hbufs
    isplitl [Hreg]
    · iexists _
      iexact Hreg
    · iexists ∅
      iexact Howe
  · intro c s'
    iintro ⟨⟨Hbufs, -⟩, Hst⟩
    unfold StableHlo.held
    imodintro
    iapply (pointsTo_read_all (Pipeline.ucRefs τ sig) (fun b => (((c : Thread nD τ)).1, b)) (W3 m ρ c) s')
    isplitl [Hbufs] <;> iassumption

end Cert.InFwd

end
-- ==== Proof.InFwdRef.lean ====
/- Two groups of columns of the input projection, forward: the reference's results, in the model. -/
module

public import proofs.«01_k».proof.Proof.Gen.Reference7Ideal.Read
public import proofs.«01_k».proof.Proof.InFwd

@[expose] public section

set_option maxRecDepth 16384

noncomputable section

namespace Cert.InFwd.Ref

open Idealize.ShloMosaic Idealize.ShloMosaic.TcCoe Idealize.ShloMosaic.Tactic
open Cert.Reference7Ideal Cert.Reference7Ideal.Gen Cert.Reference7Ideal.Read

variable {d : Data} {x0 : S4096x1024.Idx → EReal} {x1 : S1024x5152.Idx → EReal}
variable (hd : d.Fits x0 x1)
include hd

theorem z_eq (r : Fin 4096) (k : Fin 2048) : val_main_v7 (F := Ideal) x0 x1 (ix2 r k) = d.z r k := by
  pointwise [val_main_v7, val_main_v6, val_main_v5, val_main_v0]
  simp only [hd.x, hd.w]
  simp [Data.z]

theorem dt_eq (r : Fin 4096) (k : Fin 128) : val_main_v4 (F := Ideal) x0 x1 (ix2 r k) = d.dt r k := by
  pointwise [val_main_v4, val_main_v3, val_main_v2, val_main_v1, val_main_v0, val_main_cst]
  unfold Data.dt
  by_cases h : k.val < 32
  · rw [dif_pos (by omega), if_pos h]
    simp only [hd.x, hd.w]
  · rw [dif_neg (by omega), if_neg h]

theorem z_arr : val_main_v7 (F := Ideal) x0 x1 = resZ d := by
  funext y
  have e : y = ix2 (y 0 : Fin 4096) (y 1 : Fin 2048) := funext fun a => match a with | ⟨0, _⟩ => rfl | ⟨1, _⟩ => rfl
  exact (congrArg _ e).trans (z_eq hd (y 0) (y 1))

theorem dt_arr : val_main_v4 (F := Ideal) x0 x1 = resT d := by
  funext y
  have e : y = ix2 (y 0 : Fin 4096) (y 1 : Fin 128) := funext fun a => match a with | ⟨0, _⟩ => rfl | ⟨1, _⟩ => rfl
  exact (congrArg _ e).trans (dt_eq hd (y 0) (y 1))

end Cert.InFwd.Ref

end
-- ==== Proof.OutFwd.lean ====
/- The state-space mixer's output projection, forward: its model, on the extended reals, and the array its kernel ends with. -/
module

public import proofs.«01_k».proof.Proof.Gen.Kernel8Ideal.Value
public import proofs.«01_k».proof.Proof.KernelRead
public import proofs.«01_k».proof.Proof.MlpArgs
public import Idealize.ShloMosaic.Lib.Pipeline.Value

@[expose] public section

set_option maxRecDepth 16384

noncomputable section

namespace Cert.OutFwd

open Idealize.ShloMosaic Idealize.ShloMosaic.TcCoe Idealize.ShloMosaic.Tactic
open Idealize.SL.Sem
open Cert.PoolBwd (zeros2)
open Cert.MlpBwd (ofMat ofMat_eq)
open Cert.Kernel8Ideal Cert.Kernel8Ideal.Gen

/-- The arguments as functions of row and column numbers: the projection's input `Y`, its weight `W`, and the sub-layer's input `H`. -/
structure Data where
  Y : ℕ → ℕ → EReal
  W : ℕ → ℕ → EReal
  H : ℕ → ℕ → EReal

variable (d : Data)

/-- The input plus the projection. -/
def Data.out (t c : ℕ) : EReal := ∑ k : Fin 2048, d.Y t k * d.W k c + d.H t c

/-- The arguments' entries are the model's. -/
structure Data.Fits (x0 : S4096x2048.Idx → EReal) (x1 : S2048x1024.Idx → EReal) (x2 : S4096x1024.Idx → EReal) : Prop where
  y : ∀ r c, x0 (ix2 r c) = d.Y (r : Fin 4096) (c : Fin 2048)
  w : ∀ r c, x1 (ix2 r c) = d.W (r : Fin 2048) (c : Fin 1024)
  h : ∀ r c, x2 (ix2 r c) = d.H (r : Fin 4096) (c : Fin 1024)

/-- The model's numbers of given arguments. -/
def ofArgs (x0 : S4096x2048.Idx → EReal) (x1 : S2048x1024.Idx → EReal) (x2 : S4096x1024.Idx → EReal) : Data where
  Y := ofMat x0
  W := ofMat x1
  H := ofMat x2

theorem fits_ofArgs {x0 : S4096x2048.Idx → EReal} {x1 : S2048x1024.Idx → EReal} {x2 : S4096x1024.Idx → EReal} : (ofArgs x0 x1 x2).Fits x0 x1 x2 :=
  ⟨ofMat_eq x0, ofMat_eq x1, ofMat_eq x2⟩

/-- The result, as an array. -/
def res : S4096x1024.Idx → EReal := fun y => d.out (y 0).val (y 1).val

theorem pay {a : ℕ} {x0 : Vec Ideal S1024x2048 .bf16} {x1 : Vec Ideal S2048x1024 .bf16} {x2 : Vec Ideal S1024x1024 .f32}
    (h0 : ∀ r c, x0 (ix2 r c) = d.Y (1024 * a + (r : Fin 1024)) (c : Fin 2048))
    (h1 : ∀ r c, x1 (ix2 r c) = d.W (r : Fin 2048) (c : Fin 1024))
    (h2 : ∀ r c, x2 (ix2 r c) = d.H (1024 * a + (r : Fin 1024)) (c : Fin 1024)) (r : Fin 1024) (c : Fin 1024) :
    k0_pay1 (F := Ideal) x0 x1 x2 (ix2 r c) = d.out (1024 * a + r) c := by
  pointwise [k0_pay1]
  simp only [h0, h1, h2]
  rfl

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel

variable (m : (ℓ : Loc nD τ sig) → Buf (Elt Ideal) ℓ) (c : Dev nD)

theorem V_w : V m c main_v0 = (fun y => m ((c : Thread nD τ).loc main_arg1) y : S2048x1024.Idx → EReal) := rfl

variable (hd : d.Fits (m ((c : Thread nD τ).loc main_arg0)) (m ((c : Thread nD τ).loc main_arg1)) (m ((c : Thread nD τ).loc main_arg2)))
variable (t : Fin cfg0.N)

include hd

theorem iblk_y (r : Fin 1024) (k : Fin 2048) : iblk m c 0 t (ix2 r k) = d.Y (1024 * t.val + r) k := by
  unfold iblk
  rw [View.read_apply]
  have hN : t.val < 4 := t.isLt
  refine (congrFun (V_main_arg0 m c) _).trans (.trans (congrArg _ ?_) (hd.y ⟨1024 * t.val + r, by omega⟩ k))
  funext a
  apply Fin.ext
  match a with
  | ⟨0, _⟩ => show win0_0.index t 0 * 1024 + 1 * r.val = _; rw [idx0]; simp; omega
  | ⟨1, _⟩ => show win0_0.index t 1 * 2048 + 1 * k.val = _; rw [idx0]; simp

theorem iblk_w (r : Fin 2048) (k : Fin 1024) : iblk m c 1 t (ix2 r k) = d.W r k := by
  unfold iblk
  rw [View.read_apply]
  refine (congrFun (V_w m c) _).trans (.trans (congrArg (m ((c : Thread nD τ).loc main_arg1)) ?_) (hd.w r k))
  funext a
  apply Fin.ext
  match a with
  | ⟨0, _⟩ => show win0_1.index t 0 * 2048 + 1 * r.val = _; rw [idx1]; simp
  | ⟨1, _⟩ => show win0_1.index t 1 * 1024 + 1 * k.val = _; rw [idx1]; simp

theorem iblk_h (r : Fin 1024) (k : Fin 1024) : iblk m c 2 t (ix2 r k) = d.H (1024 * t.val + r) k := by
  unfold iblk
  rw [View.read_apply]
  have hN : t.val < 4 := t.isLt
  refine (congrFun (V_main_arg2 m c) _).trans (.trans (congrArg _ ?_) (hd.h ⟨1024 * t.val + r, by omega⟩ k))
  funext a
  apply Fin.ext
  match a with
  | ⟨0, _⟩ => show win0_2.index t 0 * 1024 + 1 * r.val = _; rw [idx2]; simp; omega
  | ⟨1, _⟩ => show win0_2.index t 1 * 1024 + 1 * k.val = _; rw [idx2]; simp

theorem out_eq (r : Fin 1024) (k : Fin 1024) : out0_3 (iblk m c 0 t) (iblk m c 1 t) (iblk m c 2 t) (ix2 r k) = d.out (1024 * t.val + r) k := by
  unfold out0_3
  simp only [View.ld_unit_zero (S := S1024x2048) zeros2, View.ld_unit_zero (S := S2048x1024) zeros2, View.ld_unit_zero (S := S1024x1024) zeros2]
  refine (congrFun (View.canon_unit_zero (S := S1024x1024) zeros2 _ _) _).trans ?_
  exact pay d (iblk_y d m c hd t) (iblk_w d m c hd t) (iblk_h d m c hd t) r k

/-- The array the kernel ends with. -/
theorem final : (dats m 0 c).arrAt 3 cfg0.N = res d := by
  refine (dats m 0 c).arrAt_eq_of_cover 3 (res d) (fun t _ => ?_) fun (i : S4096x1024.Idx) => ?_
  · have hN : t.val < 4 := t.isLt
    show (cfg0.win 3).cut (grid0.coords t) ((dats m 0 c).after 3 t) = _
    rw [after0_3]
    funext y
    rw [View.read_apply]
    refine (congrArg (out0_3 (iblk m c 0 t) (iblk m c 1 t) (iblk m c 2 t)) (?_ : _ = ix2 (y 0) (y 1))).trans ((out_eq d m c hd t (y 0) (y 1)).trans ?_)
    · funext a
      match a with
      | ⟨0, _⟩ => rfl
      | ⟨1, _⟩ => rfl
    · refine congrArg₂ d.out ?_ ?_
      · show _ = win0_3.index t 0 * 1024 + 1 * (y 0).val
        rw [idx3]; simp; omega
      · show _ = win0_3.index t 1 * 1024 + 1 * (y 1).val
        rw [idx3]; simp
  · have h0 : (i 0).val < 4096 := (i 0).isLt
    have h1 : (i 1).val < 1024 := (i 1).isLt
    obtain ⟨u, hu⟩ : ∃ u : Fin grid0.N, u.val = (i 0).val / 1024 := ⟨⟨(i 0).val / 1024, by show _ < 4; omega⟩, rfl⟩
    refine ⟨u, flush0_3 _, ?_⟩
    show i ∈ ((View.whole main_v1).slice (win0_3.rect u)).set
    rw [View.set_slice_whole, Rect.mem_set_unit]
    intro a
    match a with
    | ⟨0, _⟩ => show win0_3.index _ 0 * 1024 ≤ (i 0).val ∧ (i 0).val < win0_3.index _ 0 * 1024 + 1024; rw [idx3, hu]; simp; omega
    | ⟨1, _⟩ => show win0_3.index _ 1 * 1024 ≤ (i 1).val ∧ (i 1).val < win0_3.index _ 1 * 1024 + 1024; rw [idx3]; simp; omega

end Cert.OutFwd

end
-- ==== Proof.OutFwdRef.lean ====
/- The state-space mixer's output projection, forward: what its reference computes, entry by entry, in the model. -/
module

public import proofs.«01_k».proof.Proof.Gen.Reference8Ideal.Read
public import proofs.«01_k».proof.Proof.OutFwd
public import Idealize.ShloMosaic.Lib.Pointwise

@[expose] public section

set_option maxRecDepth 16384

noncomputable section

namespace Cert.OutFwd.Ref

open Idealize.ShloMosaic Idealize.ShloMosaic.TcCoe Idealize.ShloMosaic.Tactic
open Cert.Reference8Ideal Cert.Reference8Ideal.Gen Cert.Reference8Ideal.Read

variable {d : Data} {x0 : S4096x2048.Idx → EReal} {x1 : S2048x1024.Idx → EReal} {x2 : S4096x1024.Idx → EReal}
variable (hd : d.Fits x0 x1 x2)
include hd

theorem out_eq (r : Fin 4096) (c : Fin 1024) : val_main_v2 (F := Ideal) x0 x1 x2 (ix2 r c) = d.out r c := by
  pointwise [val_main_v2, val_main_v1, val_main_v0]
  simp only [hd.y, hd.w, hd.h]
  exact add_comm _ _

theorem arr : val_main_v2 (F := Ideal) x0 x1 x2 = res d := by
  funext y
  have e : y = ix2 (y 0 : Fin 4096) (y 1 : Fin 1024) := funext fun a => match a with | ⟨0, _⟩ => rfl | ⟨1, _⟩ => rfl
  exact (congrArg _ e).trans (out_eq hd (y 0) (y 1))

end Cert.OutFwd.Ref

end
-- ==== Proof.MlpEnd.lean ====
/- The second product of the first MLP sub-layer, forward: its model, on the extended reals, and the array its kernel ends with. -/
module

public import proofs.«01_k».proof.Proof.Gen.Kernel9Ideal.Value
public import proofs.«01_k».proof.Proof.KernelRead
public import proofs.«01_k».proof.Proof.MlpArgs
public import Idealize.ShloMosaic.Lib.Pipeline.Value

@[expose] public section

set_option maxRecDepth 16384

noncomputable section

namespace Cert.MlpEnd

open Idealize.ShloMosaic Idealize.ShloMosaic.TcCoe Idealize.ShloMosaic.Tactic
open Idealize.SL.Sem
open Cert.PoolBwd (zeros2)
open Cert.MlpBwd (ofMat ofMat_eq)
open Cert.Kernel9Ideal Cert.Kernel9Ideal.Gen

/-- The arguments as functions of row and column numbers: the first product `U`, the second weight `W`, and the sub-layer's input `H`. -/
structure Data where
  U : ℕ → ℕ → EReal
  W : ℕ → ℕ → EReal
  H : ℕ → ℕ → EReal

variable (d : Data)

/-- The squared ReLU of the first product. -/
def Data.act (t k : ℕ) : EReal := max (d.U t k) 0 * max (d.U t k) 0

/-- The input plus the product of the squared ReLU with the weight. -/
def Data.out (t c : ℕ) : EReal := ∑ k : Fin 4096, d.act t k * d.W k c + d.H t c

/-- The arguments' entries are the model's. -/
structure Data.Fits (x0 : S4096x4096.Idx → EReal) (x1 : S4096x1024.Idx → EReal) (x2 : S4096x1024.Idx → EReal) : Prop where
  u : ∀ r c, x0 (ix2 r c) = d.U (r : Fin 4096) (c : Fin 4096)
  w : ∀ r c, x1 (ix2 r c) = d.W (r : Fin 4096) (c : Fin 1024)
  h : ∀ r c, x2 (ix2 r c) = d.H (r : Fin 4096) (c : Fin 1024)

/-- The model's numbers of given arguments. -/
def ofArgs (x0 : S4096x4096.Idx → EReal) (x1 : S4096x1024.Idx → EReal) (x2 : S4096x1024.Idx → EReal) : Data where
  U := ofMat x0
  W := ofMat x1
  H := ofMat x2

theorem fits_ofArgs {x0 : S4096x4096.Idx → EReal} {x1 : S4096x1024.Idx → EReal} {x2 : S4096x1024.Idx → EReal} : (ofArgs x0 x1 x2).Fits x0 x1 x2 :=
  ⟨ofMat_eq x0, ofMat_eq x1, ofMat_eq x2⟩

/-- The result, as an array. -/
def res : S4096x1024.Idx → EReal := fun y => d.out (y 0).val (y 1).val

theorem pay {a : ℕ} {x0 : Vec Ideal S512x4096 .bf16} {x1 : Vec Ideal S4096x1024 .bf16} {x2 : Vec Ideal S512x1024 .f32}
    (h0 : ∀ r c, x0 (ix2 r c) = d.U (512 * a + (r : Fin 512)) (c : Fin 4096))
    (h1 : ∀ r c, x1 (ix2 r c) = d.W (r : Fin 4096) (c : Fin 1024))
    (h2 : ∀ r c, x2 (ix2 r c) = d.H (512 * a + (r : Fin 512)) (c : Fin 1024)) (r : Fin 512) (c : Fin 1024) :
    k0_pay1 (F := Ideal) x0 x1 x2 (ix2 r c) = d.out (512 * a + r) c := by
  pointwise [k0_pay1]
  simp only [h0, h1, h2, Ideal.ofBits_zero_bf16]
  rfl

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel

variable (m : (ℓ : Loc nD τ sig) → Buf (Elt Ideal) ℓ) (c : Dev nD)

theorem V_w : V m c main_v0 = (fun y => m ((c : Thread nD τ).loc main_arg1) y : S4096x1024.Idx → EReal) := rfl

variable (hd : d.Fits (m ((c : Thread nD τ).loc main_arg0)) (m ((c : Thread nD τ).loc main_arg1)) (m ((c : Thread nD τ).loc main_arg2)))
variable (t : Fin cfg0.N)

include hd

theorem iblk_u (r : Fin 512) (k : Fin 4096) : iblk m c 0 t (ix2 r k) = d.U (512 * t.val + r) k := by
  unfold iblk
  rw [View.read_apply]
  have hN : t.val < 8 := t.isLt
  refine (congrFun (V_main_arg0 m c) _).trans (.trans (congrArg _ ?_) (hd.u ⟨512 * t.val + r, by omega⟩ k))
  funext a
  apply Fin.ext
  match a with
  | ⟨0, _⟩ => show win0_0.index t 0 * 512 + 1 * r.val = _; rw [idx0]; simp; omega
  | ⟨1, _⟩ => show win0_0.index t 1 * 4096 + 1 * k.val = _; rw [idx0]; simp

theorem iblk_w (r : Fin 4096) (k : Fin 1024) : iblk m c 1 t (ix2 r k) = d.W r k := by
  unfold iblk
  rw [View.read_apply]
  refine (congrFun (V_w m c) _).trans (.trans (congrArg (m ((c : Thread nD τ).loc main_arg1)) ?_) (hd.w r k))
  funext a
  apply Fin.ext
  match a with
  | ⟨0, _⟩ => show win0_1.index t 0 * 4096 + 1 * r.val = _; rw [idx1]; simp
  | ⟨1, _⟩ => show win0_1.index t 1 * 1024 + 1 * k.val = _; rw [idx1]; simp

theorem iblk_h (r : Fin 512) (k : Fin 1024) : iblk m c 2 t (ix2 r k) = d.H (512 * t.val + r) k := by
  unfold iblk
  rw [View.read_apply]
  have hN : t.val < 8 := t.isLt
  refine (congrFun (V_main_arg2 m c) _).trans (.trans (congrArg _ ?_) (hd.h ⟨512 * t.val + r, by omega⟩ k))
  funext a
  apply Fin.ext
  match a with
  | ⟨0, _⟩ => show win0_2.index t 0 * 512 + 1 * r.val = _; rw [idx2]; simp; omega
  | ⟨1, _⟩ => show win0_2.index t 1 * 1024 + 1 * k.val = _; rw [idx2]; simp

theorem out_eq (r : Fin 512) (k : Fin 1024) : out0_3 (iblk m c 0 t) (iblk m c 1 t) (iblk m c 2 t) (ix2 r k) = d.out (512 * t.val + r) k := by
  unfold out0_3
  simp only [View.ld_unit_zero (S := S512x4096) zeros2, View.ld_unit_zero (S := S4096x1024) zeros2, View.ld_unit_zero (S := S512x1024) zeros2]
  refine (congrFun (View.canon_unit_zero (S := S512x1024) zeros2 _ _) _).trans ?_
  exact pay d (iblk_u d m c hd t) (iblk_w d m c hd t) (iblk_h d m c hd t) r k

/-- The array the kernel ends with. -/
theorem final : (dats m 0 c).arrAt 3 cfg0.N = res d := by
  refine (dats m 0 c).arrAt_eq_of_cover 3 (res d) (fun t _ => ?_) fun (i : S4096x1024.Idx) => ?_
  · have hN : t.val < 8 := t.isLt
    show (cfg0.win 3).cut (grid0.coords t) ((dats m 0 c).after 3 t) = _
    rw [after0_3]
    funext y
    rw [View.read_apply]
    refine (congrArg (out0_3 (iblk m c 0 t) (iblk m c 1 t) (iblk m c 2 t)) (?_ : _ = ix2 (y 0) (y 1))).trans ((out_eq d m c hd t (y 0) (y 1)).trans ?_)
    · funext a
      match a with
      | ⟨0, _⟩ => rfl
      | ⟨1, _⟩ => rfl
    · refine congrArg₂ d.out ?_ ?_
      · show _ = win0_3.index t 0 * 512 + 1 * (y 0).val
        rw [idx3]; simp; omega
      · show _ = win0_3.index t 1 * 1024 + 1 * (y 1).val
        rw [idx3]; simp
  · have h0 : (i 0).val < 4096 := (i 0).isLt
    have h1 : (i 1).val < 1024 := (i 1).isLt
    obtain ⟨u, hu⟩ : ∃ u : Fin grid0.N, u.val = (i 0).val / 512 := ⟨⟨(i 0).val / 512, by show _ < 8; omega⟩, rfl⟩
    refine ⟨u, flush0_3 _, ?_⟩
    show i ∈ ((View.whole main_v1).slice (win0_3.rect u)).set
    rw [View.set_slice_whole, Rect.mem_set_unit]
    intro a
    match a with
    | ⟨0, _⟩ => show win0_3.index _ 0 * 512 ≤ (i 0).val ∧ (i 0).val < win0_3.index _ 0 * 512 + 512; rw [idx3, hu]; simp; omega
    | ⟨1, _⟩ => show win0_3.index _ 1 * 1024 ≤ (i 1).val ∧ (i 1).val < win0_3.index _ 1 * 1024 + 1024; rw [idx3]; simp; omega

end Cert.MlpEnd

end
-- ==== Proof.MlpEndRef.lean ====
/- The second product of the first MLP sub-layer, forward: what its reference computes, entry by entry, in the model. -/
module

public import proofs.«01_k».proof.Proof.Gen.Reference9Ideal.Read
public import proofs.«01_k».proof.Proof.MlpEnd
public import Idealize.ShloMosaic.Lib.Pointwise

@[expose] public section

set_option maxRecDepth 16384

noncomputable section

namespace Cert.MlpEnd.Ref

open Idealize.ShloMosaic Idealize.ShloMosaic.TcCoe Idealize.ShloMosaic.Tactic
open Cert.Reference9Ideal Cert.Reference9Ideal.Gen Cert.Reference9Ideal.Read

variable {d : Data} {x0 : S4096x4096.Idx → EReal} {x1 : S4096x1024.Idx → EReal} {x2 : S4096x1024.Idx → EReal}
variable (hd : d.Fits x0 x1 x2)
include hd

theorem out_eq (r : Fin 4096) (c : Fin 1024) : val_main_v4 (F := Ideal) x0 x1 x2 (ix2 r c) = d.out r c := by
  pointwise [val_main_v4, val_main_v3, val_main_v2, val_main_v1, val_main_v0, val_main_call0_v0, val_main_call0_cst]
  simp only [hd.u, hd.w, hd.h, Ideal.ofBits_zero_f32]
  exact add_comm _ _

theorem arr : val_main_v4 (F := Ideal) x0 x1 x2 = res d := by
  funext y
  have e : y = ix2 (y 0 : Fin 4096) (y 1 : Fin 1024) := funext fun a => match a with | ⟨0, _⟩ => rfl | ⟨1, _⟩ => rfl
  exact (congrArg _ e).trans (out_eq hd (y 0) (y 1))

end Cert.MlpEnd.Ref

end
-- ==== Proof.lean ====
/- The certificate: the frames, and the algebraic claims, each from a kernel program's and a reference's arrays, both equal to a model's: the pooling
   mixer's gradient first, then the MLP sub-layer's, then those of the state-space mixer's input and output projections, then the gate's, then the loss head, and last
   the forward products of the two projections and of the MLP. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.UpSame
public import proofs.«01_k».proof.Proof.UpFwdRef
public import proofs.«01_k».proof.Proof.MidFwdRef
public import proofs.«01_k».proof.Proof.GateFwdRef
public import proofs.«01_k».proof.Proof.AdamW
public import proofs.«01_k».proof.Proof.KernelFinal
public import proofs.«01_k».proof.Proof.RefRead
public import proofs.«01_k».proof.Proof.Pre
public import proofs.«01_k».proof.Proof.MlpRun
public import proofs.«01_k».proof.Proof.MlpRef
public import proofs.«01_k».proof.Proof.MlpArgs
public import Idealize.ShloMosaic.Lib.Quiescent
public import Idealize.ShloMosaic.Adequacy
public import Idealize.ShloMosaic.Init
public import proofs.«01_k».proof.Proof.InProjRun
public import proofs.«01_k».proof.Proof.InProjRef
public import proofs.«01_k».proof.Proof.OutProjRef
public import proofs.«01_k».proof.Proof.GateRun
public import proofs.«01_k».proof.Proof.GateRef
public import proofs.«01_k».proof.Proof.GatePre
public import proofs.«01_k».proof.Proof.LossHeadRun
public import proofs.«01_k».proof.Proof.LossHeadRef
public import proofs.«01_k».proof.Proof.InFwdRef
public import proofs.«01_k».proof.Proof.OutFwdRef
public import proofs.«01_k».proof.Proof.MlpEndRef

@[expose] public section

noncomputable section

namespace Cert.Proof

open Idealize.ShloMosaic Idealize.ShloMosaic.TcCoe Idealize.SL.Sem Cert.PoolBwd

/-- Under the precondition the arguments are the model's numbers. -/
theorem fits (x : Cert.KernelIdeal.S4096x1024.Idx → EReal) (g : Cert.KernelIdeal.S1x1024.Idx → EReal) (w : Cert.KernelIdeal.S4x256x256.Idx → EReal)
    (b s : Cert.KernelIdeal.S1x1024.Idx → EReal) (dh : Cert.KernelIdeal.S4096x1024.Idx → EReal)
    (h : Cert.Pre_finite.fn (F := Ideal) x g w b s dh = fun _ => 1#1) : (ofArgs x g w b s dh).Fits x g w b s dh := by
  obtain ⟨hx, hg, hw, hs, hdh⟩ := pre_real x g w b s dh h
  refine ⟨fun r c => ?_, fun c => ?_, fun k j o => ?_, fun c => ?_, fun c => ?_, fun r c => ?_⟩
  · show _ = (((if h : r.val < 4096 ∧ c.val < 1024 then (x (ix2 ⟨r, h.1⟩ ⟨c, h.2⟩)).toReal else 0 : ℝ)) : EReal)
    rw [dif_pos ⟨r.isLt, c.isLt⟩]; exact (hx _).symm
  · show _ = (((if h : c.val < 1024 then (g (ix2 0 ⟨c, h⟩)).toReal else 0 : ℝ)) : EReal)
    rw [dif_pos c.isLt]; exact (hg _).symm
  · show _ = (((if h : k.val < 4 ∧ j.val < 256 ∧ o.val < 256 then (w (ix3 ⟨k, h.1⟩ ⟨j, h.2.1⟩ ⟨o, h.2.2⟩)).toReal else 0 : ℝ)) : EReal)
    rw [dif_pos ⟨k.isLt, j.isLt, o.isLt⟩]; exact (hw _).symm
  · show _ = if h : c.val < 1024 then b (ix2 0 ⟨c, h⟩) else 0
    rw [dif_pos c.isLt]
  · show _ = (((if h : c.val < 1024 then (s (ix2 0 ⟨c, h⟩)).toReal else 0 : ℝ)) : EReal)
    rw [dif_pos c.isLt]; exact (hs _).symm
  · show _ = (((if h : r.val < 4096 ∧ c.val < 1024 then (dh (ix2 ⟨r, h.1⟩ ⟨c, h.2⟩)).toReal else 0 : ℝ)) : EReal)
    rw [dif_pos ⟨r.isLt, c.isLt⟩]; exact (hdh _).symm

theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_ref_finite : Cert.quiescent_ReferenceIdeal_pre_finite := fun m ρ _ => frame_ref m ρ trivial

/-- The reference's three arrays are the model's. -/
theorem ref7 (d : Data) {x0 x5 : Cert.ReferenceIdeal.S4096x1024.Idx → EReal} {x1 x3 x4 : Cert.ReferenceIdeal.S1x1024.Idx → EReal}
    {x2 : Cert.ReferenceIdeal.S4x256x256.Idx → EReal} (hd : d.RefFits x0 x1 x2 x3 x4 x5) :
    Cert.ReferenceIdeal.Read.val_main_v223 (F := Ideal) x0 x1 x2 x4 x5 = res7 d := by
  funext y
  have e : y = ix2 (y 0 : Fin 4096) (y 1 : Fin 1024) := funext fun a => match a with | ⟨0, _⟩ => rfl | ⟨1, _⟩ => rfl
  exact (congrArg _ e).trans (Ref.dx_eq hd (y 0) (y 1))

theorem ref8 (d : Data) {x0 x5 : Cert.ReferenceIdeal.S4096x1024.Idx → EReal} {x1 x3 x4 : Cert.ReferenceIdeal.S1x1024.Idx → EReal}
    {x2 : Cert.ReferenceIdeal.S4x256x256.Idx → EReal} (hd : d.RefFits x0 x1 x2 x3 x4 x5) :
    Cert.ReferenceIdeal.Read.val_main_v149 (F := Ideal) x0 x1 x4 x5 = res8 d := by
  funext y
  have e : y = ix3 (y 0 : Fin 4) (y 1 : Fin 256) (y 2 : Fin 256) := funext fun a => match a with | ⟨0, _⟩ => rfl | ⟨1, _⟩ => rfl | ⟨2, _⟩ => rfl
  exact (congrArg _ e).trans (Ref.dw_eq hd (y 0) (y 1) (y 2))

theorem ref9 (d : Data) {x0 x5 : Cert.ReferenceIdeal.S4096x1024.Idx → EReal} {x1 x3 x4 : Cert.ReferenceIdeal.S1x1024.Idx → EReal}
    {x2 : Cert.ReferenceIdeal.S4x256x256.Idx → EReal} (hd : d.RefFits x0 x1 x2 x3 x4 x5) :
    Cert.ReferenceIdeal.Read.val_main_v225 (F := Ideal) x0 x1 x2 x3 x4 x5 = res9 d := by
  funext y
  have e : y = ix2 (y 0 : Fin 8) (y 1 : Fin 1024) := funext fun a => match a with | ⟨0, _⟩ => rfl | ⟨1, _⟩ => rfl
  exact (congrArg _ e).trans (Ref.small_eq hd (y 0) (y 1))

theorem algebraic : Cert.algebraic_KernelIdeal_ReferenceIdeal_pre_finite := by
  intro m ρ m' ρ' hpre hagree
  obtain ⟨d, hfit⟩ : ∃ d : Dev Cert.KernelIdeal.nD → Data, ∀ c, (d c).Fits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) :=
    ⟨_, fun c => fits _ _ _ _ _ _ (hpre c)⟩
  refine ⟨fun c => res7 (d c), fun c => res8 (d c), fun c => res9 (d c), ?_, ?_⟩
  · refine (θ_run Cert.KernelIdeal.defs _ _).mono (fun _ h c => ?_) (Cert.KernelIdeal.Value.run_blocks (F := Ideal) m ρ)
    exact ⟨(h c).1.trans (final7 m c _ (hfit c)), (h c).2.1.trans (final8 m c _ (hfit c)), (h c).2.2.1.trans (final9 m c _ (hfit c)), (h c).2.2.2⟩
  · refine (θ_run Cert.ReferenceIdeal.defs _ _).mono (fun _ h c => ?_) (Cert.ReferenceIdeal.Value.run (F := Ideal) m' ρ')
    have hf := hfit c
    obtain ⟨a0, a1, a2, a3, a4, a5⟩ := hagree c
    have hr : (d c).RefFits (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) := by
      rw [a0, a1, a2, a3, a4, a5]
      exact ⟨hf.x, hf.g, hf.w, hf.b, hf.s, hf.dh⟩
    refine ⟨(h c).1.trans ?_, (h c).2.1.trans ?_, (h c).2.2.1.trans ?_, (h c).2.2.2⟩
    · exact (Cert.ReferenceIdeal.Read.val_main_v223_eq (F := Ideal) (StableHlo.launchContents m' c)).trans (ref7 _ hr)
    · exact (Cert.ReferenceIdeal.Read.val_main_v149_eq (F := Ideal) (StableHlo.launchContents m' c)).trans (ref8 _ hr)
    · exact (Cert.ReferenceIdeal.Read.val_main_v225_eq (F := Ideal) (StableHlo.launchContents m' c)).trans (ref9 _ hr)

/-- The MLP sub-layer's arguments are its model's entries. -/
theorem mlp_fits (h : Cert.Kernel2Ideal.S4096x1024.Idx → EReal) (g : Cert.Kernel2Ideal.S1x1024.Idx → EReal) (w1 : Cert.Kernel2Ideal.S1024x4096.Idx → EReal)
    (w2 dh : Cert.Kernel2Ideal.S4096x1024.Idx → EReal) : (MlpBwd.ofArgs h g w1 w2 dh).Fits h g w1 w2 dh :=
  ⟨MlpBwd.ofMat_eq h, MlpBwd.ofMat_eq g 0, MlpBwd.ofMat_eq w1, MlpBwd.ofMat_eq w2, MlpBwd.ofMat_eq dh⟩

theorem frame_ref2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

section mlp

variable (d : MlpBwd.Data) {x0 x3 x4 : Cert.Reference2Ideal.S4096x1024.Idx → EReal} {x1 : Cert.Reference2Ideal.S1x1024.Idx → EReal}
  {x2 : Cert.Reference2Ideal.S1024x4096.Idx → EReal} (hd : MlpBwd.Ref.Fits d x0 x1 x2 x3 x4)

include hd

/-- The reference's five arrays are the model's. -/
theorem mlp_dx : Cert.Reference2Ideal.Read.val_main_v54 (F := Ideal) x0 x1 x2 x3 x4 = MlpBwd.resX d := by
  funext y
  have e : y = ix2 (y 0 : Fin 4096) (y 1 : Fin 1024) := funext fun a => match a with | ⟨0, _⟩ => rfl | ⟨1, _⟩ => rfl
  exact (congrArg _ e).trans (MlpBwd.Ref.dx_eq hd (y 0) (y 1))

theorem mlp_dx16 : Cert.Reference2Ideal.Read.val_main_v57 (F := Ideal) x0 x1 x2 x3 x4 = MlpBwd.resX d := by
  funext y
  have e : y = ix2 (y 0 : Fin 4096) (y 1 : Fin 1024) := funext fun a => match a with | ⟨0, _⟩ => rfl | ⟨1, _⟩ => rfl
  exact (congrArg _ e).trans (MlpBwd.Ref.dx16_eq hd (y 0) (y 1))

theorem mlp_dw1 : Cert.Reference2Ideal.Read.val_main_v56 (F := Ideal) x0 x1 x2 x3 x4 = MlpBwd.resW1 d := by
  funext y
  have e : y = ix3 (y 0 : Fin 4) (y 1 : Fin 1024) (y 2 : Fin 1024) := funext fun a => match a with | ⟨0, _⟩ => rfl | ⟨1, _⟩ => rfl | ⟨2, _⟩ => rfl
  exact (congrArg _ e).trans (MlpBwd.Ref.dw1_eq hd (y 0) (y 1) (y 2))

theorem mlp_dw2 : Cert.Reference2Ideal.Read.val_main_v25 (F := Ideal) x0 x1 x2 x4 = MlpBwd.resW2 d := by
  funext y
  have e : y = ix2 (y 0 : Fin 4096) (y 1 : Fin 1024) := funext fun a => match a with | ⟨0, _⟩ => rfl | ⟨1, _⟩ => rfl
  exact (congrArg _ e).trans (MlpBwd.Ref.dw2_eq hd (y 0) (y 1))

theorem mlp_small : Cert.Reference2Ideal.Read.val_main_v59 (F := Ideal) x0 x1 x2 x3 x4 = MlpBwd.resG d := by
  funext y
  have e : y = ix2 (y 0 : Fin 8) (y 1 : Fin 1024) := funext fun a => match a with | ⟨0, _⟩ => rfl | ⟨1, _⟩ => rfl
  exact (congrArg _ e).trans (MlpBwd.Ref.small_eq hd (y 0) (y 1))

end mlp

theorem algebraic2 : Cert.algebraic_Kernel2Ideal_Reference2Ideal := by
  intro m ρ m' ρ' _ hagree
  obtain ⟨d, hfit⟩ : ∃ d : Dev Cert.Kernel2Ideal.nD → MlpBwd.Data, ∀ c, (d c).Fits (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)) :=
    ⟨_, fun c => mlp_fits _ _ _ _ _⟩
  refine ⟨fun c => MlpBwd.resX (d c), fun c => MlpBwd.resX (d c), fun c => MlpBwd.resW1 (d c), fun c => MlpBwd.resW2 (d c), fun c => MlpBwd.resG (d c), ?_, ?_⟩
  · refine (θ_run Cert.Kernel2Ideal.defs _ _).mono (fun _ h c => ?_) (MlpBwd.run_last m ρ)
    have at_end (b : Ref Cert.Kernel2Ideal.sig .tc) (hb : ¬(Proc.devRef .tc b : DevRef Cert.Kernel2Ideal.τ Cert.Kernel2Ideal.sig).isScoped) :=
      h c _ (Cert.Kernel2Ideal.Gen.mem_uc b hb)
    exact ⟨(at_end _ (by decide)).trans (MlpBwd.end_dx m ρ c _ (hfit c)), (at_end _ (by decide)).trans (MlpBwd.end_dx16 m ρ c _ (hfit c)),
      (at_end _ (by decide)).trans (MlpBwd.end_dw1 m ρ c _ (hfit c)), (at_end _ (by decide)).trans (MlpBwd.end_dw2 m ρ c _ (hfit c)),
      (at_end _ (by decide)).trans (MlpBwd.end_small m ρ c _ (hfit c)),
      (at_end _ (by decide)).trans (Cert.Kernel2Ideal.Gen.W5_main_arg0 m ρ c), (at_end _ (by decide)).trans (Cert.Kernel2Ideal.Gen.W5_main_arg1 m ρ c),
      (at_end _ (by decide)).trans (Cert.Kernel2Ideal.Gen.W5_main_arg2 m ρ c), (at_end _ (by decide)).trans (Cert.Kernel2Ideal.Gen.W5_main_arg3 m ρ c),
      (at_end _ (by decide)).trans (Cert.Kernel2Ideal.Gen.W5_main_arg4 m ρ c)⟩
  · refine (θ_run Cert.Reference2Ideal.defs _ _).mono (fun _ h c => ?_) (Cert.Reference2Ideal.Value.run (F := Ideal) m' ρ')
    have hf := hfit c
    obtain ⟨a0, a1, a2, a3, a4⟩ := hagree c
    have hr : MlpBwd.Ref.Fits (d c) (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4)) := by
      rw [a0, a1, a2, a3, a4]
      exact ⟨hf.h, hf.g, hf.w1, hf.w2, hf.dh⟩
    refine ⟨(h c).1.trans ?_, (h c).2.1.trans ?_, (h c).2.2.1.trans ?_, (h c).2.2.2.1.trans ?_, (h c).2.2.2.2.1.trans ?_, (h c).2.2.2.2.2⟩
    · exact (Cert.Reference2Ideal.Read.val_main_v54_eq (F := Ideal) m' c).trans (mlp_dx _ hr)
    · exact (Cert.Reference2Ideal.Read.val_main_v57_eq (F := Ideal) m' c).trans (mlp_dx16 _ hr)
    · exact (Cert.Reference2Ideal.Read.val_main_v56_eq (F := Ideal) _ _ _ _ _).trans (mlp_dw1 _ hr)
    · exact (Cert.Reference2Ideal.Read.val_main_v25_eq (F := Ideal) _ _ _ _).trans (mlp_dw2 _ hr)
    · exact (Cert.Reference2Ideal.Read.val_main_v59_eq (F := Ideal) _ _ _ _ _).trans (mlp_small _ hr)

theorem frame_ref3 : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

theorem algebraic3 : Cert.algebraic_Kernel3Ideal_Reference3Ideal := by
  intro m ρ m' ρ' _ hagree
  obtain ⟨d, hfit⟩ : ∃ d : Dev Cert.Kernel3Ideal.nD → InProj.Data, ∀ c, (d c).Fits (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)) :=
    ⟨_, fun c => InProj.Ref.fits_ofArgs⟩
  refine ⟨fun c => InProj.resX (d c), fun c => InProj.resX (d c), fun c => InProj.resW1 (d c), fun c => InProj.resW2 (d c), fun c => InProj.resW3 (d c), fun c => InProj.resG (d c), ?_, ?_⟩
  · refine (θ_run Cert.Kernel3Ideal.defs _ _).mono (fun _ h c => ?_) (InProj.run_last m ρ)
    have at_end (b : Ref Cert.Kernel3Ideal.sig .tc) (hb : ¬(Proc.devRef .tc b : DevRef Cert.Kernel3Ideal.τ Cert.Kernel3Ideal.sig).isScoped) :=
      h c _ (Cert.Kernel3Ideal.Gen.mem_uc b hb)
    exact ⟨(at_end _ (by decide)).trans (InProj.end_dx m ρ c _ (hfit c)),
      (at_end _ (by decide)).trans (InProj.end_dx16 m ρ c _ (hfit c)),
      (at_end _ (by decide)).trans (InProj.end_dw1 m ρ c _ (hfit c)),
      (at_end _ (by decide)).trans (InProj.end_dw2 m ρ c _ (hfit c)),
      (at_end _ (by decide)).trans (InProj.end_dw3 m ρ c _ (hfit c)),
      (at_end _ (by decide)).trans (InProj.end_small m ρ c _ (hfit c)),
      (at_end _ (by decide)).trans (Cert.Kernel3Ideal.Gen.W5_main_arg0 m ρ c),
      (at_end _ (by decide)).trans (Cert.Kernel3Ideal.Gen.W5_main_arg1 m ρ c),
      (at_end _ (by decide)).trans (Cert.Kernel3Ideal.Gen.W5_main_arg2 m ρ c),
      (at_end _ (by decide)).trans (Cert.Kernel3Ideal.Gen.W5_main_arg3 m ρ c),
      (at_end _ (by decide)).trans (Cert.Kernel3Ideal.Gen.W5_main_arg4 m ρ c),
      (at_end _ (by decide)).trans (Cert.Kernel3Ideal.Gen.W5_main_arg5 m ρ c),
      (at_end _ (by decide)).trans (Cert.Kernel3Ideal.Gen.W5_main_arg6 m ρ c)⟩
  · refine (θ_run Cert.Reference3Ideal.defs _ _).mono (fun _ h c => ?_) (Cert.Reference3Ideal.Value.run (F := Ideal) m' ρ')
    obtain ⟨a0, a1, a2, a3, a4, a5, a6⟩ := hagree c
    have hr : (d c).Fits (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4))
        (m' ((c.tc : Thread Cert.Reference3Ideal.nD Cert.Reference3Ideal.τ).loc Cert.Reference3Ideal.main_arg5))
        (m' ((c.tc : Thread Cert.Reference3Ideal.nD Cert.Reference3Ideal.τ).loc Cert.Reference3Ideal.main_arg6)) := by
      rw [a0, a1, a2, a3, a4, a5, a6]
      exact hfit c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · exact (Cert.Reference3Ideal.Read.val_main_v41_eq (F := Ideal) m' c).trans (InProj.Ref.dx_arr hr)
    · exact (Cert.Reference3Ideal.Read.val_main_v48_eq (F := Ideal) m' c).trans (InProj.Ref.dx16_arr hr)
    · exact (Cert.Reference3Ideal.Read.val_main_v49_eq (F := Ideal) _ _ _ _ _).trans (InProj.Ref.dw1_arr hr)
    · exact (Cert.Reference3Ideal.Read.val_main_v50_eq (F := Ideal) _ _ _ _ _).trans (InProj.Ref.dw2_arr hr)
    · exact (Cert.Reference3Ideal.Read.val_main_v45_eq (F := Ideal) _ _ _ _ _).trans (InProj.Ref.dw3_arr hr)
    · exact (Cert.Reference3Ideal.Read.val_main_v47_eq (F := Ideal) _ _ _ _ _).trans (InProj.Ref.small_arr hr)

theorem frame_ref4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic4 : Cert.algebraic_Kernel4Ideal_Reference4Ideal := by
  intro m ρ m' ρ' _ hagree
  obtain ⟨d, hfit⟩ : ∃ d : Dev Cert.Kernel4Ideal.nD → OutProj.Data, ∀ c, (d c).Fits (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)) :=
    ⟨_, fun c => OutProj.Ref.fits_ofArgs⟩
  refine ⟨fun c => OutProj.resY (d c), fun c => OutProj.resW (d c), ?_, ?_⟩
  · refine (θ_run Cert.Kernel4Ideal.defs _ _).mono (fun _ h c => ?_) (OutProj.run_last m ρ)
    have at_end (b : Ref Cert.Kernel4Ideal.sig .tc) (hb : ¬(Proc.devRef .tc b : DevRef Cert.Kernel4Ideal.τ Cert.Kernel4Ideal.sig).isScoped) :=
      h c _ (Cert.Kernel4Ideal.Gen.mem_uc b hb)
    exact ⟨(at_end _ (by decide)).trans (OutProj.end_dyn (d c) m ρ c (hfit c)),
      (at_end _ (by decide)).trans (OutProj.end_dw (d c) m ρ c (hfit c)),
      (at_end _ (by decide)).trans (Cert.Kernel4Ideal.Gen.W3_main_arg0 m ρ c),
      (at_end _ (by decide)).trans (Cert.Kernel4Ideal.Gen.W3_main_arg1 m ρ c),
      (at_end _ (by decide)).trans (Cert.Kernel4Ideal.Gen.W3_main_arg2 m ρ c)⟩
  · refine (θ_run Cert.Reference4Ideal.defs _ _).mono (fun _ h c => ?_) (Cert.Reference4Ideal.Value.run (F := Ideal) m' ρ')
    obtain ⟨a0, a1, a2⟩ := hagree c
    have hr : (d c).Fits (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2)) := by
      rw [a0, a1, a2]
      exact hfit c
    refine ⟨(h c).1.trans ?_, (h c).2.1.trans ?_, (h c).2.2⟩
    · exact (Cert.Reference4Ideal.Read.val_main_v5_eq (F := Ideal) _ _).trans (OutProj.Ref.dyn_arr hr)
    · exact (Cert.Reference4Ideal.Read.val_main_v3_eq (F := Ideal) _ _).trans (OutProj.Ref.dw_arr hr)

theorem frame_ref5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem frame_ref5_finite : Cert.quiescent_Reference5Ideal_pre_finite5 := fun m ρ _ => frame_ref5 m ρ trivial

theorem algebraic5 : Cert.algebraic_Kernel5Ideal_Reference5Ideal_pre_finite5 := by
  intro m ρ m' ρ' hpre hagree
  obtain ⟨d, hfit⟩ : ∃ d : Dev Cert.Kernel5Ideal.nD → Gate.Data, ∀ c, (d c).Fits (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3)) :=
    ⟨_, fun c => Gate.fits_ofArgs⟩
  refine ⟨fun c => Gate.resY (d c), fun c => Gate.resZ (d c), fun c => Gate.resG (d c), ?_, ?_⟩
  · refine (θ_run Cert.Kernel5Ideal.defs _ _).mono (fun _ h c => ?_) (Cert.Kernel5Ideal.Value.run_blocks (F := Ideal) m ρ)
    exact ⟨(h c).1.trans (Gate.final_dy (d c) m c (hfit c)),
      (h c).2.1.trans (Gate.final_dz (d c) m c (hfit c)),
      (h c).2.2.1.trans (Gate.final_small (d c) m c (hfit c)), (h c).2.2.2⟩
  · refine (θ_run Cert.Reference5Ideal.defs _ _).mono (fun _ h c => ?_) (Cert.Reference5Ideal.Value.run (F := Ideal) m' ρ')
    obtain ⟨hD, hG⟩ := Gate.pre_real _ _ _ _ (hpre c)
    obtain ⟨a0, a1, a2, a3⟩ := hagree c
    have hr : (d c).Fits (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
        (m' ((c.tc : Thread Cert.Reference5Ideal.nD Cert.Reference5Ideal.τ).loc Cert.Reference5Ideal.main_arg3)) := by
      rw [a0, a1, a2, a3]
      exact hfit c
    rw [← a0] at hD
    rw [← a3] at hG
    refine ⟨(h c).1.trans ?_, (h c).2.1.trans ?_, (h c).2.2.1.trans ?_, (h c).2.2.2⟩
    · exact (Cert.Reference5Ideal.Read.val_main_v46_eq (F := Ideal) m' c).trans (Gate.Ref.dy_arr hr)
    · exact (Cert.Reference5Ideal.Read.val_main_v47_eq (F := Ideal) m' c).trans (Gate.Ref.dz_arr hr hD hG)
    · exact (Cert.Reference5Ideal.Read.val_main_v49_eq (F := Ideal) _ _ _).trans (Gate.Ref.small_arr hr)

theorem frame_ref6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem algebraic6 : Cert.algebraic_Kernel6Ideal_Reference6Ideal := by
  intro m ρ m' ρ' _ hagree
  obtain ⟨d, hfit⟩ : ∃ d : Dev Cert.Kernel6Ideal.nD → LossHead.Data, ∀ c, (d c).Fits (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4)) :=
    ⟨_, fun c => LossHead.fits_ofArgs⟩
  refine ⟨fun c => LossHead.resX (d c), fun c => LossHead.resX (d c), fun c => LossHead.resG (d c), ?_, ?_⟩
  · refine (θ_run Cert.Kernel6Ideal.defs _ _).mono (fun _ h c => ?_) (Cert.Kernel6Ideal.Value.run_blocks (F := Ideal) m ρ)
    exact ⟨(h c).1.trans (LossHead.final_dx (d c) m c (hfit c)),
      (h c).2.1.trans (LossHead.final_dx16 (d c) m c (hfit c)),
      (h c).2.2.1.trans (LossHead.final_small (d c) m c (hfit c)), (h c).2.2.2⟩
  · refine (θ_run Cert.Reference6Ideal.defs _ _).mono (fun _ h c => ?_) (Cert.Reference6Ideal.Value.run (F := Ideal) m' ρ')
    obtain ⟨a0, a1, a2, a3, a4⟩ := hagree c
    have hr : (d c).Fits (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2))
        (m' ((c.tc : Thread Cert.Reference6Ideal.nD Cert.Reference6Ideal.τ).loc Cert.Reference6Ideal.main_arg3))
        (m' ((c.tc : Thread Cert.Reference6Ideal.nD Cert.Reference6Ideal.τ).loc Cert.Reference6Ideal.main_arg4)) := by
      rw [a0, a1, a2, a3, a4]
      exact hfit c
    refine ⟨(h c).1.trans ?_, (h c).2.1.trans ?_, (h c).2.2.1.trans ?_, (h c).2.2.2⟩
    · exact (Cert.Reference6Ideal.Read.val_main_v56_eq (F := Ideal) m' c).trans (LossHead.Ref.dx_arr hr)
    · exact (Cert.Reference6Ideal.Read.val_main_v57_eq (F := Ideal) m' c).trans (LossHead.Ref.dx16_arr hr)
    · exact (Cert.Reference6Ideal.Read.val_main_v59_eq (F := Ideal) m' c).trans (LossHead.Ref.small_arr hr)

theorem frame_ref7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem algebraic7 : Cert.algebraic_Kernel7Ideal_Reference7Ideal := by
  intro m ρ m' ρ' _ hagree
  obtain ⟨d, hfit⟩ : ∃ d : Dev Cert.Kernel7Ideal.nD → InFwd.Data, ∀ c, (d c).Fits (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)) :=
    ⟨_, fun c => InFwd.fits_ofArgs⟩
  refine ⟨fun c => InFwd.resZ (d c), fun c => InFwd.resT (d c), ?_, ?_⟩
  · refine (θ_run Cert.Kernel7Ideal.defs _ _).mono (fun _ h c => ?_) (InFwd.run_last m ρ)
    have at_end (b : Ref Cert.Kernel7Ideal.sig .tc) (hb : ¬(Proc.devRef .tc b : DevRef Cert.Kernel7Ideal.τ Cert.Kernel7Ideal.sig).isScoped) :=
      h c _ (Cert.Kernel7Ideal.Gen.mem_uc b hb)
    exact ⟨(at_end _ (by decide)).trans (InFwd.end_z (d c) m ρ c (hfit c)),
      (at_end _ (by decide)).trans (InFwd.end_dt (d c) m ρ c (hfit c)),
      (at_end _ (by decide)).trans (Cert.Kernel7Ideal.Gen.W3_main_arg0 m ρ c),
      (at_end _ (by decide)).trans (Cert.Kernel7Ideal.Gen.W3_main_arg1 m ρ c)⟩
  · refine (θ_run Cert.Reference7Ideal.defs _ _).mono (fun _ h c => ?_) (Cert.Reference7Ideal.Value.run (F := Ideal) m' ρ')
    obtain ⟨a0, a1⟩ := hagree c
    have hr : (d c).Fits (m' ((c.tc : Thread Cert.Reference7Ideal.nD Cert.Reference7Ideal.τ).loc Cert.Reference7Ideal.main_arg0))
        (m' ((c.tc : Thread Cert.Reference7Ideal.nD Cert.Reference7Ideal.τ).loc Cert.Reference7Ideal.main_arg1)) := by
      rw [a0, a1]
      exact hfit c
    refine ⟨(h c).1.trans ?_, (h c).2.1.trans ?_, (h c).2.2⟩
    · exact (Cert.Reference7Ideal.Read.val_main_v7_eq (F := Ideal) _ _).trans (InFwd.Ref.z_arr hr)
    · exact (Cert.Reference7Ideal.Read.val_main_v4_eq (F := Ideal) _ _).trans (InFwd.Ref.dt_arr hr)

theorem frame_ref8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal := by
  intro m ρ m' ρ' _ hagree
  obtain ⟨d, hfit⟩ : ∃ d : Dev Cert.Kernel8Ideal.nD → OutFwd.Data, ∀ c, (d c).Fits (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2)) :=
    ⟨_, fun c => OutFwd.fits_ofArgs⟩
  refine ⟨fun c => OutFwd.res (d c), ?_, ?_⟩
  · refine (θ_run Cert.Kernel8Ideal.defs _ _).mono (fun _ h c => ?_) (Cert.Kernel8Ideal.Value.run_blocks (F := Ideal) m ρ)
    exact ⟨(h c).1.trans (OutFwd.final (d c) m c (hfit c)), (h c).2⟩
  · refine (θ_run Cert.Reference8Ideal.defs _ _).mono (fun _ h c => ?_) (Cert.Reference8Ideal.Value.run (F := Ideal) m' ρ')
    obtain ⟨a0, a1, a2⟩ := hagree c
    have hr : (d c).Fits (m' ((c.tc : Thread Cert.Reference8Ideal.nD Cert.Reference8Ideal.τ).loc Cert.Reference8Ideal.main_arg0))
        (m' ((c.tc : Thread Cert.Reference8Ideal.nD Cert.Reference8Ideal.τ).loc Cert.Reference8Ideal.main_arg1))
        (m' ((c.tc : Thread Cert.Reference8Ideal.nD Cert.Reference8Ideal.τ).loc Cert.Reference8Ideal.main_arg2)) := by
      rw [a0, a1, a2]
      exact hfit c
    refine ⟨(h c).1.trans ?_, (h c).2⟩
    · exact (Cert.Reference8Ideal.Read.val_main_v2_eq (F := Ideal) _ _ _).trans (OutFwd.Ref.arr hr)

theorem frame_ref9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := by
  intro m ρ m' ρ' _ hagree
  obtain ⟨d, hfit⟩ : ∃ d : Dev Cert.Kernel9Ideal.nD → MlpEnd.Data, ∀ c, (d c).Fits (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2)) :=
    ⟨_, fun c => MlpEnd.fits_ofArgs⟩
  refine ⟨fun c => MlpEnd.res (d c), ?_, ?_⟩
  · refine (θ_run Cert.Kernel9Ideal.defs _ _).mono (fun _ h c => ?_) (Cert.Kernel9Ideal.Value.run_blocks (F := Ideal) m ρ)
    exact ⟨(h c).1.trans (MlpEnd.final (d c) m c (hfit c)), (h c).2⟩
  · refine (θ_run Cert.Reference9Ideal.defs _ _).mono (fun _ h c => ?_) (Cert.Reference9Ideal.Value.run (F := Ideal) m' ρ')
    obtain ⟨a0, a1, a2⟩ := hagree c
    have hr : (d c).Fits (m' ((c.tc : Thread Cert.Reference9Ideal.nD Cert.Reference9Ideal.τ).loc Cert.Reference9Ideal.main_arg0))
        (m' ((c.tc : Thread Cert.Reference9Ideal.nD Cert.Reference9Ideal.τ).loc Cert.Reference9Ideal.main_arg1))
        (m' ((c.tc : Thread Cert.Reference9Ideal.nD Cert.Reference9Ideal.τ).loc Cert.Reference9Ideal.main_arg2)) := by
      rw [a0, a1, a2]
      exact hfit c
    refine ⟨(h c).1.trans ?_, (h c).2⟩
    · exact (Cert.Reference9Ideal.Read.val_main_v4_eq (F := Ideal) _ _ _).trans (MlpEnd.Ref.arr hr)

theorem frame_ref10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem algebraic10 : Cert.algebraic_Kernel10Ideal_Reference10Ideal := by
  intro m ρ m' ρ' _ hagree
  obtain ⟨d, hfit⟩ : ∃ d : Dev Cert.Kernel10Ideal.nD → MlpBwd.Data, ∀ c, UpFwd.Fits (d c) (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2)) :=
    ⟨_, fun c => UpFwd.fits_ofArgs⟩
  refine ⟨fun c => UpFwd.resU (d c), fun c => UpFwd.resN (d c), ?_, ?_⟩
  · refine (θ_run Cert.Kernel10Ideal.defs _ _).mono (fun _ h c => ?_) (Cert.Kernel10Ideal.Held.run (F := Ideal) m ρ)
    exact ⟨(h.1 c).1.trans (UpFwd.final_u (d c) m c (hfit c)), (h.1 c).2.1.trans (UpFwd.final_n (d c) m c (hfit c)), (h.1 c).2.2⟩
  · refine (θ_run Cert.Reference10Ideal.defs _ _).mono (fun _ h c => ?_) (Cert.Reference10Ideal.Value.run (F := Ideal) m' ρ')
    obtain ⟨a0, a1, a2⟩ := hagree c
    have hr : UpFwd.Fits (d c) (m' ((c.tc : Thread Cert.Reference10Ideal.nD Cert.Reference10Ideal.τ).loc Cert.Reference10Ideal.main_arg0))
        (m' ((c.tc : Thread Cert.Reference10Ideal.nD Cert.Reference10Ideal.τ).loc Cert.Reference10Ideal.main_arg1))
        (m' ((c.tc : Thread Cert.Reference10Ideal.nD Cert.Reference10Ideal.τ).loc Cert.Reference10Ideal.main_arg2)) := by
      rw [a0, a1, a2]
      exact hfit c
    refine ⟨(h c).1.trans ?_, (h c).2.1.trans ?_, (h c).2.2⟩
    · exact (Cert.Reference10Ideal.Read.val_main_v13_eq (F := Ideal) _ _ _).trans (UpFwd.Ref.u_arr hr)
    · exact (Cert.Reference10Ideal.Read.val_main_v14_eq (F := Ideal) _ _).trans (UpFwd.Ref.n_arr hr)

theorem frame_ref11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem algebraic11 : Cert.algebraic_Kernel11Ideal_Reference11Ideal := by
  intro m ρ m' ρ' _ hagree
  obtain ⟨d, hfit⟩ : ∃ d : Dev Cert.Kernel11Ideal.nD → MidFwd.Data, ∀ c, MidFwd.Fits (d c) (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2)) :=
    ⟨_, fun c => MidFwd.fits_ofArgs⟩
  refine ⟨fun c => MidFwd.resU (d c), fun c => MidFwd.resN (d c), ?_, ?_⟩
  · refine (θ_run Cert.Kernel11Ideal.defs _ _).mono (fun _ h c => ?_) (Cert.Kernel11Ideal.Held.run (F := Ideal) m ρ)
    exact ⟨(h.1 c).1.trans (MidFwd.final_u (d c) m c (hfit c)), (h.1 c).2.1.trans (MidFwd.final_n (d c) m c (hfit c)), (h.1 c).2.2⟩
  · refine (θ_run Cert.Reference11Ideal.defs _ _).mono (fun _ h c => ?_) (Cert.Reference11Ideal.Value.run (F := Ideal) m' ρ')
    obtain ⟨a0, a1, a2⟩ := hagree c
    have hr : MidFwd.Fits (d c) (m' ((c.tc : Thread Cert.Reference11Ideal.nD Cert.Reference11Ideal.τ).loc Cert.Reference11Ideal.main_arg0))
        (m' ((c.tc : Thread Cert.Reference11Ideal.nD Cert.Reference11Ideal.τ).loc Cert.Reference11Ideal.main_arg1))
        (m' ((c.tc : Thread Cert.Reference11Ideal.nD Cert.Reference11Ideal.τ).loc Cert.Reference11Ideal.main_arg2)) := by
      rw [a0, a1, a2]
      exact hfit c
    refine ⟨(h c).1.trans ?_, (h c).2.1.trans ?_, (h c).2.2⟩
    · exact (Cert.Reference11Ideal.Read.val_main_v14_eq (F := Ideal) _ _ _).trans (MidFwd.Ref.u_arr hr)
    · exact (Cert.Reference11Ideal.Read.val_main_v15_eq (F := Ideal) _ _).trans (MidFwd.Ref.n_arr hr)

theorem frame_ref12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic12 : Cert.algebraic_Kernel12Ideal_Reference12Ideal := by
  intro m ρ m' ρ' _ hagree
  obtain ⟨d, hfit⟩ : ∃ d : Dev Cert.Kernel12Ideal.nD → Gate.Data, ∀ c, GateFwd.Fits (d c) (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1))
      (m ((c.tc : Thread Cert.Kernel12Ideal.nD Cert.Kernel12Ideal.τ).loc Cert.Kernel12Ideal.main_arg2)) :=
    ⟨_, fun c => Gate.fits_ofArgs⟩
  refine ⟨fun c => GateFwd.res (d c), ?_, ?_⟩
  · refine (θ_run Cert.Kernel12Ideal.defs _ _).mono (fun _ h c => ?_) (Cert.Kernel12Ideal.Value.run_blocks (F := Ideal) m ρ)
    exact ⟨(h c).1.trans (GateFwd.final (d c) m c (hfit c)), (h c).2⟩
  · refine (θ_run Cert.Reference12Ideal.defs _ _).mono (fun _ h c => ?_) (Cert.Reference12Ideal.Value.run (F := Ideal) m' ρ')
    obtain ⟨a0, a1, a2⟩ := hagree c
    have hr : GateFwd.Fits (d c) (m' ((c.tc : Thread Cert.Reference12Ideal.nD Cert.Reference12Ideal.τ).loc Cert.Reference12Ideal.main_arg0))
        (m' ((c.tc : Thread Cert.Reference12Ideal.nD Cert.Reference12Ideal.τ).loc Cert.Reference12Ideal.main_arg1))
        (m' ((c.tc : Thread Cert.Reference12Ideal.nD Cert.Reference12Ideal.τ).loc Cert.Reference12Ideal.main_arg2)) := by
      rw [a0, a1, a2]
      exact hfit c
    refine ⟨(h c).1.trans ?_, (h c).2⟩
    · exact (Cert.Reference12Ideal.Read.val_main_v18_eq (F := Ideal) _ _ _).trans (GateFwd.Ref.arr hr)

/-- The optimiser's two named constants are what their table says. -/
theorem preserves13 : Cert.preserves_Kernel13_Kernel13Ideal :=
  ⟨IdealRules.named_const.statement Cert.Kernel13Ideal.κ "inv_c1" .f32 0x3FC48605#32 ((8388608 / 5463681 : ℝ) : EReal) rfl,
    IdealRules.named_const.statement Cert.Kernel13Ideal.κ "inv_c2" .f32 0x42C8E6D3#32 ((268435456 / 2672307 : ℝ) : EReal) rfl⟩

theorem frame_ref13 : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem algebraic13 : Cert.algebraic_Kernel13Ideal_Reference13Ideal := by
  intro m ρ m' ρ' _ hagree
  refine ⟨_, _, _, Cert.Kernel13Ideal.Value.run (F := Ideal) m ρ, ?_⟩
  refine (θ_run Cert.Reference13Ideal.defs _ _).mono (fun _ h c => ?_) (Cert.Reference13Ideal.Value.run (F := Ideal) m' ρ')
  obtain ⟨a0, a1, a2, a3⟩ := hagree c
  obtain ⟨r0, r1, r2, k⟩ := h c
  simp only [a0, a1, a2, a3] at r0 r1 r2
  exact ⟨r0.trans (AdamW.deltaRef_eq _ _ _ _), r1, r2, k⟩

theorem frame_ref14 : Cert.quiescent_Reference14Ideal := fun m ρ _ =>
  (θ_run Cert.Reference14Ideal.defs _ _).mono (fun r h => ⟨fun c => (h c).2.2.2, sem_eq_zero_of_no_sems (by decide) r.2⟩)
    (Cert.Reference14Ideal.Value.run (F := Ideal) m ρ)

theorem algebraic14 : Cert.algebraic_Kernel14Ideal_Reference14Ideal := by
  intro m ρ m' ρ' _ hagree
  refine ⟨_, _, _, Cert.Kernel14Ideal.Value.run (F := Ideal) m ρ, ?_⟩
  refine (θ_run Cert.Reference14Ideal.defs _ _).mono (fun _ h c => ?_) (Cert.Reference14Ideal.Value.run (F := Ideal) m' ρ')
  obtain ⟨a0, a1, a2, a3⟩ := hagree c
  obtain ⟨r0, r1, r2, k⟩ := h c
  simp only [a0, a1, a2, a3] at r0 r1 r2
  exact ⟨r0.trans (AdamW.deltaRef_eq _ _ _ _), r1, r2, k⟩

theorem frame_ref15 : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem algebraic15 : Cert.algebraic_Kernel15Ideal_Reference15Ideal := by
  intro m ρ m' ρ' _ hagree
  refine ⟨_, _, _, Cert.Kernel15Ideal.Value.run (F := Ideal) m ρ, ?_⟩
  refine (θ_run Cert.Reference15Ideal.defs _ _).mono (fun _ h c => ?_) (Cert.Reference15Ideal.Value.run (F := Ideal) m' ρ')
  obtain ⟨a0, a1, a2, a3⟩ := hagree c
  obtain ⟨r0, r1, r2, k⟩ := h c
  simp only [a0, a1, a2, a3] at r0 r1 r2
  exact ⟨r0.trans (AdamW.deltaRef_eq _ _ _ _), r1, r2, k⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite.Gen.facts, Cert.Pre_finite5.Gen.facts,
  fun m ρ _ => Cert.Kernel.Gen.frame m ρ, fun m ρ _ => Cert.KernelIdeal.Gen.frame m ρ, fun m ρ _ => Cert.KernelIdeal.Gen.frame m ρ,
  frame_ref, frame_ref_finite,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, frame_ref4,
  fun m ρ _ => Cert.Kernel5.Gen.frame m ρ, fun m ρ _ => Cert.Kernel5Ideal.Gen.frame m ρ, fun m ρ _ => Cert.Kernel5Ideal.Gen.frame m ρ,
  frame_ref5, frame_ref5_finite,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Held.frame m ρ, fun m ρ _ => Cert.Kernel10Ideal.Held.frame m ρ, frame_ref10,
  fun m ρ _ => Cert.Kernel11.Held.frame m ρ, fun m ρ _ => Cert.Kernel11Ideal.Held.frame m ρ, frame_ref11,
  fun m ρ _ => Cert.Kernel12.Gen.frame m ρ, fun m ρ _ => Cert.Kernel12Ideal.Gen.frame m ρ, frame_ref12,
  fun m ρ _ => Cert.Kernel13.Gen.frame m ρ, fun m ρ _ => Cert.Kernel13Ideal.Gen.frame m ρ, frame_ref13,
  fun m ρ _ => Cert.Kernel14.Gen.frame m ρ, fun m ρ _ => Cert.Kernel14Ideal.Gen.frame m ρ, frame_ref14,
  fun m ρ _ => Cert.Kernel15.Gen.frame m ρ, fun m ρ _ => Cert.Kernel15Ideal.Gen.frame m ρ, frame_ref15,
  trivial, algebraic, trivial, algebraic2, trivial, algebraic3, trivial, algebraic4, trivial, algebraic5, trivial, algebraic6, trivial, algebraic7, trivial, algebraic8, trivial, algebraic9,
  trivial, algebraic10, trivial, algebraic11, trivial, algebraic12, preserves13, algebraic13, preserves13, algebraic14, preserves13, algebraic15⟩

end Cert.Proof

end
